-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DW (m : (ℓ : Loc Cert.DW.nD Cert.DW.τ Cert.DW.sig) → Buf (Elt Bits) ℓ) : Prop :=
  True

def Pre_DWIdeal (m : (ℓ : Loc Cert.DWIdeal.nD Cert.DWIdeal.τ Cert.DWIdeal.sig) → Buf (Elt Ideal) ℓ) : Prop :=
  True

def Pre_DWRefIdeal (m : (ℓ : Loc Cert.DWRefIdeal.nD Cert.DWRefIdeal.τ Cert.DWRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_GU (m : (ℓ : Loc Cert.GU.nD Cert.GU.τ Cert.GU.sig) → Buf (Elt Bits) ℓ) : Prop :=
  True

def Pre_GUIdeal (m : (ℓ : Loc Cert.GUIdeal.nD Cert.GUIdeal.τ Cert.GUIdeal.sig) → Buf (Elt Ideal) ℓ) : Prop :=
  True

def Pre_GURefIdeal (m : (ℓ : Loc Cert.GURefIdeal.nD Cert.GURefIdeal.τ Cert.GURefIdeal.sig) → Buf (Elt Ideal) ℓ) : Prop :=
  True

def Pre_DWD (m : (ℓ : Loc Cert.DWD.nD Cert.DWD.τ Cert.DWD.sig) → Buf (Elt Bits) ℓ) : Prop :=
  True

def Pre_DWDIdeal (m : (ℓ : Loc Cert.DWDIdeal.nD Cert.DWDIdeal.τ Cert.DWDIdeal.sig) → Buf (Elt Ideal) ℓ) : Prop :=
  True

def Pre_DWDRefIdeal (m : (ℓ : Loc Cert.DWDRefIdeal.nD Cert.DWDRefIdeal.τ Cert.DWDRefIdeal.sig) → Buf (Elt Ideal) ℓ) : Prop :=
  True

def Pre_DACT (m : (ℓ : Loc Cert.DACT.nD Cert.DACT.τ Cert.DACT.sig) → Buf (Elt Bits) ℓ) : Prop :=
  True

def Pre_DACTIdeal (m : (ℓ : Loc Cert.DACTIdeal.nD Cert.DACTIdeal.τ Cert.DACTIdeal.sig) → Buf (Elt Ideal) ℓ) : Prop :=
  True

def Pre_DACTRefIdeal (m : (ℓ : Loc Cert.DACTRefIdeal.nD Cert.DACTRefIdeal.τ Cert.DACTRefIdeal.sig) → Buf (Elt Ideal) ℓ) : Prop :=
  True

def Pre_NN (m : (ℓ : Loc Cert.NN.nD Cert.NN.τ Cert.NN.sig) → Buf (Elt Bits) ℓ) : Prop :=
  True

def Pre_NNIdeal (m : (ℓ : Loc Cert.NNIdeal.nD Cert.NNIdeal.τ Cert.NNIdeal.sig) → Buf (Elt Ideal) ℓ) : Prop :=
  True

def Pre_NNRefIdeal (m : (ℓ : Loc Cert.NNRefIdeal.nD Cert.NNRefIdeal.τ Cert.NNRefIdeal.sig) → Buf (Elt Ideal) ℓ) : Prop :=
  True

def Pre_TN (m : (ℓ : Loc Cert.TN.nD Cert.TN.τ Cert.TN.sig) → Buf (Elt Bits) ℓ) : Prop :=
  True

def Pre_TNIdeal (m : (ℓ : Loc Cert.TNIdeal.nD Cert.TNIdeal.τ Cert.TNIdeal.sig) → Buf (Elt Ideal) ℓ) : Prop :=
  True

def Pre_TNRefIdeal (m : (ℓ : Loc Cert.TNRefIdeal.nD Cert.TNRefIdeal.τ Cert.TNRefIdeal.sig) → Buf (Elt Ideal) ℓ) : Prop :=
  True

def Pre_NT (m : (ℓ : Loc Cert.NT.nD Cert.NT.τ Cert.NT.sig) → Buf (Elt Bits) ℓ) : Prop :=
  True

def Pre_NTIdeal (m : (ℓ : Loc Cert.NTIdeal.nD Cert.NTIdeal.τ Cert.NTIdeal.sig) → Buf (Elt Ideal) ℓ) : Prop :=
  True

def Pre_NTRefIdeal (m : (ℓ : Loc Cert.NTRefIdeal.nD Cert.NTRefIdeal.τ Cert.NTRefIdeal.sig) → Buf (Elt Ideal) ℓ) : Prop :=
  True

def Pre_GLU (m : (ℓ : Loc Cert.GLU.nD Cert.GLU.τ Cert.GLU.sig) → Buf (Elt Bits) ℓ) : Prop :=
  True

def Pre_GLUIdeal (m : (ℓ : Loc Cert.GLUIdeal.nD Cert.GLUIdeal.τ Cert.GLUIdeal.sig) → Buf (Elt Ideal) ℓ) : Prop :=
  True

def Pre_GLURefIdeal (m : (ℓ : Loc Cert.GLURefIdeal.nD Cert.GLURefIdeal.τ Cert.GLURefIdeal.sig) → Buf (Elt Ideal) ℓ) : Prop :=
  True

def Pre_GATE (m : (ℓ : Loc Cert.GATE.nD Cert.GATE.τ Cert.GATE.sig) → Buf (Elt Bits) ℓ) : Prop :=
  True

def Pre_GATEIdeal (m : (ℓ : Loc Cert.GATEIdeal.nD Cert.GATEIdeal.τ Cert.GATEIdeal.sig) → Buf (Elt Ideal) ℓ) : Prop :=
  True

def Pre_GATERefIdeal (m : (ℓ : Loc Cert.GATERefIdeal.nD Cert.GATERefIdeal.τ Cert.GATERefIdeal.sig) → Buf (Elt Ideal) ℓ) : Prop :=
  True

def Pre_DOWN (m : (ℓ : Loc Cert.DOWN.nD Cert.DOWN.τ Cert.DOWN.sig) → Buf (Elt Bits) ℓ) : Prop :=
  True

def Pre_DOWNIdeal (m : (ℓ : Loc Cert.DOWNIdeal.nD Cert.DOWNIdeal.τ Cert.DOWNIdeal.sig) → Buf (Elt Ideal) ℓ) : Prop :=
  True

def Pre_DOWNRefIdeal (m : (ℓ : Loc Cert.DOWNRefIdeal.nD Cert.DOWNRefIdeal.τ Cert.DOWNRefIdeal.sig) → Buf (Elt Ideal) ℓ) : Prop :=
  True

def Pre_ADAM (m : (ℓ : Loc Cert.ADAM.nD Cert.ADAM.τ Cert.ADAM.sig) → Buf (Elt Bits) ℓ) : Prop :=
  True

def Pre_ADAMIdeal (m : (ℓ : Loc Cert.ADAMIdeal.nD Cert.ADAMIdeal.τ Cert.ADAMIdeal.sig) → Buf (Elt Ideal) ℓ) : Prop :=
  True

def Pre_ADAMRefIdeal (m : (ℓ : Loc Cert.ADAMRefIdeal.nD Cert.ADAMRefIdeal.τ Cert.ADAMRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DW [hDW : Cert.DW.Facts] : Prop :=
  ∀ (m : (ℓ : Loc Cert.DW.nD Cert.DW.τ Cert.DW.sig) → Buf (Elt Bits) ℓ) (g : Dev Cert.DW.nD → PrngReg), Pre_DW m →
    θ_run (Cert.DW.defs (F := Bits)) (onTc (τ := Cert.DW.τ) (Cert.DW.main (F := Bits))) ⟨m, fun _ => 0, g⟩ (fun r => (∀ c : Dev Cert.DW.nD,
      r.2.mem ((c.tc : Thread Cert.DW.nD Cert.DW.τ).loc Cert.DW.main_arg0) = m ((c.tc : Thread Cert.DW.nD Cert.DW.τ).loc Cert.DW.main_arg0)
      ∧ r.2.mem ((c.tc : Thread Cert.DW.nD Cert.DW.τ).loc Cert.DW.main_arg1) = m ((c.tc : Thread Cert.DW.nD Cert.DW.τ).loc Cert.DW.main_arg1))
      ∧ r.2.sem = fun _ => 0)

def quiescent_DWIdeal [hDWIdeal : Cert.DWIdeal.Facts] : Prop :=
  ∀ (m : (ℓ : Loc Cert.DWIdeal.nD Cert.DWIdeal.τ Cert.DWIdeal.sig) → Buf (Elt Ideal) ℓ) (g : Dev Cert.DWIdeal.nD → PrngReg), Pre_DWIdeal m →
    θ_run (Cert.DWIdeal.defs (F := Ideal)) (onTc (τ := Cert.DWIdeal.τ) (Cert.DWIdeal.main (F := Ideal))) ⟨m, fun _ => 0, g⟩ (fun r => (∀ c : Dev Cert.DWIdeal.nD,
      r.2.mem ((c.tc : Thread Cert.DWIdeal.nD Cert.DWIdeal.τ).loc Cert.DWIdeal.main_arg0) = m ((c.tc : Thread Cert.DWIdeal.nD Cert.DWIdeal.τ).loc Cert.DWIdeal.main_arg0)
      ∧ r.2.mem ((c.tc : Thread Cert.DWIdeal.nD Cert.DWIdeal.τ).loc Cert.DWIdeal.main_arg1) = m ((c.tc : Thread Cert.DWIdeal.nD Cert.DWIdeal.τ).loc Cert.DWIdeal.main_arg1))
      ∧ r.2.sem = fun _ => 0)

def quiescent_DWRefIdeal [hDWRefIdeal : Cert.DWRefIdeal.Facts] : Prop :=
  ∀ (m : (ℓ : Loc Cert.DWRefIdeal.nD Cert.DWRefIdeal.τ Cert.DWRefIdeal.sig) → Buf (Elt Ideal) ℓ) (g : Dev Cert.DWRefIdeal.nD → PrngReg), Pre_DWRefIdeal m →
    θ_run (Cert.DWRefIdeal.defs (F := Ideal)) (onTc (τ := Cert.DWRefIdeal.τ) (Cert.DWRefIdeal.main (F := Ideal))) ⟨m, fun _ => 0, g⟩ (fun r => (∀ c : Dev Cert.DWRefIdeal.nD,
      r.2.mem ((c.tc : Thread Cert.DWRefIdeal.nD Cert.DWRefIdeal.τ).loc Cert.DWRefIdeal.main_arg0) = m ((c.tc : Thread Cert.DWRefIdeal.nD Cert.DWRefIdeal.τ).loc Cert.DWRefIdeal.main_arg0)
      ∧ r.2.mem ((c.tc : Thread Cert.DWRefIdeal.nD Cert.DWRefIdeal.τ).loc Cert.DWRefIdeal.main_arg1) = m ((c.tc : Thread Cert.DWRefIdeal.nD Cert.DWRefIdeal.τ).loc Cert.DWRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1))
      ∧ r.2.sem = fun _ => 0)

def quiescent_GU [hGU : Cert.GU.Facts] : Prop :=
  ∀ (m : (ℓ : Loc Cert.GU.nD Cert.GU.τ Cert.GU.sig) → Buf (Elt Bits) ℓ) (g : Dev Cert.GU.nD → PrngReg), Pre_GU m →
    θ_run (Cert.GU.defs (F := Bits)) (onTc (τ := Cert.GU.τ) (Cert.GU.main (F := Bits))) ⟨m, fun _ => 0, g⟩ (fun r => (∀ c : Dev Cert.GU.nD,
      r.2.mem ((c.tc : Thread Cert.GU.nD Cert.GU.τ).loc Cert.GU.main_arg0) = m ((c.tc : Thread Cert.GU.nD Cert.GU.τ).loc Cert.GU.main_arg0)
      ∧ r.2.mem ((c.tc : Thread Cert.GU.nD Cert.GU.τ).loc Cert.GU.main_arg1) = m ((c.tc : Thread Cert.GU.nD Cert.GU.τ).loc Cert.GU.main_arg1))
      ∧ r.2.sem = fun _ => 0)

def quiescent_GUIdeal [hGUIdeal : Cert.GUIdeal.Facts] : Prop :=
  ∀ (m : (ℓ : Loc Cert.GUIdeal.nD Cert.GUIdeal.τ Cert.GUIdeal.sig) → Buf (Elt Ideal) ℓ) (g : Dev Cert.GUIdeal.nD → PrngReg), Pre_GUIdeal m →
    θ_run (Cert.GUIdeal.defs (F := Ideal)) (onTc (τ := Cert.GUIdeal.τ) (Cert.GUIdeal.main (F := Ideal))) ⟨m, fun _ => 0, g⟩ (fun r => (∀ c : Dev Cert.GUIdeal.nD,
      r.2.mem ((c.tc : Thread Cert.GUIdeal.nD Cert.GUIdeal.τ).loc Cert.GUIdeal.main_arg0) = m ((c.tc : Thread Cert.GUIdeal.nD Cert.GUIdeal.τ).loc Cert.GUIdeal.main_arg0)
      ∧ r.2.mem ((c.tc : Thread Cert.GUIdeal.nD Cert.GUIdeal.τ).loc Cert.GUIdeal.main_arg1) = m ((c.tc : Thread Cert.GUIdeal.nD Cert.GUIdeal.τ).loc Cert.GUIdeal.main_arg1))
      ∧ r.2.sem = fun _ => 0)

def quiescent_GURefIdeal [hGURefIdeal : Cert.GURefIdeal.Facts] : Prop :=
  ∀ (m : (ℓ : Loc Cert.GURefIdeal.nD Cert.GURefIdeal.τ Cert.GURefIdeal.sig) → Buf (Elt Ideal) ℓ) (g : Dev Cert.GURefIdeal.nD → PrngReg), Pre_GURefIdeal m →
    θ_run (Cert.GURefIdeal.defs (F := Ideal)) (onTc (τ := Cert.GURefIdeal.τ) (Cert.GURefIdeal.main (F := Ideal))) ⟨m, fun _ => 0, g⟩ (fun r => (∀ c : Dev Cert.GURefIdeal.nD,
      r.2.mem ((c.tc : Thread Cert.GURefIdeal.nD Cert.GURefIdeal.τ).loc Cert.GURefIdeal.main_arg0) = m ((c.tc : Thread Cert.GURefIdeal.nD Cert.GURefIdeal.τ).loc Cert.GURefIdeal.main_arg0)
      ∧ r.2.mem ((c.tc : Thread Cert.GURefIdeal.nD Cert.GURefIdeal.τ).loc Cert.GURefIdeal.main_arg1) = m ((c.tc : Thread Cert.GURefIdeal.nD Cert.GURefIdeal.τ).loc Cert.GURefIdeal.main_arg1))
      ∧ r.2.sem = fun _ => 0)

def quiescent_DWD [hDWD : Cert.DWD.Facts] : Prop :=
  ∀ (m : (ℓ : Loc Cert.DWD.nD Cert.DWD.τ Cert.DWD.sig) → Buf (Elt Bits) ℓ) (g : Dev Cert.DWD.nD → PrngReg), Pre_DWD m →
    θ_run (Cert.DWD.defs (F := Bits)) (onTc (τ := Cert.DWD.τ) (Cert.DWD.main (F := Bits))) ⟨m, fun _ => 0, g⟩ (fun r => (∀ c : Dev Cert.DWD.nD,
      r.2.mem ((c.tc : Thread Cert.DWD.nD Cert.DWD.τ).loc Cert.DWD.main_arg0) = m ((c.tc : Thread Cert.DWD.nD Cert.DWD.τ).loc Cert.DWD.main_arg0)
      ∧ r.2.mem ((c.tc : Thread Cert.DWD.nD Cert.DWD.τ).loc Cert.DWD.main_arg1) = m ((c.tc : Thread Cert.DWD.nD Cert.DWD.τ).loc Cert.DWD.main_arg1))
      ∧ r.2.sem = fun _ => 0)

def quiescent_DWDIdeal [hDWDIdeal : Cert.DWDIdeal.Facts] : Prop :=
  ∀ (m : (ℓ : Loc Cert.DWDIdeal.nD Cert.DWDIdeal.τ Cert.DWDIdeal.sig) → Buf (Elt Ideal) ℓ) (g : Dev Cert.DWDIdeal.nD → PrngReg), Pre_DWDIdeal m →
    θ_run (Cert.DWDIdeal.defs (F := Ideal)) (onTc (τ := Cert.DWDIdeal.τ) (Cert.DWDIdeal.main (F := Ideal))) ⟨m, fun _ => 0, g⟩ (fun r => (∀ c : Dev Cert.DWDIdeal.nD,
      r.2.mem ((c.tc : Thread Cert.DWDIdeal.nD Cert.DWDIdeal.τ).loc Cert.DWDIdeal.main_arg0) = m ((c.tc : Thread Cert.DWDIdeal.nD Cert.DWDIdeal.τ).loc Cert.DWDIdeal.main_arg0)
      ∧ r.2.mem ((c.tc : Thread Cert.DWDIdeal.nD Cert.DWDIdeal.τ).loc Cert.DWDIdeal.main_arg1) = m ((c.tc : Thread Cert.DWDIdeal.nD Cert.DWDIdeal.τ).loc Cert.DWDIdeal.main_arg1))
      ∧ r.2.sem = fun _ => 0)

def quiescent_DWDRefIdeal [hDWDRefIdeal : Cert.DWDRefIdeal.Facts] : Prop :=
  ∀ (m : (ℓ : Loc Cert.DWDRefIdeal.nD Cert.DWDRefIdeal.τ Cert.DWDRefIdeal.sig) → Buf (Elt Ideal) ℓ) (g : Dev Cert.DWDRefIdeal.nD → PrngReg), Pre_DWDRefIdeal m →
    θ_run (Cert.DWDRefIdeal.defs (F := Ideal)) (onTc (τ := Cert.DWDRefIdeal.τ) (Cert.DWDRefIdeal.main (F := Ideal))) ⟨m, fun _ => 0, g⟩ (fun r => (∀ c : Dev Cert.DWDRefIdeal.nD,
      r.2.mem ((c.tc : Thread Cert.DWDRefIdeal.nD Cert.DWDRefIdeal.τ).loc Cert.DWDRefIdeal.main_arg0) = m ((c.tc : Thread Cert.DWDRefIdeal.nD Cert.DWDRefIdeal.τ).loc Cert.DWDRefIdeal.main_arg0)
      ∧ r.2.mem ((c.tc : Thread Cert.DWDRefIdeal.nD Cert.DWDRefIdeal.τ).loc Cert.DWDRefIdeal.main_arg1) = m ((c.tc : Thread Cert.DWDRefIdeal.nD Cert.DWDRefIdeal.τ).loc Cert.DWDRefIdeal.main_arg1))
      ∧ r.2.sem = fun _ => 0)

def quiescent_DACT [hDACT : Cert.DACT.Facts] : Prop :=
  ∀ (m : (ℓ : Loc Cert.DACT.nD Cert.DACT.τ Cert.DACT.sig) → Buf (Elt Bits) ℓ) (g : Dev Cert.DACT.nD → PrngReg), Pre_DACT m →
    θ_run (Cert.DACT.defs (F := Bits)) (onTc (τ := Cert.DACT.τ) (Cert.DACT.main (F := Bits))) ⟨m, fun _ => 0, g⟩ (fun r => (∀ c : Dev Cert.DACT.nD,
      r.2.mem ((c.tc : Thread Cert.DACT.nD Cert.DACT.τ).loc Cert.DACT.main_arg0) = m ((c.tc : Thread Cert.DACT.nD Cert.DACT.τ).loc Cert.DACT.main_arg0)
      ∧ r.2.mem ((c.tc : Thread Cert.DACT.nD Cert.DACT.τ).loc Cert.DACT.main_arg1) = m ((c.tc : Thread Cert.DACT.nD Cert.DACT.τ).loc Cert.DACT.main_arg1))
      ∧ r.2.sem = fun _ => 0)

def quiescent_DACTIdeal [hDACTIdeal : Cert.DACTIdeal.Facts] : Prop :=
  ∀ (m : (ℓ : Loc Cert.DACTIdeal.nD Cert.DACTIdeal.τ Cert.DACTIdeal.sig) → Buf (Elt Ideal) ℓ) (g : Dev Cert.DACTIdeal.nD → PrngReg), Pre_DACTIdeal m →
    θ_run (Cert.DACTIdeal.defs (F := Ideal)) (onTc (τ := Cert.DACTIdeal.τ) (Cert.DACTIdeal.main (F := Ideal))) ⟨m, fun _ => 0, g⟩ (fun r => (∀ c : Dev Cert.DACTIdeal.nD,
      r.2.mem ((c.tc : Thread Cert.DACTIdeal.nD Cert.DACTIdeal.τ).loc Cert.DACTIdeal.main_arg0) = m ((c.tc : Thread Cert.DACTIdeal.nD Cert.DACTIdeal.τ).loc Cert.DACTIdeal.main_arg0)
      ∧ r.2.mem ((c.tc : Thread Cert.DACTIdeal.nD Cert.DACTIdeal.τ).loc Cert.DACTIdeal.main_arg1) = m ((c.tc : Thread Cert.DACTIdeal.nD Cert.DACTIdeal.τ).loc Cert.DACTIdeal.main_arg1))
      ∧ r.2.sem = fun _ => 0)

def quiescent_DACTRefIdeal [hDACTRefIdeal : Cert.DACTRefIdeal.Facts] : Prop :=
  ∀ (m : (ℓ : Loc Cert.DACTRefIdeal.nD Cert.DACTRefIdeal.τ Cert.DACTRefIdeal.sig) → Buf (Elt Ideal) ℓ) (g : Dev Cert.DACTRefIdeal.nD → PrngReg), Pre_DACTRefIdeal m →
    θ_run (Cert.DACTRefIdeal.defs (F := Ideal)) (onTc (τ := Cert.DACTRefIdeal.τ) (Cert.DACTRefIdeal.main (F := Ideal))) ⟨m, fun _ => 0, g⟩ (fun r => (∀ c : Dev Cert.DACTRefIdeal.nD,
      r.2.mem ((c.tc : Thread Cert.DACTRefIdeal.nD Cert.DACTRefIdeal.τ).loc Cert.DACTRefIdeal.main_arg0) = m ((c.tc : Thread Cert.DACTRefIdeal.nD Cert.DACTRefIdeal.τ).loc Cert.DACTRefIdeal.main_arg0)
      ∧ r.2.mem ((c.tc : Thread Cert.DACTRefIdeal.nD Cert.DACTRefIdeal.τ).loc Cert.DACTRefIdeal.main_arg1) = m ((c.tc : Thread Cert.DACTRefIdeal.nD Cert.DACTRefIdeal.τ).loc Cert.DACTRefIdeal.main_arg1))
      ∧ r.2.sem = fun _ => 0)

def quiescent_NN [hNN : Cert.NN.Facts] : Prop :=
  ∀ (m : (ℓ : Loc Cert.NN.nD Cert.NN.τ Cert.NN.sig) → Buf (Elt Bits) ℓ) (g : Dev Cert.NN.nD → PrngReg), Pre_NN m →
    θ_run (Cert.NN.defs (F := Bits)) (onTc (τ := Cert.NN.τ) (Cert.NN.main (F := Bits))) ⟨m, fun _ => 0, g⟩ (fun r => (∀ c : Dev Cert.NN.nD,
      r.2.mem ((c.tc : Thread Cert.NN.nD Cert.NN.τ).loc Cert.NN.main_arg0) = m ((c.tc : Thread Cert.NN.nD Cert.NN.τ).loc Cert.NN.main_arg0)
      ∧ r.2.mem ((c.tc : Thread Cert.NN.nD Cert.NN.τ).loc Cert.NN.main_arg1) = m ((c.tc : Thread Cert.NN.nD Cert.NN.τ).loc Cert.NN.main_arg1))
      ∧ r.2.sem = fun _ => 0)

def quiescent_NNIdeal [hNNIdeal : Cert.NNIdeal.Facts] : Prop :=
  ∀ (m : (ℓ : Loc Cert.NNIdeal.nD Cert.NNIdeal.τ Cert.NNIdeal.sig) → Buf (Elt Ideal) ℓ) (g : Dev Cert.NNIdeal.nD → PrngReg), Pre_NNIdeal m →
    θ_run (Cert.NNIdeal.defs (F := Ideal)) (onTc (τ := Cert.NNIdeal.τ) (Cert.NNIdeal.main (F := Ideal))) ⟨m, fun _ => 0, g⟩ (fun r => (∀ c : Dev Cert.NNIdeal.nD,
      r.2.mem ((c.tc : Thread Cert.NNIdeal.nD Cert.NNIdeal.τ).loc Cert.NNIdeal.main_arg0) = m ((c.tc : Thread Cert.NNIdeal.nD Cert.NNIdeal.τ).loc Cert.NNIdeal.main_arg0)
      ∧ r.2.mem ((c.tc : Thread Cert.NNIdeal.nD Cert.NNIdeal.τ).loc Cert.NNIdeal.main_arg1) = m ((c.tc : Thread Cert.NNIdeal.nD Cert.NNIdeal.τ).loc Cert.NNIdeal.main_arg1))
      ∧ r.2.sem = fun _ => 0)

def quiescent_NNRefIdeal [hNNRefIdeal : Cert.NNRefIdeal.Facts] : Prop :=
  ∀ (m : (ℓ : Loc Cert.NNRefIdeal.nD Cert.NNRefIdeal.τ Cert.NNRefIdeal.sig) → Buf (Elt Ideal) ℓ) (g : Dev Cert.NNRefIdeal.nD → PrngReg), Pre_NNRefIdeal m →
    θ_run (Cert.NNRefIdeal.defs (F := Ideal)) (onTc (τ := Cert.NNRefIdeal.τ) (Cert.NNRefIdeal.main (F := Ideal))) ⟨m, fun _ => 0, g⟩ (fun r => (∀ c : Dev Cert.NNRefIdeal.nD,
      r.2.mem ((c.tc : Thread Cert.NNRefIdeal.nD Cert.NNRefIdeal.τ).loc Cert.NNRefIdeal.main_arg0) = m ((c.tc : Thread Cert.NNRefIdeal.nD Cert.NNRefIdeal.τ).loc Cert.NNRefIdeal.main_arg0)
      ∧ r.2.mem ((c.tc : Thread Cert.NNRefIdeal.nD Cert.NNRefIdeal.τ).loc Cert.NNRefIdeal.main_arg1) = m ((c.tc : Thread Cert.NNRefIdeal.nD Cert.NNRefIdeal.τ).loc Cert.NNRefIdeal.main_arg1))
      ∧ r.2.sem = fun _ => 0)

def quiescent_TN [hTN : Cert.TN.Facts] : Prop :=
  ∀ (m : (ℓ : Loc Cert.TN.nD Cert.TN.τ Cert.TN.sig) → Buf (Elt Bits) ℓ) (g : Dev Cert.TN.nD → PrngReg), Pre_TN m →
    θ_run (Cert.TN.defs (F := Bits)) (onTc (τ := Cert.TN.τ) (Cert.TN.main (F := Bits))) ⟨m, fun _ => 0, g⟩ (fun r => (∀ c : Dev Cert.TN.nD,
      r.2.mem ((c.tc : Thread Cert.TN.nD Cert.TN.τ).loc Cert.TN.main_arg0) = m ((c.tc : Thread Cert.TN.nD Cert.TN.τ).loc Cert.TN.main_arg0)
      ∧ r.2.mem ((c.tc : Thread Cert.TN.nD Cert.TN.τ).loc Cert.TN.main_arg1) = m ((c.tc : Thread Cert.TN.nD Cert.TN.τ).loc Cert.TN.main_arg1))
      ∧ r.2.sem = fun _ => 0)

def quiescent_TNIdeal [hTNIdeal : Cert.TNIdeal.Facts] : Prop :=
  ∀ (m : (ℓ : Loc Cert.TNIdeal.nD Cert.TNIdeal.τ Cert.TNIdeal.sig) → Buf (Elt Ideal) ℓ) (g : Dev Cert.TNIdeal.nD → PrngReg), Pre_TNIdeal m →
    θ_run (Cert.TNIdeal.defs (F := Ideal)) (onTc (τ := Cert.TNIdeal.τ) (Cert.TNIdeal.main (F := Ideal))) ⟨m, fun _ => 0, g⟩ (fun r => (∀ c : Dev Cert.TNIdeal.nD,
      r.2.mem ((c.tc : Thread Cert.TNIdeal.nD Cert.TNIdeal.τ).loc Cert.TNIdeal.main_arg0) = m ((c.tc : Thread Cert.TNIdeal.nD Cert.TNIdeal.τ).loc Cert.TNIdeal.main_arg0)
      ∧ r.2.mem ((c.tc : Thread Cert.TNIdeal.nD Cert.TNIdeal.τ).loc Cert.TNIdeal.main_arg1) = m ((c.tc : Thread Cert.TNIdeal.nD Cert.TNIdeal.τ).loc Cert.TNIdeal.main_arg1))
      ∧ r.2.sem = fun _ => 0)

def quiescent_TNRefIdeal [hTNRefIdeal : Cert.TNRefIdeal.Facts] : Prop :=
  ∀ (m : (ℓ : Loc Cert.TNRefIdeal.nD Cert.TNRefIdeal.τ Cert.TNRefIdeal.sig) → Buf (Elt Ideal) ℓ) (g : Dev Cert.TNRefIdeal.nD → PrngReg), Pre_TNRefIdeal m →
    θ_run (Cert.TNRefIdeal.defs (F := Ideal)) (onTc (τ := Cert.TNRefIdeal.τ) (Cert.TNRefIdeal.main (F := Ideal))) ⟨m, fun _ => 0, g⟩ (fun r => (∀ c : Dev Cert.TNRefIdeal.nD,
      r.2.mem ((c.tc : Thread Cert.TNRefIdeal.nD Cert.TNRefIdeal.τ).loc Cert.TNRefIdeal.main_arg0) = m ((c.tc : Thread Cert.TNRefIdeal.nD Cert.TNRefIdeal.τ).loc Cert.TNRefIdeal.main_arg0)
      ∧ r.2.mem ((c.tc : Thread Cert.TNRefIdeal.nD Cert.TNRefIdeal.τ).loc Cert.TNRefIdeal.main_arg1) = m ((c.tc : Thread Cert.TNRefIdeal.nD Cert.TNRefIdeal.τ).loc Cert.TNRefIdeal.main_arg1))
      ∧ r.2.sem = fun _ => 0)

def quiescent_NT [hNT : Cert.NT.Facts] : Prop :=
  ∀ (m : (ℓ : Loc Cert.NT.nD Cert.NT.τ Cert.NT.sig) → Buf (Elt Bits) ℓ) (g : Dev Cert.NT.nD → PrngReg), Pre_NT m →
    θ_run (Cert.NT.defs (F := Bits)) (onTc (τ := Cert.NT.τ) (Cert.NT.main (F := Bits))) ⟨m, fun _ => 0, g⟩ (fun r => (∀ c : Dev Cert.NT.nD,
      r.2.mem ((c.tc : Thread Cert.NT.nD Cert.NT.τ).loc Cert.NT.main_arg0) = m ((c.tc : Thread Cert.NT.nD Cert.NT.τ).loc Cert.NT.main_arg0)
      ∧ r.2.mem ((c.tc : Thread Cert.NT.nD Cert.NT.τ).loc Cert.NT.main_arg1) = m ((c.tc : Thread Cert.NT.nD Cert.NT.τ).loc Cert.NT.main_arg1))
      ∧ r.2.sem = fun _ => 0)

def quiescent_NTIdeal [hNTIdeal : Cert.NTIdeal.Facts] : Prop :=
  ∀ (m : (ℓ : Loc Cert.NTIdeal.nD Cert.NTIdeal.τ Cert.NTIdeal.sig) → Buf (Elt Ideal) ℓ) (g : Dev Cert.NTIdeal.nD → PrngReg), Pre_NTIdeal m →
    θ_run (Cert.NTIdeal.defs (F := Ideal)) (onTc (τ := Cert.NTIdeal.τ) (Cert.NTIdeal.main (F := Ideal))) ⟨m, fun _ => 0, g⟩ (fun r => (∀ c : Dev Cert.NTIdeal.nD,
      r.2.mem ((c.tc : Thread Cert.NTIdeal.nD Cert.NTIdeal.τ).loc Cert.NTIdeal.main_arg0) = m ((c.tc : Thread Cert.NTIdeal.nD Cert.NTIdeal.τ).loc Cert.NTIdeal.main_arg0)
      ∧ r.2.mem ((c.tc : Thread Cert.NTIdeal.nD Cert.NTIdeal.τ).loc Cert.NTIdeal.main_arg1) = m ((c.tc : Thread Cert.NTIdeal.nD Cert.NTIdeal.τ).loc Cert.NTIdeal.main_arg1))
      ∧ r.2.sem = fun _ => 0)

def quiescent_NTRefIdeal [hNTRefIdeal : Cert.NTRefIdeal.Facts] : Prop :=
  ∀ (m : (ℓ : Loc Cert.NTRefIdeal.nD Cert.NTRefIdeal.τ Cert.NTRefIdeal.sig) → Buf (Elt Ideal) ℓ) (g : Dev Cert.NTRefIdeal.nD → PrngReg), Pre_NTRefIdeal m →
    θ_run (Cert.NTRefIdeal.defs (F := Ideal)) (onTc (τ := Cert.NTRefIdeal.τ) (Cert.NTRefIdeal.main (F := Ideal))) ⟨m, fun _ => 0, g⟩ (fun r => (∀ c : Dev Cert.NTRefIdeal.nD,
      r.2.mem ((c.tc : Thread Cert.NTRefIdeal.nD Cert.NTRefIdeal.τ).loc Cert.NTRefIdeal.main_arg0) = m ((c.tc : Thread Cert.NTRefIdeal.nD Cert.NTRefIdeal.τ).loc Cert.NTRefIdeal.main_arg0)
      ∧ r.2.mem ((c.tc : Thread Cert.NTRefIdeal.nD Cert.NTRefIdeal.τ).loc Cert.NTRefIdeal.main_arg1) = m ((c.tc : Thread Cert.NTRefIdeal.nD Cert.NTRefIdeal.τ).loc Cert.NTRefIdeal.main_arg1))
      ∧ r.2.sem = fun _ => 0)

def quiescent_GLU [hGLU : Cert.GLU.Facts] : Prop :=
  ∀ (m : (ℓ : Loc Cert.GLU.nD Cert.GLU.τ Cert.GLU.sig) → Buf (Elt Bits) ℓ) (g : Dev Cert.GLU.nD → PrngReg), Pre_GLU m →
    θ_run (Cert.GLU.defs (F := Bits)) (onTc (τ := Cert.GLU.τ) (Cert.GLU.main (F := Bits))) ⟨m, fun _ => 0, g⟩ (fun r => (∀ c : Dev Cert.GLU.nD,
      r.2.mem ((c.tc : Thread Cert.GLU.nD Cert.GLU.τ).loc Cert.GLU.main_arg0) = m ((c.tc : Thread Cert.GLU.nD Cert.GLU.τ).loc Cert.GLU.main_arg0)
      ∧ r.2.mem ((c.tc : Thread Cert.GLU.nD Cert.GLU.τ).loc Cert.GLU.main_arg1) = m ((c.tc : Thread Cert.GLU.nD Cert.GLU.τ).loc Cert.GLU.main_arg1))
      ∧ r.2.sem = fun _ => 0)

def quiescent_GLUIdeal [hGLUIdeal : Cert.GLUIdeal.Facts] : Prop :=
  ∀ (m : (ℓ : Loc Cert.GLUIdeal.nD Cert.GLUIdeal.τ Cert.GLUIdeal.sig) → Buf (Elt Ideal) ℓ) (g : Dev Cert.GLUIdeal.nD → PrngReg), Pre_GLUIdeal m →
    θ_run (Cert.GLUIdeal.defs (F := Ideal)) (onTc (τ := Cert.GLUIdeal.τ) (Cert.GLUIdeal.main (F := Ideal))) ⟨m, fun _ => 0, g⟩ (fun r => (∀ c : Dev Cert.GLUIdeal.nD,
      r.2.mem ((c.tc : Thread Cert.GLUIdeal.nD Cert.GLUIdeal.τ).loc Cert.GLUIdeal.main_arg0) = m ((c.tc : Thread Cert.GLUIdeal.nD Cert.GLUIdeal.τ).loc Cert.GLUIdeal.main_arg0)
      ∧ r.2.mem ((c.tc : Thread Cert.GLUIdeal.nD Cert.GLUIdeal.τ).loc Cert.GLUIdeal.main_arg1) = m ((c.tc : Thread Cert.GLUIdeal.nD Cert.GLUIdeal.τ).loc Cert.GLUIdeal.main_arg1))
      ∧ r.2.sem = fun _ => 0)

def quiescent_GLURefIdeal [hGLURefIdeal : Cert.GLURefIdeal.Facts] : Prop :=
  ∀ (m : (ℓ : Loc Cert.GLURefIdeal.nD Cert.GLURefIdeal.τ Cert.GLURefIdeal.sig) → Buf (Elt Ideal) ℓ) (g : Dev Cert.GLURefIdeal.nD → PrngReg), Pre_GLURefIdeal m →
    θ_run (Cert.GLURefIdeal.defs (F := Ideal)) (onTc (τ := Cert.GLURefIdeal.τ) (Cert.GLURefIdeal.main (F := Ideal))) ⟨m, fun _ => 0, g⟩ (fun r => (∀ c : Dev Cert.GLURefIdeal.nD,
      r.2.mem ((c.tc : Thread Cert.GLURefIdeal.nD Cert.GLURefIdeal.τ).loc Cert.GLURefIdeal.main_arg0) = m ((c.tc : Thread Cert.GLURefIdeal.nD Cert.GLURefIdeal.τ).loc Cert.GLURefIdeal.main_arg0)
      ∧ r.2.mem ((c.tc : Thread Cert.GLURefIdeal.nD Cert.GLURefIdeal.τ).loc Cert.GLURefIdeal.main_arg1) = m ((c.tc : Thread Cert.GLURefIdeal.nD Cert.GLURefIdeal.τ).loc Cert.GLURefIdeal.main_arg1))
      ∧ r.2.sem = fun _ => 0)

def quiescent_GATE [hGATE : Cert.GATE.Facts] : Prop :=
  ∀ (m : (ℓ : Loc Cert.GATE.nD Cert.GATE.τ Cert.GATE.sig) → Buf (Elt Bits) ℓ) (g : Dev Cert.GATE.nD → PrngReg), Pre_GATE m →
    θ_run (Cert.GATE.defs (F := Bits)) (onTc (τ := Cert.GATE.τ) (Cert.GATE.main (F := Bits))) ⟨m, fun _ => 0, g⟩ (fun r => (∀ c : Dev Cert.GATE.nD,
      r.2.mem ((c.tc : Thread Cert.GATE.nD Cert.GATE.τ).loc Cert.GATE.main_arg0) = m ((c.tc : Thread Cert.GATE.nD Cert.GATE.τ).loc Cert.GATE.main_arg0)
      ∧ r.2.mem ((c.tc : Thread Cert.GATE.nD Cert.GATE.τ).loc Cert.GATE.main_arg1) = m ((c.tc : Thread Cert.GATE.nD Cert.GATE.τ).loc Cert.GATE.main_arg1))
      ∧ r.2.sem = fun _ => 0)

def quiescent_GATEIdeal [hGATEIdeal : Cert.GATEIdeal.Facts] : Prop :=
  ∀ (m : (ℓ : Loc Cert.GATEIdeal.nD Cert.GATEIdeal.τ Cert.GATEIdeal.sig) → Buf (Elt Ideal) ℓ) (g : Dev Cert.GATEIdeal.nD → PrngReg), Pre_GATEIdeal m →
    θ_run (Cert.GATEIdeal.defs (F := Ideal)) (onTc (τ := Cert.GATEIdeal.τ) (Cert.GATEIdeal.main (F := Ideal))) ⟨m, fun _ => 0, g⟩ (fun r => (∀ c : Dev Cert.GATEIdeal.nD,
      r.2.mem ((c.tc : Thread Cert.GATEIdeal.nD Cert.GATEIdeal.τ).loc Cert.GATEIdeal.main_arg0) = m ((c.tc : Thread Cert.GATEIdeal.nD Cert.GATEIdeal.τ).loc Cert.GATEIdeal.main_arg0)
      ∧ r.2.mem ((c.tc : Thread Cert.GATEIdeal.nD Cert.GATEIdeal.τ).loc Cert.GATEIdeal.main_arg1) = m ((c.tc : Thread Cert.GATEIdeal.nD Cert.GATEIdeal.τ).loc Cert.GATEIdeal.main_arg1))
      ∧ r.2.sem = fun _ => 0)

def quiescent_GATERefIdeal [hGATERefIdeal : Cert.GATERefIdeal.Facts] : Prop :=
  ∀ (m : (ℓ : Loc Cert.GATERefIdeal.nD Cert.GATERefIdeal.τ Cert.GATERefIdeal.sig) → Buf (Elt Ideal) ℓ) (g : Dev Cert.GATERefIdeal.nD → PrngReg), Pre_GATERefIdeal m →
    θ_run (Cert.GATERefIdeal.defs (F := Ideal)) (onTc (τ := Cert.GATERefIdeal.τ) (Cert.GATERefIdeal.main (F := Ideal))) ⟨m, fun _ => 0, g⟩ (fun r => (∀ c : Dev Cert.GATERefIdeal.nD,
      r.2.mem ((c.tc : Thread Cert.GATERefIdeal.nD Cert.GATERefIdeal.τ).loc Cert.GATERefIdeal.main_arg0) = m ((c.tc : Thread Cert.GATERefIdeal.nD Cert.GATERefIdeal.τ).loc Cert.GATERefIdeal.main_arg0)
      ∧ r.2.mem ((c.tc : Thread Cert.GATERefIdeal.nD Cert.GATERefIdeal.τ).loc Cert.GATERefIdeal.main_arg1) = m ((c.tc : Thread Cert.GATERefIdeal.nD Cert.GATERefIdeal.τ).loc Cert.GATERefIdeal.main_arg1))
      ∧ r.2.sem = fun _ => 0)

def quiescent_DOWN [hDOWN : Cert.DOWN.Facts] : Prop :=
  ∀ (m : (ℓ : Loc Cert.DOWN.nD Cert.DOWN.τ Cert.DOWN.sig) → Buf (Elt Bits) ℓ) (g : Dev Cert.DOWN.nD → PrngReg), Pre_DOWN m →
    θ_run (Cert.DOWN.defs (F := Bits)) (onTc (τ := Cert.DOWN.τ) (Cert.DOWN.main (F := Bits))) ⟨m, fun _ => 0, g⟩ (fun r => (∀ c : Dev Cert.DOWN.nD,
      r.2.mem ((c.tc : Thread Cert.DOWN.nD Cert.DOWN.τ).loc Cert.DOWN.main_arg0) = m ((c.tc : Thread Cert.DOWN.nD Cert.DOWN.τ).loc Cert.DOWN.main_arg0)
      ∧ r.2.mem ((c.tc : Thread Cert.DOWN.nD Cert.DOWN.τ).loc Cert.DOWN.main_arg1) = m ((c.tc : Thread Cert.DOWN.nD Cert.DOWN.τ).loc Cert.DOWN.main_arg1))
      ∧ r.2.sem = fun _ => 0)

def quiescent_DOWNIdeal [hDOWNIdeal : Cert.DOWNIdeal.Facts] : Prop :=
  ∀ (m : (ℓ : Loc Cert.DOWNIdeal.nD Cert.DOWNIdeal.τ Cert.DOWNIdeal.sig) → Buf (Elt Ideal) ℓ) (g : Dev Cert.DOWNIdeal.nD → PrngReg), Pre_DOWNIdeal m →
    θ_run (Cert.DOWNIdeal.defs (F := Ideal)) (onTc (τ := Cert.DOWNIdeal.τ) (Cert.DOWNIdeal.main (F := Ideal))) ⟨m, fun _ => 0, g⟩ (fun r => (∀ c : Dev Cert.DOWNIdeal.nD,
      r.2.mem ((c.tc : Thread Cert.DOWNIdeal.nD Cert.DOWNIdeal.τ).loc Cert.DOWNIdeal.main_arg0) = m ((c.tc : Thread Cert.DOWNIdeal.nD Cert.DOWNIdeal.τ).loc Cert.DOWNIdeal.main_arg0)
      ∧ r.2.mem ((c.tc : Thread Cert.DOWNIdeal.nD Cert.DOWNIdeal.τ).loc Cert.DOWNIdeal.main_arg1) = m ((c.tc : Thread Cert.DOWNIdeal.nD Cert.DOWNIdeal.τ).loc Cert.DOWNIdeal.main_arg1))
      ∧ r.2.sem = fun _ => 0)

def quiescent_DOWNRefIdeal [hDOWNRefIdeal : Cert.DOWNRefIdeal.Facts] : Prop :=
  ∀ (m : (ℓ : Loc Cert.DOWNRefIdeal.nD Cert.DOWNRefIdeal.τ Cert.DOWNRefIdeal.sig) → Buf (Elt Ideal) ℓ) (g : Dev Cert.DOWNRefIdeal.nD → PrngReg), Pre_DOWNRefIdeal m →
    θ_run (Cert.DOWNRefIdeal.defs (F := Ideal)) (onTc (τ := Cert.DOWNRefIdeal.τ) (Cert.DOWNRefIdeal.main (F := Ideal))) ⟨m, fun _ => 0, g⟩ (fun r => (∀ c : Dev Cert.DOWNRefIdeal.nD,
      r.2.mem ((c.tc : Thread Cert.DOWNRefIdeal.nD Cert.DOWNRefIdeal.τ).loc Cert.DOWNRefIdeal.main_arg0) = m ((c.tc : Thread Cert.DOWNRefIdeal.nD Cert.DOWNRefIdeal.τ).loc Cert.DOWNRefIdeal.main_arg0)
      ∧ r.2.mem ((c.tc : Thread Cert.DOWNRefIdeal.nD Cert.DOWNRefIdeal.τ).loc Cert.DOWNRefIdeal.main_arg1) = m ((c.tc : Thread Cert.DOWNRefIdeal.nD Cert.DOWNRefIdeal.τ).loc Cert.DOWNRefIdeal.main_arg1))
      ∧ r.2.sem = fun _ => 0)

def quiescent_ADAM [hADAM : Cert.ADAM.Facts] : Prop :=
  ∀ (m : (ℓ : Loc Cert.ADAM.nD Cert.ADAM.τ Cert.ADAM.sig) → Buf (Elt Bits) ℓ) (g : Dev Cert.ADAM.nD → PrngReg), Pre_ADAM m →
    θ_run (Cert.ADAM.defs (F := Bits)) (onTc (τ := Cert.ADAM.τ) (Cert.ADAM.main (F := Bits))) ⟨m, fun _ => 0, g⟩ (fun r => (∀ c : Dev Cert.ADAM.nD,
      r.2.mem ((c.tc : Thread Cert.ADAM.nD Cert.ADAM.τ).loc Cert.ADAM.main_arg0) = m ((c.tc : Thread Cert.ADAM.nD Cert.ADAM.τ).loc Cert.ADAM.main_arg0)
      ∧ r.2.mem ((c.tc : Thread Cert.ADAM.nD Cert.ADAM.τ).loc Cert.ADAM.main_arg1) = m ((c.tc : Thread Cert.ADAM.nD Cert.ADAM.τ).loc Cert.ADAM.main_arg1)
      ∧ r.2.mem ((c.tc : Thread Cert.ADAM.nD Cert.ADAM.τ).loc Cert.ADAM.main_arg2) = m ((c.tc : Thread Cert.ADAM.nD Cert.ADAM.τ).loc Cert.ADAM.main_arg2)
      ∧ r.2.mem ((c.tc : Thread Cert.ADAM.nD Cert.ADAM.τ).loc Cert.ADAM.main_arg3) = m ((c.tc : Thread Cert.ADAM.nD Cert.ADAM.τ).loc Cert.ADAM.main_arg3))
      ∧ r.2.sem = fun _ => 0)

def quiescent_ADAMIdeal [hADAMIdeal : Cert.ADAMIdeal.Facts] : Prop :=
  ∀ (m : (ℓ : Loc Cert.ADAMIdeal.nD Cert.ADAMIdeal.τ Cert.ADAMIdeal.sig) → Buf (Elt Ideal) ℓ) (g : Dev Cert.ADAMIdeal.nD → PrngReg), Pre_ADAMIdeal m →
    θ_run (Cert.ADAMIdeal.defs (F := Ideal)) (onTc (τ := Cert.ADAMIdeal.τ) (Cert.ADAMIdeal.main (F := Ideal))) ⟨m, fun _ => 0, g⟩ (fun r => (∀ c : Dev Cert.ADAMIdeal.nD,
      r.2.mem ((c.tc : Thread Cert.ADAMIdeal.nD Cert.ADAMIdeal.τ).loc Cert.ADAMIdeal.main_arg0) = m ((c.tc : Thread Cert.ADAMIdeal.nD Cert.ADAMIdeal.τ).loc Cert.ADAMIdeal.main_arg0)
      ∧ r.2.mem ((c.tc : Thread Cert.ADAMIdeal.nD Cert.ADAMIdeal.τ).loc Cert.ADAMIdeal.main_arg1) = m ((c.tc : Thread Cert.ADAMIdeal.nD Cert.ADAMIdeal.τ).loc Cert.ADAMIdeal.main_arg1)
      ∧ r.2.mem ((c.tc : Thread Cert.ADAMIdeal.nD Cert.ADAMIdeal.τ).loc Cert.ADAMIdeal.main_arg2) = m ((c.tc : Thread Cert.ADAMIdeal.nD Cert.ADAMIdeal.τ).loc Cert.ADAMIdeal.main_arg2)
      ∧ r.2.mem ((c.tc : Thread Cert.ADAMIdeal.nD Cert.ADAMIdeal.τ).loc Cert.ADAMIdeal.main_arg3) = m ((c.tc : Thread Cert.ADAMIdeal.nD Cert.ADAMIdeal.τ).loc Cert.ADAMIdeal.main_arg3))
      ∧ r.2.sem = fun _ => 0)

def quiescent_ADAMRefIdeal [hADAMRefIdeal : Cert.ADAMRefIdeal.Facts] : Prop :=
  ∀ (m : (ℓ : Loc Cert.ADAMRefIdeal.nD Cert.ADAMRefIdeal.τ Cert.ADAMRefIdeal.sig) → Buf (Elt Ideal) ℓ) (g : Dev Cert.ADAMRefIdeal.nD → PrngReg), Pre_ADAMRefIdeal m →
    θ_run (Cert.ADAMRefIdeal.defs (F := Ideal)) (onTc (τ := Cert.ADAMRefIdeal.τ) (Cert.ADAMRefIdeal.main (F := Ideal))) ⟨m, fun _ => 0, g⟩ (fun r => (∀ c : Dev Cert.ADAMRefIdeal.nD,
      r.2.mem ((c.tc : Thread Cert.ADAMRefIdeal.nD Cert.ADAMRefIdeal.τ).loc Cert.ADAMRefIdeal.main_arg0) = m ((c.tc : Thread Cert.ADAMRefIdeal.nD Cert.ADAMRefIdeal.τ).loc Cert.ADAMRefIdeal.main_arg0)
      ∧ r.2.mem ((c.tc : Thread Cert.ADAMRefIdeal.nD Cert.ADAMRefIdeal.τ).loc Cert.ADAMRefIdeal.main_arg1) = m ((c.tc : Thread Cert.ADAMRefIdeal.nD Cert.ADAMRefIdeal.τ).loc Cert.ADAMRefIdeal.main_arg1)
      ∧ r.2.mem ((c.tc : Thread Cert.ADAMRefIdeal.nD Cert.ADAMRefIdeal.τ).loc Cert.ADAMRefIdeal.main_arg2) = m ((c.tc : Thread Cert.ADAMRefIdeal.nD Cert.ADAMRefIdeal.τ).loc Cert.ADAMRefIdeal.main_arg2)
      ∧ r.2.mem ((c.tc : Thread Cert.ADAMRefIdeal.nD Cert.ADAMRefIdeal.τ).loc Cert.ADAMRefIdeal.main_arg3) = m ((c.tc : Thread Cert.ADAMRefIdeal.nD Cert.ADAMRefIdeal.τ).loc Cert.ADAMRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v88_0)) (v1 : (c : Dev Cert.KernelIdeal.nD) → Buf (Elt Ideal) ((c.tc : Thread Cert.KernelIdeal.nD Cert.KernelIdeal.τ).loc Cert.KernelIdeal.main_v88_1)) (v2 : (c : Dev Cert.KernelIdeal.nD) → Buf (Elt Ideal) ((c.tc : Thread Cert.KernelIdeal.nD Cert.KernelIdeal.τ).loc Cert.KernelIdeal.main_v88_2)) (v3 : (c : Dev Cert.KernelIdeal.nD) → Buf (Elt Ideal) ((c.tc : Thread Cert.KernelIdeal.nD Cert.KernelIdeal.τ).loc Cert.KernelIdeal.main_v88_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_v88_1) = v1 c
          ∧ r.2.mem ((c.tc : Thread Cert.KernelIdeal.nD Cert.KernelIdeal.τ).loc Cert.KernelIdeal.main_v88_2) = v2 c
          ∧ r.2.mem ((c.tc : Thread Cert.KernelIdeal.nD Cert.KernelIdeal.τ).loc Cert.KernelIdeal.main_v88_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_v237) = v1 c
          ∧ r.2.mem ((c.tc : Thread Cert.ReferenceIdeal.nD Cert.ReferenceIdeal.τ).loc Cert.ReferenceIdeal.main_v240) = v2 c
          ∧ r.2.mem ((c.tc : Thread Cert.ReferenceIdeal.nD Cert.ReferenceIdeal.τ).loc Cert.ReferenceIdeal.main_v233) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DW_DWIdeal : Prop :=
  True

def algebraic_DWIdeal_DWRefIdeal [hDWIdeal : Cert.DWIdeal.Facts] [hDWRefIdeal : Cert.DWRefIdeal.Facts] : Prop :=
  ∀ (m : (ℓ : Loc Cert.DWIdeal.nD Cert.DWIdeal.τ Cert.DWIdeal.sig) → Buf (Elt Ideal) ℓ) (g : Dev Cert.DWIdeal.nD → PrngReg)
    (m' : (ℓ : Loc Cert.DWRefIdeal.nD Cert.DWRefIdeal.τ Cert.DWRefIdeal.sig) → Buf (Elt Ideal) ℓ) (g' : Dev Cert.DWRefIdeal.nD → PrngReg), Pre_DWIdeal m →
    (∀ c : Dev Cert.DWIdeal.nD,
      m' ((c.tc : Thread Cert.DWRefIdeal.nD Cert.DWRefIdeal.τ).loc Cert.DWRefIdeal.main_arg0) = m ((c.tc : Thread Cert.DWIdeal.nD Cert.DWIdeal.τ).loc Cert.DWIdeal.main_arg0)
      ∧ m' ((c.tc : Thread Cert.DWRefIdeal.nD Cert.DWRefIdeal.τ).loc Cert.DWRefIdeal.main_arg1) = m ((c.tc : Thread Cert.DWIdeal.nD Cert.DWIdeal.τ).loc Cert.DWIdeal.main_arg1)) →
    ∃ (v0 : (c : Dev Cert.DWIdeal.nD) → Buf (Elt Ideal) ((c.tc : Thread Cert.DWIdeal.nD Cert.DWIdeal.τ).loc Cert.DWIdeal.main_v0)),
      θ_run (Cert.DWIdeal.defs (F := Ideal)) (onTc (τ := Cert.DWIdeal.τ) (Cert.DWIdeal.main (F := Ideal))) ⟨m, fun _ => 0, g⟩ (fun r => ∀ c : Dev Cert.DWIdeal.nD,
          r.2.mem ((c.tc : Thread Cert.DWIdeal.nD Cert.DWIdeal.τ).loc Cert.DWIdeal.main_v0) = v0 c
          ∧ r.2.mem ((c.tc : Thread Cert.DWIdeal.nD Cert.DWIdeal.τ).loc Cert.DWIdeal.main_arg0) = m ((c.tc : Thread Cert.DWIdeal.nD Cert.DWIdeal.τ).loc Cert.DWIdeal.main_arg0)
          ∧ r.2.mem ((c.tc : Thread Cert.DWIdeal.nD Cert.DWIdeal.τ).loc Cert.DWIdeal.main_arg1) = m ((c.tc : Thread Cert.DWIdeal.nD Cert.DWIdeal.τ).loc Cert.DWIdeal.main_arg1))
      ∧ θ_run (Cert.DWRefIdeal.defs (F := Ideal)) (onTc (τ := Cert.DWRefIdeal.τ) (Cert.DWRefIdeal.main (F := Ideal))) ⟨m', fun _ => 0, g'⟩ (fun r => ∀ c : Dev Cert.DWRefIdeal.nD,
          r.2.mem ((c.tc : Thread Cert.DWRefIdeal.nD Cert.DWRefIdeal.τ).loc Cert.DWRefIdeal.main_v6) = v0 c
          ∧ r.2.mem ((c.tc : Thread Cert.DWRefIdeal.nD Cert.DWRefIdeal.τ).loc Cert.DWRefIdeal.main_arg0) = m' ((c.tc : Thread Cert.DWRefIdeal.nD Cert.DWRefIdeal.τ).loc Cert.DWRefIdeal.main_arg0)
          ∧ r.2.mem ((c.tc : Thread Cert.DWRefIdeal.nD Cert.DWRefIdeal.τ).loc Cert.DWRefIdeal.main_arg1) = m' ((c.tc : Thread Cert.DWRefIdeal.nD Cert.DWRefIdeal.τ).loc Cert.DWRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v5) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1))

def preserves_GU_GUIdeal : Prop :=
  True

def algebraic_GUIdeal_GURefIdeal [hGUIdeal : Cert.GUIdeal.Facts] [hGURefIdeal : Cert.GURefIdeal.Facts] : Prop :=
  ∀ (m : (ℓ : Loc Cert.GUIdeal.nD Cert.GUIdeal.τ Cert.GUIdeal.sig) → Buf (Elt Ideal) ℓ) (g : Dev Cert.GUIdeal.nD → PrngReg)
    (m' : (ℓ : Loc Cert.GURefIdeal.nD Cert.GURefIdeal.τ Cert.GURefIdeal.sig) → Buf (Elt Ideal) ℓ) (g' : Dev Cert.GURefIdeal.nD → PrngReg), Pre_GUIdeal m →
    (∀ c : Dev Cert.GUIdeal.nD,
      m' ((c.tc : Thread Cert.GURefIdeal.nD Cert.GURefIdeal.τ).loc Cert.GURefIdeal.main_arg0) = m ((c.tc : Thread Cert.GUIdeal.nD Cert.GUIdeal.τ).loc Cert.GUIdeal.main_arg0)
      ∧ m' ((c.tc : Thread Cert.GURefIdeal.nD Cert.GURefIdeal.τ).loc Cert.GURefIdeal.main_arg1) = m ((c.tc : Thread Cert.GUIdeal.nD Cert.GUIdeal.τ).loc Cert.GUIdeal.main_arg1)) →
    ∃ (v0 : (c : Dev Cert.GUIdeal.nD) → Buf (Elt Ideal) ((c.tc : Thread Cert.GUIdeal.nD Cert.GUIdeal.τ).loc Cert.GUIdeal.main_v0_0)) (v1 : (c : Dev Cert.GUIdeal.nD) → Buf (Elt Ideal) ((c.tc : Thread Cert.GUIdeal.nD Cert.GUIdeal.τ).loc Cert.GUIdeal.main_v0_1)) (v2 : (c : Dev Cert.GUIdeal.nD) → Buf (Elt Ideal) ((c.tc : Thread Cert.GUIdeal.nD Cert.GUIdeal.τ).loc Cert.GUIdeal.main_v0_2)),
      θ_run (Cert.GUIdeal.defs (F := Ideal)) (onTc (τ := Cert.GUIdeal.τ) (Cert.GUIdeal.main (F := Ideal))) ⟨m, fun _ => 0, g⟩ (fun r => ∀ c : Dev Cert.GUIdeal.nD,
          r.2.mem ((c.tc : Thread Cert.GUIdeal.nD Cert.GUIdeal.τ).loc Cert.GUIdeal.main_v0_0) = v0 c
          ∧ r.2.mem ((c.tc : Thread Cert.GUIdeal.nD Cert.GUIdeal.τ).loc Cert.GUIdeal.main_v0_1) = v1 c
          ∧ r.2.mem ((c.tc : Thread Cert.GUIdeal.nD Cert.GUIdeal.τ).loc Cert.GUIdeal.main_v0_2) = v2 c
          ∧ r.2.mem ((c.tc : Thread Cert.GUIdeal.nD Cert.GUIdeal.τ).loc Cert.GUIdeal.main_arg0) = m ((c.tc : Thread Cert.GUIdeal.nD Cert.GUIdeal.τ).loc Cert.GUIdeal.main_arg0)
          ∧ r.2.mem ((c.tc : Thread Cert.GUIdeal.nD Cert.GUIdeal.τ).loc Cert.GUIdeal.main_arg1) = m ((c.tc : Thread Cert.GUIdeal.nD Cert.GUIdeal.τ).loc Cert.GUIdeal.main_arg1))
      ∧ θ_run (Cert.GURefIdeal.defs (F := Ideal)) (onTc (τ := Cert.GURefIdeal.τ) (Cert.GURefIdeal.main (F := Ideal))) ⟨m', fun _ => 0, g'⟩ (fun r => ∀ c : Dev Cert.GURefIdeal.nD,
          r.2.mem ((c.tc : Thread Cert.GURefIdeal.nD Cert.GURefIdeal.τ).loc Cert.GURefIdeal.main_v7) = v0 c
          ∧ r.2.mem ((c.tc : Thread Cert.GURefIdeal.nD Cert.GURefIdeal.τ).loc Cert.GURefIdeal.main_v8) = v1 c
          ∧ r.2.mem ((c.tc : Thread Cert.GURefIdeal.nD Cert.GURefIdeal.τ).loc Cert.GURefIdeal.main_v9) = v2 c
          ∧ r.2.mem ((c.tc : Thread Cert.GURefIdeal.nD Cert.GURefIdeal.τ).loc Cert.GURefIdeal.main_arg0) = m' ((c.tc : Thread Cert.GURefIdeal.nD Cert.GURefIdeal.τ).loc Cert.GURefIdeal.main_arg0)
          ∧ r.2.mem ((c.tc : Thread Cert.GURefIdeal.nD Cert.GURefIdeal.τ).loc Cert.GURefIdeal.main_arg1) = m' ((c.tc : Thread Cert.GURefIdeal.nD Cert.GURefIdeal.τ).loc Cert.GURefIdeal.main_arg1))

def preserves_DWD_DWDIdeal : Prop :=
  True

def algebraic_DWDIdeal_DWDRefIdeal [hDWDIdeal : Cert.DWDIdeal.Facts] [hDWDRefIdeal : Cert.DWDRefIdeal.Facts] : Prop :=
  ∀ (m : (ℓ : Loc Cert.DWDIdeal.nD Cert.DWDIdeal.τ Cert.DWDIdeal.sig) → Buf (Elt Ideal) ℓ) (g : Dev Cert.DWDIdeal.nD → PrngReg)
    (m' : (ℓ : Loc Cert.DWDRefIdeal.nD Cert.DWDRefIdeal.τ Cert.DWDRefIdeal.sig) → Buf (Elt Ideal) ℓ) (g' : Dev Cert.DWDRefIdeal.nD → PrngReg), Pre_DWDIdeal m →
    (∀ c : Dev Cert.DWDIdeal.nD,
      m' ((c.tc : Thread Cert.DWDRefIdeal.nD Cert.DWDRefIdeal.τ).loc Cert.DWDRefIdeal.main_arg0) = m ((c.tc : Thread Cert.DWDIdeal.nD Cert.DWDIdeal.τ).loc Cert.DWDIdeal.main_arg0)
      ∧ m' ((c.tc : Thread Cert.DWDRefIdeal.nD Cert.DWDRefIdeal.τ).loc Cert.DWDRefIdeal.main_arg1) = m ((c.tc : Thread Cert.DWDIdeal.nD Cert.DWDIdeal.τ).loc Cert.DWDIdeal.main_arg1)) →
    ∃ (v0 : (c : Dev Cert.DWDIdeal.nD) → Buf (Elt Ideal) ((c.tc : Thread Cert.DWDIdeal.nD Cert.DWDIdeal.τ).loc Cert.DWDIdeal.main_v0)),
      θ_run (Cert.DWDIdeal.defs (F := Ideal)) (onTc (τ := Cert.DWDIdeal.τ) (Cert.DWDIdeal.main (F := Ideal))) ⟨m, fun _ => 0, g⟩ (fun r => ∀ c : Dev Cert.DWDIdeal.nD,
          r.2.mem ((c.tc : Thread Cert.DWDIdeal.nD Cert.DWDIdeal.τ).loc Cert.DWDIdeal.main_v0) = v0 c
          ∧ r.2.mem ((c.tc : Thread Cert.DWDIdeal.nD Cert.DWDIdeal.τ).loc Cert.DWDIdeal.main_arg0) = m ((c.tc : Thread Cert.DWDIdeal.nD Cert.DWDIdeal.τ).loc Cert.DWDIdeal.main_arg0)
          ∧ r.2.mem ((c.tc : Thread Cert.DWDIdeal.nD Cert.DWDIdeal.τ).loc Cert.DWDIdeal.main_arg1) = m ((c.tc : Thread Cert.DWDIdeal.nD Cert.DWDIdeal.τ).loc Cert.DWDIdeal.main_arg1))
      ∧ θ_run (Cert.DWDRefIdeal.defs (F := Ideal)) (onTc (τ := Cert.DWDRefIdeal.τ) (Cert.DWDRefIdeal.main (F := Ideal))) ⟨m', fun _ => 0, g'⟩ (fun r => ∀ c : Dev Cert.DWDRefIdeal.nD,
          r.2.mem ((c.tc : Thread Cert.DWDRefIdeal.nD Cert.DWDRefIdeal.τ).loc Cert.DWDRefIdeal.main_v6) = v0 c
          ∧ r.2.mem ((c.tc : Thread Cert.DWDRefIdeal.nD Cert.DWDRefIdeal.τ).loc Cert.DWDRefIdeal.main_arg0) = m' ((c.tc : Thread Cert.DWDRefIdeal.nD Cert.DWDRefIdeal.τ).loc Cert.DWDRefIdeal.main_arg0)
          ∧ r.2.mem ((c.tc : Thread Cert.DWDRefIdeal.nD Cert.DWDRefIdeal.τ).loc Cert.DWDRefIdeal.main_arg1) = m' ((c.tc : Thread Cert.DWDRefIdeal.nD Cert.DWDRefIdeal.τ).loc Cert.DWDRefIdeal.main_arg1))

def preserves_DACT_DACTIdeal : Prop :=
  True

def algebraic_DACTIdeal_DACTRefIdeal [hDACTIdeal : Cert.DACTIdeal.Facts] [hDACTRefIdeal : Cert.DACTRefIdeal.Facts] : Prop :=
  ∀ (m : (ℓ : Loc Cert.DACTIdeal.nD Cert.DACTIdeal.τ Cert.DACTIdeal.sig) → Buf (Elt Ideal) ℓ) (g : Dev Cert.DACTIdeal.nD → PrngReg)
    (m' : (ℓ : Loc Cert.DACTRefIdeal.nD Cert.DACTRefIdeal.τ Cert.DACTRefIdeal.sig) → Buf (Elt Ideal) ℓ) (g' : Dev Cert.DACTRefIdeal.nD → PrngReg), Pre_DACTIdeal m →
    (∀ c : Dev Cert.DACTIdeal.nD,
      m' ((c.tc : Thread Cert.DACTRefIdeal.nD Cert.DACTRefIdeal.τ).loc Cert.DACTRefIdeal.main_arg0) = m ((c.tc : Thread Cert.DACTIdeal.nD Cert.DACTIdeal.τ).loc Cert.DACTIdeal.main_arg0)
      ∧ m' ((c.tc : Thread Cert.DACTRefIdeal.nD Cert.DACTRefIdeal.τ).loc Cert.DACTRefIdeal.main_arg1) = m ((c.tc : Thread Cert.DACTIdeal.nD Cert.DACTIdeal.τ).loc Cert.DACTIdeal.main_arg1)) →
    ∃ (v0 : (c : Dev Cert.DACTIdeal.nD) → Buf (Elt Ideal) ((c.tc : Thread Cert.DACTIdeal.nD Cert.DACTIdeal.τ).loc Cert.DACTIdeal.main_v0)),
      θ_run (Cert.DACTIdeal.defs (F := Ideal)) (onTc (τ := Cert.DACTIdeal.τ) (Cert.DACTIdeal.main (F := Ideal))) ⟨m, fun _ => 0, g⟩ (fun r => ∀ c : Dev Cert.DACTIdeal.nD,
          r.2.mem ((c.tc : Thread Cert.DACTIdeal.nD Cert.DACTIdeal.τ).loc Cert.DACTIdeal.main_v0) = v0 c
          ∧ r.2.mem ((c.tc : Thread Cert.DACTIdeal.nD Cert.DACTIdeal.τ).loc Cert.DACTIdeal.main_arg0) = m ((c.tc : Thread Cert.DACTIdeal.nD Cert.DACTIdeal.τ).loc Cert.DACTIdeal.main_arg0)
          ∧ r.2.mem ((c.tc : Thread Cert.DACTIdeal.nD Cert.DACTIdeal.τ).loc Cert.DACTIdeal.main_arg1) = m ((c.tc : Thread Cert.DACTIdeal.nD Cert.DACTIdeal.τ).loc Cert.DACTIdeal.main_arg1))
      ∧ θ_run (Cert.DACTRefIdeal.defs (F := Ideal)) (onTc (τ := Cert.DACTRefIdeal.τ) (Cert.DACTRefIdeal.main (F := Ideal))) ⟨m', fun _ => 0, g'⟩ (fun r => ∀ c : Dev Cert.DACTRefIdeal.nD,
          r.2.mem ((c.tc : Thread Cert.DACTRefIdeal.nD Cert.DACTRefIdeal.τ).loc Cert.DACTRefIdeal.main_v5) = v0 c
          ∧ r.2.mem ((c.tc : Thread Cert.DACTRefIdeal.nD Cert.DACTRefIdeal.τ).loc Cert.DACTRefIdeal.main_arg0) = m' ((c.tc : Thread Cert.DACTRefIdeal.nD Cert.DACTRefIdeal.τ).loc Cert.DACTRefIdeal.main_arg0)
          ∧ r.2.mem ((c.tc : Thread Cert.DACTRefIdeal.nD Cert.DACTRefIdeal.τ).loc Cert.DACTRefIdeal.main_arg1) = m' ((c.tc : Thread Cert.DACTRefIdeal.nD Cert.DACTRefIdeal.τ).loc Cert.DACTRefIdeal.main_arg1))

def preserves_NN_NNIdeal : Prop :=
  True

def algebraic_NNIdeal_NNRefIdeal [hNNIdeal : Cert.NNIdeal.Facts] [hNNRefIdeal : Cert.NNRefIdeal.Facts] : Prop :=
  ∀ (m : (ℓ : Loc Cert.NNIdeal.nD Cert.NNIdeal.τ Cert.NNIdeal.sig) → Buf (Elt Ideal) ℓ) (g : Dev Cert.NNIdeal.nD → PrngReg)
    (m' : (ℓ : Loc Cert.NNRefIdeal.nD Cert.NNRefIdeal.τ Cert.NNRefIdeal.sig) → Buf (Elt Ideal) ℓ) (g' : Dev Cert.NNRefIdeal.nD → PrngReg), Pre_NNIdeal m →
    (∀ c : Dev Cert.NNIdeal.nD,
      m' ((c.tc : Thread Cert.NNRefIdeal.nD Cert.NNRefIdeal.τ).loc Cert.NNRefIdeal.main_arg0) = m ((c.tc : Thread Cert.NNIdeal.nD Cert.NNIdeal.τ).loc Cert.NNIdeal.main_arg0)
      ∧ m' ((c.tc : Thread Cert.NNRefIdeal.nD Cert.NNRefIdeal.τ).loc Cert.NNRefIdeal.main_arg1) = m ((c.tc : Thread Cert.NNIdeal.nD Cert.NNIdeal.τ).loc Cert.NNIdeal.main_arg1)) →
    ∃ (v0 : (c : Dev Cert.NNIdeal.nD) → Buf (Elt Ideal) ((c.tc : Thread Cert.NNIdeal.nD Cert.NNIdeal.τ).loc Cert.NNIdeal.main_v0)),
      θ_run (Cert.NNIdeal.defs (F := Ideal)) (onTc (τ := Cert.NNIdeal.τ) (Cert.NNIdeal.main (F := Ideal))) ⟨m, fun _ => 0, g⟩ (fun r => ∀ c : Dev Cert.NNIdeal.nD,
          r.2.mem ((c.tc : Thread Cert.NNIdeal.nD Cert.NNIdeal.τ).loc Cert.NNIdeal.main_v0) = v0 c
          ∧ r.2.mem ((c.tc : Thread Cert.NNIdeal.nD Cert.NNIdeal.τ).loc Cert.NNIdeal.main_arg0) = m ((c.tc : Thread Cert.NNIdeal.nD Cert.NNIdeal.τ).loc Cert.NNIdeal.main_arg0)
          ∧ r.2.mem ((c.tc : Thread Cert.NNIdeal.nD Cert.NNIdeal.τ).loc Cert.NNIdeal.main_arg1) = m ((c.tc : Thread Cert.NNIdeal.nD Cert.NNIdeal.τ).loc Cert.NNIdeal.main_arg1))
      ∧ θ_run (Cert.NNRefIdeal.defs (F := Ideal)) (onTc (τ := Cert.NNRefIdeal.τ) (Cert.NNRefIdeal.main (F := Ideal))) ⟨m', fun _ => 0, g'⟩ (fun r => ∀ c : Dev Cert.NNRefIdeal.nD,
          r.2.mem ((c.tc : Thread Cert.NNRefIdeal.nD Cert.NNRefIdeal.τ).loc Cert.NNRefIdeal.main_v3) = v0 c
          ∧ r.2.mem ((c.tc : Thread Cert.NNRefIdeal.nD Cert.NNRefIdeal.τ).loc Cert.NNRefIdeal.main_arg0) = m' ((c.tc : Thread Cert.NNRefIdeal.nD Cert.NNRefIdeal.τ).loc Cert.NNRefIdeal.main_arg0)
          ∧ r.2.mem ((c.tc : Thread Cert.NNRefIdeal.nD Cert.NNRefIdeal.τ).loc Cert.NNRefIdeal.main_arg1) = m' ((c.tc : Thread Cert.NNRefIdeal.nD Cert.NNRefIdeal.τ).loc Cert.NNRefIdeal.main_arg1))

def preserves_TN_TNIdeal : Prop :=
  True

def algebraic_TNIdeal_TNRefIdeal [hTNIdeal : Cert.TNIdeal.Facts] [hTNRefIdeal : Cert.TNRefIdeal.Facts] : Prop :=
  ∀ (m : (ℓ : Loc Cert.TNIdeal.nD Cert.TNIdeal.τ Cert.TNIdeal.sig) → Buf (Elt Ideal) ℓ) (g : Dev Cert.TNIdeal.nD → PrngReg)
    (m' : (ℓ : Loc Cert.TNRefIdeal.nD Cert.TNRefIdeal.τ Cert.TNRefIdeal.sig) → Buf (Elt Ideal) ℓ) (g' : Dev Cert.TNRefIdeal.nD → PrngReg), Pre_TNIdeal m →
    (∀ c : Dev Cert.TNIdeal.nD,
      m' ((c.tc : Thread Cert.TNRefIdeal.nD Cert.TNRefIdeal.τ).loc Cert.TNRefIdeal.main_arg0) = m ((c.tc : Thread Cert.TNIdeal.nD Cert.TNIdeal.τ).loc Cert.TNIdeal.main_arg0)
      ∧ m' ((c.tc : Thread Cert.TNRefIdeal.nD Cert.TNRefIdeal.τ).loc Cert.TNRefIdeal.main_arg1) = m ((c.tc : Thread Cert.TNIdeal.nD Cert.TNIdeal.τ).loc Cert.TNIdeal.main_arg1)) →
    ∃ (v0 : (c : Dev Cert.TNIdeal.nD) → Buf (Elt Ideal) ((c.tc : Thread Cert.TNIdeal.nD Cert.TNIdeal.τ).loc Cert.TNIdeal.main_v0)),
      θ_run (Cert.TNIdeal.defs (F := Ideal)) (onTc (τ := Cert.TNIdeal.τ) (Cert.TNIdeal.main (F := Ideal))) ⟨m, fun _ => 0, g⟩ (fun r => ∀ c : Dev Cert.TNIdeal.nD,
          r.2.mem ((c.tc : Thread Cert.TNIdeal.nD Cert.TNIdeal.τ).loc Cert.TNIdeal.main_v0) = v0 c
          ∧ r.2.mem ((c.tc : Thread Cert.TNIdeal.nD Cert.TNIdeal.τ).loc Cert.TNIdeal.main_arg0) = m ((c.tc : Thread Cert.TNIdeal.nD Cert.TNIdeal.τ).loc Cert.TNIdeal.main_arg0)
          ∧ r.2.mem ((c.tc : Thread Cert.TNIdeal.nD Cert.TNIdeal.τ).loc Cert.TNIdeal.main_arg1) = m ((c.tc : Thread Cert.TNIdeal.nD Cert.TNIdeal.τ).loc Cert.TNIdeal.main_arg1))
      ∧ θ_run (Cert.TNRefIdeal.defs (F := Ideal)) (onTc (τ := Cert.TNRefIdeal.τ) (Cert.TNRefIdeal.main (F := Ideal))) ⟨m', fun _ => 0, g'⟩ (fun r => ∀ c : Dev Cert.TNRefIdeal.nD,
          r.2.mem ((c.tc : Thread Cert.TNRefIdeal.nD Cert.TNRefIdeal.τ).loc Cert.TNRefIdeal.main_v6) = v0 c
          ∧ r.2.mem ((c.tc : Thread Cert.TNRefIdeal.nD Cert.TNRefIdeal.τ).loc Cert.TNRefIdeal.main_arg0) = m' ((c.tc : Thread Cert.TNRefIdeal.nD Cert.TNRefIdeal.τ).loc Cert.TNRefIdeal.main_arg0)
          ∧ r.2.mem ((c.tc : Thread Cert.TNRefIdeal.nD Cert.TNRefIdeal.τ).loc Cert.TNRefIdeal.main_arg1) = m' ((c.tc : Thread Cert.TNRefIdeal.nD Cert.TNRefIdeal.τ).loc Cert.TNRefIdeal.main_arg1))

def preserves_NT_NTIdeal : Prop :=
  True

def algebraic_NTIdeal_NTRefIdeal [hNTIdeal : Cert.NTIdeal.Facts] [hNTRefIdeal : Cert.NTRefIdeal.Facts] : Prop :=
  ∀ (m : (ℓ : Loc Cert.NTIdeal.nD Cert.NTIdeal.τ Cert.NTIdeal.sig) → Buf (Elt Ideal) ℓ) (g : Dev Cert.NTIdeal.nD → PrngReg)
    (m' : (ℓ : Loc Cert.NTRefIdeal.nD Cert.NTRefIdeal.τ Cert.NTRefIdeal.sig) → Buf (Elt Ideal) ℓ) (g' : Dev Cert.NTRefIdeal.nD → PrngReg), Pre_NTIdeal m →
    (∀ c : Dev Cert.NTIdeal.nD,
      m' ((c.tc : Thread Cert.NTRefIdeal.nD Cert.NTRefIdeal.τ).loc Cert.NTRefIdeal.main_arg0) = m ((c.tc : Thread Cert.NTIdeal.nD Cert.NTIdeal.τ).loc Cert.NTIdeal.main_arg0)
      ∧ m' ((c.tc : Thread Cert.NTRefIdeal.nD Cert.NTRefIdeal.τ).loc Cert.NTRefIdeal.main_arg1) = m ((c.tc : Thread Cert.NTIdeal.nD Cert.NTIdeal.τ).loc Cert.NTIdeal.main_arg1)) →
    ∃ (v0 : (c : Dev Cert.NTIdeal.nD) → Buf (Elt Ideal) ((c.tc : Thread Cert.NTIdeal.nD Cert.NTIdeal.τ).loc Cert.NTIdeal.main_v0)),
      θ_run (Cert.NTIdeal.defs (F := Ideal)) (onTc (τ := Cert.NTIdeal.τ) (Cert.NTIdeal.main (F := Ideal))) ⟨m, fun _ => 0, g⟩ (fun r => ∀ c : Dev Cert.NTIdeal.nD,
          r.2.mem ((c.tc : Thread Cert.NTIdeal.nD Cert.NTIdeal.τ).loc Cert.NTIdeal.main_v0) = v0 c
          ∧ r.2.mem ((c.tc : Thread Cert.NTIdeal.nD Cert.NTIdeal.τ).loc Cert.NTIdeal.main_arg0) = m ((c.tc : Thread Cert.NTIdeal.nD Cert.NTIdeal.τ).loc Cert.NTIdeal.main_arg0)
          ∧ r.2.mem ((c.tc : Thread Cert.NTIdeal.nD Cert.NTIdeal.τ).loc Cert.NTIdeal.main_arg1) = m ((c.tc : Thread Cert.NTIdeal.nD Cert.NTIdeal.τ).loc Cert.NTIdeal.main_arg1))
      ∧ θ_run (Cert.NTRefIdeal.defs (F := Ideal)) (onTc (τ := Cert.NTRefIdeal.τ) (Cert.NTRefIdeal.main (F := Ideal))) ⟨m', fun _ => 0, g'⟩ (fun r => ∀ c : Dev Cert.NTRefIdeal.nD,
          r.2.mem ((c.tc : Thread Cert.NTRefIdeal.nD Cert.NTRefIdeal.τ).loc Cert.NTRefIdeal.main_v5) = v0 c
          ∧ r.2.mem ((c.tc : Thread Cert.NTRefIdeal.nD Cert.NTRefIdeal.τ).loc Cert.NTRefIdeal.main_arg0) = m' ((c.tc : Thread Cert.NTRefIdeal.nD Cert.NTRefIdeal.τ).loc Cert.NTRefIdeal.main_arg0)
          ∧ r.2.mem ((c.tc : Thread Cert.NTRefIdeal.nD Cert.NTRefIdeal.τ).loc Cert.NTRefIdeal.main_arg1) = m' ((c.tc : Thread Cert.NTRefIdeal.nD Cert.NTRefIdeal.τ).loc Cert.NTRefIdeal.main_arg1))

def preserves_GLU_GLUIdeal : Prop :=
  True

def algebraic_GLUIdeal_GLURefIdeal [hGLUIdeal : Cert.GLUIdeal.Facts] [hGLURefIdeal : Cert.GLURefIdeal.Facts] : Prop :=
  ∀ (m : (ℓ : Loc Cert.GLUIdeal.nD Cert.GLUIdeal.τ Cert.GLUIdeal.sig) → Buf (Elt Ideal) ℓ) (g : Dev Cert.GLUIdeal.nD → PrngReg)
    (m' : (ℓ : Loc Cert.GLURefIdeal.nD Cert.GLURefIdeal.τ Cert.GLURefIdeal.sig) → Buf (Elt Ideal) ℓ) (g' : Dev Cert.GLURefIdeal.nD → PrngReg), Pre_GLUIdeal m →
    (∀ c : Dev Cert.GLUIdeal.nD,
      m' ((c.tc : Thread Cert.GLURefIdeal.nD Cert.GLURefIdeal.τ).loc Cert.GLURefIdeal.main_arg0) = m ((c.tc : Thread Cert.GLUIdeal.nD Cert.GLUIdeal.τ).loc Cert.GLUIdeal.main_arg0)
      ∧ m' ((c.tc : Thread Cert.GLURefIdeal.nD Cert.GLURefIdeal.τ).loc Cert.GLURefIdeal.main_arg1) = m ((c.tc : Thread Cert.GLUIdeal.nD Cert.GLUIdeal.τ).loc Cert.GLUIdeal.main_arg1)) →
    ∃ (v0 : (c : Dev Cert.GLUIdeal.nD) → Buf (Elt Ideal) ((c.tc : Thread Cert.GLUIdeal.nD Cert.GLUIdeal.τ).loc Cert.GLUIdeal.main_v0)),
      θ_run (Cert.GLUIdeal.defs (F := Ideal)) (onTc (τ := Cert.GLUIdeal.τ) (Cert.GLUIdeal.main (F := Ideal))) ⟨m, fun _ => 0, g⟩ (fun r => ∀ c : Dev Cert.GLUIdeal.nD,
          r.2.mem ((c.tc : Thread Cert.GLUIdeal.nD Cert.GLUIdeal.τ).loc Cert.GLUIdeal.main_v0) = v0 c
          ∧ r.2.mem ((c.tc : Thread Cert.GLUIdeal.nD Cert.GLUIdeal.τ).loc Cert.GLUIdeal.main_arg0) = m ((c.tc : Thread Cert.GLUIdeal.nD Cert.GLUIdeal.τ).loc Cert.GLUIdeal.main_arg0)
          ∧ r.2.mem ((c.tc : Thread Cert.GLUIdeal.nD Cert.GLUIdeal.τ).loc Cert.GLUIdeal.main_arg1) = m ((c.tc : Thread Cert.GLUIdeal.nD Cert.GLUIdeal.τ).loc Cert.GLUIdeal.main_arg1))
      ∧ θ_run (Cert.GLURefIdeal.defs (F := Ideal)) (onTc (τ := Cert.GLURefIdeal.τ) (Cert.GLURefIdeal.main (F := Ideal))) ⟨m', fun _ => 0, g'⟩ (fun r => ∀ c : Dev Cert.GLURefIdeal.nD,
          r.2.mem ((c.tc : Thread Cert.GLURefIdeal.nD Cert.GLURefIdeal.τ).loc Cert.GLURefIdeal.main_v4) = v0 c
          ∧ r.2.mem ((c.tc : Thread Cert.GLURefIdeal.nD Cert.GLURefIdeal.τ).loc Cert.GLURefIdeal.main_arg0) = m' ((c.tc : Thread Cert.GLURefIdeal.nD Cert.GLURefIdeal.τ).loc Cert.GLURefIdeal.main_arg0)
          ∧ r.2.mem ((c.tc : Thread Cert.GLURefIdeal.nD Cert.GLURefIdeal.τ).loc Cert.GLURefIdeal.main_arg1) = m' ((c.tc : Thread Cert.GLURefIdeal.nD Cert.GLURefIdeal.τ).loc Cert.GLURefIdeal.main_arg1))

def preserves_GATE_GATEIdeal : Prop :=
  True

def algebraic_GATEIdeal_GATERefIdeal [hGATEIdeal : Cert.GATEIdeal.Facts] [hGATERefIdeal : Cert.GATERefIdeal.Facts] : Prop :=
  ∀ (m : (ℓ : Loc Cert.GATEIdeal.nD Cert.GATEIdeal.τ Cert.GATEIdeal.sig) → Buf (Elt Ideal) ℓ) (g : Dev Cert.GATEIdeal.nD → PrngReg)
    (m' : (ℓ : Loc Cert.GATERefIdeal.nD Cert.GATERefIdeal.τ Cert.GATERefIdeal.sig) → Buf (Elt Ideal) ℓ) (g' : Dev Cert.GATERefIdeal.nD → PrngReg), Pre_GATEIdeal m →
    (∀ c : Dev Cert.GATEIdeal.nD,
      m' ((c.tc : Thread Cert.GATERefIdeal.nD Cert.GATERefIdeal.τ).loc Cert.GATERefIdeal.main_arg0) = m ((c.tc : Thread Cert.GATEIdeal.nD Cert.GATEIdeal.τ).loc Cert.GATEIdeal.main_arg0)
      ∧ m' ((c.tc : Thread Cert.GATERefIdeal.nD Cert.GATERefIdeal.τ).loc Cert.GATERefIdeal.main_arg1) = m ((c.tc : Thread Cert.GATEIdeal.nD Cert.GATEIdeal.τ).loc Cert.GATEIdeal.main_arg1)) →
    ∃ (v0 : (c : Dev Cert.GATEIdeal.nD) → Buf (Elt Ideal) ((c.tc : Thread Cert.GATEIdeal.nD Cert.GATEIdeal.τ).loc Cert.GATEIdeal.main_v0)),
      θ_run (Cert.GATEIdeal.defs (F := Ideal)) (onTc (τ := Cert.GATEIdeal.τ) (Cert.GATEIdeal.main (F := Ideal))) ⟨m, fun _ => 0, g⟩ (fun r => ∀ c : Dev Cert.GATEIdeal.nD,
          r.2.mem ((c.tc : Thread Cert.GATEIdeal.nD Cert.GATEIdeal.τ).loc Cert.GATEIdeal.main_v0) = v0 c
          ∧ r.2.mem ((c.tc : Thread Cert.GATEIdeal.nD Cert.GATEIdeal.τ).loc Cert.GATEIdeal.main_arg0) = m ((c.tc : Thread Cert.GATEIdeal.nD Cert.GATEIdeal.τ).loc Cert.GATEIdeal.main_arg0)
          ∧ r.2.mem ((c.tc : Thread Cert.GATEIdeal.nD Cert.GATEIdeal.τ).loc Cert.GATEIdeal.main_arg1) = m ((c.tc : Thread Cert.GATEIdeal.nD Cert.GATEIdeal.τ).loc Cert.GATEIdeal.main_arg1))
      ∧ θ_run (Cert.GATERefIdeal.defs (F := Ideal)) (onTc (τ := Cert.GATERefIdeal.τ) (Cert.GATERefIdeal.main (F := Ideal))) ⟨m', fun _ => 0, g'⟩ (fun r => ∀ c : Dev Cert.GATERefIdeal.nD,
          r.2.mem ((c.tc : Thread Cert.GATERefIdeal.nD Cert.GATERefIdeal.τ).loc Cert.GATERefIdeal.main_v6) = v0 c
          ∧ r.2.mem ((c.tc : Thread Cert.GATERefIdeal.nD Cert.GATERefIdeal.τ).loc Cert.GATERefIdeal.main_arg0) = m' ((c.tc : Thread Cert.GATERefIdeal.nD Cert.GATERefIdeal.τ).loc Cert.GATERefIdeal.main_arg0)
          ∧ r.2.mem ((c.tc : Thread Cert.GATERefIdeal.nD Cert.GATERefIdeal.τ).loc Cert.GATERefIdeal.main_arg1) = m' ((c.tc : Thread Cert.GATERefIdeal.nD Cert.GATERefIdeal.τ).loc Cert.GATERefIdeal.main_arg1))

def preserves_DOWN_DOWNIdeal : Prop :=
  True

def algebraic_DOWNIdeal_DOWNRefIdeal [hDOWNIdeal : Cert.DOWNIdeal.Facts] [hDOWNRefIdeal : Cert.DOWNRefIdeal.Facts] : Prop :=
  ∀ (m : (ℓ : Loc Cert.DOWNIdeal.nD Cert.DOWNIdeal.τ Cert.DOWNIdeal.sig) → Buf (Elt Ideal) ℓ) (g : Dev Cert.DOWNIdeal.nD → PrngReg)
    (m' : (ℓ : Loc Cert.DOWNRefIdeal.nD Cert.DOWNRefIdeal.τ Cert.DOWNRefIdeal.sig) → Buf (Elt Ideal) ℓ) (g' : Dev Cert.DOWNRefIdeal.nD → PrngReg), Pre_DOWNIdeal m →
    (∀ c : Dev Cert.DOWNIdeal.nD,
      m' ((c.tc : Thread Cert.DOWNRefIdeal.nD Cert.DOWNRefIdeal.τ).loc Cert.DOWNRefIdeal.main_arg0) = m ((c.tc : Thread Cert.DOWNIdeal.nD Cert.DOWNIdeal.τ).loc Cert.DOWNIdeal.main_arg0)
      ∧ m' ((c.tc : Thread Cert.DOWNRefIdeal.nD Cert.DOWNRefIdeal.τ).loc Cert.DOWNRefIdeal.main_arg1) = m ((c.tc : Thread Cert.DOWNIdeal.nD Cert.DOWNIdeal.τ).loc Cert.DOWNIdeal.main_arg1)) →
    ∃ (v0 : (c : Dev Cert.DOWNIdeal.nD) → Buf (Elt Ideal) ((c.tc : Thread Cert.DOWNIdeal.nD Cert.DOWNIdeal.τ).loc Cert.DOWNIdeal.main_v0)),
      θ_run (Cert.DOWNIdeal.defs (F := Ideal)) (onTc (τ := Cert.DOWNIdeal.τ) (Cert.DOWNIdeal.main (F := Ideal))) ⟨m, fun _ => 0, g⟩ (fun r => ∀ c : Dev Cert.DOWNIdeal.nD,
          r.2.mem ((c.tc : Thread Cert.DOWNIdeal.nD Cert.DOWNIdeal.τ).loc Cert.DOWNIdeal.main_v0) = v0 c
          ∧ r.2.mem ((c.tc : Thread Cert.DOWNIdeal.nD Cert.DOWNIdeal.τ).loc Cert.DOWNIdeal.main_arg0) = m ((c.tc : Thread Cert.DOWNIdeal.nD Cert.DOWNIdeal.τ).loc Cert.DOWNIdeal.main_arg0)
          ∧ r.2.mem ((c.tc : Thread Cert.DOWNIdeal.nD Cert.DOWNIdeal.τ).loc Cert.DOWNIdeal.main_arg1) = m ((c.tc : Thread Cert.DOWNIdeal.nD Cert.DOWNIdeal.τ).loc Cert.DOWNIdeal.main_arg1))
      ∧ θ_run (Cert.DOWNRefIdeal.defs (F := Ideal)) (onTc (τ := Cert.DOWNRefIdeal.τ) (Cert.DOWNRefIdeal.main (F := Ideal))) ⟨m', fun _ => 0, g'⟩ (fun r => ∀ c : Dev Cert.DOWNRefIdeal.nD,
          r.2.mem ((c.tc : Thread Cert.DOWNRefIdeal.nD Cert.DOWNRefIdeal.τ).loc Cert.DOWNRefIdeal.main_v3) = v0 c
          ∧ r.2.mem ((c.tc : Thread Cert.DOWNRefIdeal.nD Cert.DOWNRefIdeal.τ).loc Cert.DOWNRefIdeal.main_arg0) = m' ((c.tc : Thread Cert.DOWNRefIdeal.nD Cert.DOWNRefIdeal.τ).loc Cert.DOWNRefIdeal.main_arg0)
          ∧ r.2.mem ((c.tc : Thread Cert.DOWNRefIdeal.nD Cert.DOWNRefIdeal.τ).loc Cert.DOWNRefIdeal.main_arg1) = m' ((c.tc : Thread Cert.DOWNRefIdeal.nD Cert.DOWNRefIdeal.τ).loc Cert.DOWNRefIdeal.main_arg1))

def preserves_ADAM_ADAMIdeal : Prop :=
  True

def algebraic_ADAMIdeal_ADAMRefIdeal [hADAMIdeal : Cert.ADAMIdeal.Facts] [hADAMRefIdeal : Cert.ADAMRefIdeal.Facts] : Prop :=
  ∀ (m : (ℓ : Loc Cert.ADAMIdeal.nD Cert.ADAMIdeal.τ Cert.ADAMIdeal.sig) → Buf (Elt Ideal) ℓ) (g : Dev Cert.ADAMIdeal.nD → PrngReg)
    (m' : (ℓ : Loc Cert.ADAMRefIdeal.nD Cert.ADAMRefIdeal.τ Cert.ADAMRefIdeal.sig) → Buf (Elt Ideal) ℓ) (g' : Dev Cert.ADAMRefIdeal.nD → PrngReg), Pre_ADAMIdeal m →
    (∀ c : Dev Cert.ADAMIdeal.nD,
      m' ((c.tc : Thread Cert.ADAMRefIdeal.nD Cert.ADAMRefIdeal.τ).loc Cert.ADAMRefIdeal.main_arg0) = m ((c.tc : Thread Cert.ADAMIdeal.nD Cert.ADAMIdeal.τ).loc Cert.ADAMIdeal.main_arg0)
      ∧ m' ((c.tc : Thread Cert.ADAMRefIdeal.nD Cert.ADAMRefIdeal.τ).loc Cert.ADAMRefIdeal.main_arg1) = m ((c.tc : Thread Cert.ADAMIdeal.nD Cert.ADAMIdeal.τ).loc Cert.ADAMIdeal.main_arg1)
      ∧ m' ((c.tc : Thread Cert.ADAMRefIdeal.nD Cert.ADAMRefIdeal.τ).loc Cert.ADAMRefIdeal.main_arg2) = m ((c.tc : Thread Cert.ADAMIdeal.nD Cert.ADAMIdeal.τ).loc Cert.ADAMIdeal.main_arg2)
      ∧ m' ((c.tc : Thread Cert.ADAMRefIdeal.nD Cert.ADAMRefIdeal.τ).loc Cert.ADAMRefIdeal.main_arg3) = m ((c.tc : Thread Cert.ADAMIdeal.nD Cert.ADAMIdeal.τ).loc Cert.ADAMIdeal.main_arg3)) →
    ∃ (v0 : (c : Dev Cert.ADAMIdeal.nD) → Buf (Elt Ideal) ((c.tc : Thread Cert.ADAMIdeal.nD Cert.ADAMIdeal.τ).loc Cert.ADAMIdeal.main_v0_0)) (v1 : (c : Dev Cert.ADAMIdeal.nD) → Buf (Elt Ideal) ((c.tc : Thread Cert.ADAMIdeal.nD Cert.ADAMIdeal.τ).loc Cert.ADAMIdeal.main_v0_1)) (v2 : (c : Dev Cert.ADAMIdeal.nD) → Buf (Elt Ideal) ((c.tc : Thread Cert.ADAMIdeal.nD Cert.ADAMIdeal.τ).loc Cert.ADAMIdeal.main_v0_2)) (v3 : (c : Dev Cert.ADAMIdeal.nD) → Buf (Elt Ideal) ((c.tc : Thread Cert.ADAMIdeal.nD Cert.ADAMIdeal.τ).loc Cert.ADAMIdeal.main_v0_3)),
      θ_run (Cert.ADAMIdeal.defs (F := Ideal)) (onTc (τ := Cert.ADAMIdeal.τ) (Cert.ADAMIdeal.main (F := Ideal))) ⟨m, fun _ => 0, g⟩ (fun r => ∀ c : Dev Cert.ADAMIdeal.nD,
          r.2.mem ((c.tc : Thread Cert.ADAMIdeal.nD Cert.ADAMIdeal.τ).loc Cert.ADAMIdeal.main_v0_0) = v0 c
          ∧ r.2.mem ((c.tc : Thread Cert.ADAMIdeal.nD Cert.ADAMIdeal.τ).loc Cert.ADAMIdeal.main_v0_1) = v1 c
          ∧ r.2.mem ((c.tc : Thread Cert.ADAMIdeal.nD Cert.ADAMIdeal.τ).loc Cert.ADAMIdeal.main_v0_2) = v2 c
          ∧ r.2.mem ((c.tc : Thread Cert.ADAMIdeal.nD Cert.ADAMIdeal.τ).loc Cert.ADAMIdeal.main_v0_3) = v3 c
          ∧ r.2.mem ((c.tc : Thread Cert.ADAMIdeal.nD Cert.ADAMIdeal.τ).loc Cert.ADAMIdeal.main_arg0) = m ((c.tc : Thread Cert.ADAMIdeal.nD Cert.ADAMIdeal.τ).loc Cert.ADAMIdeal.main_arg0)
          ∧ r.2.mem ((c.tc : Thread Cert.ADAMIdeal.nD Cert.ADAMIdeal.τ).loc Cert.ADAMIdeal.main_arg1) = m ((c.tc : Thread Cert.ADAMIdeal.nD Cert.ADAMIdeal.τ).loc Cert.ADAMIdeal.main_arg1)
          ∧ r.2.mem ((c.tc : Thread Cert.ADAMIdeal.nD Cert.ADAMIdeal.τ).loc Cert.ADAMIdeal.main_arg2) = m ((c.tc : Thread Cert.ADAMIdeal.nD Cert.ADAMIdeal.τ).loc Cert.ADAMIdeal.main_arg2)
          ∧ r.2.mem ((c.tc : Thread Cert.ADAMIdeal.nD Cert.ADAMIdeal.τ).loc Cert.ADAMIdeal.main_arg3) = m ((c.tc : Thread Cert.ADAMIdeal.nD Cert.ADAMIdeal.τ).loc Cert.ADAMIdeal.main_arg3))
      ∧ θ_run (Cert.ADAMRefIdeal.defs (F := Ideal)) (onTc (τ := Cert.ADAMRefIdeal.τ) (Cert.ADAMRefIdeal.main (F := Ideal))) ⟨m', fun _ => 0, g'⟩ (fun r => ∀ c : Dev Cert.ADAMRefIdeal.nD,
          r.2.mem ((c.tc : Thread Cert.ADAMRefIdeal.nD Cert.ADAMRefIdeal.τ).loc Cert.ADAMRefIdeal.main_v0) = v0 c
          ∧ r.2.mem ((c.tc : Thread Cert.ADAMRefIdeal.nD Cert.ADAMRefIdeal.τ).loc Cert.ADAMRefIdeal.main_v24) = v1 c
          ∧ r.2.mem ((c.tc : Thread Cert.ADAMRefIdeal.nD Cert.ADAMRefIdeal.τ).loc Cert.ADAMRefIdeal.main_v5) = v2 c
          ∧ r.2.mem ((c.tc : Thread Cert.ADAMRefIdeal.nD Cert.ADAMRefIdeal.τ).loc Cert.ADAMRefIdeal.main_v11) = v3 c
          ∧ r.2.mem ((c.tc : Thread Cert.ADAMRefIdeal.nD Cert.ADAMRefIdeal.τ).loc Cert.ADAMRefIdeal.main_arg0) = m' ((c.tc : Thread Cert.ADAMRefIdeal.nD Cert.ADAMRefIdeal.τ).loc Cert.ADAMRefIdeal.main_arg0)
          ∧ r.2.mem ((c.tc : Thread Cert.ADAMRefIdeal.nD Cert.ADAMRefIdeal.τ).loc Cert.ADAMRefIdeal.main_arg1) = m' ((c.tc : Thread Cert.ADAMRefIdeal.nD Cert.ADAMRefIdeal.τ).loc Cert.ADAMRefIdeal.main_arg1)
          ∧ r.2.mem ((c.tc : Thread Cert.ADAMRefIdeal.nD Cert.ADAMRefIdeal.τ).loc Cert.ADAMRefIdeal.main_arg2) = m' ((c.tc : Thread Cert.ADAMRefIdeal.nD Cert.ADAMRefIdeal.τ).loc Cert.ADAMRefIdeal.main_arg2)
          ∧ r.2.mem ((c.tc : Thread Cert.ADAMRefIdeal.nD Cert.ADAMRefIdeal.τ).loc Cert.ADAMRefIdeal.main_arg3) = m' ((c.tc : Thread Cert.ADAMRefIdeal.nD Cert.ADAMRefIdeal.τ).loc Cert.ADAMRefIdeal.main_arg3))

def Claim : Prop :=
  ∃ (hKernel : Cert.Kernel.Facts) (hKernelIdeal : Cert.KernelIdeal.Facts) (hReferenceIdeal : Cert.ReferenceIdeal.Facts) (hDW : Cert.DW.Facts) (hDWIdeal : Cert.DWIdeal.Facts) (hDWRefIdeal : Cert.DWRefIdeal.Facts) (hDH : Cert.DH.Facts) (hDHIdeal : Cert.DHIdeal.Facts) (hDHRefIdeal : Cert.DHRefIdeal.Facts) (hGU : Cert.GU.Facts) (hGUIdeal : Cert.GUIdeal.Facts) (hGURefIdeal : Cert.GURefIdeal.Facts) (hDWD : Cert.DWD.Facts) (hDWDIdeal : Cert.DWDIdeal.Facts) (hDWDRefIdeal : Cert.DWDRefIdeal.Facts) (hDACT : Cert.DACT.Facts) (hDACTIdeal : Cert.DACTIdeal.Facts) (hDACTRefIdeal : Cert.DACTRefIdeal.Facts) (hNN : Cert.NN.Facts) (hNNIdeal : Cert.NNIdeal.Facts) (hNNRefIdeal : Cert.NNRefIdeal.Facts) (hTN : Cert.TN.Facts) (hTNIdeal : Cert.TNIdeal.Facts) (hTNRefIdeal : Cert.TNRefIdeal.Facts) (hNT : Cert.NT.Facts) (hNTIdeal : Cert.NTIdeal.Facts) (hNTRefIdeal : Cert.NTRefIdeal.Facts) (hGLU : Cert.GLU.Facts) (hGLUIdeal : Cert.GLUIdeal.Facts) (hGLURefIdeal : Cert.GLURefIdeal.Facts) (hGATE : Cert.GATE.Facts) (hGATEIdeal : Cert.GATEIdeal.Facts) (hGATERefIdeal : Cert.GATERefIdeal.Facts) (hDOWN : Cert.DOWN.Facts) (hDOWNIdeal : Cert.DOWNIdeal.Facts) (hDOWNRefIdeal : Cert.DOWNRefIdeal.Facts) (hADAM : Cert.ADAM.Facts) (hADAMIdeal : Cert.ADAMIdeal.Facts) (hADAMRefIdeal : Cert.ADAMRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DW (hDW := hDW)
    ∧ quiescent_DWIdeal (hDWIdeal := hDWIdeal)
    ∧ quiescent_DWRefIdeal (hDWRefIdeal := hDWRefIdeal)
    ∧ quiescent_DH (hDH := hDH)
    ∧ quiescent_DHIdeal (hDHIdeal := hDHIdeal)
    ∧ quiescent_DHRefIdeal (hDHRefIdeal := hDHRefIdeal)
    ∧ quiescent_GU (hGU := hGU)
    ∧ quiescent_GUIdeal (hGUIdeal := hGUIdeal)
    ∧ quiescent_GURefIdeal (hGURefIdeal := hGURefIdeal)
    ∧ quiescent_DWD (hDWD := hDWD)
    ∧ quiescent_DWDIdeal (hDWDIdeal := hDWDIdeal)
    ∧ quiescent_DWDRefIdeal (hDWDRefIdeal := hDWDRefIdeal)
    ∧ quiescent_DACT (hDACT := hDACT)
    ∧ quiescent_DACTIdeal (hDACTIdeal := hDACTIdeal)
    ∧ quiescent_DACTRefIdeal (hDACTRefIdeal := hDACTRefIdeal)
    ∧ quiescent_NN (hNN := hNN)
    ∧ quiescent_NNIdeal (hNNIdeal := hNNIdeal)
    ∧ quiescent_NNRefIdeal (hNNRefIdeal := hNNRefIdeal)
    ∧ quiescent_TN (hTN := hTN)
    ∧ quiescent_TNIdeal (hTNIdeal := hTNIdeal)
    ∧ quiescent_TNRefIdeal (hTNRefIdeal := hTNRefIdeal)
    ∧ quiescent_NT (hNT := hNT)
    ∧ quiescent_NTIdeal (hNTIdeal := hNTIdeal)
    ∧ quiescent_NTRefIdeal (hNTRefIdeal := hNTRefIdeal)
    ∧ quiescent_GLU (hGLU := hGLU)
    ∧ quiescent_GLUIdeal (hGLUIdeal := hGLUIdeal)
    ∧ quiescent_GLURefIdeal (hGLURefIdeal := hGLURefIdeal)
    ∧ quiescent_GATE (hGATE := hGATE)
    ∧ quiescent_GATEIdeal (hGATEIdeal := hGATEIdeal)
    ∧ quiescent_GATERefIdeal (hGATERefIdeal := hGATERefIdeal)
    ∧ quiescent_DOWN (hDOWN := hDOWN)
    ∧ quiescent_DOWNIdeal (hDOWNIdeal := hDOWNIdeal)
    ∧ quiescent_DOWNRefIdeal (hDOWNRefIdeal := hDOWNRefIdeal)
    ∧ quiescent_ADAM (hADAM := hADAM)
    ∧ quiescent_ADAMIdeal (hADAMIdeal := hADAMIdeal)
    ∧ quiescent_ADAMRefIdeal (hADAMRefIdeal := hADAMRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DW_DWIdeal
    ∧ algebraic_DWIdeal_DWRefIdeal (hDWIdeal := hDWIdeal) (hDWRefIdeal := hDWRefIdeal)
    ∧ preserves_DH_DHIdeal
    ∧ algebraic_DHIdeal_DHRefIdeal (hDHIdeal := hDHIdeal) (hDHRefIdeal := hDHRefIdeal)
    ∧ preserves_GU_GUIdeal
    ∧ algebraic_GUIdeal_GURefIdeal (hGUIdeal := hGUIdeal) (hGURefIdeal := hGURefIdeal)
    ∧ preserves_DWD_DWDIdeal
    ∧ algebraic_DWDIdeal_DWDRefIdeal (hDWDIdeal := hDWDIdeal) (hDWDRefIdeal := hDWDRefIdeal)
    ∧ preserves_DACT_DACTIdeal
    ∧ algebraic_DACTIdeal_DACTRefIdeal (hDACTIdeal := hDACTIdeal) (hDACTRefIdeal := hDACTRefIdeal)
    ∧ preserves_NN_NNIdeal
    ∧ algebraic_NNIdeal_NNRefIdeal (hNNIdeal := hNNIdeal) (hNNRefIdeal := hNNRefIdeal)
    ∧ preserves_TN_TNIdeal
    ∧ algebraic_TNIdeal_TNRefIdeal (hTNIdeal := hTNIdeal) (hTNRefIdeal := hTNRefIdeal)
    ∧ preserves_NT_NTIdeal
    ∧ algebraic_NTIdeal_NTRefIdeal (hNTIdeal := hNTIdeal) (hNTRefIdeal := hNTRefIdeal)
    ∧ preserves_GLU_GLUIdeal
    ∧ algebraic_GLUIdeal_GLURefIdeal (hGLUIdeal := hGLUIdeal) (hGLURefIdeal := hGLURefIdeal)
    ∧ preserves_GATE_GATEIdeal
    ∧ algebraic_GATEIdeal_GATERefIdeal (hGATEIdeal := hGATEIdeal) (hGATERefIdeal := hGATERefIdeal)
    ∧ preserves_DOWN_DOWNIdeal
    ∧ algebraic_DOWNIdeal_DOWNRefIdeal (hDOWNIdeal := hDOWNIdeal) (hDOWNRefIdeal := hDOWNRefIdeal)
    ∧ preserves_ADAM_ADAMIdeal
    ∧ algebraic_ADAMIdeal_ADAMRefIdeal (hADAMIdeal := hADAMIdeal) (hADAMRefIdeal := hADAMRefIdeal)
-- ==== Pre_finite.lean ====
abbrev S4096x2048 : Shape := ⟨2, ![4096, 2048]⟩
abbrev S4096x512 : Shape := ⟨2, ![4096, 512]⟩
abbrev S16 : Shape := ⟨1, ![16]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S4096x2048 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x2048 .f32) (main_arg1 : FVec F S4096x512 .f32) (main_arg2 : FVec F S4096x512 .f32) (main_arg3 : FVec F S16 .f32) (main_arg4 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Kernel.lean ====
abbrev S4096x2048 : Shape := ⟨2, ![4096, 2048]⟩
abbrev S4096x512 : Shape := ⟨2, ![4096, 512]⟩
abbrev S16 : Shape := ⟨1, ![16]⟩
abbrev S4096 : Shape := ⟨1, ![4096]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S1x4096x16x128 : Shape := ⟨4, ![1, 4096, 16, 128]⟩
abbrev S1x4096x16x32 : Shape := ⟨4, ![1, 4096, 16, 32]⟩
abbrev S1x4096x16x16 : Shape := ⟨4, ![1, 4096, 16, 16]⟩
abbrev S1x4096x16x96 : Shape := ⟨4, ![1, 4096, 16, 96]⟩
abbrev S1x4096x4x128 : Shape := ⟨4, ![1, 4096, 4, 128]⟩
abbrev S1x4096x4x32 : Shape := ⟨4, ![1, 4096, 4, 32]⟩
abbrev S1x4096x4x16 : Shape := ⟨4, ![1, 4096, 4, 16]⟩
abbrev S1x4096x4x96 : Shape := ⟨4, ![1, 4096, 4, 96]⟩
abbrev S4096x3072 : Shape := ⟨2, ![4096, 3072]⟩
abbrev S4x4 : Shape := ⟨2, ![4, 4]⟩
abbrev S4x4x128 : Shape := ⟨3, ![4, 4, 128]⟩
abbrev S4x512 : Shape := ⟨2, ![4, 512]⟩
abbrev S4x512x1 : Shape := ⟨3, ![4, 512, 1]⟩
abbrev S4096x96 : Shape := ⟨2, ![4096, 96]⟩
abbrev S4096x128 : Shape := ⟨2, ![4096, 128]⟩
abbrev S3x4096x512 : Shape := ⟨3, ![3, 4096, 512]⟩
abbrev S4x8x128 : Shape := ⟨3, ![4, 8, 128]⟩
abbrev S128x2048 : Shape := ⟨2, ![128, 2048]⟩
abbrev S128x512 : Shape := ⟨2, ![128, 512]⟩
abbrev S128x128 : Shape := ⟨2, ![128, 128]⟩
abbrev S3x128x512 : Shape := ⟨3, ![3, 128, 512]⟩
abbrev S512x384 : Shape := ⟨2, ![512, 384]⟩
abbrev S1x512x1 : Shape := ⟨3, ![1, 512, 1]⟩
abbrev S512x1 : Shape := ⟨2, ![512, 1]⟩
abbrev S512x128 : Shape := ⟨2, ![512, 128]⟩
abbrev S384x128 : Shape := ⟨2, ![384, 128]⟩
abbrev S512 : Shape := ⟨1, ![512]⟩
abbrev S1x128x128 : Shape := ⟨3, ![1, 128, 128]⟩
abbrev S1x1x128 : Shape := ⟨3, ![1, 1, 128]⟩
abbrev S1x128 : Shape := ⟨2, ![1, 128]⟩
abbrev S128x1 : Shape := ⟨2, ![128, 1]⟩
abbrev S1 : Shape := ⟨1, ![1]⟩
abbrev S1x1 : Shape := ⟨2, ![1, 1]⟩

abbrev nBuf : Space → Nat
  | .hbm => 108
  | .vmem => 30
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S16, .f32⟩
  | .hbm, ⟨4, _⟩ => ⟨S4096x2048, .f32⟩
  | .hbm, ⟨5, _⟩ => ⟨S4096, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S4096x1, .f32⟩
  | .hbm, ⟨21, _⟩ => ⟨S1x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S1x4096x1x16, .f32⟩
  | .hbm, ⟨27, _⟩ => ⟨S4096x16, .f32⟩
  | .hbm, ⟨28, _⟩ => ⟨S1x4096x1x16, .f32⟩
  | .hbm, ⟨29, _⟩ => ⟨S1x4096x16x128, .f32⟩
  | .hbm, ⟨30, _⟩ => ⟨S1x4096x16x32, .f32⟩
  | .hbm, ⟨31, _⟩ => ⟨S1x4096x16x16, .f32⟩
  | .hbm, ⟨32, _⟩ => ⟨S1x4096x16x16, .f32⟩
  | .hbm, ⟨33, _⟩ => ⟨S1x4096x16x16, .f32⟩
  | .hbm, ⟨34, _⟩ => ⟨S1x4096x16x16, .f32⟩
  | .hbm, ⟨35, _⟩ => ⟨S1x4096x16x16, .f32⟩
  | .hbm, ⟨36, _⟩ => ⟨S1x4096x16x16, .f32⟩
  | .hbm, ⟨37, _⟩ => ⟨S1x4096x16x16, .f32⟩
  | .hbm, ⟨38, _⟩ => ⟨S1x4096x16x16, .f32⟩
  | .hbm, ⟨39, _⟩ => ⟨S1x4096x16x16, .f32⟩
  | .hbm, ⟨40, _⟩ => ⟨S1x4096x16x16, .f32⟩
  | .hbm, ⟨41, _⟩ => ⟨S1x4096x16x16, .f32⟩
  | .hbm, ⟨42, _⟩ => ⟨S1x4096x16x16, .f32⟩
  | .hbm, ⟨43, _⟩ => ⟨S1x4096x16x32, .f32⟩
  | .hbm, ⟨44, _⟩ => ⟨S1x4096x16x96, .f32⟩
  | .hbm, ⟨45, _⟩ => ⟨S1x4096x16x128, .f32⟩
  | .hbm, ⟨46, _⟩ => ⟨S4096x2048, .f32⟩
  | .hbm, ⟨47, _⟩ => ⟨S1x4096x4x128, .f32⟩
  | .hbm, ⟨48, _⟩ => ⟨S1x4096x4x32, .f32⟩
  | .hbm, ⟨49, _⟩ => ⟨S1x4096x4x16, .f32⟩
  | .hbm, ⟨50, _⟩ => ⟨S1x4096x4x16, .f32⟩
  | .hbm, ⟨51, _⟩ => ⟨S1x4096x4x16, .f32⟩
  | .hbm, ⟨52, _⟩ => ⟨S1x4096x4x16, .f32⟩
  | .hbm, ⟨53, _⟩ => ⟨S1x4096x4x16, .f32⟩
  | .hbm, ⟨54, _⟩ => ⟨S1x4096x4x16, .f32⟩
  | .hbm, ⟨55, _⟩ => ⟨S1x4096x4x16, .f32⟩
  | .hbm, ⟨56, _⟩ => ⟨S1x4096x4x16, .f32⟩
  | .hbm, ⟨57, _⟩ => ⟨S1x4096x4x16, .f32⟩
  | .hbm, ⟨58, _⟩ => ⟨S1x4096x4x16, .f32⟩
  | .hbm, ⟨59, _⟩ => ⟨S1x4096x4x16, .f32⟩
  | .hbm, ⟨60, _⟩ => ⟨S1x4096x4x16, .f32⟩
  | .hbm, ⟨61, _⟩ => ⟨S1x4096x4x32, .f32⟩
  | .hbm, ⟨62, _⟩ => ⟨S1x4096x4x96, .f32⟩
  | .hbm, ⟨63, _⟩ => ⟨S1x4096x4x128, .f32⟩
  | .hbm, ⟨64, _⟩ => ⟨S4096x512, .f32⟩
  | .hbm, ⟨65, _⟩ => ⟨S4096x3072, .f32⟩
  | .hbm, ⟨66, _⟩ => ⟨S4096x3072, .bf16⟩
  | .hbm, ⟨67, _⟩ => ⟨S4x4, .f32⟩
  | .hbm, ⟨68, _⟩ => ⟨S4x4x128, .f32⟩
  | .hbm, ⟨69, _⟩ => ⟨S4x512, .f32⟩
  | .hbm, ⟨70, _⟩ => ⟨S4x512x1, .f32⟩
  | .hbm, ⟨71, _⟩ => ⟨S4096x2048, .bf16⟩
  | .hbm, ⟨72, _⟩ => ⟨S4096, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S16, .f32⟩
  | .hbm, ⟨83, _⟩ => ⟨S16, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S4096x1, .f32⟩
  | .hbm, ⟨88, _⟩ => ⟨S1x16, .f32⟩
  | .hbm, ⟨89, _⟩ => ⟨S4096x16, .f32⟩
  | .hbm, ⟨90, _⟩ => ⟨S4096x16, .f32⟩
  | .hbm, ⟨91, _⟩ => ⟨S4096x16, .f32⟩
  | .hbm, ⟨92, _⟩ => ⟨S4096x16, .f32⟩
  | .hbm, ⟨93, _⟩ => ⟨S4096x16, .f32⟩
  | .hbm, ⟨94, _⟩ => ⟨S_, .f32⟩
  | .hbm, ⟨95, _⟩ => ⟨S4096x96, .f32⟩
  | .hbm, ⟨96, _⟩ => ⟨S_, .f32⟩
  | .hbm, ⟨97, _⟩ => ⟨S4096x96, .f32⟩
  | .hbm, ⟨98, _⟩ => ⟨S_, .f32⟩
  | .hbm, ⟨99, _⟩ => ⟨S4096x16, .f32⟩
  | .hbm, ⟨100, _⟩ => ⟨S4096x128, .f32⟩
  | .hbm, ⟨101, _⟩ => ⟨S4096x16, .f32⟩
  | .hbm, ⟨102, _⟩ => ⟨S4096x128, .f32⟩
  | .hbm, ⟨103, _⟩ => ⟨S4096x128, .f32⟩
  | .hbm, ⟨104, _⟩ => ⟨S4096x2048, .bf16⟩
  | .hbm, ⟨105, _⟩ => ⟨S3x4096x512, .f32⟩
  | .hbm, ⟨106, _⟩ => ⟨S3x4096x512, .f32⟩
  | .hbm, ⟨107, _⟩ => ⟨S4x8x128, .f32⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S4x512x1, .f32⟩
  | .local _ .vmem, ⟨15, _⟩ => ⟨S128x2048, .bf16⟩
  | .local _ .vmem, ⟨16, _⟩ => ⟨S128x2048, .bf16⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x2048, .bf16⟩
  | .local _ .vmem, ⟨24, _⟩ => ⟨S128x2048, .bf16⟩
  | .local _ .vmem, ⟨25, _⟩ => ⟨S3x128x512, .f32⟩
  | .local _ .vmem, ⟨26, _⟩ => ⟨S3x128x512, .f32⟩
  | .local _ .vmem, ⟨27, _⟩ => ⟨S3x128x512, .f32⟩
  | .local _ .vmem, ⟨28, _⟩ => ⟨S3x128x512, .f32⟩
  | .local _ .vmem, ⟨29, _⟩ => ⟨S4x8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_3 : Ref sig .tc := ⟨.hbm, 74, rfl⟩
abbrev main_v65 : Ref sig .tc := ⟨.hbm, 75, rfl⟩
abbrev main_v66 : Ref sig .tc := ⟨.hbm, 76, rfl⟩
abbrev main_cst_4 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_5 : Ref sig .tc := ⟨.hbm, 81, rfl⟩
abbrev main_v70 : Ref sig .tc := ⟨.hbm, 82, rfl⟩
abbrev main_v71 : Ref sig .tc := ⟨.hbm, 83, rfl⟩
abbrev main_cst_6 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_7 : Ref sig .tc := ⟨.hbm, 94, rfl⟩
abbrev main_v81 : Ref sig .tc := ⟨.hbm, 95, rfl⟩
abbrev main_cst_8 : Ref sig .tc := ⟨.hbm, 96, rfl⟩
abbrev main_v82 : Ref sig .tc := ⟨.hbm, 97, rfl⟩
abbrev main_cst_9 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88_0 : Ref sig .tc := ⟨.hbm, 104, rfl⟩
abbrev main_v88_1 : Ref sig .tc := ⟨.hbm, 105, rfl⟩
abbrev main_v88_2 : Ref sig .tc := ⟨.hbm, 106, rfl⟩
abbrev main_v88_3 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.addi c4_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c4_i32 : BitVec 32 := 4#32
  let v2 : BitVec 32 := Scalar.addi c4_i32 arg0
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c5_i32 : BitVec 32 := 5#32
  let v2 : BitVec 32 := Scalar.addi c5_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c5_i32 : BitVec 32 := 5#32
  let v2 : BitVec 32 := Scalar.addi c5_i32 arg0
  let c0_i32 : BitVec 32 := 0#32
  ![v1.toNat, v2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S3x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S3x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S4x8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S4096x512 : Shape := ⟨2, ![4096, 512]⟩
abbrev S16 : Shape := ⟨1, ![16]⟩
abbrev S4096 : Shape := ⟨1, ![4096]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S1x4096x4x128 : Shape := ⟨4, ![1, 4096, 4, 128]⟩
abbrev S1x4096x4x32 : Shape := ⟨4, ![1, 4096, 4, 32]⟩
abbrev S1x4096x4x16 : Shape := ⟨4, ![1, 4096, 4, 16]⟩
abbrev S1x4096x4x96 : Shape := ⟨4, ![1, 4096, 4, 96]⟩
abbrev S1x128x4x128 : Shape := ⟨4, ![1, 128, 4, 128]⟩
abbrev S1x4352x4x128 : Shape := ⟨4, ![1, 4352, 4, 128]⟩
abbrev S1x34x128x4x128 : Shape := ⟨5, ![1, 34, 128, 4, 128]⟩
abbrev S1x32x128x4x128 : Shape := ⟨5, ![1, 32, 128, 4, 128]⟩
abbrev S1x32x384x4x128 : Shape := ⟨5, ![1, 32, 384, 4, 128]⟩
abbrev S1x4096x16x128 : Shape := ⟨4, ![1, 4096, 16, 128]⟩
abbrev S1x4096x16x32 : Shape := ⟨4, ![1, 4096, 16, 32]⟩
abbrev S1x4096x16x16 : Shape := ⟨4, ![1, 4096, 16, 16]⟩
abbrev S1x4096x16x96 : Shape := ⟨4, ![1, 4096, 16, 96]⟩
abbrev S1x32x128x4x4x128 : Shape := ⟨6, ![1, 32, 128, 4, 4, 128]⟩
abbrev S1x32x4x384x128x4 : Shape := ⟨6, ![1, 32, 4, 384, 128, 4]⟩
abbrev S1x32x4x4x128x384 : Shape := ⟨6, ![1, 32, 4, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x1x384 : Shape := ⟨3, ![32, 1, 384]⟩
abbrev S32x128x1 : Shape := ⟨3, ![32, 128, 1]⟩
abbrev S32x128x384 : Shape := ⟨3, ![32, 128, 384]⟩
abbrev S1x32x1x1x128x384 : Shape := ⟨6, ![1, 32, 1, 1, 128, 384]⟩
abbrev S4x4 : Shape := ⟨2, ![4, 4]⟩
abbrev S1x1x4x4x1x1 : Shape := ⟨6, ![1, 1, 4, 4, 1, 1]⟩
abbrev S1x32x4x4x128 : Shape := ⟨5, ![1, 32, 4, 4, 128]⟩
abbrev S1x32x4x4x128x1 : Shape := ⟨6, ![1, 32, 4, 4, 128, 1]⟩
abbrev S1x32x4x128x4x128 : Shape := ⟨6, ![1, 32, 4, 128, 4, 128]⟩
abbrev S1x4096x2048 : Shape := ⟨3, ![1, 4096, 2048]⟩
abbrev S1x32x4x128x384 : Shape := ⟨5, ![1, 32, 4, 128, 384]⟩
abbrev S1x4x4x1 : Shape := ⟨4, ![1, 4, 4, 1]⟩
abbrev S32x4x4x128 : Shape := ⟨4, ![32, 4, 4, 128]⟩
abbrev S1x32x4x384x128 : Shape := ⟨5, ![1, 32, 4, 384, 128]⟩
abbrev S4x4x1 : Shape := ⟨3, ![4, 4, 1]⟩
abbrev S4x4x128 : Shape := ⟨3, ![4, 4, 128]⟩
abbrev S4x8x128 : Shape := ⟨3, ![4, 8, 128]⟩
abbrev S32x3x128x512 : Shape := ⟨4, ![32, 3, 128, 512]⟩
abbrev S3x32x128x512 : Shape := ⟨4, ![3, 32, 128, 512]⟩
abbrev S3x4096x512 : Shape := ⟨3, ![3, 4096, 512]⟩

abbrev nBuf : Space → Nat
  | .hbm => 290
  | .vmem => 0
  | .smem => 0
  | _ => 0

abbrev hbmTy0_0 (i : Nat) : BufTy := match i % 128 with
  | 0 => ⟨S4096x2048, .f32⟩
  | 1 => ⟨S4096x512, .f32⟩
  | 2 => ⟨S4096x512, .f32⟩
  | 3 => ⟨S16, .f32⟩
  | 4 => ⟨S4096x2048, .f32⟩
  | 5 => ⟨S4096, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S4096x1, .f32⟩
  | 21 => ⟨S1x16, .f32⟩
  | 22 => ⟨S4096x16, .f32⟩
  | 23 => ⟨S4096x16, .f32⟩
  | 24 => ⟨S4096x16, .f32⟩
  | 25 => ⟨S4096x16, .f32⟩
  | 26 => ⟨S1x4096x1x16, .f32⟩
  | 27 => ⟨S4096x16, .f32⟩
  | 28 => ⟨S1x4096x1x16, .f32⟩
  | 29 => ⟨S1x4096x4x128, .f32⟩
  | 30 => ⟨S1x4096x4x32, .f32⟩
  | 31 => ⟨S1x4096x4x16, .f32⟩
  | 32 => ⟨S1x4096x4x16, .f32⟩
  | 33 => ⟨S1x4096x4x16, .f32⟩
  | 34 => ⟨S1x4096x4x16, .f32⟩
  | 35 => ⟨S1x4096x4x16, .f32⟩
  | 36 => ⟨S1x4096x4x16, .f32⟩
  | 37 => ⟨S1x4096x4x16, .f32⟩
  | 38 => ⟨S1x4096x4x16, .f32⟩
  | 39 => ⟨S1x4096x4x16, .f32⟩
  | 40 => ⟨S1x4096x4x16, .f32⟩
  | 41 => ⟨S1x4096x4x16, .f32⟩
  | 42 => ⟨S1x4096x4x16, .f32⟩
  | 43 => ⟨S1x4096x4x32, .f32⟩
  | 44 => ⟨S1x4096x4x96, .f32⟩
  | 45 => ⟨S1x4096x4x128, .f32⟩
  | 46 => ⟨S_, .f32⟩
  | 47 => ⟨S1x128x4x128, .f32⟩
  | 48 => ⟨S1x4352x4x128, .f32⟩
  | 49 => ⟨S1x34x128x4x128, .f32⟩
  | 50 => ⟨S1x32x128x4x128, .f32⟩
  | 51 => ⟨S1x32x128x4x128, .f32⟩
  | 52 => ⟨S1x32x128x4x128, .f32⟩
  | 53 => ⟨S1x32x384x4x128, .f32⟩
  | 54 => ⟨S1x4096x4x128, .f32⟩
  | 55 => ⟨S_, .f32⟩
  | 56 => ⟨S1x128x4x128, .f32⟩
  | 57 => ⟨S1x4352x4x128, .f32⟩
  | 58 => ⟨S1x34x128x4x128, .f32⟩
  | 59 => ⟨S1x32x128x4x128, .f32⟩
  | 60 => ⟨S1x32x128x4x128, .f32⟩
  | 61 => ⟨S1x32x128x4x128, .f32⟩
  | 62 => ⟨S1x32x384x4x128, .f32⟩
  | 63 => ⟨S1x4096x16x128, .f32⟩
  | 64 => ⟨S1x4096x16x32, .f32⟩
  | 65 => ⟨S1x4096x16x16, .f32⟩
  | 66 => ⟨S1x4096x16x16, .f32⟩
  | 67 => ⟨S1x4096x16x16, .f32⟩
  | 68 => ⟨S1x4096x16x16, .f32⟩
  | 69 => ⟨S1x4096x16x16, .f32⟩
  | 70 => ⟨S1x4096x16x16, .f32⟩
  | 71 => ⟨S1x4096x16x16, .f32⟩
  | 72 => ⟨S1x4096x16x16, .f32⟩
  | 73 => ⟨S1x4096x16x16, .f32⟩
  | 74 => ⟨S1x4096x16x16, .f32⟩
  | 75 => ⟨S1x4096x16x16, .f32⟩
  | 76 => ⟨S1x4096x16x16, .f32⟩
  | 77 => ⟨S1x4096x16x32, .f32⟩
  | 78 => ⟨S1x4096x16x96, .f32⟩
  | 79 => ⟨S1x4096x16x128, .f32⟩
  | 80 => ⟨S1x32x128x4x4x128, .f32⟩
  | 81 => ⟨S1x32x4x384x128x4, .f32⟩
  | 82 => ⟨S1x32x4x4x128x384, .f32⟩
  | 83 => ⟨S_, .f32⟩
  | 84 => ⟨S1x32x4x4x128x384, .f32⟩
  | 85 => ⟨S1x32x4x4x128x384, .f32⟩
  | 86 => ⟨S32, .i32⟩
  | 87 => ⟨S32x1, .i32⟩
  | 88 => ⟨S_, .i32⟩
  | 89 => ⟨S32x1, .i32⟩
  | 90 => ⟨S32x1, .i32⟩
  | 91 => ⟨S128, .i32⟩
  | 92 => ⟨S1x128, .i32⟩
  | 93 => ⟨S32x128, .i32⟩
  | 94 => ⟨S32x128, .i32⟩
  | 95 => ⟨S32x128, .i32⟩
  | 96 => ⟨S32, .i32⟩
  | 97 => ⟨S32x1, .i32⟩
  | 98 => ⟨S_, .i32⟩
  | 99 => ⟨S32x1, .i32⟩
  | 100 => ⟨S32x1, .i32⟩
  | 101 => ⟨S_, .i32⟩
  | 102 => ⟨S32x1, .i32⟩
  | 103 => ⟨S32x1, .i32⟩
  | 104 => ⟨S384, .i32⟩
  | 105 => ⟨S1x384, .i32⟩
  | 106 => ⟨S32x384, .i32⟩
  | 107 => ⟨S32x384, .i32⟩
  | 108 => ⟨S32x384, .i32⟩
  | 109 => ⟨S_, .i32⟩
  | 110 => ⟨S32x384, .i32⟩
  | 111 => ⟨S32x384, .i1⟩
  | 112 => ⟨S_, .i32⟩
  | 113 => ⟨S32x384, .i32⟩
  | 114 => ⟨S32x384, .i1⟩
  | 115 => ⟨S32x384, .i1⟩
  | 116 => ⟨S32x1x384, .i1⟩
  | 117 => ⟨S32x1x384, .i32⟩
  | 118 => ⟨S32x128x1, .i32⟩
  | 119 => ⟨S32x128x384, .i32⟩
  | 120 => ⟨S32x128x384, .i32⟩
  | 121 => ⟨S32x128x384, .i32⟩
  | 122 => ⟨S32x128x384, .i32⟩
  | 123 => ⟨S_, .i32⟩
  | 124 => ⟨S32x128x384, .i32⟩
  | 125 => ⟨S32x128x384, .i1⟩
  | 126 => ⟨S32x128x384, .i1⟩
  | 127 => ⟨S32x128x384, .i1⟩
  | _ => ⟨S4096x2048, .f32⟩

abbrev hbmTy0_1 (i : Nat) : BufTy := match i % 128 with
  | 0 => ⟨S1x32x1x1x128x384, .i1⟩
  | 1 => ⟨S_, .f32⟩
  | 2 => ⟨S_, .f32⟩
  | 3 => ⟨S1x32x4x4x128x384, .i1⟩
  | 4 => ⟨S1x32x4x4x128x384, .f32⟩
  | 5 => ⟨S1x32x4x4x128x384, .f32⟩
  | 6 => ⟨S_, .f32⟩
  | 7 => ⟨S1x32x4x4x128x384, .f32⟩
  | 8 => ⟨S4x4, .f32⟩
  | 9 => ⟨S1x1x4x4x1x1, .f32⟩
  | 10 => ⟨S_, .f32⟩
  | 11 => ⟨S1x32x4x4x128, .f32⟩
  | 12 => ⟨S1x32x4x4x128x1, .f32⟩
  | 13 => ⟨S1x32x4x4x128x384, .f32⟩
  | 14 => ⟨S1x32x4x4x128x384, .i1⟩
  | 15 => ⟨S1x32x4x4x128x384, .f32⟩
  | 16 => ⟨S_, .f32⟩
  | 17 => ⟨S1x32x4x4x128, .f32⟩
  | 18 => ⟨S1x32x4x4x128x1, .f32⟩
  | 19 => ⟨S1x32x4x4x128x1, .f32⟩
  | 20 => ⟨S1x32x4x4x128x1, .f32⟩
  | 21 => ⟨S1x32x4x4x128x1, .f32⟩
  | 22 => ⟨S1x32x4x4x128x1, .i1⟩
  | 23 => ⟨S1x32x4x4x128x1, .f32⟩
  | 24 => ⟨S1x32x4x4x128x1, .i1⟩
  | 25 => ⟨S_, .f32⟩
  | 26 => ⟨S1x32x4x4x128x1, .f32⟩
  | 27 => ⟨S_, .f32⟩
  | 28 => ⟨S1x32x4x4x128x1, .f32⟩
  | 29 => ⟨S_, .f32⟩
  | 30 => ⟨S1x32x4x4x128x1, .f32⟩
  | 31 => ⟨S1x32x4x4x128x1, .f32⟩
  | 32 => ⟨S1x32x4x4x128x1, .f32⟩
  | 33 => ⟨S1x32x4x4x128x1, .f32⟩
  | 34 => ⟨S1x32x4x4x128x1, .i1⟩
  | 35 => ⟨S1x32x4x4x128x1, .f32⟩
  | 36 => ⟨S1x32x4x4x128x1, .i1⟩
  | 37 => ⟨S_, .f32⟩
  | 38 => ⟨S1x32x4x4x128x1, .f32⟩
  | 39 => ⟨S_, .f32⟩
  | 40 => ⟨S1x32x4x4x128x1, .f32⟩
  | 41 => ⟨S_, .f32⟩
  | 42 => ⟨S1x32x4x4x128x1, .f32⟩
  | 43 => ⟨S1x32x4x4x128x1, .f32⟩
  | 44 => ⟨S1x32x4x4x128x1, .f32⟩
  | 45 => ⟨S1x32x4x4x128x384, .f32⟩
  | 46 => ⟨S1x32x4x4x128x384, .f32⟩
  | 47 => ⟨S1x32x4x4x128x384, .f32⟩
  | 48 => ⟨S_, .f32⟩
  | 49 => ⟨S1x32x4x4x128, .f32⟩
  | 50 => ⟨S1x32x4x4x128x1, .f32⟩
  | 51 => ⟨S1x32x4x4x128x1, .f32⟩
  | 52 => ⟨S1x32x4x4x128x1, .f32⟩
  | 53 => ⟨S1x32x4x4x128x1, .f32⟩
  | 54 => ⟨S1x32x4x4x128x1, .f32⟩
  | 55 => ⟨S1x32x4x4x128x384, .f32⟩
  | 56 => ⟨S1x32x4x4x128x384, .f32⟩
  | 57 => ⟨S1x32x4x4x128x1, .f32⟩
  | 58 => ⟨S_, .f32⟩
  | 59 => ⟨S1x32x4x4x128x1, .f32⟩
  | 60 => ⟨S1x32x4x4x128x1, .f32⟩
  | 61 => ⟨S1x32x4x128x4x128, .f32⟩
  | 62 => ⟨S1x32x128x4x4x128, .f32⟩
  | 63 => ⟨S1x4096x2048, .f32⟩
  | 64 => ⟨S4096x2048, .f32⟩
  | 65 => ⟨S1x4096x2048, .f32⟩
  | 66 => ⟨S1x32x128x4x4x128, .f32⟩
  | 67 => ⟨S1x32x4x128x4x128, .f32⟩
  | 68 => ⟨S1x32x4x4x128x384, .f32⟩
  | 69 => ⟨S1x32x4x128x384, .f32⟩
  | 70 => ⟨S1x32x384x4x128, .f32⟩
  | 71 => ⟨S1x32x4x4x128x384, .f32⟩
  | 72 => ⟨S1x32x4x4x128x384, .f32⟩
  | 73 => ⟨S1x32x4x4x128x384, .f32⟩
  | 74 => ⟨S_, .f32⟩
  | 75 => ⟨S1x32x4x4x128, .f32⟩
  | 76 => ⟨S1x32x4x4x128x1, .f32⟩
  | 77 => ⟨S1x32x4x4x128x1, .f32⟩
  | 78 => ⟨S1x32x4x4x128x384, .f32⟩
  | 79 => ⟨S1x32x4x4x128x384, .f32⟩
  | 80 => ⟨S1x32x4x4x128x1, .f32⟩
  | 81 => ⟨S_, .f32⟩
  | 82 => ⟨S1x4x4x1, .f32⟩
  | 83 => ⟨S1x1x4x4x1x1, .f32⟩
  | 84 => ⟨S1x32x4x4x128x1, .f32⟩
  | 85 => ⟨S_, .f32⟩
  | 86 => ⟨S32x4x4x128, .f32⟩
  | 87 => ⟨S1x32x4x4x128, .f32⟩
  | 88 => ⟨S1x32x4x4x128x384, .f32⟩
  | 89 => ⟨S1x32x4x4x128x384, .f32⟩
  | 90 => ⟨S1x32x4x4x128x384, .f32⟩
  | 91 => ⟨S1x32x4x4x128x384, .f32⟩
  | 92 => ⟨S_, .f32⟩
  | 93 => ⟨S1x32x4x4x128, .f32⟩
  | 94 => ⟨S1x32x4x4x128x1, .f32⟩
  | 95 => ⟨S1x32x4x4x128x1, .f32⟩
  | 96 => ⟨S1x32x4x4x128x1, .f32⟩
  | 97 => ⟨S_, .f32⟩
  | 98 => ⟨S1x4x4x1, .f32⟩
  | 99 => ⟨S1x1x4x4x1x1, .f32⟩
  | 100 => ⟨S1x1x4x4x1x1, .f32⟩
  | 101 => ⟨S1x32x4x4x128x1, .f32⟩
  | 102 => ⟨S_, .f32⟩
  | 103 => ⟨S32x4x4x128, .f32⟩
  | 104 => ⟨S1x32x4x4x128, .f32⟩
  | 105 => ⟨S1x32x4x4x128, .f32⟩
  | 106 => ⟨S1x32x4x4x128x384, .f32⟩
  | 107 => ⟨S1x32x4x4x128x384, .f32⟩
  | 108 => ⟨S1x32x4x4x128x384, .f32⟩
  | 109 => ⟨S_, .f32⟩
  | 110 => ⟨S4x4, .f32⟩
  | 111 => ⟨S16, .f32⟩
  | 112 => ⟨S_, .f32⟩
  | 113 => ⟨S1x32x4x4x128x384, .f32⟩
  | 114 => ⟨S1x32x4x4x128x384, .f32⟩
  | 115 => ⟨S_, .f32⟩
  | 116 => ⟨S1x32x4x4x128x384, .f32⟩
  | 117 => ⟨S1x32x4x4x128x384, .f32⟩
  | 118 => ⟨S1x32x4x384x128x4, .f32⟩
  | 119 => ⟨S1x32x4x128x4x128, .f32⟩
  | 120 => ⟨S1x32x128x4x4x128, .f32⟩
  | 121 => ⟨S1x32x4x384x128, .f32⟩
  | 122 => ⟨S1x32x384x4x128, .f32⟩
  | 123 => ⟨S1x4096x16x128, .f32⟩
  | 124 => ⟨S1x4096x16x32, .f32⟩
  | 125 => ⟨S1x4096x16x96, .f32⟩
  | 126 => ⟨S_, .f32⟩
  | 127 => ⟨S1x4096x16x128, .f32⟩
  | _ => ⟨S4096x2048, .f32⟩

abbrev hbmTy0_2 (i : Nat) : BufTy := match i % 128 with
  | 0 => ⟨S1x4096x16x16, .f32⟩
  | 1 => ⟨S1x4096x16x16, .f32⟩
  | 2 => ⟨S1x4096x16x16, .f32⟩
  | 3 => ⟨S1x4096x16x16, .f32⟩
  | 4 => ⟨S1x4096x16x16, .f32⟩
  | 5 => ⟨S1x4096x16x16, .f32⟩
  | 6 => ⟨S1x4096x16x16, .f32⟩
  | 7 => ⟨S1x4096x16x16, .f32⟩
  | 8 => ⟨S1x4096x16x16, .f32⟩
  | 9 => ⟨S1x4096x16x16, .f32⟩
  | 10 => ⟨S1x4096x16x16, .f32⟩
  | 11 => ⟨S1x4096x16x16, .f32⟩
  | 12 => ⟨S1x4096x16x16, .f32⟩
  | 13 => ⟨S_, .f32⟩
  | 14 => ⟨S1x4096x16x32, .f32⟩
  | 15 => ⟨S_, .f32⟩
  | 16 => ⟨S1x4096x16x32, .f32⟩
  | 17 => ⟨S1x4096x16x32, .f32⟩
  | 18 => ⟨S_, .f32⟩
  | 19 => ⟨S1x4096x16x128, .f32⟩
  | 20 => ⟨S1x4096x16x128, .f32⟩
  | 21 => ⟨S4096x2048, .f32⟩
  | 22 => ⟨S4x4x1, .f32⟩
  | 23 => ⟨S4x4x128, .f32⟩
  | 24 => ⟨S_, .f32⟩
  | 25 => ⟨S4x4x128, .f32⟩
  | 26 => ⟨S4x8x128, .f32⟩
  | 27 => ⟨S4096x2048, .bf16⟩
  | 28 => ⟨S32x3x128x512, .f32⟩
  | 29 => ⟨S3x32x128x512, .f32⟩
  | 30 => ⟨S3x4096x512, .f32⟩
  | 31 => ⟨S32x3x128x512, .f32⟩
  | 32 => ⟨S3x32x128x512, .f32⟩
  | 33 => ⟨S3x4096x512, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_cst_5 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_c : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_c_6 : Ref sig .tc := ⟨.hbm, 98, rfl⟩
abbrev main_v85 : Ref sig .tc := ⟨.hbm, 99, rfl⟩
abbrev main_v86 : Ref sig .tc := ⟨.hbm, 100, rfl⟩
abbrev main_c_7 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_c_8 : Ref sig .tc := ⟨.hbm, 109, rfl⟩
abbrev main_v94 : Ref sig .tc := ⟨.hbm, 110, rfl⟩
abbrev main_v95 : Ref sig .tc := ⟨.hbm, 111, rfl⟩
abbrev main_c_9 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_c_10 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_11 : Ref sig .tc := ⟨.hbm, 129, rfl⟩
abbrev main_call0_v0 : Ref sig .tc := ⟨.hbm, 130, rfl⟩
abbrev main_v111_1 : Ref sig .tc := ⟨.hbm, 131, rfl⟩
abbrev main_call0_v2 : Ref sig .tc := ⟨.hbm, 132, rfl⟩
abbrev main_v111_0 : Ref sig .tc := ⟨.hbm, 133, rfl⟩
abbrev main_call0_cst : Ref sig .tc := ⟨.hbm, 134, rfl⟩
abbrev main_v111_2 : Ref sig .tc := ⟨.hbm, 135, rfl⟩
abbrev main_v112 : Ref sig .tc := ⟨.hbm, 136, rfl⟩
abbrev main_v113 : Ref sig .tc := ⟨.hbm, 137, rfl⟩
abbrev main_cst_12 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_cst_13 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_14 : Ref sig .tc := ⟨.hbm, 153, rfl⟩
abbrev main_v127 : Ref sig .tc := ⟨.hbm, 154, rfl⟩
abbrev main_cst_15 : Ref sig .tc := ⟨.hbm, 155, rfl⟩
abbrev main_v128 : Ref sig .tc := ⟨.hbm, 156, rfl⟩
abbrev main_cst_16 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_17 : Ref sig .tc := ⟨.hbm, 165, rfl⟩
abbrev main_v136 : Ref sig .tc := ⟨.hbm, 166, rfl⟩
abbrev main_cst_18 : Ref sig .tc := ⟨.hbm, 167, rfl⟩
abbrev main_v137 : Ref sig .tc := ⟨.hbm, 168, rfl⟩
abbrev main_cst_19 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_20 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_21 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_cst_22 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_cst_23 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_cst_24 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_cst_25 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_cst_26 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_cst_27 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_cst_28 : Ref sig .tc := ⟨.hbm, 237, rfl⟩
abbrev main_v197 : Ref sig .tc := ⟨.hbm, 238, rfl⟩
abbrev main_v198 : Ref sig .tc := ⟨.hbm, 239, rfl⟩
abbrev main_call1_cst : Ref sig .tc := ⟨.hbm, 240, rfl⟩
abbrev main_call1_v0 : Ref sig .tc := ⟨.hbm, 241, rfl⟩
abbrev main_v199 : Ref sig .tc := ⟨.hbm, 242, rfl⟩
abbrev main_cst_29 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_cst_30 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_cst_31 : Ref sig .tc := ⟨.hbm, 269, rfl⟩
abbrev main_v224 : Ref sig .tc := ⟨.hbm, 270, rfl⟩
abbrev main_cst_32 : Ref sig .tc := ⟨.hbm, 271, rfl⟩
abbrev main_v225 : Ref sig .tc := ⟨.hbm, 272, rfl⟩
abbrev main_v226 : Ref sig .tc := ⟨.hbm, 273, rfl⟩
abbrev main_cst_33 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_cst_34 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩

abbrev nD : Nat := 1
abbrev τ : Topo := Topo.v7x

variable {F : FTy → Type} [FloatOps F]
-- ==== DW.lean ====
abbrev S4096x2048 : Shape := ⟨2, ![4096, 2048]⟩
abbrev S4096x11264 : Shape := ⟨2, ![4096, 11264]⟩
abbrev S2048x11264 : Shape := ⟨2, ![2048, 11264]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWRefIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DH.lean ====
abbrev S4096x11264 : Shape := ⟨2, ![4096, 11264]⟩
abbrev S2048x11264 : Shape := ⟨2, ![2048, 11264]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHRefIdeal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S_, .f32⟩
  | .hbm, ⟨3, _⟩ => ⟨S4096x2048, .f32⟩
  | .hbm, ⟨4, _⟩ => ⟨S2048x11264, .f32⟩
  | .hbm, ⟨5, _⟩ => ⟨S4096x11264, .f32⟩
  | .hbm, ⟨6, _⟩ => ⟨S4096x11264, .f32⟩
  | .hbm, ⟨7, _⟩ => ⟨S4096x2048, .f32⟩
  | .hbm, ⟨8, _⟩ => ⟨S4096x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GU.lean ====
abbrev S4096x2048 : Shape := ⟨2, ![4096, 2048]⟩
abbrev S2048x11264 : Shape := ⟨2, ![2048, 11264]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GURefIdeal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .bf16⟩
  | .hbm, ⟨18, _⟩ => ⟨S4096x5632, .bf16⟩
  | .hbm, ⟨19, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== DWD.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWDRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DACT.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DACTRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== NN.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NNRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== TN.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TNRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== NT.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NTRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GLU.lean ====
abbrev S4096x2048 : Shape := ⟨2, ![4096, 2048]⟩
abbrev S2048x11264 : Shape := ⟨2, ![2048, 11264]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GLURefIdeal.lean ====
abbrev S4096x2048 : Shape := ⟨2, ![4096, 2048]⟩
abbrev S2048x11264 : Shape := ⟨2, ![2048, 11264]⟩
abbrev S4096x11264 : Shape := ⟨2, ![4096, 11264]⟩
abbrev S4096x3072 : Shape := ⟨2, ![4096, 3072]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x3072, .f32⟩
  | .hbm, ⟨6, _⟩ => ⟨S4096x4096, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GATE.lean ====
abbrev S4096x2048 : Shape := ⟨2, ![4096, 2048]⟩
abbrev S2048x11264 : Shape := ⟨2, ![2048, 11264]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg1 c7_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GATERefIdeal.lean ====
abbrev S4096x2048 : Shape := ⟨2, ![4096, 2048]⟩
abbrev S2048x11264 : Shape := ⟨2, ![2048, 11264]⟩
abbrev S4096x11264 : Shape := ⟨2, ![4096, 11264]⟩
abbrev S4096x3072 : Shape := ⟨2, ![4096, 3072]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x3072, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== DOWN.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOWNRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | .hbm, ⟨5, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ADAM.lean ====
abbrev S8x208x512 : Shape := ⟨3, ![8, 208, 512]⟩
abbrev S208x512 : Shape := ⟨2, ![208, 512]⟩
abbrev S1x16x512 : Shape := ⟨3, ![1, 16, 512]⟩
abbrev S16x512 : Shape := ⟨2, ![16, 512]⟩
abbrev S1x16x128 : Shape := ⟨3, ![1, 16, 128]⟩
abbrev S16x128 : Shape := ⟨2, ![16, 128]⟩

abbrev nBuf : Space → Nat
  | .hbm => 8
  | .vmem => 30
  | .smem => 0
  | _ => 0

abbrev bufTy : (tb : Table) → Fin (tcTables nBuf tb) → BufTy
  | .hbm, ⟨0, _⟩ => ⟨S8x208x512, .f32⟩
  | .hbm, ⟨1, _⟩ => ⟨S208x512, .f32⟩
  | .hbm, ⟨2, _⟩ => ⟨S208x512, .f32⟩
  | .hbm, ⟨3, _⟩ => ⟨S208x512, .f32⟩
  | .hbm, ⟨4, _⟩ => ⟨S208x512, .f32⟩
  | .hbm, ⟨5, _⟩ => ⟨S208x512, .f32⟩
  | .hbm, ⟨6, _⟩ => ⟨S208x512, .f32⟩
  | .hbm, ⟨7, _⟩ => ⟨S208x512, .f32⟩
  | .local _ .vmem, ⟨0, _⟩ => ⟨S1x16x512, .f32⟩
  | .local _ .vmem, ⟨1, _⟩ => ⟨S1x16x512, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S1x16x512, .f32⟩
  | .local _ .vmem, ⟨7, _⟩ => ⟨S1x16x512, .f32⟩
  | .local _ .vmem, ⟨8, _⟩ => ⟨S1x16x512, .f32⟩
  | .local _ .vmem, ⟨9, _⟩ => ⟨S1x16x512, .f32⟩
  | .local _ .vmem, ⟨10, _⟩ => ⟨S1x16x512, .f32⟩
  | .local _ .vmem, ⟨11, _⟩ => ⟨S1x16x512, .f32⟩
  | .local _ .vmem, ⟨12, _⟩ => ⟨S1x16x512, .f32⟩
  | .local _ .vmem, ⟨13, _⟩ => ⟨S1x16x512, .f32⟩
  | .local _ .vmem, ⟨14, _⟩ => ⟨S1x16x512, .f32⟩
  | .local _ .vmem, ⟨15, _⟩ => ⟨S1x16x512, .f32⟩
  | .local _ .vmem, ⟨16, _⟩ => ⟨S16x512, .f32⟩
  | .local _ .vmem, ⟨17, _⟩ => ⟨S16x512, .f32⟩
  | .local _ .vmem, ⟨18, _⟩ => ⟨S16x512, .f32⟩
  | .local _ .vmem, ⟨19, _⟩ => ⟨S16x512, .f32⟩
  | .local _ .vmem, ⟨20, _⟩ => ⟨S16x512, .f32⟩
  | .local _ .vmem, ⟨21, _⟩ => ⟨S16x512, .f32⟩
  | .local _ .vmem, ⟨22, _⟩ => ⟨S16x512, .f32⟩
  | .local _ .vmem, ⟨23, _⟩ => ⟨S16x512, .f32⟩
  | .local _ .vmem, ⟨24, _⟩ => ⟨S16x512, .f32⟩
  | .local _ .vmem, ⟨25, _⟩ => ⟨S16x512, .f32⟩
  | .local _ .vmem, ⟨26, _⟩ => ⟨S16x512, .f32⟩
  | .local _ .vmem, ⟨27, _⟩ => ⟨S16x512, .f32⟩
  | .local _ .vmem, ⟨28, _⟩ => ⟨S16x512, .f32⟩
  | .local _ .vmem, ⟨29, _⟩ => ⟨S16x512, .f32⟩
  | _, _ => ⟨S8x208x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![13], ![false]⟩

def k0_mult1 : BitVec 32 :=
  let c0_i32 : BitVec 32 := 0#32
  let c16_i32 : BitVec 32 := 16#32
  let v0 : BitVec 32 := Scalar.muli c0_i32 c16_i32
  v0
def k0_off1 : Fin 3 → Nat :=
  let c0 : Index := 0#32
  let c0_i32 : BitVec 32 := 0#32
  let c16_i32 : BitVec 32 := 16#32
  let v0 : BitVec 32 := Scalar.muli c0_i32 c16_i32
  let v1 : BitVec 32 := v0
  let v2 : Index := Scalar.indexCast v1
  let c0_0 : Index := 0#32
  ![0, v2.toNat, 0]
def k0_off2 : Fin 2 → Nat :=
  let c0_i32 : BitVec 32 := 0#32
  let c16_i32 : BitVec 32 := 16#32
  let v0 : BitVec 32 := Scalar.muli c0_i32 c16_i32
  let v1 : BitVec 32 := v0
  let v26 : Index := Scalar.indexCast v1
  let c0_15 : Index := 0#32
  ![v26.toNat, 0]
def k0_mult2 : BitVec 32 :=
  let c0_i32_30 : BitVec 32 := 0#32
  let c16_i32_31 : BitVec 32 := 16#32
  let v71 : BitVec 32 := Scalar.muli c0_i32_30 c16_i32_31
  v71
def k0_off3 : Fin 3 → Nat :=
  let c0_32 : Index := 0#32
  let c0_i32_30 : BitVec 32 := 0#32
  let c16_i32_31 : BitVec 32 := 16#32
  let v71 : BitVec 32 := Scalar.muli c0_i32_30 c16_i32_31
  let v72 : BitVec 32 := v71
  let v73 : Index := Scalar.indexCast v72
  let c128 : Index := 128#32
  ![0, v73.toNat, 128]
def k0_off4 : Fin 2 → Nat :=
  let c0_i32_30 : BitVec 32 := 0#32
  let c16_i32_31 : BitVec 32 := 16#32
  let v71 : BitVec 32 := Scalar.muli c0_i32_30 c16_i32_31
  let v72 : BitVec 32 := v71
  let v97 : Index := Scalar.indexCast v72
  let c128_47 : Index := 128#32
  ![v97.toNat, 128]
def k0_mult3 : BitVec 32 :=
  let c0_i32_64 : BitVec 32 := 0#32
  let c16_i32_65 : BitVec 32 := 16#32
  let v142 : BitVec 32 := Scalar.muli c0_i32_64 c16_i32_65
  v142
def k0_off5 : Fin 3 → Nat :=
  let c0_66 : Index := 0#32
  let c0_i32_64 : BitVec 32 := 0#32
  let c16_i32_65 : BitVec 32 := 16#32
  let v142 : BitVec 32 := Scalar.muli c0_i32_64 c16_i32_65
  let v143 : BitVec 32 := v142
  let v144 : Index := Scalar.indexCast v143
  let c256 : Index := 256#32
  ![0, v144.toNat, 256]
def k0_off6 : Fin 2 → Nat :=
  let c0_i32_64 : BitVec 32 := 0#32
  let c16_i32_65 : BitVec 32 := 16#32
  let v142 : BitVec 32 := Scalar.muli c0_i32_64 c16_i32_65
  let v143 : BitVec 32 := v142
  let v168 : Index := Scalar.indexCast v143
  let c256_81 : Index := 256#32
  ![v168.toNat, 256]
def k0_mult4 : BitVec 32 :=
  let c0_i32_98 : BitVec 32 := 0#32
  let c16_i32_99 : BitVec 32 := 16#32
  let v213 : BitVec 32 := Scalar.muli c0_i32_98 c16_i32_99
  v213
def k0_off7 : Fin 3 → Nat :=
  let c0_100 : Index := 0#32
  let c0_i32_98 : BitVec 32 := 0#32
  let c16_i32_99 : BitVec 32 := 16#32
  let v213 : BitVec 32 := Scalar.muli c0_i32_98 c16_i32_99
  let v214 : BitVec 32 := v213
  let v215 : Index := Scalar.indexCast v214
  let c384 : Index := 384#32
  ![0, v215.toNat, 384]
def k0_off8 : Fin 2 → Nat :=
  let c0_i32_98 : BitVec 32 := 0#32
  let c16_i32_99 : BitVec 32 := 16#32
  let v213 : BitVec 32 := Scalar.muli c0_i32_98 c16_i32_99
  let v214 : BitVec 32 := v213
  let v239 : Index := Scalar.indexCast v214
  let c384_115 : Index := 384#32
  ![v239.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ADAMRefIdeal.lean ====
abbrev S8x208x512 : Shape := ⟨3, ![8, 208, 512]⟩
abbrev S208x512 : Shape := ⟨2, ![208, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x208x512, .f32⟩
  | .hbm, ⟨1, _⟩ => ⟨S208x512, .f32⟩
  | .hbm, ⟨2, _⟩ => ⟨S208x512, .f32⟩
  | .hbm, ⟨3, _⟩ => ⟨S208x512, .f32⟩
  | .hbm, ⟨4, _⟩ => ⟨S_, .f32⟩
  | .hbm, ⟨5, _⟩ => ⟨S208x512, .f32⟩
  | .hbm, ⟨6, _⟩ => ⟨S_, .f32⟩
  | .hbm, ⟨7, _⟩ => ⟨S208x512, .f32⟩
  | .hbm, ⟨8, _⟩ => ⟨S208x512, .f32⟩
  | .hbm, ⟨9, _⟩ => ⟨S_, .f32⟩
  | .hbm, ⟨10, _⟩ => ⟨S208x512, .f32⟩
  | .hbm, ⟨11, _⟩ => ⟨S208x512, .f32⟩
  | .hbm, ⟨12, _⟩ => ⟨S208x512, .f32⟩
  | .hbm, ⟨13, _⟩ => ⟨S_, .f32⟩
  | .hbm, ⟨14, _⟩ => ⟨S208x512, .f32⟩
  | .hbm, ⟨15, _⟩ => ⟨S208x512, .f32⟩
  | .hbm, ⟨16, _⟩ => ⟨S208x512, .f32⟩
  | .hbm, ⟨17, _⟩ => ⟨S_, .f32⟩
  | .hbm, ⟨18, _⟩ => ⟨S208x512, .f32⟩
  | .hbm, ⟨19, _⟩ => ⟨S208x512, .f32⟩
  | .hbm, ⟨20, _⟩ => ⟨S208x512, .f32⟩
  | .hbm, ⟨21, _⟩ => ⟨S_, .f32⟩
  | .hbm, ⟨22, _⟩ => ⟨S208x512, .f32⟩
  | .hbm, ⟨23, _⟩ => ⟨S208x512, .f32⟩
  | .hbm, ⟨24, _⟩ => ⟨S_, .f32⟩
  | .hbm, ⟨25, _⟩ => ⟨S208x512, .f32⟩
  | .hbm, ⟨26, _⟩ => ⟨S208x512, .f32⟩
  | .hbm, ⟨27, _⟩ => ⟨S208x512, .f32⟩
  | .hbm, ⟨28, _⟩ => ⟨S_, .f32⟩
  | .hbm, ⟨29, _⟩ => ⟨S208x512, .f32⟩
  | .hbm, ⟨30, _⟩ => ⟨S208x512, .f32⟩
  | .hbm, ⟨31, _⟩ => ⟨S208x512, .f32⟩
  | .hbm, ⟨32, _⟩ => ⟨S_, .f32⟩
  | .hbm, ⟨33, _⟩ => ⟨S208x512, .f32⟩
  | .hbm, ⟨34, _⟩ => ⟨S208x512, .f32⟩
  | .hbm, ⟨35, _⟩ => ⟨S208x512, .f32⟩
  | .hbm, ⟨36, _⟩ => ⟨S_, .f32⟩
  | .hbm, ⟨37, _⟩ => ⟨S208x512, .f32⟩
  | .hbm, ⟨38, _⟩ => ⟨S208x512, .f32⟩
  | _, _ => ⟨S8x208x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Vocab.lean ====
module

public import proofs.«01_k».proof.Proof.Gen.KernelIdeal.Value
/-! The names of a grid step's values: what it loads and what it computes for one kv head. -/

@[expose] public section

set_option maxRecDepth 16384
noncomputable section
namespace Cert.Attn
open Idealize.ShloMosaic Idealize.SL.Sem Cert.KernelIdeal Cert.KernelIdeal.Gen
/-- The values one grid step loads: per kv head the group's queries, the three blocks of banded keys and of banded values, the
    sinks and the incoming gradients, and the three tables. -/
structure Loads where
  q : Fin 4 → FVec Ideal S128x512 .bf16
  k0 : Fin 4 → FVec Ideal S128x128 .bf16
  k1 : Fin 4 → FVec Ideal S128x128 .bf16
  k2 : Fin 4 → FVec Ideal S128x128 .bf16
  v0 : Fin 4 → FVec Ideal S128x128 .bf16
  v1 : Fin 4 → FVec Ideal S128x128 .bf16
  v2 : Fin 4 → FVec Ideal S128x128 .bf16
  s : Fin 4 → FVec Ideal S1x512x1 .f32
  g : Fin 4 → FVec Ideal S128x512 .bf16
  ct : FVec Ideal S128x128 .f32
  lt : FVec Ideal S128x128 .f32
  ht : FVec Ideal S128x128 .f32

/-! ## The step's values for kv head `h` -/
namespace Loads
variable (B : Loads) (i : grid0.Coords) (h : Fin 4)
def qs : FVec Ideal S512x128 .bf16 := k0_pay11 (k0_pay7 (B.q h))
def kb : FVec Ideal S384x128 .bf16 := k0_pay12 (k0_pay8 (B.k0 h)) (k0_pay9 (B.k1 h)) (B.k2 h)
def vb : FVec Ideal S384x128 .bf16 := k0_pay20 (B.v0 h) (B.v1 h) (B.v2 h)
def dos : FVec Ideal S512x128 .bf16 := k0_pay21 (B.g h)
def w : FVec Ideal S512x384 .f32 :=
  k0_pay18 (k0_pay2 i) (k0_pay7 (B.q h)) (k0_pay8 (B.k0 h)) (k0_pay9 (B.k1 h)) (B.k2 h) (B.s h)
def ws : FVec Ideal S512x1 .f32 :=
  k0_pay19 (k0_pay2 i) (k0_pay7 (B.q h)) (k0_pay8 (B.k0 h)) (k0_pay9 (B.k1 h)) (B.k2 h) (B.s h)
def dk : FVec Ideal S384x128 .f32 := k0_pay27 (B.qs h) (B.w i h) (B.vb h) (B.dos h)
def dv : FVec Ideal S384x128 .f32 := k0_pay22 (B.w i h) (B.dos h)
/-- The weighted means of the gradients, per row. -/
def dl : FVec Ideal S512x1 .f32 := k0_pay24 (B.w i h) (B.vb h) (B.dos h)
def dq : FVec Ideal S512x128 .f32 := k0_pay26 (B.kb h) (B.w i h) (B.vb h) (B.dos h)
/-- The sinks' weights times the weighted means of the gradients. -/
def sg : FVec Ideal S512x1 .f32 := k0_pay41 (B.ws i h) (B.dl i h)
end Loads

section Pieces
variable (ct lt ht : FVec Ideal S128x128 .f32) (x : FVec Ideal S512x128 .f32)
/-- The queries' gradient of the group's query head 0, … -/
def pdq0 : FVec Ideal S128x128 .bf16 :=
  k0_pay32 ct lt ht (extractStridedSlice S128x128 ![0, 0] x slices_S512x128_o0_0_S128x128)
    (dynamicRotate 1 112#32 none (extractStridedSlice S128x128 ![0, 0] x slices_S512x128_o0_0_S128x128) rotates_S128x128_d1) 16#32
/-- … 1, … -/
def pdq1 : FVec Ideal S128x128 .bf16 :=
  k0_pay32 ct lt ht (extractStridedSlice S128x128 ![128, 0] x slices_S512x128_o128_0_S128x128)
    (dynamicRotate 1 112#32 none (extractStridedSlice S128x128 ![128, 0] x slices_S512x128_o128_0_S128x128) rotates_S128x128_d1)
    16#32
/-- … 2 … -/
def pdq2 : FVec Ideal S128x128 .bf16 :=
  k0_pay32 ct lt ht (extractStridedSlice S128x128 ![256, 0] x slices_S512x128_o256_0_S128x128)
    (dynamicRotate 1 112#32 none (extractStridedSlice S128x128 ![256, 0] x slices_S512x128_o256_0_S128x128) rotates_S128x128_d1)
    16#32
/-- … and 3. -/
def pdq3 : FVec Ideal S128x128 .bf16 :=
  k0_pay32 ct lt ht (extractStridedSlice S128x128 ![384, 0] x slices_S512x128_o384_0_S128x128)
    (dynamicRotate 1 112#32 none (extractStridedSlice S128x128 ![384, 0] x slices_S512x128_o384_0_S128x128) rotates_S128x128_d1)
    16#32
variable (x : FVec Ideal S384x128 .f32)
/-- The band's three blocks, each a piece: the first, … -/
def pdk0 : FVec Ideal S1x128x128 .f32 := k0_pay34 x
/-- … the second … -/
def pdk1 : FVec Ideal S1x128x128 .f32 := k0_pay36 x
/-- … and the third. -/
def pdk2 : FVec Ideal S1x128x128 .f32 := k0_pay39 x
end Pieces

/-- The four groups of a block of queries or gradients, as loaded. -/
def rdq (m : Memref sig .tc .vmem S128x2048 .bf16) (hm : m.IsWhole) (x : FVec Ideal S128x2048 .bf16) : Fin 4 → FVec Ideal
    S128x512 .bf16 :=
  ![View.readAt (Elt Ideal) m.view (Rect.unit ![0, 0] S128x512.size inb_S128x2048_S128x512_0_0 : Rect S128x2048).toLoadRect
    (hm.unread x),
    View.readAt (Elt Ideal) m.view (Rect.unit ![0, 512] S128x512.size inb_S128x2048_S128x512_0_512 : Rect S128x2048).toLoadRect
    (hm.unread x),
    View.readAt (Elt Ideal) m.view (Rect.unit ![0, 1024] S128x512.size inb_S128x2048_S128x512_0_1024 : Rect
    S128x2048).toLoadRect (hm.unread x),
    View.readAt (Elt Ideal) m.view (Rect.unit ![0, 1536] S128x512.size inb_S128x2048_S128x512_0_1536 : Rect
    S128x2048).toLoadRect (hm.unread x)]
/-- The four heads of a block of keys or values, as loaded. -/
def rdk (m : Memref sig .tc .vmem S128x512 .bf16) (hm : m.IsWhole) (x : FVec Ideal S128x512 .bf16) : Fin 4 → FVec Ideal S128x128
    .bf16 :=
  ![View.readAt (Elt Ideal) m.view (Rect.unit ![0, 0] S128x128.size inb_S128x512_S128x128_0_0 : Rect S128x512).toLoadRect
    (hm.unread x),
    View.readAt (Elt Ideal) m.view (Rect.unit ![0, 128] S128x128.size inb_S128x512_S128x128_0_128 : Rect S128x512).toLoadRect
    (hm.unread x),
    View.readAt (Elt Ideal) m.view (Rect.unit ![0, 256] S128x128.size inb_S128x512_S128x128_0_256 : Rect S128x512).toLoadRect
    (hm.unread x),
    View.readAt (Elt Ideal) m.view (Rect.unit ![0, 384] S128x128.size inb_S128x512_S128x128_0_384 : Rect S128x512).toLoadRect
    (hm.unread x)]
/-- The four groups' sinks, as loaded. -/
def rds (m : Memref sig .tc .vmem S4x512x1 .f32) (hm : m.IsWhole) (x : FVec Ideal S4x512x1 .f32) : Fin 4 → FVec Ideal S1x512x1
    .f32 :=
  ![View.readAt (Elt Ideal) m.view (Rect.unit ![0, 0, 0] S1x512x1.size inb_S4x512x1_S1x512x1_0_0_0 : Rect S4x512x1).toLoadRect
    (hm.unread x),
    View.readAt (Elt Ideal) m.view (Rect.unit ![1, 0, 0] S1x512x1.size inb_S4x512x1_S1x512x1_1_0_0 : Rect S4x512x1).toLoadRect
    (hm.unread x),
    View.readAt (Elt Ideal) m.view (Rect.unit ![2, 0, 0] S1x512x1.size inb_S4x512x1_S1x512x1_2_0_0 : Rect S4x512x1).toLoadRect
    (hm.unread x),
    View.readAt (Elt Ideal) m.view (Rect.unit ![3, 0, 0] S1x512x1.size inb_S4x512x1_S1x512x1_3_0_0 : Rect S4x512x1).toLoadRect
    (hm.unread x)]
/-- A table, as loaded. -/
def rdt (m : Memref sig .tc .vmem S128x128 .f32) (hm : m.IsWhole) (x : FVec Ideal S128x128 .f32) : FVec Ideal S128x128 .f32 :=
  View.readAt (Elt Ideal) m.view (Rect.unit ![0, 0] S128x128.size inb_S128x128_S128x128_0_0 : Rect S128x128).toLoadRect
    (hm.unread x)

/-- A step's loads, of blocks held in its windows' buffers. -/
def loads (arg2 : Memref sig .tc .vmem S128x2048 .bf16) (harg2 : arg2.IsWhole) (arg3 : Memref sig .tc .vmem S128x512 .bf16)
    (harg3 : arg3.IsWhole) (arg4 : Memref sig .tc .vmem S128x512 .bf16) (harg4 : arg4.IsWhole) (arg5 : Memref sig .tc .vmem
    S128x512 .bf16) (harg5 : arg5.IsWhole) (arg6 : Memref sig .tc .vmem S128x512 .bf16) (harg6 : arg6.IsWhole) (arg7 : Memref
    sig .tc .vmem S128x512 .bf16) (harg7 : arg7.IsWhole) (arg8 : Memref sig .tc .vmem S128x512 .bf16) (harg8 : arg8.IsWhole)
    (arg9 : Memref sig .tc .vmem S4x512x1 .f32) (harg9 : arg9.IsWhole) (arg10 : Memref sig .tc .vmem S128x2048 .bf16) (harg10 :
    arg10.IsWhole) (arg11 : Memref sig .tc .vmem S128x128 .f32) (harg11 : arg11.IsWhole) (arg12 : Memref sig .tc .vmem S128x128
    .f32) (harg12 : arg12.IsWhole) (arg13 : Memref sig .tc .vmem S128x128 .f32) (harg13 : arg13.IsWhole) (x0 : Vec Ideal
    S128x2048 .bf16) (x1 : Vec Ideal S128x512 .bf16) (x2 : Vec Ideal S128x512 .bf16) (x3 : Vec Ideal S128x512 .bf16) (x4 : Vec
    Ideal S128x512 .bf16) (x5 : Vec Ideal S128x512 .bf16) (x6 : Vec Ideal S128x512 .bf16) (x7 : Vec Ideal S4x512x1 .f32) (x8 :
    Vec Ideal S128x2048 .bf16) (x9 : Vec Ideal S128x128 .f32) (x10 : Vec Ideal S128x128 .f32) (x11 : Vec Ideal S128x128 .f32) :
    Loads where
  q := rdq arg2 harg2 x0
  k0 := rdk arg3 harg3 x1
  k1 := rdk arg4 harg4 x2
  k2 := rdk arg5 harg5 x3
  v0 := rdk arg6 harg6 x4
  v1 := rdk arg7 harg7 x5
  v2 := rdk arg8 harg8 x6
  s := rds arg9 harg9 x7
  g := rdq arg10 harg10 x8
  ct := rdt arg11 harg11 x9
  lt := rdt arg12 harg12 x10
  ht := rdt arg13 harg13 x11

end Cert.Attn
-- ==== Proof.Softmax.lean ====
/- One row of window attention and of its gradient, over the reals: a query row `q` against 384 banded keys `k` and
   values `v`, of which `ok` marks the ones the window admits, with a sink logit `sk` beside the scores and the incoming
   gradient `g`. Below the definitions: the same quantities as extended reals are these reals, whatever real number the
   row's maximum is. -/
module

public import Idealize.ShloMosaic.Lib.Pointwise
public import Mathlib.Data.EReal.Operations
public import Mathlib.Analysis.SpecialFunctions.Exp

@[expose] public section

noncomputable section

namespace Cert.Attn

open Idealize.ShloMosaic
open scoped BigOperators

/-- The scores' scale, the f32 constant nearest `128 ^ (-1/2)`. -/
def sc : ℝ := (Ideal.ofBits .f32 0x3DB504F3#32).toReal

theorem sc_coe : Ideal.ofBits .f32 0x3DB504F3#32 = ((sc : ℝ) : EReal) := by
  unfold sc
  refine (EReal.coe_toReal ?_ ?_).symm <;> simp [Ideal.ofBits, Ideal.ieee] <;> norm_cast

/-- A score of the row: the scaled product with key `j`. -/
def score (q : Fin 128 → ℝ) (k : Fin 384 → Fin 128 → ℝ) (j : Fin 384) : ℝ := (∑ d, q d * k j d) * sc
/-- A score's exponential, nothing where the window does not admit the key. -/
def ex (ok : Fin 384 → Bool) (q : Fin 128 → ℝ) (k : Fin 384 → Fin 128 → ℝ) (j : Fin 384) : ℝ :=
  if ok j then Real.exp (score q k j) else 0
/-- The softmax's denominator, the sink's exponential included. -/
def den (ok : Fin 384 → Bool) (q : Fin 128 → ℝ) (k : Fin 384 → Fin 128 → ℝ) (sk : ℝ) : ℝ := ∑ j, ex ok q k j + Real.exp sk
/-- The weight of key `j`. -/
def wt (ok : Fin 384 → Bool) (q : Fin 128 → ℝ) (k : Fin 384 → Fin 128 → ℝ) (sk : ℝ) (j : Fin 384) : ℝ := ex ok q k j / den ok q k sk
/-- The weight of the sink. -/
def wsk (ok : Fin 384 → Bool) (q : Fin 128 → ℝ) (k : Fin 384 → Fin 128 → ℝ) (sk : ℝ) : ℝ := Real.exp sk / den ok q k sk
/-- The gradient of weight `j`: the incoming gradient against value `j`. -/
def dwt (v : Fin 384 → Fin 128 → ℝ) (g : Fin 128 → ℝ) (j : Fin 384) : ℝ := ∑ d, g d * v j d
/-- The weighted mean of the weights' gradients. -/
def dlt (ok : Fin 384 → Bool) (q : Fin 128 → ℝ) (k : Fin 384 → Fin 128 → ℝ) (sk : ℝ) (v : Fin 384 → Fin 128 → ℝ) (g : Fin 128 → ℝ) : ℝ :=
  ∑ j, wt ok q k sk j * dwt v g j
/-- The gradient of the product behind score `j`. -/
def dsc (ok : Fin 384 → Bool) (q : Fin 128 → ℝ) (k : Fin 384 → Fin 128 → ℝ) (sk : ℝ) (v : Fin 384 → Fin 128 → ℝ) (g : Fin 128 → ℝ)
    (j : Fin 384) : ℝ := wt ok q k sk j * (dwt v g j - dlt ok q k sk v g) * sc

variable (ok : Fin 384 → Bool) (q : Fin 128 → ℝ) (k : Fin 384 → Fin 128 → ℝ) (sk : ℝ) (v : Fin 384 → Fin 128 → ℝ) (g : Fin 128 → ℝ)

theorem ex_nonneg (j : Fin 384) : 0 ≤ ex ok q k j := by
  unfold ex; split
  · exact (Real.exp_pos _).le
  · exact le_rfl

theorem den_pos : 0 < den ok q k sk :=
  add_pos_of_nonneg_of_pos (Finset.sum_nonneg fun j _ => ex_nonneg ok q k j) (Real.exp_pos sk)

/-! ## A key the window does not admit plays no part -/

section Congr
variable {ok q k sk v g} {k' v' : Fin 384 → Fin 128 → ℝ}
variable (hk : ∀ j, ok j = true → k j = k' j) (hv : ∀ j, ok j = true → v j = v' j)
include hk

theorem ex_congr : ex ok q k = ex ok q k' := by
  funext j; unfold ex; split
  · next h => unfold score; rw [hk j h]
  · rfl
theorem den_congr : den ok q k sk = den ok q k' sk := by unfold den; rw [ex_congr hk]
theorem wt_congr : wt ok q k sk = wt ok q k' sk := by funext j; unfold wt; rw [ex_congr hk, den_congr hk]
theorem wsk_congr : wsk ok q k sk = wsk ok q k' sk := by unfold wsk; rw [den_congr hk]
include hv
theorem dlt_congr : dlt ok q k sk v g = dlt ok q k' sk v' g := by
  unfold dlt; rw [wt_congr hk]
  refine Finset.sum_congr rfl fun j _ => ?_
  by_cases h : ok j = true
  · unfold dwt; rw [hv j h]
  · simp [wt, ex, h]
theorem dsc_congr : dsc ok q k sk v g = dsc ok q k' sk v' g := by
  funext j; unfold dsc; rw [wt_congr hk, dlt_congr hk hv]
  by_cases h : ok j = true
  · unfold dwt; rw [hv j h]
  · simp [wt, ex, h]
end Congr

theorem wt_of_not {j : Fin 384} (h : ¬ok j = true) : wt ok q k sk j = 0 := by simp [wt, ex, h]
theorem dsc_of_not {j : Fin 384} (h : ¬ok j = true) : dsc ok q k sk v g j = 0 := by simp [dsc, wt, ex, h]

/-! ## From extended reals to reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe' (x : ℝ) {y : ℝ} (h : y ≠ 0) : Ideal.div (x : EReal) (y : EReal) = ((x / y : ℝ) : EReal) := by
  rw [Ideal.div_coe h, ← EReal.coe_mul, mul_one_div]

/-- The maximum of extended reals below `⊤` that a real is set beside is a real. -/
theorem max_fold_coe {ι : Type*} (s : Finset ι) (f : ι → EReal) (hf : ∀ i, f i < ⊤) (x : ℝ) :
    ∃ m : ℝ, max (s.fold max ⊥ f) (x : EReal) = m := by
  have h1 : s.fold max ⊥ f < ⊤ := by
    rw [Finset.fold_max_lt]; exact ⟨bot_lt_top, fun i _ => hf i⟩
  refine ⟨(max (s.fold max ⊥ f) (x : EReal)).toReal, (EReal.coe_toReal ?_ ?_).symm⟩
  · exact (max_lt h1 (EReal.coe_lt_top x)).ne
  · exact (lt_of_lt_of_le (EReal.bot_lt_coe x) (le_max_right _ _)).ne'

/-- The exponentials shifted by `m`. -/
theorem ex_shift (m : ℝ) (j : Fin 384) :
    (if ok j then Real.exp (score q k j - m) else 0) = ex ok q k j * Real.exp (-m) := by
  unfold ex; split
  · rw [sub_eq_add_neg, Real.exp_add]
  · simp
theorem den_shift (m : ℝ) :
    ∑ j, (if ok j then Real.exp (score q k j - m) else 0) + Real.exp (sk - m) = den ok q k sk * Real.exp (-m) := by
  unfold den; rw [add_mul, Finset.sum_mul, sub_eq_add_neg, Real.exp_add]
  exact congrArg (· + _) (Finset.sum_congr rfl fun j _ => ex_shift ok q k m j)
theorem wt_shift (m : ℝ) (j : Fin 384) :
    ex ok q k j * Real.exp (-m) / (den ok q k sk * Real.exp (-m)) = wt ok q k sk j :=
  mul_div_mul_right _ _ (Real.exp_pos _).ne'
theorem wsk_shift (m : ℝ) : Real.exp (sk - m) / (den ok q k sk * Real.exp (-m)) = wsk ok q k sk := by
  rw [sub_eq_add_neg, Real.exp_add]; exact mul_div_mul_right _ _ (Real.exp_pos _).ne'

end Cert.Attn

end
-- ==== Proof.Head.lean ====
/- What one grid step computes for one kv head, read off the first head's payloads: over real blocks of queries, banded
   keys and values and incoming gradients, every one of the step's values is the real number of `Cert.Attn`'s definitions,
   row by row. -/
module

public import proofs.«01_k».proof.Proof.Softmax
public import proofs.«01_k».proof.Proof.Gen.KernelIdeal.Skeleton

@[expose] public section

set_option maxRecDepth 16384

noncomputable section

namespace Cert.Attn

open Idealize.ShloMosaic Idealize.SL.Sem Cert.KernelIdeal Cert.KernelIdeal.Gen
open scoped BigOperators

section Head
variable (mask : IVec S512x384 1) (v30 : FVec Ideal S128x512 .bf16) (v32 v34 v35 : FVec Ideal S128x128 .bf16) (v37 : FVec Ideal S1x512x1 .f32)
variable (vb : FVec Ideal S384x128 .bf16) (dos : FVec Ideal S512x128 .bf16)
variable (ok : Fin 512 → Fin 384 → Bool) (q : Fin 512 → Fin 128 → ℝ) (k v : Fin 384 → Fin 128 → ℝ) (sk : Fin 512 → ℝ)
  (g : Fin 512 → Fin 128 → ℝ)

/-- The mask's constant is `⊥`. -/
theorem named_mask (b : BitVec 32) : (Named.named (F := Ideal) κ "mask" b : Ideal .f32) = (⊥ : EReal) := rfl

theorem select_ofBool {α : Type} (b : Bool) (x y : α) : Scalar.select (BitVec.ofBool b) x y = if b then x else y := by
  cases b <;> rfl

section Forward
variable (hm : ∀ a j, mask (ix2 a j) = BitVec.ofBool (ok a j))
  (hq : ∀ a d, k0_pay11 (F := Ideal) v30 (ix2 a d) = (q a d : EReal))
  (hk : ∀ j d, k0_pay12 (F := Ideal) v32 v34 v35 (ix2 j d) = (k j d : EReal))
  (hs : ∀ a, k0_pay10 (F := Ideal) v37 (ix2 a 0) = (sk a : EReal))

include hm hq hk in
/-- The scores, `⊥` where the window does not admit the key. -/
theorem pay13_coe (a : Fin 512) (j : Fin 384) :
    k0_pay13 (F := Ideal) mask v30 v32 v34 v35 (ix2 a j) = if ok a j then (score (q a) k j : EReal) else ⊥ := by
  pointwise [k0_pay13]
  rw [hm a j, select_ofBool, named_mask, sc_coe]
  simp only [hq, hk, ← EReal.coe_mul, coe_sum]
  rfl

include hm hq hk hs in
/-- The row's maximum is some real. -/
theorem pay14_coe (a : Fin 512) : ∃ m : ℝ, k0_pay14 (F := Ideal) mask v30 v32 v34 v35 v37 (ix2 a 0) = (m : EReal) := by
  pointwise [k0_pay14]
  rw [hs a]
  refine max_fold_coe _ _ (fun j => ?_) _
  rw [pay13_coe mask v30 v32 v34 v35 ok q k hm hq hk a j]
  split
  · exact EReal.coe_lt_top _
  · exact bot_lt_top

include hm hq hk hs in
/-- The softmax's four values of a row, shifted by the row's maximum. -/
theorem pay15_coe (a : Fin 512) : ∃ m : ℝ,
    (∀ j, k0_pay15 (F := Ideal) mask v30 v32 v34 v35 v37 (ix2 a j) = ((ex (ok a) (q a) k j * Real.exp (-m) : ℝ) : EReal)) ∧
    k0_pay16 (F := Ideal) mask v30 v32 v34 v35 v37 (ix2 a 0) = ((Real.exp (sk a - m) : ℝ) : EReal) ∧
    k0_pay17 (F := Ideal) mask v30 v32 v34 v35 v37 (ix2 a 0) = ((den (ok a) (q a) k (sk a) * Real.exp (-m) : ℝ) : EReal) := by
  obtain ⟨m, hmx⟩ := pay14_coe mask v30 v32 v34 v35 v37 ok q k sk hm hq hk hs a
  have h15 : ∀ j, k0_pay15 (F := Ideal) mask v30 v32 v34 v35 v37 (ix2 a j) = ((ex (ok a) (q a) k j * Real.exp (-m) : ℝ) : EReal) := by
    intro j
    pointwise [k0_pay15]
    rw [hmx, pay13_coe mask v30 v32 v34 v35 ok q k hm hq hk a j, ← ex_shift]
    split
    · rw [← EReal.coe_sub, Ideal.exp_coe]
    · rw [EReal.bot_sub, Ideal.exp_bot]; rfl
  have h16 : k0_pay16 (F := Ideal) mask v30 v32 v34 v35 v37 (ix2 a 0) = ((Real.exp (sk a - m) : ℝ) : EReal) := by
    pointwise [k0_pay16]
    rw [hmx, hs a, ← EReal.coe_sub, Ideal.exp_coe]
  refine ⟨m, h15, h16, ?_⟩
  pointwise [k0_pay17]
  simp only [h15, h16, coe_sum, ← EReal.coe_add, ← den_shift, ← ex_shift]

include hm hq hk hs in
/-- The weights. -/
theorem pay18_coe (a : Fin 512) (j : Fin 384) :
    k0_pay18 (F := Ideal) mask v30 v32 v34 v35 v37 (ix2 a j) = (wt (ok a) (q a) k (sk a) j : EReal) := by
  obtain ⟨m, h15, h16, h17⟩ := pay15_coe mask v30 v32 v34 v35 v37 ok q k sk hm hq hk hs a
  pointwise [k0_pay18]
  rw [h15, h17, div_coe' _ (mul_pos (den_pos _ _ _ _) (Real.exp_pos _)).ne', wt_shift]

include hm hq hk hs in
/-- The sinks' weights. -/
theorem pay19_coe (a : Fin 512) :
    k0_pay19 (F := Ideal) mask v30 v32 v34 v35 v37 (ix2 a 0) = (wsk (ok a) (q a) k (sk a) : EReal) := by
  obtain ⟨m, h15, h16, h17⟩ := pay15_coe mask v30 v32 v34 v35 v37 ok q k sk hm hq hk hs a
  pointwise [k0_pay19]
  rw [h16, h17, div_coe' _ (mul_pos (den_pos _ _ _ _) (Real.exp_pos _)).ne', wsk_shift]
end Forward

section Backward
variable (W : FVec Ideal S512x384 .f32)
  (hw : ∀ a j, W (ix2 a j) = (wt (ok a) (q a) k (sk a) j : EReal))
  (hv : ∀ j d, vb (ix2 j d) = (v j d : EReal)) (hg : ∀ a d, dos (ix2 a d) = (g a d : EReal))

include hw hg in
/-- The gradient of the values. -/
theorem pay22_coe (j : Fin 384) (d : Fin 128) :
    k0_pay22 (F := Ideal) W dos (ix2 j d) = ((∑ a, wt (ok a) (q a) k (sk a) j * g a d : ℝ) : EReal) := by
  pointwise [k0_pay22]
  simp only [hw, hg, ← EReal.coe_mul, coe_sum]

include hv hg in
theorem pay23_coe (a : Fin 512) (j : Fin 384) : k0_pay23 (F := Ideal) vb dos (ix2 a j) = (dwt v (g a) j : EReal) := by
  pointwise [k0_pay23]
  simp only [hv, hg, ← EReal.coe_mul, coe_sum]
  rfl

include hw hv hg in
theorem pay24_coe (a : Fin 512) :
    k0_pay24 (F := Ideal) W vb dos (ix2 a 0) = (dlt (ok a) (q a) k (sk a) v (g a) : EReal) := by
  pointwise [k0_pay24]
  simp only [hw, pay23_coe vb dos v g hv hg, ← EReal.coe_mul, coe_sum]
  rfl

include hw hv hg in
theorem pay25_coe (a : Fin 512) (j : Fin 384) :
    k0_pay25 (F := Ideal) W vb dos (ix2 a j) = (dsc (ok a) (q a) k (sk a) v (g a) j : EReal) := by
  pointwise [k0_pay25]
  rw [hw, pay23_coe vb dos v g hv hg, pay24_coe vb dos ok q k v sk g W hw hv hg, sc_coe, ← EReal.coe_sub, ← EReal.coe_mul,
    ← EReal.coe_mul]
  rfl

include hw hv hg in
/-- The gradient of the queries, as the scores have them. -/
theorem pay26_coe (kb : FVec Ideal S384x128 .bf16) (hkb : ∀ j d, kb (ix2 j d) = (k j d : EReal)) (a : Fin 512) (d : Fin 128) :
    k0_pay26 (F := Ideal) kb W vb dos (ix2 a d) = ((∑ j, dsc (ok a) (q a) k (sk a) v (g a) j * k j d : ℝ) : EReal) := by
  pointwise [k0_pay26]
  simp only [pay25_coe vb dos ok q k v sk g W hw hv hg, hkb, ← EReal.coe_mul, coe_sum]

include hw hv hg in
/-- The gradient of the keys. -/
theorem pay27_coe (qs : FVec Ideal S512x128 .bf16) (hqs : ∀ a d, qs (ix2 a d) = (q a d : EReal)) (j : Fin 384) (d : Fin 128) :
    k0_pay27 (F := Ideal) qs W vb dos (ix2 j d) = ((∑ a, dsc (ok a) (q a) k (sk a) v (g a) j * q a d : ℝ) : EReal) := by
  pointwise [k0_pay27]
  simp only [pay25_coe vb dos ok q k v sk g W hw hv hg, hqs, ← EReal.coe_mul, coe_sum]

theorem neg_one_coe : Ideal.ofBits .f32 0xBF800000#32 = ((-1 : ℝ) : EReal) := by
  simp [Ideal.ofBits, Ideal.ieee]
  rw [← EReal.coe_mul]
  norm_num

end Backward

/-! ## The blocks a step reads and the pieces it stores, element by element -/

/-- The queries of a step's head, the four query heads of the group one under the other. -/
theorem pay11_apply (x : FVec Ideal S128x512 .bf16) (a : Fin 512) (d : Fin 128) :
    k0_pay11 (F := Ideal) x (ix2 a d) = x (ix2 ⟨a.val % 128, by omega⟩ ⟨a.val / 128 * 128 + d.val, by omega⟩) := by
  pointwise [k0_pay11]
  split_ifs <;> congr 3 <;> omega
theorem pay21_apply (x : FVec Ideal S128x512 .bf16) (a : Fin 512) (d : Fin 128) :
    k0_pay21 (F := Ideal) x (ix2 a d) = x (ix2 ⟨a.val % 128, by omega⟩ ⟨a.val / 128 * 128 + d.val, by omega⟩) := by
  pointwise [k0_pay21]
  split_ifs <;> congr 3 <;> omega
/-- The banded keys: three blocks of positions one under the other. -/
theorem pay12_apply (x y z : FVec Ideal S128x128 .bf16) (j : Fin 384) (d : Fin 128) :
    k0_pay12 (F := Ideal) x y z (ix2 j d) =
      if j.val / 128 = 0 then x (ix2 ⟨j.val % 128, by omega⟩ d)
      else if j.val / 128 = 1 then y (ix2 ⟨j.val % 128, by omega⟩ d) else z (ix2 ⟨j.val % 128, by omega⟩ d) := by
  pointwise [k0_pay12]
  by_cases h0 : j.val / 128 = 0
  · have h : j.val < 128 := by omega
    simp only [h0, h, dif_pos, if_pos, Nat.mod_eq_of_lt]
  · by_cases h1 : j.val / 128 = 1
    · have h : ¬j.val < 128 := by omega
      have h' : j.val - 128 < 128 := by omega
      have e : j.val % 128 = j.val - 128 := by omega
      simp only [h0, h1, h, h', e, dif_pos, dif_neg, if_pos, if_neg, not_false_eq_true, one_ne_zero]
    · have h : ¬j.val < 128 := by omega
      have h' : ¬j.val - 128 < 128 := by omega
      have e : j.val % 128 = j.val - 128 - 128 := by omega
      simp only [h0, h1, h, h', e, dif_neg, if_neg, not_false_eq_true]
theorem pay20_apply (x y z : FVec Ideal S128x128 .bf16) (j : Fin 384) (d : Fin 128) :
    k0_pay20 (F := Ideal) x y z (ix2 j d) =
      if j.val / 128 = 0 then x (ix2 ⟨j.val % 128, by omega⟩ d)
      else if j.val / 128 = 1 then y (ix2 ⟨j.val % 128, by omega⟩ d) else z (ix2 ⟨j.val % 128, by omega⟩ d) := by
  pointwise [k0_pay20]
  by_cases h0 : j.val / 128 = 0
  · have h : j.val < 128 := by omega
    simp only [h0, h, dif_pos, if_pos, Nat.mod_eq_of_lt]
  · by_cases h1 : j.val / 128 = 1
    · have h : ¬j.val < 128 := by omega
      have h' : j.val - 128 < 128 := by omega
      have e : j.val % 128 = j.val - 128 := by omega
      simp only [h0, h1, h, h', e, dif_pos, dif_neg, if_pos, if_neg, not_false_eq_true, one_ne_zero]
    · have h : ¬j.val < 128 := by omega
      have h' : ¬j.val - 128 < 128 := by omega
      have e : j.val % 128 = j.val - 128 - 128 := by omega
      simp only [h0, h1, h, h', e, dif_neg, if_neg, not_false_eq_true]
theorem pay10_apply (x : FVec Ideal S1x512x1 .f32) (a : Fin 512) : k0_pay10 (F := Ideal) x (ix2 a 0) = x (ix3 0 a 0) := by
  pointwise [k0_pay10]

/-- Which keys of the band of block `n` a query row admits: those at most 128 positions away that exist. -/
def okN (n : ℕ) (a : Fin 512) (j : Fin 384) : Bool :=
  decide (a.val % 128 ≤ j.val ∧ j.val ≤ a.val % 128 + 256 ∧ 128 ≤ n * 128 + j.val ∧ n * 128 + j.val < 4224)

/-- The position of a band's key, as a word. -/
theorem toInt_pos (n d : ℕ) (hn : n < 32) (hd : d < 384) : (((BitVec.ofNat 32 n - 1#32) * 128#32) + BitVec.ofNat 32 d).toInt = (n * 128 + d : ℤ) - 128 := by
  rw [BitVec.toInt_eq_toNat_bmod]
  have : (((BitVec.ofNat 32 n - 1#32) * 128#32) + BitVec.ofNat 32 d).toNat = (n * 128 + d + (2^32 - 128)) % 2^32 := by
    simp only [BitVec.toNat_add, BitVec.toNat_mul, BitVec.toNat_sub, BitVec.toNat_ofNat]
    omega
  rw [this]
  simp only [Int.bmod]
  split <;> omega
/-- A key's offset from the first position its row admits, less the reach, as a word. -/
theorem toInt_off (a d : ℕ) (ha : a < 512) (hd : d < 384) : ((BitVec.ofNat 32 d - 128#32) - (BitVec.ofNat 32 a &&& 127#32)).toInt = (d : ℤ) - 128 - (a % 128 : ℕ) := by
  have h1 : (BitVec.ofNat 32 a &&& 127#32).toNat = a % 128 := by
    rw [BitVec.toNat_and]
    have := Nat.and_two_pow_sub_one_eq_mod (a % 2^32) 7
    simp only [BitVec.toNat_ofNat]
    norm_num at this ⊢
    rw [this]
  rw [BitVec.toInt_eq_toNat_bmod]
  have : ((BitVec.ofNat 32 d - 128#32) - (BitVec.ofNat 32 a &&& 127#32)).toNat = (d + (2^32 - 128) + (2^32 - a % 128)) % 2^32 := by
    simp only [BitVec.toNat_sub, BitVec.toNat_ofNat, h1]
    omega
  rw [this]
  simp only [Int.bmod]
  split <;> omega
theorem toInt_abs (x : BitVec 32) (z : ℤ) (hx : x.toInt = z) (hz : -1000 < z) : (if x.msb then -x else x).toInt = |z| := by
  rw [BitVec.msb_eq_toInt, hx]
  by_cases h : z < 0
  · rw [if_pos (by simpa using h), abs_of_neg h, BitVec.toInt_neg, hx, Int.bmod]
    split <;> omega
  · rw [if_neg (by simpa using h), abs_of_nonneg (by omega), hx]

theorem words_mask (A B : BitVec 32) :
    IntOp.andi (IntOp.andi (IntOp.cmpi .sle A 128#32) (IntOp.cmpi .sge B 0#32)) (IntOp.cmpi .slt B 4096#32)
      = BitVec.ofBool (decide ((A.toInt ≤ 128 ∧ 0 ≤ B.toInt) ∧ B.toInt < 4096)) := by
  have e : ∀ x y z : Bool, IntOp.andi (IntOp.andi (BitVec.ofBool x) (BitVec.ofBool y)) (BitVec.ofBool z) = BitVec.ofBool (x && y && z) := by decide
  refine (e (A.sle 128#32) ((0#32).sle B) (B.slt 4096#32)).trans (congrArg BitVec.ofBool ?_)
  have e1 : (128#32).toInt = 128 := rfl
  have e2 : (0#32).toInt = 0 := rfl
  have e3 : (4096#32).toInt = 4096 := rfl
  rw [BitVec.sle_eq_decide, BitVec.sle_eq_decide, BitVec.slt_eq_decide, e1, e2, e3, Bool.decide_and, Bool.decide_and]

theorem pay2_apply (i : grid0.Coords) (a : Fin 512) (j : Fin 384) : k0_pay2 i (ix2 a j) = BitVec.ofBool (okN (i 1).val a j) := by
  have hn : (i 1).val < 32 := (i 1).isLt
  pointwise [k0_pay2]
  generalize (i 1).val = n at hn ⊢
  have h1 := toInt_pos n j.val hn j.isLt
  have h2 := toInt_abs _ _ (toInt_off a.val j.val a.isLt j.isLt) (by have := j.isLt; omega)
  have h1' : (IntOp.addi (Scalar.muli (Scalar.subi (BitVec.ofNat 32 n) 1#32) 128#32) (BitVec.ofNat 32 j.val)).toInt = _ := h1
  have h2' : (IntOp.absi (IntOp.subi (IntOp.subi (BitVec.ofNat 32 j.val) 128#32) (IntOp.andi (BitVec.ofNat 32 a.val) 127#32))).toInt = _ := h2
  rw [words_mask, h1', h2']
  refine congrArg BitVec.ofBool (decide_eq_decide.mpr ?_)
  rw [abs_le]
  omega

/-- The inverse of the partial rotary on one row, over a row of the three tables. -/
def unrope (c l h x : Fin 128 → ℝ) (d : Fin 128) : ℝ :=
  x d * c d + -1 * (x ⟨(d.val + 128 - 112) % 128, Nat.mod_lt _ (by norm_num)⟩ * l d + x ⟨(d.val + 128 - 16) % 128, Nat.mod_lt _ (by norm_num)⟩ * h d)

/-- The store of a 128 by 128 piece of the queries' gradient, rotated back. -/
theorem pay32_coe (x : FVec Ideal S128x128 .f32) (v21 v23 v25 : FVec Ideal S128x128 .f32) (r : Fin 128) (xr c l h : Fin 128 → ℝ)
    (hx : ∀ d, x (ix2 r d) = (xr d : EReal)) (hc : ∀ d, v21 (ix2 r d) = (c d : EReal)) (hl : ∀ d, v23 (ix2 r d) = (l d : EReal))
    (hh : ∀ d, v25 (ix2 r d) = (h d : EReal)) (d : Fin 128) :
    k0_pay32 (F := Ideal) v21 v23 v25 x (dynamicRotate 1 112#32 none x rotates_S128x128_d1) 16#32 (ix2 r d) = (unrope c l h xr d : EReal) := by
  pointwise [k0_pay32]
  simp only [hx, hc, hl, hh, neg_one_coe, ← EReal.coe_mul, ← EReal.coe_add]
  rfl

end Head

end Cert.Attn

end
-- ==== Proof.Values.lean ====
module

public import proofs.«01_k».proof.Proof.Vocab
public import proofs.«01_k».proof.Proof.Head
/-! What a step computes, over real blocks. -/

@[expose] public section

set_option maxRecDepth 16384
noncomputable section
namespace Cert.Attn
open Idealize.ShloMosaic Idealize.SL.Sem Idealize.ShloMosaic.Tactic Cert.KernelIdeal Cert.KernelIdeal.Gen

/-! ## A step's values over real blocks -/
/-- A step's blocks as reals: which keys a row admits, and per kv head the group's queries, the banded keys and values, the sinks and
    the incoming gradients; the three tables. -/
structure Blk where
  ok : Fin 512 → Fin 384 → Bool
  q : Fin 4 → Fin 512 → Fin 128 → ℝ
  k : Fin 4 → Fin 384 → Fin 128 → ℝ
  v : Fin 4 → Fin 384 → Fin 128 → ℝ
  s : Fin 4 → Fin 512 → ℝ
  g : Fin 4 → Fin 512 → Fin 128 → ℝ
  c : Fin 128 → Fin 128 → ℝ
  l : Fin 128 → Fin 128 → ℝ
  t : Fin 128 → Fin 128 → ℝ

/-- The step's loads are the real blocks. -/
structure Is (L : Loads) (i : grid0.Coords) (R : Blk) : Prop where
  ok : ∀ a j, k0_pay2 i (ix2 a j) = BitVec.ofBool (R.ok a j)
  q : ∀ h a d, L.qs h (ix2 a d) = (R.q h a d : EReal)
  k : ∀ h j d, L.kb h (ix2 j d) = (R.k h j d : EReal)
  v : ∀ h j d, L.vb h (ix2 j d) = (R.v h j d : EReal)
  s : ∀ h a, k0_pay10 (F := Ideal) (L.s h) (ix2 a 0) = (R.s h a : EReal)
  g : ∀ h a d, L.dos h (ix2 a d) = (R.g h a d : EReal)
  c : ∀ r d, k0_pay3 (F := Ideal) L.ct (ix2 r d) = (R.c r d : EReal)
  l : ∀ r d, k0_pay4 (F := Ideal) L.lt (ix2 r d) = (R.l r d : EReal)
  t : ∀ r d, k0_pay5 (F := Ideal) L.ht (ix2 r d) = (R.t r d : EReal)

namespace Blk
variable (R : Blk)
def wt (h : Fin 4) (a : Fin 512) (j : Fin 384) : ℝ := Attn.wt (R.ok a) (R.q h a) (R.k h) (R.s h a) j
def ds (h : Fin 4) (a : Fin 512) (j : Fin 384) : ℝ := dsc (R.ok a) (R.q h a) (R.k h) (R.s h a) (R.v h) (R.g h a) j
def dq (h : Fin 4) (a : Fin 512) (d : Fin 128) : ℝ := ∑ j, R.ds h a j * R.k h j d
def dk (h : Fin 4) (j : Fin 384) (d : Fin 128) : ℝ := ∑ a, R.ds h a j * R.q h a d
def dv (h : Fin 4) (j : Fin 384) (d : Fin 128) : ℝ := ∑ a, R.wt h a j * R.g h a d
def sg (h : Fin 4) (a : Fin 512) : ℝ :=
  wsk (R.ok a) (R.q h a) (R.k h) (R.s h a) * dlt (R.ok a) (R.q h a) (R.k h) (R.s h a) (R.v h) (R.g h a)
/-- The block of the queries' gradient, rotated back. -/
def dqr (r : Fin 128) (c : Fin 2048) : ℝ :=
  unrope (R.c r) (R.l r) (R.t r) (R.dq ⟨c.val / 512, by omega⟩ ⟨c.val % 512 / 128 * 128 + r.val, by omega⟩) ⟨c.val % 128, by
    omega⟩
/-- The block of the keys' gradient per third of the band. -/
def dkr (j : Fin 3) (r : Fin 128) (c : Fin 512) : ℝ :=
  R.dk ⟨c.val / 128, by omega⟩ ⟨j.val * 128 + r.val, by omega⟩ ⟨c.val % 128, by omega⟩
def dvr (j : Fin 3) (r : Fin 128) (c : Fin 512) : ℝ :=
  R.dv ⟨c.val / 128, by omega⟩ ⟨j.val * 128 + r.val, by omega⟩ ⟨c.val % 128, by omega⟩
end Blk

section Values
variable {L : Loads} {i : grid0.Coords} {R : Blk} (H : Is L i R)
include H
theorem w_coe (h : Fin 4) (a : Fin 512) (j : Fin 384) : L.w i h (ix2 a j) = (R.wt h a j : EReal) :=
  pay18_coe _ _ _ _ _ _ R.ok (R.q h) (R.k h) (R.s h) H.ok (H.q h) (H.k h) (H.s h) a j
theorem ws_coe (h : Fin 4) (a : Fin 512) :
    L.ws i h (ix2 a 0) = (wsk (R.ok a) (R.q h a) (R.k h) (R.s h a) : EReal) :=
  pay19_coe _ _ _ _ _ _ R.ok (R.q h) (R.k h) (R.s h) H.ok (H.q h) (H.k h) (H.s h) a
theorem dv_coe (h : Fin 4) (j : Fin 384) (d : Fin 128) : L.dv i h (ix2 j d) = (R.dv h j d : EReal) :=
  pay22_coe _ R.ok (R.q h) (R.k h) (R.s h) (R.g h) _ (w_coe H h) (H.g h) j d
theorem dl_coe (h : Fin 4) (a : Fin 512) :
    L.dl i h (ix2 a 0) = (dlt (R.ok a) (R.q h a) (R.k h) (R.s h a) (R.v h) (R.g h a) : EReal) :=
  pay24_coe _ _ R.ok (R.q h) (R.k h) (R.v h) (R.s h) (R.g h) _ (w_coe H h) (H.v h) (H.g h) a
theorem dq_coe (h : Fin 4) (a : Fin 512) (d : Fin 128) : L.dq i h (ix2 a d) = (R.dq h a d : EReal) :=
  pay26_coe _ _ R.ok (R.q h) (R.k h) (R.v h) (R.s h) (R.g h) _ (w_coe H h) (H.v h) (H.g h) _ (H.k h) a d
theorem dk_coe (h : Fin 4) (j : Fin 384) (d : Fin 128) : L.dk i h (ix2 j d) = (R.dk h j d : EReal) :=
  pay27_coe _ _ R.ok (R.q h) (R.k h) (R.v h) (R.s h) (R.g h) _ (w_coe H h) (H.v h) (H.g h) _ (H.q h) j d
theorem sg_coe (h : Fin 4) (a : Fin 512) : L.sg i h (ix2 a 0) = (R.sg h a : EReal) := by
  unfold Loads.sg
  pointwise [k0_pay41]
  rw [ws_coe H, dl_coe H, ← EReal.coe_mul]; rfl

theorem pdq0_coe (h : Fin 4) (r d : Fin 128) : pdq0 (k0_pay3 L.ct) (k0_pay4 L.lt) (k0_pay5 L.ht) (L.dq i h) (ix2 r d)
    = (unrope (R.c r) (R.l r) (R.t r) (R.dq h ⟨0 + r.val, by omega⟩) d : EReal) := by
  refine pay32_coe _ _ _ _ r _ _ _ _ (fun d => ?_) (H.c r) (H.l r) (H.t r) d
  pointwise []
  rw [dq_coe H]

theorem pdq1_coe (h : Fin 4) (r d : Fin 128) : pdq1 (k0_pay3 L.ct) (k0_pay4 L.lt) (k0_pay5 L.ht) (L.dq i h) (ix2 r d)
    = (unrope (R.c r) (R.l r) (R.t r) (R.dq h ⟨128 + r.val, by omega⟩) d : EReal) := by
  refine pay32_coe _ _ _ _ r _ _ _ _ (fun d => ?_) (H.c r) (H.l r) (H.t r) d
  pointwise []
  rw [dq_coe H]

theorem pdq2_coe (h : Fin 4) (r d : Fin 128) : pdq2 (k0_pay3 L.ct) (k0_pay4 L.lt) (k0_pay5 L.ht) (L.dq i h) (ix2 r d)
    = (unrope (R.c r) (R.l r) (R.t r) (R.dq h ⟨256 + r.val, by omega⟩) d : EReal) := by
  refine pay32_coe _ _ _ _ r _ _ _ _ (fun d => ?_) (H.c r) (H.l r) (H.t r) d
  pointwise []
  rw [dq_coe H]

theorem pdq3_coe (h : Fin 4) (r d : Fin 128) : pdq3 (k0_pay3 L.ct) (k0_pay4 L.lt) (k0_pay5 L.ht) (L.dq i h) (ix2 r d)
    = (unrope (R.c r) (R.l r) (R.t r) (R.dq h ⟨384 + r.val, by omega⟩) d : EReal) := by
  refine pay32_coe _ _ _ _ r _ _ _ _ (fun d => ?_) (H.c r) (H.l r) (H.t r) d
  pointwise []
  rw [dq_coe H]

omit H in
theorem pdk0_apply (x : FVec Ideal S384x128 .f32) (r d : Fin 128) :
    pdk0 x (ix3 0 r d) = x (ix2 ⟨0 + r.val, by omega⟩ d) := by
  unfold pdk0
  pointwise [k0_pay34]

omit H in
theorem pdk1_apply (x : FVec Ideal S384x128 .f32) (r d : Fin 128) :
    pdk1 x (ix3 0 r d) = x (ix2 ⟨128 + r.val, by omega⟩ d) := by
  unfold pdk1
  pointwise [k0_pay36]

omit H in
theorem pdk2_apply (x : FVec Ideal S384x128 .f32) (r d : Fin 128) :
    pdk2 x (ix3 0 r d) = x (ix2 ⟨256 + r.val, by omega⟩ d) := by
  unfold pdk2
  pointwise [k0_pay39]
end Values
end Cert.Attn
-- ==== Proof.Block.lean ====
module

public import proofs.«01_k».proof.Proof.Values

@[expose] public section

set_option maxRecDepth 16384
noncomputable section
namespace Cert.Attn
open Idealize.ShloMosaic Idealize.SL.Sem Idealize.ShloMosaic.Tactic Cert.KernelIdeal Cert.KernelIdeal.Gen

/-! ## A step's stores -/
theorem cons_piece {s : Shape} {e : EltTy} (r : Rect s) {w w' : r.shape.Idx → Elt Ideal e} {l l' : List (View.Piece (Elt Ideal)
    s e)}
    (h : w = w') (hl : l = l') : ((⟨r, w⟩ :: l : List (View.Piece (Elt Ideal) s e))) = ⟨r, w'⟩ :: l' := by
  subst h hl; rfl
/-- Where a unit-stride rectangle places an index. -/
theorem emb_val {s : Shape} (off size : Fin s.rank → ℕ) (inb) (j : (Rect.unit off size inb).shape.Idx) (a : Fin s.rank) :
    ((Rect.unit off size inb).emb j a).val = off a + (j a).val := by
  show off a + 1 * (j a).val = _
  rw [one_mul]
variable (L : Loads) (i : grid0.Coords)
/-- A step's stores of the queries' gradient, the last first. -/
def dqPieces : List (View.Piece (Elt Ideal) S128x2048 .bf16) :=
   [⟨Rect.unit ![0, 1920] S128x128.size inb_S128x2048_S128x128_0_1920, pdq3 (k0_pay3 L.ct) (k0_pay4 L.lt) (k0_pay5 L.ht) (L.dq i
    3)⟩,
    ⟨Rect.unit ![0, 1792] S128x128.size inb_S128x2048_S128x128_0_1792, pdq2 (k0_pay3 L.ct) (k0_pay4 L.lt) (k0_pay5 L.ht) (L.dq i
    3)⟩,
    ⟨Rect.unit ![0, 1664] S128x128.size inb_S128x2048_S128x128_0_1664, pdq1 (k0_pay3 L.ct) (k0_pay4 L.lt) (k0_pay5 L.ht) (L.dq i
    3)⟩,
    ⟨Rect.unit ![0, 1536] S128x128.size inb_S128x2048_S128x128_0_1536, pdq0 (k0_pay3 L.ct) (k0_pay4 L.lt) (k0_pay5 L.ht) (L.dq i
    3)⟩,
    ⟨Rect.unit ![0, 1408] S128x128.size inb_S128x2048_S128x128_0_1408, pdq3 (k0_pay3 L.ct) (k0_pay4 L.lt) (k0_pay5 L.ht) (L.dq i
    2)⟩,
    ⟨Rect.unit ![0, 1280] S128x128.size inb_S128x2048_S128x128_0_1280, pdq2 (k0_pay3 L.ct) (k0_pay4 L.lt) (k0_pay5 L.ht) (L.dq i
    2)⟩,
    ⟨Rect.unit ![0, 1152] S128x128.size inb_S128x2048_S128x128_0_1152, pdq1 (k0_pay3 L.ct) (k0_pay4 L.lt) (k0_pay5 L.ht) (L.dq i
    2)⟩,
    ⟨Rect.unit ![0, 1024] S128x128.size inb_S128x2048_S128x128_0_1024, pdq0 (k0_pay3 L.ct) (k0_pay4 L.lt) (k0_pay5 L.ht) (L.dq i
    2)⟩,
    ⟨Rect.unit ![0, 896] S128x128.size inb_S128x2048_S128x128_0_896, pdq3 (k0_pay3 L.ct) (k0_pay4 L.lt) (k0_pay5 L.ht) (L.dq i
    1)⟩,
    ⟨Rect.unit ![0, 768] S128x128.size inb_S128x2048_S128x128_0_768, pdq2 (k0_pay3 L.ct) (k0_pay4 L.lt) (k0_pay5 L.ht) (L.dq i
    1)⟩,
    ⟨Rect.unit ![0, 640] S128x128.size inb_S128x2048_S128x128_0_640, pdq1 (k0_pay3 L.ct) (k0_pay4 L.lt) (k0_pay5 L.ht) (L.dq i
    1)⟩,
    ⟨Rect.unit ![0, 512] S128x128.size inb_S128x2048_S128x128_0_512, pdq0 (k0_pay3 L.ct) (k0_pay4 L.lt) (k0_pay5 L.ht) (L.dq i
    1)⟩,
    ⟨Rect.unit ![0, 384] S128x128.size inb_S128x2048_S128x128_0_384, pdq3 (k0_pay3 L.ct) (k0_pay4 L.lt) (k0_pay5 L.ht) (L.dq i
    0)⟩,
    ⟨Rect.unit ![0, 256] S128x128.size inb_S128x2048_S128x128_0_256, pdq2 (k0_pay3 L.ct) (k0_pay4 L.lt) (k0_pay5 L.ht) (L.dq i
    0)⟩,
    ⟨Rect.unit ![0, 128] S128x128.size inb_S128x2048_S128x128_0_128, pdq1 (k0_pay3 L.ct) (k0_pay4 L.lt) (k0_pay5 L.ht) (L.dq i
    0)⟩,
    ⟨Rect.unit ![0, 0] S128x128.size inb_S128x2048_S128x128_0_0, pdq0 (k0_pay3 L.ct) (k0_pay4 L.lt) (k0_pay5 L.ht) (L.dq i 0)⟩]
/-- A step's stores of the keys' gradients. -/
def dkPieces : List (View.Piece (Elt Ideal) S3x128x512 .f32) :=
   [⟨Rect.unit ![2, 0, 384] S1x128x128.size inb_S3x128x512_S1x128x128_2_0_384, pdk2 (L.dk i 3)⟩,
    ⟨Rect.unit ![1, 0, 384] S1x128x128.size inb_S3x128x512_S1x128x128_1_0_384, pdk1 (L.dk i 3)⟩,
    ⟨Rect.unit ![0, 0, 384] S1x128x128.size inb_S3x128x512_S1x128x128_0_0_384, pdk0 (L.dk i 3)⟩,
    ⟨Rect.unit ![2, 0, 256] S1x128x128.size inb_S3x128x512_S1x128x128_2_0_256, pdk2 (L.dk i 2)⟩,
    ⟨Rect.unit ![1, 0, 256] S1x128x128.size inb_S3x128x512_S1x128x128_1_0_256, pdk1 (L.dk i 2)⟩,
    ⟨Rect.unit ![0, 0, 256] S1x128x128.size inb_S3x128x512_S1x128x128_0_0_256, pdk0 (L.dk i 2)⟩,
    ⟨Rect.unit ![2, 0, 128] S1x128x128.size inb_S3x128x512_S1x128x128_2_0_128, pdk2 (L.dk i 1)⟩,
    ⟨Rect.unit ![1, 0, 128] S1x128x128.size inb_S3x128x512_S1x128x128_1_0_128, pdk1 (L.dk i 1)⟩,
    ⟨Rect.unit ![0, 0, 128] S1x128x128.size inb_S3x128x512_S1x128x128_0_0_128, pdk0 (L.dk i 1)⟩,
    ⟨Rect.unit ![2, 0, 0] S1x128x128.size inb_S3x128x512_S1x128x128_2_0_0, pdk2 (L.dk i 0)⟩,
    ⟨Rect.unit ![1, 0, 0] S1x128x128.size inb_S3x128x512_S1x128x128_1_0_0, pdk1 (L.dk i 0)⟩,
    ⟨Rect.unit ![0, 0, 0] S1x128x128.size inb_S3x128x512_S1x128x128_0_0_0, pdk0 (L.dk i 0)⟩]
/-- A step's stores of the values' gradients. -/
def dvPieces : List (View.Piece (Elt Ideal) S3x128x512 .f32) :=
   [⟨Rect.unit ![2, 0, 384] S1x128x128.size inb_S3x128x512_S1x128x128_2_0_384, pdk2 (L.dv i 3)⟩,
    ⟨Rect.unit ![1, 0, 384] S1x128x128.size inb_S3x128x512_S1x128x128_1_0_384, pdk1 (L.dv i 3)⟩,
    ⟨Rect.unit ![0, 0, 384] S1x128x128.size inb_S3x128x512_S1x128x128_0_0_384, pdk0 (L.dv i 3)⟩,
    ⟨Rect.unit ![2, 0, 256] S1x128x128.size inb_S3x128x512_S1x128x128_2_0_256, pdk2 (L.dv i 2)⟩,
    ⟨Rect.unit ![1, 0, 256] S1x128x128.size inb_S3x128x512_S1x128x128_1_0_256, pdk1 (L.dv i 2)⟩,
    ⟨Rect.unit ![0, 0, 256] S1x128x128.size inb_S3x128x512_S1x128x128_0_0_256, pdk0 (L.dv i 2)⟩,
    ⟨Rect.unit ![2, 0, 128] S1x128x128.size inb_S3x128x512_S1x128x128_2_0_128, pdk2 (L.dv i 1)⟩,
    ⟨Rect.unit ![1, 0, 128] S1x128x128.size inb_S3x128x512_S1x128x128_1_0_128, pdk1 (L.dv i 1)⟩,
    ⟨Rect.unit ![0, 0, 128] S1x128x128.size inb_S3x128x512_S1x128x128_0_0_128, pdk0 (L.dv i 1)⟩,
    ⟨Rect.unit ![2, 0, 0] S1x128x128.size inb_S3x128x512_S1x128x128_2_0_0, pdk2 (L.dv i 0)⟩,
    ⟨Rect.unit ![1, 0, 0] S1x128x128.size inb_S3x128x512_S1x128x128_1_0_0, pdk1 (L.dv i 0)⟩,
    ⟨Rect.unit ![0, 0, 0] S1x128x128.size inb_S3x128x512_S1x128x128_0_0_0, pdk0 (L.dv i 0)⟩]

variable {L i} {R : Blk}
omit L i in
theorem dqr_at (h : Fin 4) (o r : Fin 128) (g : ℕ) (hg : g < 4) (d : Fin 128) (a : Fin 512) (y : S128x2048.Idx)
    (hy0 : (y 0).val = r.val) (hy1 : (y 1).val = h.val * 512 + g * 128 + d.val) (ha : a.val = g * 128 + r.val) :
    unrope (R.c r) (R.l r) (R.t r) (R.dq h a) d = R.dqr (y 0) (y 1) := by
  obtain rfl : y 0 = r := Fin.ext hy0
  unfold Blk.dqr
  refine congrArg₂ _ ?_ ?_
  · exact congrArg₂ _ (Fin.ext (by show h.val = (y 1).val / 512; omega))
      (Fin.ext (by show a.val = (y 1).val % 512 / 128 * 128 + (y 0).val; omega))
  · exact Fin.ext (by show d.val = (y 1).val % 128; omega)
omit L i in
theorem dkr_at (h : Fin 4) (m : Fin 384) (d : Fin 128) (y : S3x128x512.Idx)
    (hm : m.val = (y 0).val * 128 + (y 1).val) (hy : (y 2).val = h.val * 128 + d.val) :
    R.dk h m d = R.dkr (y 0) (y 1) (y 2) := by
  unfold Blk.dkr
  congr 1
  · exact Fin.ext (by show h.val = (y 2).val / 128; omega)
  · exact Fin.ext hm
  · exact Fin.ext (by show d.val = (y 2).val % 128; omega)
omit L i in
theorem dvr_at (h : Fin 4) (m : Fin 384) (d : Fin 128) (y : S3x128x512.Idx)
    (hm : m.val = (y 0).val * 128 + (y 1).val) (hy : (y 2).val = h.val * 128 + d.val) :
    R.dv h m d = R.dvr (y 0) (y 1) (y 2) := by
  unfold Blk.dvr
  congr 1
  · exact Fin.ext (by show h.val = (y 2).val / 128; omega)
  · exact Fin.ext hm
  · exact Fin.ext (by show d.val = (y 2).val % 128; omega)

variable (H : Is L i R)
include H
theorem dqPieces_val : ∀ p ∈ dqPieces L i, ∀ x : p.1.shape.Idx,
    p.2 x = (fun y : S128x2048.Idx => ((R.dqr (y 0) (y 1) : ℝ) : EReal)) (p.1.emb x) := by
  intro p hp
  simp only [dqPieces, List.mem_cons, List.not_mem_nil, or_false] at hp
  rcases hp with rfl | rfl | rfl | rfl | rfl | rfl | rfl | rfl | rfl | rfl | rfl | rfl | rfl | rfl | rfl | rfl <;> intro x <;>
    idx_vars x
  · exact (pdq3_coe H 3 x0 x1).trans (congrArg _ (dqr_at 3 x0 x0 3 (by omega) x1 _ _
      (by rw [emb_val]; simp) (by rw [emb_val]; simp) (by simp)))
  · exact (pdq2_coe H 3 x0 x1).trans (congrArg _ (dqr_at 3 x0 x0 2 (by omega) x1 _ _
      (by rw [emb_val]; simp) (by rw [emb_val]; simp) (by simp)))
  · exact (pdq1_coe H 3 x0 x1).trans (congrArg _ (dqr_at 3 x0 x0 1 (by omega) x1 _ _
      (by rw [emb_val]; simp) (by rw [emb_val]; simp) (by simp)))
  · exact (pdq0_coe H 3 x0 x1).trans (congrArg _ (dqr_at 3 x0 x0 0 (by omega) x1 _ _
      (by rw [emb_val]; simp) (by rw [emb_val]; simp) (by simp)))
  · exact (pdq3_coe H 2 x0 x1).trans (congrArg _ (dqr_at 2 x0 x0 3 (by omega) x1 _ _
      (by rw [emb_val]; simp) (by rw [emb_val]; simp) (by simp)))
  · exact (pdq2_coe H 2 x0 x1).trans (congrArg _ (dqr_at 2 x0 x0 2 (by omega) x1 _ _
      (by rw [emb_val]; simp) (by rw [emb_val]; simp) (by simp)))
  · exact (pdq1_coe H 2 x0 x1).trans (congrArg _ (dqr_at 2 x0 x0 1 (by omega) x1 _ _
      (by rw [emb_val]; simp) (by rw [emb_val]; simp) (by simp)))
  · exact (pdq0_coe H 2 x0 x1).trans (congrArg _ (dqr_at 2 x0 x0 0 (by omega) x1 _ _
      (by rw [emb_val]; simp) (by rw [emb_val]; simp) (by simp)))
  · exact (pdq3_coe H 1 x0 x1).trans (congrArg _ (dqr_at 1 x0 x0 3 (by omega) x1 _ _
      (by rw [emb_val]; simp) (by rw [emb_val]; simp) (by simp)))
  · exact (pdq2_coe H 1 x0 x1).trans (congrArg _ (dqr_at 1 x0 x0 2 (by omega) x1 _ _
      (by rw [emb_val]; simp) (by rw [emb_val]; simp) (by simp)))
  · exact (pdq1_coe H 1 x0 x1).trans (congrArg _ (dqr_at 1 x0 x0 1 (by omega) x1 _ _
      (by rw [emb_val]; simp) (by rw [emb_val]; simp) (by simp)))
  · exact (pdq0_coe H 1 x0 x1).trans (congrArg _ (dqr_at 1 x0 x0 0 (by omega) x1 _ _
      (by rw [emb_val]; simp) (by rw [emb_val]; simp) (by simp)))
  · exact (pdq3_coe H 0 x0 x1).trans (congrArg _ (dqr_at 0 x0 x0 3 (by omega) x1 _ _
      (by rw [emb_val]; simp) (by rw [emb_val]; simp) (by simp)))
  · exact (pdq2_coe H 0 x0 x1).trans (congrArg _ (dqr_at 0 x0 x0 2 (by omega) x1 _ _
      (by rw [emb_val]; simp) (by rw [emb_val]; simp) (by simp)))
  · exact (pdq1_coe H 0 x0 x1).trans (congrArg _ (dqr_at 0 x0 x0 1 (by omega) x1 _ _
      (by rw [emb_val]; simp) (by rw [emb_val]; simp) (by simp)))
  · exact (pdq0_coe H 0 x0 x1).trans (congrArg _ (dqr_at 0 x0 x0 0 (by omega) x1 _ _
      (by rw [emb_val]; simp) (by rw [emb_val]; simp) (by simp)))
theorem dkPieces_val : ∀ p ∈ dkPieces L i, ∀ x : p.1.shape.Idx,
    p.2 x = (fun y : S3x128x512.Idx => ((R.dkr (y 0) (y 1) (y 2) : ℝ) : EReal)) (p.1.emb x) := by
  intro p hp
  simp only [dkPieces, List.mem_cons, List.not_mem_nil, or_false] at hp
  rcases hp with rfl | rfl | rfl | rfl | rfl | rfl | rfl | rfl | rfl | rfl | rfl | rfl <;> intro x <;> idx_vars x <;> obtain rfl
    : x0 = 0 := Subsingleton.elim _ _
  · exact ((pdk2_apply _ x1 x2).trans (dk_coe H 3 _ x2)).trans (congrArg _ (dkr_at 3 _ x2 _
      (by rw [emb_val, emb_val]; simp) (by rw [emb_val]; simp)))
  · exact ((pdk1_apply _ x1 x2).trans (dk_coe H 3 _ x2)).trans (congrArg _ (dkr_at 3 _ x2 _
      (by rw [emb_val, emb_val]; simp) (by rw [emb_val]; simp)))
  · exact ((pdk0_apply _ x1 x2).trans (dk_coe H 3 _ x2)).trans (congrArg _ (dkr_at 3 _ x2 _
      (by rw [emb_val, emb_val]; simp) (by rw [emb_val]; simp)))
  · exact ((pdk2_apply _ x1 x2).trans (dk_coe H 2 _ x2)).trans (congrArg _ (dkr_at 2 _ x2 _
      (by rw [emb_val, emb_val]; simp) (by rw [emb_val]; simp)))
  · exact ((pdk1_apply _ x1 x2).trans (dk_coe H 2 _ x2)).trans (congrArg _ (dkr_at 2 _ x2 _
      (by rw [emb_val, emb_val]; simp) (by rw [emb_val]; simp)))
  · exact ((pdk0_apply _ x1 x2).trans (dk_coe H 2 _ x2)).trans (congrArg _ (dkr_at 2 _ x2 _
      (by rw [emb_val, emb_val]; simp) (by rw [emb_val]; simp)))
  · exact ((pdk2_apply _ x1 x2).trans (dk_coe H 1 _ x2)).trans (congrArg _ (dkr_at 1 _ x2 _
      (by rw [emb_val, emb_val]; simp) (by rw [emb_val]; simp)))
  · exact ((pdk1_apply _ x1 x2).trans (dk_coe H 1 _ x2)).trans (congrArg _ (dkr_at 1 _ x2 _
      (by rw [emb_val, emb_val]; simp) (by rw [emb_val]; simp)))
  · exact ((pdk0_apply _ x1 x2).trans (dk_coe H 1 _ x2)).trans (congrArg _ (dkr_at 1 _ x2 _
      (by rw [emb_val, emb_val]; simp) (by rw [emb_val]; simp)))
  · exact ((pdk2_apply _ x1 x2).trans (dk_coe H 0 _ x2)).trans (congrArg _ (dkr_at 0 _ x2 _
      (by rw [emb_val, emb_val]; simp) (by rw [emb_val]; simp)))
  · exact ((pdk1_apply _ x1 x2).trans (dk_coe H 0 _ x2)).trans (congrArg _ (dkr_at 0 _ x2 _
      (by rw [emb_val, emb_val]; simp) (by rw [emb_val]; simp)))
  · exact ((pdk0_apply _ x1 x2).trans (dk_coe H 0 _ x2)).trans (congrArg _ (dkr_at 0 _ x2 _
      (by rw [emb_val, emb_val]; simp) (by rw [emb_val]; simp)))
theorem dvPieces_val : ∀ p ∈ dvPieces L i, ∀ x : p.1.shape.Idx,
    p.2 x = (fun y : S3x128x512.Idx => ((R.dvr (y 0) (y 1) (y 2) : ℝ) : EReal)) (p.1.emb x) := by
  intro p hp
  simp only [dvPieces, List.mem_cons, List.not_mem_nil, or_false] at hp
  rcases hp with rfl | rfl | rfl | rfl | rfl | rfl | rfl | rfl | rfl | rfl | rfl | rfl <;> intro x <;> idx_vars x <;> obtain rfl
    : x0 = 0 := Subsingleton.elim _ _
  · exact ((pdk2_apply _ x1 x2).trans (dv_coe H 3 _ x2)).trans (congrArg _ (dvr_at 3 _ x2 _
      (by rw [emb_val, emb_val]; simp) (by rw [emb_val]; simp)))
  · exact ((pdk1_apply _ x1 x2).trans (dv_coe H 3 _ x2)).trans (congrArg _ (dvr_at 3 _ x2 _
      (by rw [emb_val, emb_val]; simp) (by rw [emb_val]; simp)))
  · exact ((pdk0_apply _ x1 x2).trans (dv_coe H 3 _ x2)).trans (congrArg _ (dvr_at 3 _ x2 _
      (by rw [emb_val, emb_val]; simp) (by rw [emb_val]; simp)))
  · exact ((pdk2_apply _ x1 x2).trans (dv_coe H 2 _ x2)).trans (congrArg _ (dvr_at 2 _ x2 _
      (by rw [emb_val, emb_val]; simp) (by rw [emb_val]; simp)))
  · exact ((pdk1_apply _ x1 x2).trans (dv_coe H 2 _ x2)).trans (congrArg _ (dvr_at 2 _ x2 _
      (by rw [emb_val, emb_val]; simp) (by rw [emb_val]; simp)))
  · exact ((pdk0_apply _ x1 x2).trans (dv_coe H 2 _ x2)).trans (congrArg _ (dvr_at 2 _ x2 _
      (by rw [emb_val, emb_val]; simp) (by rw [emb_val]; simp)))
  · exact ((pdk2_apply _ x1 x2).trans (dv_coe H 1 _ x2)).trans (congrArg _ (dvr_at 1 _ x2 _
      (by rw [emb_val, emb_val]; simp) (by rw [emb_val]; simp)))
  · exact ((pdk1_apply _ x1 x2).trans (dv_coe H 1 _ x2)).trans (congrArg _ (dvr_at 1 _ x2 _
      (by rw [emb_val, emb_val]; simp) (by rw [emb_val]; simp)))
  · exact ((pdk0_apply _ x1 x2).trans (dv_coe H 1 _ x2)).trans (congrArg _ (dvr_at 1 _ x2 _
      (by rw [emb_val, emb_val]; simp) (by rw [emb_val]; simp)))
  · exact ((pdk2_apply _ x1 x2).trans (dv_coe H 0 _ x2)).trans (congrArg _ (dvr_at 0 _ x2 _
      (by rw [emb_val, emb_val]; simp) (by rw [emb_val]; simp)))
  · exact ((pdk1_apply _ x1 x2).trans (dv_coe H 0 _ x2)).trans (congrArg _ (dvr_at 0 _ x2 _
      (by rw [emb_val, emb_val]; simp) (by rw [emb_val]; simp)))
  · exact ((pdk0_apply _ x1 x2).trans (dv_coe H 0 _ x2)).trans (congrArg _ (dvr_at 0 _ x2 _
      (by rw [emb_val, emb_val]; simp) (by rw [emb_val]; simp)))
end Cert.Attn
-- ==== Proof.Inputs.lean ====
module

public import proofs.«01_k».proof.Proof.Block
public import proofs.«01_k».proof.Proof.Gen.KernelIdeal.Frame
public import Idealize.ShloMosaic.Lib.StableHlo.ReadAt
public import Idealize.ShloMosaic.Lib.Pipeline.ValueKit
/-! The step's inputs as reals, and what the launch finds in its operands. -/

@[expose] public section

set_option maxRecDepth 100000
noncomputable section
namespace Cert.Attn
open Idealize.ShloMosaic Idealize.SL.Sem Idealize.ShloMosaic.Tactic Cert.KernelIdeal Cert.KernelIdeal.Gen

/-! ## The rotary angles -/
/-- The frequency of a rotated pair of lanes, … -/
def freq (d : ℕ) : ℝ :=
  (Ideal.ofBits .f32 1223959552#32).toReal.rpow
    (-((Ideal.ofBits .f32 1073741824#32).toReal * ((BitVec.ofNat 32 d).toInt : ℝ)) / (Ideal.ofBits .f32 1107296256#32).toReal)
/-- … and the angle a position turns it by. -/
def ang (t d : ℕ) : ℝ := ((BitVec.ofNat 32 t).toInt : ℝ) * freq d

theorem base_coe : Ideal.ofBits .f32 1223959552#32 = (((Ideal.ofBits .f32 1223959552#32).toReal : ℝ) : EReal) := by
  refine (EReal.coe_toReal ?_ ?_).symm <;> simp [Ideal.ofBits, Ideal.ieee] <;> norm_cast
theorem two_coe : Ideal.ofBits .f32 1073741824#32 = (((Ideal.ofBits .f32 1073741824#32).toReal : ℝ) : EReal) := by
  refine (EReal.coe_toReal ?_ ?_).symm <;> simp [Ideal.ofBits, Ideal.ieee] <;> norm_cast
theorem dim_coe : Ideal.ofBits .f32 1107296256#32 = (((Ideal.ofBits .f32 1107296256#32).toReal : ℝ) : EReal) := by
  refine (EReal.coe_toReal ?_ ?_).symm <;> simp [Ideal.ofBits, Ideal.ieee] <;> norm_cast
theorem dim_ne : (Ideal.ofBits .f32 1107296256#32).toReal ≠ 0 := by
  have : Ideal.ofBits .f32 1107296256#32 = ((32 : ℝ) : EReal) := by
    simp [Ideal.ofBits, Ideal.ieee, -EReal.coe_mul]; norm_num
  rw [this, EReal.toReal_coe]; norm_num

/-- The programs' angles are these. -/
theorem ang_eq (t d : ℕ) :
    (FloatOps.sitofp FTy.f32 (BitVec.ofNat 32 t) : Ideal .f32) * Ideal.pow (Ideal.ofBits FTy.f32 1223959552#32)
      (Ideal.div (-(Ideal.ofBits FTy.f32 1073741824#32 * (FloatOps.sitofp FTy.f32 (BitVec.ofNat 32 d) : Ideal .f32)))
        (Ideal.ofBits FTy.f32 1107296256#32)) = ((ang t d : ℝ) : EReal) := by
  have hs (n : ℕ) : (FloatOps.sitofp FTy.f32 (BitVec.ofNat 32 n) : Ideal .f32) = (((BitVec.ofNat 32 n).toInt : ℝ) : EReal) := rfl
  rw [hs, hs, base_coe, two_coe, dim_coe, ← EReal.coe_mul, ← EReal.coe_neg, div_coe' _ dim_ne, Ideal.pow_coe_coe, ← EReal.coe_mul]
  rfl

/-- A row of a head with its first 32 lanes rotated in pairs. -/
def rot (t : ℕ) (x : ℕ → ℝ) (d : ℕ) : ℝ :=
  if d < 32 then
    if d < 16 then x d * Real.cos (ang t d) - x (16 + d) * Real.sin (ang t d)
    else x d * Real.cos (ang t (d - 16)) + x (d - 16) * Real.sin (ang t (d - 16))
  else x d

/-! ## The inputs -/
/-- The inputs: queries, keys, values, sinks, and the gradient of the attention's result. -/
structure Ins where
  q : ℕ → ℕ → ℝ
  k : ℕ → ℕ → ℝ
  v : ℕ → ℕ → ℝ
  s : ℕ → ℝ
  g : ℕ → ℕ → ℝ

/-- The arguments are these reals. -/
structure Ins.At (I : Ins) (a0 : S4096x2048.Idx → EReal) (a1 a2 : S4096x512.Idx → EReal) (a3 : S16.Idx → EReal)
    (a4 : S4096x2048.Idx → EReal) : Prop where
  q : ∀ t d, a0 (ix2 t d) = ((I.q t.val d.val : ℝ) : EReal)
  k : ∀ t d, a1 (ix2 t d) = ((I.k t.val d.val : ℝ) : EReal)
  v : ∀ t d, a2 (ix2 t d) = ((I.v t.val d.val : ℝ) : EReal)
  s : ∀ d, a3 (ix1 d) = ((I.s d.val : ℝ) : EReal)
  g : ∀ t d, a4 (ix2 t d) = ((I.g t.val d.val : ℝ) : EReal)

namespace Ins
variable (I : Ins)
/-- The rotated queries … -/
def Q (t c : ℕ) : ℝ := rot t (fun d => I.q t (c / 128 * 128 + d)) (c % 128)
/-- … and keys. -/
def K (t c : ℕ) : ℝ := rot t (fun d => I.k t (c / 128 * 128 + d)) (c % 128)
end Ins

/-- The table of cosines … -/
def ctab (t d : ℕ) : ℝ := if d < 16 then Real.cos (ang t d) else if d - 16 < 16 then Real.cos (ang t (d - 16)) else 1
/-- … and those of sines: for the first half of the rotated lanes … -/
def ltab (t d : ℕ) : ℝ := if d < 16 then -Real.sin (ang t d) else 0
/-- … and for the second. -/
def htab (t d : ℕ) : ℝ := if d < 16 then 0 else if d - 16 < 16 then Real.sin (ang t (d - 16)) else 0

/-! ## The launch's operands -/
section Operands
variable (m : (ℓ : Loc nD τ sig) → Buf (Elt Ideal) ℓ) (c : Dev nD)

/-- The arguments in memory are the inputs. -/
def Ins.In (I : Ins) : Prop :=
  I.At (m (c, Proc.tc.devRef main_arg0)) (m (c, Proc.tc.devRef main_arg1)) (m (c, Proc.tc.devRef main_arg2))
    (m (c, Proc.tc.devRef main_arg3)) (m (c, Proc.tc.devRef main_arg4))

variable {m c} {I : Ins} (H : I.In m c)
include H

set_option maxHeartbeats 4000000 in
theorem V57 (t : Fin 4096) (d : Fin 3072) : V m c main_v57 (ix2 t d) =
    ((if d.val < 2048 then I.Q t.val d.val else if d.val - 2048 < 512 then I.K t.val (d.val - 2048)
      else I.v t.val (d.val - 2048 - 512) : ℝ) : EReal) := by
  have hq := H.q
  have hk := H.k
  have hv := H.v
  unfold V
  after_reads_at
  by_cases h1 : d.val < 2048
  · rw [dif_pos h1, if_pos h1]
    after_reads_at
    by_cases h3 : d.val % 128 < 32
    · rw [dif_pos h3]
      after_reads_at
      by_cases h4 : d.val % 128 < 16
      · rw [dif_pos h4]
        iterate 4 (try after_reads_at)
        simp only [hq, ang_eq, Ideal.cos_coe, Ideal.sin_coe, ← EReal.coe_mul, ← EReal.coe_add, ← EReal.coe_sub]
        unfold Ins.Q rot
        rw [if_pos h3, if_pos h4]
      · rw [dif_neg h4]
        iterate 4 (try after_reads_at)
        simp only [hq, ang_eq, Ideal.cos_coe, Ideal.sin_coe, ← EReal.coe_mul, ← EReal.coe_add, ← EReal.coe_sub]
        unfold Ins.Q rot
        rw [if_pos h3, if_neg h4]
        congr <;> omega
    · rw [dif_neg h3]
      iterate 4 (try after_reads_at)
      simp only [hq]
      unfold Ins.Q rot
      rw [if_neg h3]
      congr <;> omega
  · rw [dif_neg h1, if_neg h1]
    by_cases h2 : d.val - 2048 < 512
    · rw [dif_pos h2, if_pos h2]
      after_reads_at
      by_cases h3 : (d.val - 2048) % 128 < 32
      · rw [dif_pos h3]
        after_reads_at
        by_cases h4 : (d.val - 2048) % 128 < 16
        · rw [dif_pos h4]
          iterate 4 (try after_reads_at)
          simp only [hk, ang_eq, Ideal.cos_coe, Ideal.sin_coe, ← EReal.coe_mul, ← EReal.coe_add, ← EReal.coe_sub]
          unfold Ins.K rot
          rw [if_pos h3, if_pos h4]
        · rw [dif_neg h4]
          iterate 4 (try after_reads_at)
          simp only [hk, ang_eq, Ideal.cos_coe, Ideal.sin_coe, ← EReal.coe_mul, ← EReal.coe_add, ← EReal.coe_sub]
          unfold Ins.K rot
          rw [if_pos h3, if_neg h4]
          congr <;> omega
      · rw [dif_neg h3]
        iterate 4 (try after_reads_at)
        simp only [hk]
        unfold Ins.K rot
        rw [if_neg h3]
        congr <;> omega
    · rw [dif_neg h2, if_neg h2]
      after_reads_at
      exact hv _ _

theorem V61 (h : Fin 4) (a : Fin 512) : V m c main_v61 (ix3 h a 0) = ((I.s (h.val * 4 + a.val / 128) : ℝ) : EReal) := by
  have hs := H.s
  entry_read
  pointwise
  exact hs _

theorem V62 (t : Fin 4096) (d : Fin 2048) : V m c main_v62 (ix2 t d) = ((I.g t.val d.val : ℝ) : EReal) := by
  have hg := H.g
  entry_read
  pointwise
  exact hg _ _

omit H in
theorem V84 (t : Fin 4096) (d : Fin 128) : V m c main_v84 (ix2 t d) = ((ctab t.val d.val : ℝ) : EReal) := by
  unfold V
  after_reads_at
  unfold ctab
  by_cases h1 : d.val < 16
  · rw [dif_pos h1, if_pos h1]
    after_reads_at
    all_goals first
      | rfl
      | (simp only [ang_eq, Ideal.cos_coe, Ideal.sin_coe, ← EReal.coe_neg]; done)
      | simp
  · rw [dif_neg h1, if_neg h1]
    by_cases h2 : d.val - 16 < 16
    · rw [dif_pos h2]
      first | rw [if_pos h2] | skip
      after_reads_at
      all_goals first
        | rfl
        | (simp only [ang_eq, Ideal.cos_coe, Ideal.sin_coe, ← EReal.coe_neg]; done)
        | simp
    · rw [dif_neg h2]
      first | rw [if_neg h2] | skip
      after_reads_at
      all_goals first
        | rfl
        | (simp only [ang_eq, Ideal.cos_coe, Ideal.sin_coe, ← EReal.coe_neg]; done)
        | simp

omit H in
theorem V86 (t : Fin 4096) (d : Fin 128) : V m c main_v86 (ix2 t d) = ((ltab t.val d.val : ℝ) : EReal) := by
  unfold V
  after_reads_at
  unfold ltab
  by_cases h1 : d.val < 16
  · rw [dif_pos h1, if_pos h1]
    after_reads_at
    all_goals first
      | rfl
      | (simp only [ang_eq, Ideal.cos_coe, Ideal.sin_coe, ← EReal.coe_neg]; done)
      | simp
  · rw [dif_neg h1, if_neg h1]
    by_cases h2 : d.val - 16 < 16
    · rw [dif_pos h2]
      first | rw [if_pos h2] | skip
      after_reads_at
      all_goals first
        | rfl
        | (simp only [ang_eq, Ideal.cos_coe, Ideal.sin_coe, ← EReal.coe_neg]; done)
        | simp
    · rw [dif_neg h2]
      first | rw [if_neg h2] | skip
      after_reads_at
      all_goals first
        | rfl
        | (simp only [ang_eq, Ideal.cos_coe, Ideal.sin_coe, ← EReal.coe_neg]; done)
        | simp

omit H in
theorem V87 (t : Fin 4096) (d : Fin 128) : V m c main_v87 (ix2 t d) = ((htab t.val d.val : ℝ) : EReal) := by
  unfold V
  after_reads_at
  unfold htab
  by_cases h1 : d.val < 16
  · rw [dif_pos h1, if_pos h1]
    after_reads_at
    all_goals first
      | rfl
      | (simp only [ang_eq, Ideal.cos_coe, Ideal.sin_coe, ← EReal.coe_neg]; done)
      | simp
  · rw [dif_neg h1, if_neg h1]
    by_cases h2 : d.val - 16 < 16
    · rw [dif_pos h2]
      first | rw [if_pos h2] | skip
      after_reads_at
      all_goals first
        | rfl
        | (simp only [ang_eq, Ideal.cos_coe, Ideal.sin_coe, ← EReal.coe_neg]; done)
        | simp
    · rw [dif_neg h2]
      first | rw [if_neg h2] | skip
      after_reads_at
      all_goals first
        | rfl
        | (simp only [ang_eq, Ideal.cos_coe, Ideal.sin_coe, ← EReal.coe_neg]; done)
        | simp

end Operands

end Cert.Attn
-- ==== Proof.Windows.lean ====
module

public import proofs.«01_k».proof.Proof.Inputs
public import Idealize.ShloMosaic.Lib.Pipeline.ValueKit
/-! What the launch's windows hold at a point, and the step's blocks as reals. -/

@[expose] public section

set_option maxRecDepth 16384
noncomputable section
namespace Cert.Attn
open Idealize.ShloMosaic Idealize.SL.Sem Idealize.ShloMosaic.Tactic Cert.KernelIdeal Cert.KernelIdeal.Gen

/-! ## The step's blocks -/
/-- The position the launch's band of block `n` holds at `j`: the neighbours' blocks, the first and the last block standing for
    the ones beyond them. -/
def kpos (n j : ℕ) : ℕ :=
  if j / 128 = 0 then (n - 1) * 128 + j % 128 else if j / 128 = 1 then n * 128 + j % 128 else min (n + 1) 31 * 128 + j % 128

/-- The blocks of the step of block `n`. -/
def Ins.blk (I : Ins) (n : ℕ) : Blk where
  ok := okN n
  q h a d := I.Q (n * 128 + a.val % 128) (h.val * 512 + (a.val / 128 * 128 + d.val))
  k h j d := I.K (kpos n j.val) (h.val * 128 + d.val)
  v h j d := I.v (kpos n j.val) (h.val * 128 + d.val)
  s h a := I.s (h.val * 4 + a.val / 128)
  g h a d := I.g (n * 128 + a.val % 128) (h.val * 512 + (a.val / 128 * 128 + d.val))
  c r d := ctab (n * 128 + r.val) d.val
  l r d := ltab (n * 128 + r.val) d.val
  t r d := htab (n * 128 + r.val) d.val

/-! ## The loads at an index -/
section Loads
theorem rd_apply {s : Shape} {e : EltTy} (m : Memref sig .tc .vmem s e) (hm : m.IsWhole) (x : s.Idx → Elt Ideal e) (off size : Fin s.rank → ℕ)
    (inb) (y : (Rect.unit off size inb).shape.Idx) (z : s.Idx) (hz : ∀ a, (z a).val = off a + (y a).val) :
    View.readAt (Elt Ideal) m.view (Rect.unit off size inb : Rect s).toLoadRect (hm.unread x) y = x z := by
  rw [View.readAt_apply]
  refine (congrFun (hm.read_unread x) _).trans (congrArg x (funext fun a => Fin.ext ?_))
  exact (emb_val off size inb y a).trans (hz a).symm

theorem rdq_apply (m : Memref sig .tc .vmem S128x2048 .bf16) (hm : m.IsWhole) (x : FVec Ideal S128x2048 .bf16) (h : Fin 4) (r : Fin 128)
    (d : Fin 512) : rdq m hm x h (ix2 r d) = x (ix2 r ⟨h.val * 512 + d.val, by omega⟩) := by
  fin_cases h
  all_goals
    refine rd_apply m hm x _ _ _ _ _ fun a => ?_
    fin_cases a <;> simp [ix2]
theorem rdk_apply (m : Memref sig .tc .vmem S128x512 .bf16) (hm : m.IsWhole) (x : FVec Ideal S128x512 .bf16) (h : Fin 4) (r : Fin 128)
    (d : Fin 128) : rdk m hm x h (ix2 r d) = x (ix2 r ⟨h.val * 128 + d.val, by omega⟩) := by
  fin_cases h
  all_goals
    refine rd_apply m hm x _ _ _ _ _ fun a => ?_
    fin_cases a <;> simp [ix2]
theorem rds_apply (m : Memref sig .tc .vmem S4x512x1 .f32) (hm : m.IsWhole) (x : FVec Ideal S4x512x1 .f32) (h : Fin 4) (a : Fin 512) :
    rds m hm x h (ix3 0 a 0) = x (ix3 h a 0) := by
  fin_cases h
  all_goals
    refine rd_apply m hm x _ _ _ _ _ fun a => ?_
    fin_cases a <;> simp [ix3]
theorem rdt_apply (m : Memref sig .tc .vmem S128x128 .f32) (hm : m.IsWhole) (x : FVec Ideal S128x128 .f32) (r d : Fin 128) :
    rdt m hm x (ix2 r d) = x (ix2 r d) := by
  refine rd_apply m hm x _ _ _ _ _ fun a => ?_
  fin_cases a <;> simp [ix2]
end Loads

/-! ## The windows -/
section Windows
variable (m : (ℓ : Loc nD τ sig) → Buf (Elt Ideal) ℓ) (c : Dev nD)

/-- A point's block number is its own. -/
theorem coord_val : ∀ t : Fin cfg0.N, (cfg0.grid.coords t 1).val = t.val := by decide +kernel
theorem idx0 : ∀ t : Fin cfg0.N, win0_0.index t 0 = t.val ∧ win0_0.index t 1 = 0 := by decide +kernel
theorem idx7 : ∀ t : Fin cfg0.N, win0_7.index t 0 = 0 ∧ win0_7.index t 1 = 0 ∧ win0_7.index t 2 = 0 := by decide +kernel
theorem idx1 : ∀ t : Fin cfg0.N, win0_1.index t 0 = t.val - 1 ∧ win0_1.index t 1 = 4 := by decide +kernel
theorem idx2 : ∀ t : Fin cfg0.N, win0_2.index t 0 = t.val ∧ win0_2.index t 1 = 4 := by decide +kernel
theorem idx3 : ∀ t : Fin cfg0.N, win0_3.index t 0 = min (t.val + 1) 31 ∧ win0_3.index t 1 = 4 := by decide +kernel
theorem idx4 : ∀ t : Fin cfg0.N, win0_4.index t 0 = t.val - 1 ∧ win0_4.index t 1 = 5 := by decide +kernel
theorem idx5 : ∀ t : Fin cfg0.N, win0_5.index t 0 = t.val ∧ win0_5.index t 1 = 5 := by decide +kernel
theorem idx6 : ∀ t : Fin cfg0.N, win0_6.index t 0 = min (t.val + 1) 31 ∧ win0_6.index t 1 = 5 := by decide +kernel
theorem idx8 : ∀ t : Fin cfg0.N, win0_8.index t 0 = t.val ∧ win0_8.index t 1 = 0 := by decide +kernel
theorem idx9 : ∀ t : Fin cfg0.N, win0_9.index t 0 = t.val ∧ win0_9.index t 1 = 0 := by decide +kernel
theorem idx10 : ∀ t : Fin cfg0.N, win0_10.index t 0 = t.val ∧ win0_10.index t 1 = 0 := by decide +kernel
theorem idx11 : ∀ t : Fin cfg0.N, win0_11.index t 0 = t.val ∧ win0_11.index t 1 = 0 := by decide +kernel

theorem b0 (t : Fin cfg0.N) (j : Fin 128) (d : Fin 2048) : X0_0 m c t (ix2 j d) = V m c main_v57
    (ix2 ⟨t.val * 128 + j.val, by have : t.val < 32 := t.isLt; omega⟩ ⟨d.val, by omega⟩) := by
  have h := idx0 t
  unfold X0_0 Pipeline.Window.fill
  rw [dif_pos (moved0_0 t _)]
  blk_ext [iblk, idx0 t]
theorem b7 (t : Fin cfg0.N) (h : Fin 4) (a : Fin 512) : iblk m c 7 t (ix3 h a 0) = V m c main_v61 (ix3 h a 0) := by
  blk_ext [iblk, idx7 t]
theorem b8 (t : Fin cfg0.N) (j : Fin 128) (d : Fin 2048) : iblk m c 8 t (ix2 j d) = V m c main_v62
    (ix2 ⟨t.val * 128 + j.val, by have : t.val < 32 := t.isLt; omega⟩ d) := by
  have h := idx8 t
  blk_ext [iblk, idx8 t]
theorem b1 (t : Fin cfg0.N) (j : Fin 128) (d : Fin 512) : iblk m c 1 t (ix2 j d) = V m c main_v57
    (ix2 ⟨(t.val - 1) * 128 + j.val, by have : t.val < 32 := t.isLt; omega⟩ ⟨2048 + d.val, by omega⟩) := by
  have h := idx1 t
  blk_ext [iblk, idx1 t]
theorem b2 (t : Fin cfg0.N) (j : Fin 128) (d : Fin 512) : iblk m c 2 t (ix2 j d) = V m c main_v57
    (ix2 ⟨(t.val) * 128 + j.val, by have : t.val < 32 := t.isLt; omega⟩ ⟨2048 + d.val, by omega⟩) := by
  have h := idx2 t
  blk_ext [iblk, idx2 t]
theorem b3 (t : Fin cfg0.N) (j : Fin 128) (d : Fin 512) : iblk m c 3 t (ix2 j d) = V m c main_v57
    (ix2 ⟨(min (t.val + 1) 31) * 128 + j.val, by have : t.val < 32 := t.isLt; omega⟩ ⟨2048 + d.val, by omega⟩) := by
  have h := idx3 t
  blk_ext [iblk, idx3 t]
theorem b4 (t : Fin cfg0.N) (j : Fin 128) (d : Fin 512) : iblk m c 4 t (ix2 j d) = V m c main_v57
    (ix2 ⟨(t.val - 1) * 128 + j.val, by have : t.val < 32 := t.isLt; omega⟩ ⟨2560 + d.val, by omega⟩) := by
  have h := idx4 t
  blk_ext [iblk, idx4 t]
theorem b5 (t : Fin cfg0.N) (j : Fin 128) (d : Fin 512) : iblk m c 5 t (ix2 j d) = V m c main_v57
    (ix2 ⟨(t.val) * 128 + j.val, by have : t.val < 32 := t.isLt; omega⟩ ⟨2560 + d.val, by omega⟩) := by
  have h := idx5 t
  blk_ext [iblk, idx5 t]
theorem b6 (t : Fin cfg0.N) (j : Fin 128) (d : Fin 512) : iblk m c 6 t (ix2 j d) = V m c main_v57
    (ix2 ⟨(min (t.val + 1) 31) * 128 + j.val, by have : t.val < 32 := t.isLt; omega⟩ ⟨2560 + d.val, by omega⟩) := by
  have h := idx6 t
  blk_ext [iblk, idx6 t]
theorem b9 (t : Fin cfg0.N) (j d : Fin 128) : iblk m c 9 t (ix2 j d) = V m c main_v84
    (ix2 ⟨t.val * 128 + j.val, by have : t.val < 32 := t.isLt; omega⟩ d) := by
  have h := idx9 t
  blk_ext [iblk, idx9 t]
theorem b10 (t : Fin cfg0.N) (j d : Fin 128) : iblk m c 10 t (ix2 j d) = V m c main_v86
    (ix2 ⟨t.val * 128 + j.val, by have : t.val < 32 := t.isLt; omega⟩ d) := by
  have h := idx10 t
  blk_ext [iblk, idx10 t]
theorem b11 (t : Fin cfg0.N) (j d : Fin 128) : iblk m c 11 t (ix2 j d) = V m c main_v87
    (ix2 ⟨t.val * 128 + j.val, by have : t.val < 32 := t.isLt; omega⟩ d) := by
  have h := idx11 t
  blk_ext [iblk, idx11 t]

variable {m c} {I : Ins} (H : I.In m c)
include H

/-- The step's loads at a point are its blocks. -/
theorem is_blk (t : Fin cfg0.N) :
    Is (loads (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t)
      (hs0_10 t) (ms0_11 t) (hs0_11 t) (X0_0 m c t) (iblk m c 1 t) (iblk m c 2 t) (iblk m c 3 t) (iblk m c 4 t)
      (iblk m c 5 t) (iblk m c 6 t) (iblk m c 7 t) (iblk m c 8 t) (iblk m c 9 t) (iblk m c 10 t) (iblk m c 11 t))
      (cfg0.grid.coords t) (I.blk t.val) where
  ok a j := by
    rw [pay2_apply]
    exact congrArg (fun n => BitVec.ofBool (okN n a j)) (coord_val t)
  q h a d := by
    refine (pay11_apply _ a d).trans ?_
    pointwise [k0_pay7]
    refine (rdq_apply _ _ _ h _ _).trans ((b0 m c t _ _).trans ((V57 H _ _).trans ?_))
    rw [if_pos (by show h.val * 512 + (a.val / 128 * 128 + d.val) < 2048; omega)]
    rfl
  k h j d := by
    refine (pay12_apply _ _ _ j d).trans ?_
    have e (x : ℕ) : 2048 + x - 2048 = x := by omega
    show _ = ((I.K (kpos t.val j.val) (h.val * 128 + d.val) : ℝ) : EReal)
    unfold kpos
    split_ifs
    · pointwise [k0_pay8]
      refine (rdk_apply _ _ _ h _ _).trans ((b1 m c t _ _).trans ((V57 H _ _).trans ?_))
      dsimp only
      rw [e, if_neg (by omega), if_pos (by omega)]
    · pointwise [k0_pay9]
      refine (rdk_apply _ _ _ h _ _).trans ((b2 m c t _ _).trans ((V57 H _ _).trans ?_))
      dsimp only
      rw [e, if_neg (by omega), if_pos (by omega)]
    · refine (rdk_apply _ _ _ h _ _).trans ((b3 m c t _ _).trans ((V57 H _ _).trans ?_))
      dsimp only
      rw [e, if_neg (by omega), if_pos (by omega)]
  v h j d := by
    refine (pay20_apply _ _ _ j d).trans ?_
    have e (x : ℕ) : 2560 + x - 2048 - 512 = x := by omega
    show _ = ((I.v (kpos t.val j.val) (h.val * 128 + d.val) : ℝ) : EReal)
    unfold kpos
    split_ifs
    · refine (rdk_apply _ _ _ h _ _).trans ((b4 m c t _ _).trans ((V57 H _ _).trans ?_))
      dsimp only
      rw [e, if_neg (by omega), if_neg (by omega)]
    · refine (rdk_apply _ _ _ h _ _).trans ((b5 m c t _ _).trans ((V57 H _ _).trans ?_))
      dsimp only
      rw [e, if_neg (by omega), if_neg (by omega)]
    · refine (rdk_apply _ _ _ h _ _).trans ((b6 m c t _ _).trans ((V57 H _ _).trans ?_))
      dsimp only
      rw [e, if_neg (by omega), if_neg (by omega)]
  s h a := by
    refine (pay10_apply _ a).trans ?_
    exact (rds_apply _ _ _ h a).trans ((b7 m c t h a).trans (V61 H h a))
  g h a d := by
    refine (pay21_apply _ a d).trans ?_
    exact (rdq_apply _ _ _ h _ _).trans ((b8 m c t _ _).trans (V62 H _ _))
  c r d := by
    pointwise [k0_pay3]
    exact (rdt_apply _ _ _ r d).trans ((b9 m c t r d).trans (V84 _ _))
  l r d := by
    pointwise [k0_pay4]
    exact (rdt_apply _ _ _ r d).trans ((b10 m c t r d).trans (V86 _ _))
  t r d := by
    pointwise [k0_pay5]
    exact (rdt_apply _ _ _ r d).trans ((b11 m c t r d).trans (V87 _ _))
end Windows
end Cert.Attn
-- ==== Proof.RefBand.lean ====
module

public import proofs.«01_k».proof.Proof.Windows
public import proofs.«01_k».proof.Proof.Gen.ReferenceIdeal.Read
public import Idealize.ShloMosaic.Lib.Pointwise
/-! The reference's rotated queries and keys, its bands of keys and values, its scores and its mask. -/

@[expose] public section

set_option maxRecDepth 100000
noncomputable section
namespace Cert.Attn
open Idealize.ShloMosaic Idealize.SL.Sem Idealize.ShloMosaic.Tactic Cert.ReferenceIdeal Cert.ReferenceIdeal.Gen Cert.ReferenceIdeal.Read

/-- The blocks of the reference: the keys and values that are no positions are zeros. -/
def Ins.rblk (I : Ins) (n : ℕ) : Blk :=
  { I.blk n with
    k := fun h j d => if 128 ≤ n * 128 + j.val ∧ n * 128 + j.val < 4224 then I.K (n * 128 + j.val - 128) (h.val * 128 + d.val) else 0
    v := fun h j d => if 128 ≤ n * 128 + j.val ∧ n * 128 + j.val < 4224 then I.v (n * 128 + j.val - 128) (h.val * 128 + d.val) else 0 }

/-- A query row of a block: row `r` under query head `g` of its group. -/
def row (g : Fin 4) (r : Fin 128) : Fin 512 := ⟨g.val * 128 + r.val, by omega⟩

theorem zero_f32 : Ideal.ofBits .f32 0#32 = ((0 : ℝ) : EReal) := by simp [Ideal.ofBits, Ideal.ieee]

theorem rot_lo {t : ℕ} {x : ℕ → ℝ} {d : ℕ} (h : d < 16) : rot t x d = x d * Real.cos (ang t d) - x (16 + d) * Real.sin (ang t d) := by
  unfold rot; rw [if_pos (by omega), if_pos h]
theorem rot_mid {t : ℕ} {x : ℕ → ℝ} {d : ℕ} (h : d < 32) (h' : ¬d < 16) :
    rot t x d = x d * Real.cos (ang t (d - 16)) + x (d - 16) * Real.sin (ang t (d - 16)) := by
  unfold rot; rw [if_pos h, if_neg h']
theorem rot_hi {t : ℕ} {x : ℕ → ℝ} {d : ℕ} (h : ¬d < 32) : rot t x d = x d := if_neg h

theorem v17_coe (t : Fin 4096) (d : Fin 16) : val_main_v17 (F := Ideal) (ix4 0 t 0 d) = ((Real.cos (ang t.val d.val) : ℝ) : EReal) := by
  pointwise [val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst,
    val_main_cst_0, val_main_cst_1, val_main_cst_2]
  simp only [ang_eq, Ideal.cos_coe]
theorem v19_coe (t : Fin 4096) (d : Fin 16) : val_main_v19 (F := Ideal) (ix4 0 t 0 d) = ((Real.sin (ang t.val d.val) : ℝ) : EReal) := by
  pointwise [val_main_v19, val_main_v18, val_main_v15, val_main_v14, val_main_v13, val_main_v12, val_main_v11, val_main_v10, val_main_v9,
    val_main_v8, val_main_v7, val_main_v6, val_main_v5, val_main_v4, val_main_v3, val_main_v2, val_main_v1, val_main_v0, val_main_cst,
    val_main_cst_0, val_main_cst_1, val_main_cst_2]
  simp only [ang_eq, Ideal.sin_coe]

section
variable {x0 x4 : S4096x2048.Idx → EReal} {x1 x2 : S4096x512.Idx → EReal} {x3 : S16.Idx → EReal} {I : Ins} (H : I.At x0 x1 x2 x3 x4)
include H

theorem v36_coe (t : Fin 4096) (h : Fin 4) (d : Fin 128) : val_main_v36 (F := Ideal) x1 (ix4 0 t h d) = ((I.K t.val (h.val * 128 + d.val) : ℝ) : EReal) := by
  have hk := H.k
  have e1 : (h.val * 128 + d.val) / 128 = h.val := by omega
  have e2 : (h.val * 128 + d.val) % 128 = d.val := by omega
  pointwise [val_main_v36, val_main_v35, val_main_v34, val_main_v33, val_main_v32, val_main_v31, val_main_v30, val_main_v29, val_main_v28,
    val_main_v27, val_main_v26, val_main_v25, val_main_v24, val_main_v23, val_main_v22, val_main_v21, val_main_v20]
  unfold Ins.K
  rw [e1, e2]
  by_cases h1 : d.val < 32
  · by_cases h2 : d.val < 16
    · refine (dif_pos h1).trans ((dif_pos h2).trans ((congrArg₂ (· - ·) (congrArg₂ (· * ·) (hk _ _) (v17_coe _ _)) (congrArg₂ (· * ·) (hk _ _) (v19_coe _ _))).trans ?_))
      dsimp only
      rw [rot_lo h2, EReal.coe_sub, EReal.coe_mul, EReal.coe_mul]
    · refine (dif_pos h1).trans ((dif_neg h2).trans ((congrArg₂ (· + ·) (congrArg₂ (· * ·) (hk _ _) (v17_coe _ _)) (congrArg₂ (· * ·) (hk _ _) (v19_coe _ _))).trans ?_))
      dsimp only
      rw [rot_mid h1 h2, EReal.coe_add, EReal.coe_mul, EReal.coe_mul, show 16 + (d.val - 16) = d.val by omega]
  · refine (dif_neg h1).trans ((hk _ _).trans ?_)
    dsimp only
    rw [rot_hi h1, show 32 + (d.val - 32) = d.val by omega]

theorem v68_coe (t : Fin 4096) (h : Fin 16) (d : Fin 128) : val_main_v68 (F := Ideal) x0 (ix4 0 t h d) = ((I.Q t.val (h.val * 128 + d.val) : ℝ) : EReal) := by
  have hq := H.q
  have e1 : (h.val * 128 + d.val) / 128 = h.val := by omega
  have e2 : (h.val * 128 + d.val) % 128 = d.val := by omega
  pointwise [val_main_v68, val_main_v67, val_main_v66, val_main_v65, val_main_v64, val_main_v63, val_main_v62, val_main_v61, val_main_v60,
    val_main_v59, val_main_v58, val_main_v57, val_main_v56, val_main_v55, val_main_v54, val_main_v53, val_main_v52]
  unfold Ins.Q
  rw [e1, e2]
  by_cases h1 : d.val < 32
  · by_cases h2 : d.val < 16
    · refine (dif_pos h1).trans ((dif_pos h2).trans ((congrArg₂ (· - ·) (congrArg₂ (· * ·) (hq _ _) (v17_coe _ _)) (congrArg₂ (· * ·) (hq _ _) (v19_coe _ _))).trans ?_))
      dsimp only
      rw [rot_lo h2, EReal.coe_sub, EReal.coe_mul, EReal.coe_mul]
    · refine (dif_pos h1).trans ((dif_neg h2).trans ((congrArg₂ (· + ·) (congrArg₂ (· * ·) (hq _ _) (v17_coe _ _)) (congrArg₂ (· * ·) (hq _ _) (v19_coe _ _))).trans ?_))
      dsimp only
      rw [rot_mid h1 h2, EReal.coe_add, EReal.coe_mul, EReal.coe_mul, show 16 + (d.val - 16) = d.val by omega]
  · refine (dif_neg h1).trans ((hq _ _).trans ?_)
    dsimp only
    rw [rot_hi h1, show 32 + (d.val - 32) = d.val by omega]

theorem v43_coe (n : Fin 32) (j : Fin 384) (h : Fin 4) (d : Fin 128) : val_main_v43 (F := Ideal) x1 (ix5 0 n j h d) = (((I.rblk n.val).k h j d : ℝ) : EReal) := by
  have hk := v36_coe H
  have hj := j.isLt
  have hn := n.isLt
  unfold val_main_v43 val_main_v42 val_main_v41 val_main_v40 val_main_v39 val_main_v38
  generalize val_main_v36 (F := Ideal) x1 = y at hk
  pointwise [val_main_v37, val_main_cst_3]
  simp only [hk]
  unfold Ins.rblk
  dsimp only
  by_cases h0 : 128 ≤ n.val * 128 + j.val ∧ n.val * 128 + j.val < 4224 <;> [rw [if_pos h0]; rw [if_neg h0]] <;> split_ifs <;> first
    | exact EReal.coe_zero.symm
    | (exfalso; omega)
    | exact congrArg (fun z => ((I.K z (h.val * 128 + d.val) : ℝ) : EReal)) (by omega)
theorem v51_coe (n : Fin 32) (j : Fin 384) (h : Fin 4) (d : Fin 128) : val_main_v51 (F := Ideal) x2 (ix5 0 n j h d) = (((I.rblk n.val).v h j d : ℝ) : EReal) := by
  have hv := H.v
  have hj := j.isLt
  have hn := n.isLt
  unfold val_main_v51 val_main_v50 val_main_v49 val_main_v48 val_main_v47 val_main_v46
  pointwise [val_main_v44, val_main_v45, val_main_cst_4]
  simp only [hv]
  unfold Ins.rblk
  dsimp only
  by_cases h0 : 128 ≤ n.val * 128 + j.val ∧ n.val * 128 + j.val < 4224 <;> [rw [if_pos h0]; rw [if_neg h0]] <;> split_ifs <;> first
    | exact EReal.coe_zero.symm
    | (exfalso; omega)
    | exact congrArg (fun z => ((I.v z (h.val * 128 + d.val) : ℝ) : EReal)) (by omega)

theorem v69_coe (n : Fin 32) (r : Fin 128) (h g : Fin 4) (d : Fin 128) :
    val_main_v69 (F := Ideal) x0 (ix6 0 n r h g d) = (((I.rblk n.val).q h (row g r) d : ℝ) : EReal) := by
  have hq := v68_coe H
  unfold val_main_v69
  generalize val_main_v68 (F := Ideal) x0 = y at hq
  pointwise []
  refine (hq _ _ _).trans ?_
  unfold Ins.rblk Ins.blk row
  dsimp only
  congr 2 <;> omega

/-- The scaled scores. -/
theorem v73_coe (n : Fin 32) (h g : Fin 4) (r : Fin 128) (j : Fin 384) : val_main_v73 (F := Ideal) x0 x1 (ix6 0 n h g r j) =
    ((score ((I.rblk n.val).q h (row g r)) ((I.rblk n.val).k h) j : ℝ) : EReal) := by
  have hq := v69_coe H
  have hk := v43_coe H
  unfold val_main_v73 val_main_v72 val_main_v71 val_main_v70
  generalize val_main_v69 (F := Ideal) x0 = y at hq
  generalize val_main_v43 (F := Ideal) x1 = z at hk
  pointwise [val_main_cst_5]
  simp only [hq, hk, sc_coe, ← EReal.coe_mul, coe_sum]
  unfold score
  simp only [mul_comm]
end

/-- The position of a band's key, as a word. -/
theorem toInt_kpos (n d : ℕ) (hn : n < 32) (hd : d < 384) : ((BitVec.ofNat 32 n * 128#32 - 128#32) + BitVec.ofNat 32 d).toInt = (n * 128 + d : ℤ) - 128 := by
  rw [BitVec.toInt_eq_toNat_bmod]
  have : ((BitVec.ofNat 32 n * 128#32 - 128#32) + BitVec.ofNat 32 d).toNat = (n * 128 + d + (2^32 - 128)) % 2^32 := by
    simp only [BitVec.toNat_add, BitVec.toNat_mul, BitVec.toNat_sub, BitVec.toNat_ofNat]
    omega
  rw [this]
  simp only [Int.bmod]
  split <;> omega
/-- A key's distance from its query, as a word. -/
theorem toInt_dist (n d r : ℕ) (hn : n < 32) (hd : d < 384) (hr : r < 128) :
    (((BitVec.ofNat 32 n * 128#32 - 128#32) + BitVec.ofNat 32 d) - (BitVec.ofNat 32 n * 128#32 + BitVec.ofNat 32 r)).toInt = (d : ℤ) - 128 - r := by
  rw [BitVec.toInt_eq_toNat_bmod]
  have : (((BitVec.ofNat 32 n * 128#32 - 128#32) + BitVec.ofNat 32 d) - (BitVec.ofNat 32 n * 128#32 + BitVec.ofNat 32 r)).toNat
      = (d + (2^32 - 128) + (2^32 - r)) % 2^32 := by
    simp only [BitVec.toNat_add, BitVec.toNat_mul, BitVec.toNat_sub, BitVec.toNat_ofNat]
    omega
  rw [this]
  simp only [Int.bmod]
  split <;> omega

theorem words_valid (A B : BitVec 32) :
    IntOp.andi (IntOp.andi (IntOp.cmpi .sge B 0#32) (IntOp.cmpi .slt B 4096#32)) (IntOp.cmpi .sle A 128#32)
      = BitVec.ofBool (decide ((0 ≤ B.toInt ∧ B.toInt < 4096) ∧ A.toInt ≤ 128)) := by
  have e : ∀ x y z : Bool, IntOp.andi (IntOp.andi (BitVec.ofBool x) (BitVec.ofBool y)) (BitVec.ofBool z) = BitVec.ofBool (x && y && z) := by decide
  refine (e ((0#32).sle B) (B.slt 4096#32) (A.sle 128#32)).trans (congrArg BitVec.ofBool ?_)
  have e1 : (128#32).toInt = 128 := rfl
  have e2 : (0#32).toInt = 0 := rfl
  have e3 : (4096#32).toInt = 4096 := rfl
  rw [BitVec.sle_eq_decide, BitVec.sle_eq_decide, BitVec.slt_eq_decide, e1, e2, e3, Bool.decide_and, Bool.decide_and]

/-- The mask. -/
theorem v109_apply (n : Fin 32) (g : Fin 4) (r : Fin 128) (j : Fin 384) :
    val_main_v109 (F := Ideal) (ix3 n r j) = BitVec.ofBool (okN n.val (row g r) j) := by
  pointwise [val_main_v109, val_main_v108, val_main_v107, val_main_v106, val_main_v105, val_main_v104, val_main_v103, val_main_v102, val_main_v101,
   val_main_v100, val_main_v99, val_main_v98, val_main_v97, val_main_v96, val_main_v95, val_main_v94, val_main_v93, val_main_v92, val_main_v91,
   val_main_v90, val_main_v89, val_main_v88, val_main_v87, val_main_v86, val_main_v85, val_main_v84, val_main_v83, val_main_v82, val_main_v81,
   val_main_v80, val_main_v79, val_main_v78, val_main_v77, val_main_v76, val_main_v75, val_main_v74, val_main_c, val_main_c_6, val_main_c_7, val_main_c_8, val_main_c_9, val_main_c_10]
  have h1 := toInt_kpos n.val j.val n.isLt j.isLt
  have h2 := toInt_abs _ _ (toInt_dist n.val j.val r.val n.isLt j.isLt r.isLt) (by have := j.isLt; have := r.isLt; omega)
  have h1' : (IntOp.addi (IntOp.subi (IntOp.muli (BitVec.ofNat 32 n.val) 128#32) 128#32) (BitVec.ofNat 32 j.val)).toInt = _ := h1
  have h2' : (IntOp.absi (IntOp.subi (IntOp.addi (IntOp.subi (IntOp.muli (BitVec.ofNat 32 n.val) 128#32) 128#32) (BitVec.ofNat 32 j.val))
      (IntOp.addi (IntOp.muli (BitVec.ofNat 32 n.val) 128#32) (BitVec.ofNat 32 r.val)))).toInt = _ := h2
  rw [words_valid, h1', h2']
  refine congrArg BitVec.ofBool (decide_eq_decide.mpr ?_)
  have e : (row g r).val % 128 = r.val := by unfold row; dsimp only; omega
  rw [abs_le, e]
  omega

theorem neg_inf : Ideal.ofBits .f32 0xFF800000#32 = (⊥ : EReal) := by simp [Ideal.ofBits, Ideal.ieee]

section
variable {x0 x4 : S4096x2048.Idx → EReal} {x1 x2 : S4096x512.Idx → EReal} {x3 : S16.Idx → EReal} {I : Ins} (H : I.At x0 x1 x2 x3 x4)
include H
/-- The masked scores. -/
theorem v111_coe (n : Fin 32) (h g : Fin 4) (r : Fin 128) (j : Fin 384) : val_main_v111_0 (F := Ideal) x0 x1 (ix6 0 n h g r j) =
    if okN n.val (row g r) j then ((score ((I.rblk n.val).q h (row g r)) ((I.rblk n.val).k h) j : ℝ) : EReal) else ⊥ := by
  have hs := v73_coe H
  have hm := v109_apply n g r j
  unfold val_main_v111_0 val_main_v111_1 val_main_v110
  generalize val_main_v73 (F := Ideal) x0 x1 = z at hs
  generalize val_main_v109 (F := Ideal) = w at hm
  pointwise [val_main_call0_v2, val_main_call0_v0, val_main_cst_11]
  rw [hm, select_ofBool, hs]
  split
  · rfl
  · exact neg_inf
end
end Cert.Attn
-- ==== Proof.RefRow.lean ====
module

public import proofs.«01_k».proof.Proof.RefBand
/-! The reference's softmax and its gradient, row by row. -/

@[expose] public section

set_option maxRecDepth 100000
noncomputable section
namespace Cert.Attn
open Idealize.ShloMosaic Idealize.SL.Sem Idealize.ShloMosaic.Tactic Cert.ReferenceIdeal Cert.ReferenceIdeal.Gen Cert.ReferenceIdeal.Read

/-! ## Sums over several axes -/
theorem sum_nr (z : S1x32x4x4x128x1.Idx → EReal) (c : EReal) (h g : Fin 4) :
    Ideal.hostReduceAdd reducesTo_S1x32x4x4x128x1_S1x4x4x1_d1_4 z c (ix4 0 h g 0) = c + ∑ n : Fin 32, ∑ r : Fin 128, z (ix6 0 n h g r 0) := by
  refine congrArg (c + ·) ((Finset.sum_filter_eq_sum_of_fiber _ (fun k : Fin 32 × Fin 128 => (ix6 0 k.1 h g k.2 0 : S1x32x4x4x128x1.Idx))
    (fun _ _ e => Prod.ext (congrFun e 1) (congrFun e 4)) (fun i => ⟨fun e => ⟨(i 1, i 4), ?_⟩, ?_⟩) z).trans (Fintype.sum_prod_type _))
  · funext a; apply Fin.ext
    match a with
    | ⟨0, _⟩ => have : (i 0).val < 1 := (i 0).isLt; show 0 = (i 0).val; omega
    | ⟨1, _⟩ => rfl
    | ⟨2, _⟩ => exact (congrArg Fin.val (congrFun e (1 : Fin 4))).symm
    | ⟨3, _⟩ => exact (congrArg Fin.val (congrFun e (2 : Fin 4))).symm
    | ⟨4, _⟩ => rfl
    | ⟨5, _⟩ => have : (i 5).val < 1 := (i 5).isLt; show 0 = (i 5).val; omega
  · rintro ⟨k, rfl⟩
    funext b; apply Fin.ext
    match b with
    | ⟨0, _⟩ => rfl
    | ⟨1, _⟩ => rfl
    | ⟨2, _⟩ => rfl
    | ⟨3, _⟩ => rfl

theorem sum_unit (z : S1x32x4x4x128x1.Idx → EReal) (c : EReal) (n : Fin 32) (h g : Fin 4) (r : Fin 128) :
    Ideal.hostReduceAdd reducesTo_S1x32x4x4x128x1_S32x4x4x128_d0_5 z c (ix4 n h g r) = c + z (ix6 0 n h g r 0) := by
  refine congrArg (c + ·) ((Finset.sum_filter_eq_sum_of_fiber _ (fun _ : Fin 1 => (ix6 0 n h g r 0 : S1x32x4x4x128x1.Idx))
    (fun _ _ e => Subsingleton.elim _ _) (fun i => ⟨fun e => ⟨0, ?_⟩, ?_⟩) z).trans (Fin.sum_univ_one _))
  · funext a; apply Fin.ext
    match a with
    | ⟨0, _⟩ => have : (i 0).val < 1 := (i 0).isLt; show 0 = (i 0).val; omega
    | ⟨1, _⟩ => exact (congrArg Fin.val (congrFun e (0 : Fin 4))).symm
    | ⟨2, _⟩ => exact (congrArg Fin.val (congrFun e (1 : Fin 4))).symm
    | ⟨3, _⟩ => exact (congrArg Fin.val (congrFun e (2 : Fin 4))).symm
    | ⟨4, _⟩ => exact (congrArg Fin.val (congrFun e (3 : Fin 4))).symm
    | ⟨5, _⟩ => have : (i 5).val < 1 := (i 5).isLt; show 0 = (i 5).val; omega
  · rintro ⟨k, rfl⟩
    funext b; apply Fin.ext
    match b with
    | ⟨0, _⟩ => rfl
    | ⟨1, _⟩ => rfl
    | ⟨2, _⟩ => rfl
    | ⟨3, _⟩ => rfl

theorem sum_units (z : S1x1x4x4x1x1.Idx → EReal) (c : EReal) (h g : Fin 4) :
    Ideal.hostReduceAdd reducesTo_S1x1x4x4x1x1_S4x4_d0_1_4_5 z c (ix2 h g) = c + z (ix6 0 0 h g 0 0) := by
  refine congrArg (c + ·) ((Finset.sum_filter_eq_sum_of_fiber _ (fun _ : Fin 1 => (ix6 0 0 h g 0 0 : S1x1x4x4x1x1.Idx))
    (fun _ _ e => Subsingleton.elim _ _) (fun i => ⟨fun e => ⟨0, ?_⟩, ?_⟩) z).trans (Fin.sum_univ_one _))
  · funext a; apply Fin.ext
    match a with
    | ⟨0, _⟩ => have : (i 0).val < 1 := (i 0).isLt; show 0 = (i 0).val; omega
    | ⟨1, _⟩ => have : (i 1).val < 1 := (i 1).isLt; show 0 = (i 1).val; omega
    | ⟨2, _⟩ => exact (congrArg Fin.val (congrFun e (0 : Fin 2))).symm
    | ⟨3, _⟩ => exact (congrArg Fin.val (congrFun e (1 : Fin 2))).symm
    | ⟨4, _⟩ => have : (i 4).val < 1 := (i 4).isLt; show 0 = (i 4).val; omega
    | ⟨5, _⟩ => have : (i 5).val < 1 := (i 5).isLt; show 0 = (i 5).val; omega
  · rintro ⟨k, rfl⟩
    funext b; apply Fin.ext
    match b with
    | ⟨0, _⟩ => rfl
    | ⟨1, _⟩ => rfl

/-! ## A row -/
section
variable {x0 x4 : S4096x2048.Idx → EReal} {x1 x2 : S4096x512.Idx → EReal} {x3 : S16.Idx → EReal} {I : Ins} (H : I.At x0 x1 x2 x3 x4)
include H

theorem v113_coe (n : ℕ) (h g : Fin 4) (r : Fin 128) : val_main_v113 (F := Ideal) x3 (ix6 0 0 h g 0 0) = (((I.rblk n).s h (row g r) : ℝ) : EReal) := by
  have hs := H.s
  pointwise [val_main_v113, val_main_v112]
  refine (hs _).trans ?_
  unfold Ins.rblk Ins.blk row
  dsimp only
  congr 2
  omega

omit H in
theorem ix6_eta (i : S1x32x4x4x128x384.Idx) : (ix6 0 (i 1) (i 2) (i 3) (i 4) (i 5) : S1x32x4x4x128x384.Idx) = i := by
  funext a; apply Fin.ext
  match a with
  | ⟨0, _⟩ => have : (i 0).val < 1 := (i 0).isLt; show 0 = (i 0).val; omega
  | ⟨1, _⟩ => rfl
  | ⟨2, _⟩ => rfl
  | ⟨3, _⟩ => rfl
  | ⟨4, _⟩ => rfl
  | ⟨5, _⟩ => rfl

/-- No score is `⊤`. -/
theorem v111_lt (i : S1x32x4x4x128x384.Idx) : val_main_v111_0 (F := Ideal) x0 x1 i < ⊤ := by
  have e := (congrArg (val_main_v111_0 (F := Ideal) x0 x1) (ix6_eta i)).symm.trans (v111_coe H (i 1) (i 2) (i 3) (i 4) (i 5))
  rw [e]
  split
  · exact EReal.coe_lt_top _
  · exact bot_lt_top

omit H in
theorem max_apply (z : S1x32x4x4x128x384.Idx → EReal) (c : S_.Idx → EReal) (j : S1x32x4x4x128.Idx) :
    Host.reduce (FloatOps.maximumf (F := Ideal) (φ := .f32)) z c reducesTo_S1x32x4x4x128x384_S1x32x4x4x128_d5 h_S_ j =
      (Finset.univ.filter fun i => reducesTo_S1x32x4x4x128x384_S1x32x4x4x128_d5.drop i = j).fold max (c (Shape.Idx.first h_S_)) z := by
  rw [Ideal.maximumf_eq_max]
  exact Host.reduce_eq_fold _ _ _ _ _ _

theorem v114_real (j : S1x32x4x4x128.Idx) (x : ℝ) : ∃ m : ℝ, max (val_main_v114 (F := Ideal) x0 x1 j) (x : EReal) = m := by
  have hx := v111_lt H
  unfold val_main_v114
  generalize val_main_v111_0 (F := Ideal) x0 x1 = z at hx
  rw [max_apply, show val_main_cst_12 (F := Ideal) (Shape.Idx.first h_S_) = ⊥ from neg_inf]
  exact max_fold_coe _ _ hx _

/-- The row's maximum is some real. -/
theorem v122_coe (n : Fin 32) (h g : Fin 4) (r : Fin 128) : ∃ m : ℝ, val_main_v122 (F := Ideal) x0 x1 x3 (ix6 0 n h g r 0) = (m : EReal) := by
  have hs := v113_coe H n.val h g r
  obtain ⟨m, hm⟩ := v114_real H (ix5 0 n h g r) ((I.rblk n.val).s h (row g r))
  refine ⟨m, ?_⟩
  have e0 : idx_main_v120 (ix6 0 n h g r 0) = ix5 0 n h g r := by
    funext a
    match a with
    | ⟨0, _⟩ => rfl
    | ⟨1, _⟩ => rfl
    | ⟨2, _⟩ => rfl
    | ⟨3, _⟩ => rfl
    | ⟨4, _⟩ => rfl
  have e1 : idx_main_v121 (ix6 0 n h g r 0) = ix6 0 0 h g 0 0 := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [val_main_v122_apply, val_main_v120_apply, val_main_v121_apply, e0, e1, hs, Ideal.maximumf_eq_max]
  exact hm

/-- The exponentials, their sum and the sink's, shifted by the row's maximum. -/
theorem v149_coe (n : Fin 32) (h g : Fin 4) (r : Fin 128) : ∃ m : ℝ,
    (∀ j, val_main_v143 (F := Ideal) x0 x1 x3 (ix6 0 n h g r j) =
      ((ex ((I.rblk n.val).ok (row g r)) ((I.rblk n.val).q h (row g r)) ((I.rblk n.val).k h) j * Real.exp (-m) : ℝ) : EReal)) ∧
    val_main_v148 (F := Ideal) x0 x1 x3 (ix6 0 n h g r 0) = ((Real.exp ((I.rblk n.val).s h (row g r) - m) : ℝ) : EReal) ∧
    val_main_v149 (F := Ideal) x0 x1 x3 (ix6 0 n h g r 0) = ((den ((I.rblk n.val).ok (row g r)) ((I.rblk n.val).q h (row g r))
      ((I.rblk n.val).k h) ((I.rblk n.val).s h (row g r)) * Real.exp (-m) : ℝ) : EReal) := by
  obtain ⟨m, hm⟩ := v122_coe H n h g r
  have hs := v113_coe H n.val h g r
  have hx := fun j => v111_coe H n h g r j
  have h143 : ∀ j, val_main_v143 (F := Ideal) x0 x1 x3 (ix6 0 n h g r j) =
      ((ex ((I.rblk n.val).ok (row g r)) ((I.rblk n.val).q h (row g r)) ((I.rblk n.val).k h) j * Real.exp (-m) : ℝ) : EReal) := by
    intro j
    unfold val_main_v143 val_main_v142 val_main_v141
    generalize val_main_v122 (F := Ideal) x0 x1 x3 = w at hm
    generalize val_main_v111_0 (F := Ideal) x0 x1 = z at hx
    pointwise []
    rw [hm, hx, ← ex_shift]
    show _ = (((if okN n.val (row g r) j = true then _ else _ : ℝ)) : EReal)
    split
    · rw [← EReal.coe_sub, Ideal.exp_coe]
    · rw [EReal.bot_sub, Ideal.exp_bot]; rfl
  have h148 : val_main_v148 (F := Ideal) x0 x1 x3 (ix6 0 n h g r 0) = ((Real.exp ((I.rblk n.val).s h (row g r) - m) : ℝ) : EReal) := by
    unfold val_main_v148 val_main_v147 val_main_v146
    generalize val_main_v122 (F := Ideal) x0 x1 x3 = w at hm
    generalize val_main_v113 (F := Ideal) x3 = z at hs
    pointwise []
    rw [hm, hs, ← EReal.coe_sub, Ideal.exp_coe]
  refine ⟨m, h143, h148, ?_⟩
  unfold val_main_v149 val_main_v145
  generalize val_main_v148 (F := Ideal) x0 x1 x3 = w at h148
  have h144 := val_main_v144_apply x0 x1 x3
  generalize val_main_v144 (F := Ideal) x0 x1 x3 = u at h144
  generalize val_main_v143 (F := Ideal) x0 x1 x3 = z at h143 h144
  pointwise []
  rw [h148, h144, show val_main_cst_20 (F := Ideal) (Shape.Idx.first h_S_) = 0 from zero_f32.trans EReal.coe_zero, zero_add]
  have e : ∀ j : Fin 384, idx_main_v144 (ix5 0 n h g r) j = ix6 0 n h g r j := fun j => by
    funext a
    match a with
    | ⟨0, _⟩ => rfl
    | ⟨1, _⟩ => rfl
    | ⟨2, _⟩ => rfl
    | ⟨3, _⟩ => rfl
    | ⟨4, _⟩ => rfl
    | ⟨5, _⟩ => rfl
  simp only [e, h143, coe_sum, ← EReal.coe_add, ← den_shift, ← ex_shift]

theorem v161_coe (n : Fin 32) (h g : Fin 4) (r : Fin 128) (d : Fin 128) :
    val_main_v161 (F := Ideal) x4 (ix6 0 n h d g r) = (((I.rblk n.val).g h (row g r) d : ℝ) : EReal) := by
  have hg := H.g
  pointwise [val_main_v161, val_main_v160, val_main_v159]
  refine (hg _ _).trans ?_
  unfold Ins.rblk Ins.blk row
  dsimp only
  rw [show (g.val * 128 + r.val) % 128 = r.val by omega, show h.val * 512 + g.val * 128 + d.val = h.val * 512 + ((g.val * 128 + r.val) / 128 * 128 + d.val) by omega]

/-- The weights' gradients. -/
theorem v162_coe (n : Fin 32) (h g : Fin 4) (r : Fin 128) (j : Fin 384) :
    val_main_v162 (F := Ideal) x2 x4 (ix6 0 n h g r j) = ((dwt ((I.rblk n.val).v h) ((I.rblk n.val).g h (row g r)) j : ℝ) : EReal) := by
  have hg := v161_coe H
  have hv := v51_coe H
  unfold val_main_v162
  generalize val_main_v161 (F := Ideal) x4 = y at hg
  generalize val_main_v51 (F := Ideal) x2 = z at hv
  pointwise []
  simp only [hg, hv, ← EReal.coe_mul, coe_sum]
  rfl

/-- The weights. -/
theorem v151_coe (n : Fin 32) (h g : Fin 4) (r : Fin 128) (j : Fin 384) :
    val_main_v151 (F := Ideal) x0 x1 x3 (ix6 0 n h g r j) = (((I.rblk n.val).wt h (row g r) j : ℝ) : EReal) := by
  obtain ⟨m, h143, h148, h149⟩ := v149_coe H n h g r
  unfold val_main_v151 val_main_v150
  generalize val_main_v149 (F := Ideal) x0 x1 x3 = w at h149
  generalize val_main_v143 (F := Ideal) x0 x1 x3 = z at h143
  pointwise []
  rw [h143, h149, div_coe' _ (mul_pos (den_pos _ _ _ _) (Real.exp_pos _)).ne', wt_shift]
  rfl
end
end Cert.Attn
-- ==== Proof.RefGrad.lean ====
module

public import proofs.«01_k».proof.Proof.RefRow
/-! The gradient of the reference's softmax. -/

@[expose] public section

set_option maxRecDepth 100000
noncomputable section
namespace Cert.Attn
open Idealize.ShloMosaic Idealize.SL.Sem Idealize.ShloMosaic.Tactic Cert.ReferenceIdeal Cert.ReferenceIdeal.Gen Cert.ReferenceIdeal.Read

namespace Blk
variable (R : Blk) (h : Fin 4) (a : Fin 512)
/-- The weighted mean of the weights' gradients of a row, the sink's weight, and the weights' gradients. -/
def dl : ℝ := dlt (R.ok a) (R.q h a) (R.k h) (R.s h a) (R.v h) (R.g h a)
def sw : ℝ := wsk (R.ok a) (R.q h a) (R.k h) (R.s h a)
def dw (j : Fin 384) : ℝ := dwt (R.v h) (R.g h a) j

theorem sg_eq : R.sg h a = R.sw h a * R.dl h a := rfl
theorem dl_eq : R.dl h a = ∑ j, R.wt h a j * R.dw h a j := rfl
theorem ds_eq (j : Fin 384) : R.ds h a j = R.wt h a j * (R.dw h a j - R.dl h a) * sc := rfl
/-- The weights and the sink's sum to one. -/
theorem wt_sum : ∑ j, R.wt h a j + R.sw h a = 1 := by
  unfold wt sw Attn.wt wsk
  rw [← Finset.sum_div, ← add_div]
  exact div_self (den_pos _ _ _ _).ne'
theorem wt_ok {j : Fin 384} (hn : ¬R.ok a j = true) : R.wt h a j = 0 := wt_of_not _ _ _ _ hn
end Blk

section
variable {x0 x4 : S4096x2048.Idx → EReal} {x1 x2 : S4096x512.Idx → EReal} {x3 : S16.Idx → EReal} {I : Ins} (H : I.At x0 x1 x2 x3 x4)
include H

/-- The exponentials are the weights times the denominator. -/
theorem v149_den (n : Fin 32) (h g : Fin 4) (r : Fin 128) : ∃ D : ℝ, D ≠ 0 ∧
    (∀ j, val_main_v143 (F := Ideal) x0 x1 x3 (ix6 0 n h g r j) = (((I.rblk n.val).wt h (row g r) j * D : ℝ) : EReal)) ∧
    val_main_v148 (F := Ideal) x0 x1 x3 (ix6 0 n h g r 0) = (((I.rblk n.val).sw h (row g r) * D : ℝ) : EReal) ∧
    val_main_v149 (F := Ideal) x0 x1 x3 (ix6 0 n h g r 0) = ((D : ℝ) : EReal) := by
  obtain ⟨m, h143, h148, h149⟩ := v149_coe H n h g r
  have hD := (mul_pos (den_pos ((I.rblk n.val).ok (row g r)) ((I.rblk n.val).q h (row g r))
      ((I.rblk n.val).k h) ((I.rblk n.val).s h (row g r))) (Real.exp_pos (-m))).ne'
  refine ⟨_, hD, fun j => ?_, ?_, h149⟩
  · rw [h143, Blk.wt, ← wt_shift _ _ _ _ m, div_mul_cancel₀ _ hD]
  · rw [h148, Blk.sw, ← wsk_shift _ _ _ _ m, div_mul_cancel₀ _ hD]

/-- The gradient at the denominator, at the weights' products and at the sink. -/
theorem v170_coe (n : Fin 32) (h g : Fin 4) (r : Fin 128) {D : ℝ} (hD : D ≠ 0)
    (h143 : ∀ j, val_main_v143 (F := Ideal) x0 x1 x3 (ix6 0 n h g r j) = (((I.rblk n.val).wt h (row g r) j * D : ℝ) : EReal))
    (h149 : val_main_v149 (F := Ideal) x0 x1 x3 (ix6 0 n h g r 0) = ((D : ℝ) : EReal)) :
    val_main_v170 (F := Ideal) x0 x1 x2 x3 x4 (ix6 0 n h g r 0) = ((-((I.rblk n.val).dl h (row g r) / D) : ℝ) : EReal) := by
  have h162 := fun j => v162_coe H n h g r j
  have h167 : ∀ j, val_main_v167 (F := Ideal) x0 x1 x2 x3 x4 (ix6 0 n h g r j) =
      (((I.rblk n.val).wt h (row g r) j * (I.rblk n.val).dw h (row g r) j / D : ℝ) : EReal) := by
    intro j
    unfold val_main_v167 val_main_v166 val_main_v165 val_main_v154 val_main_v152
    generalize val_main_v162 (F := Ideal) x2 x4 = w at h162
    generalize val_main_v149 (F := Ideal) x0 x1 x3 = y at h149
    generalize val_main_v143 (F := Ideal) x0 x1 x3 = z at h143
    pointwise [val_main_v153, val_main_cst_21]
    rw [h143, h149, h162, ← EReal.coe_one, ← EReal.coe_mul, div_coe' _ (mul_ne_zero hD hD), ← EReal.coe_mul, ← EReal.coe_mul]
    refine congrArg _ ?_
    unfold Blk.dw
    field_simp
  have h168 := val_main_v168_apply x0 x1 x2 x3 x4 (ix5 0 n h g r)
  have e : ∀ j : Fin 384, idx_main_v168 (ix5 0 n h g r) j = ix6 0 n h g r j := fun j => by
    funext a
    match a with
    | ⟨0, _⟩ => rfl
    | ⟨1, _⟩ => rfl
    | ⟨2, _⟩ => rfl
    | ⟨3, _⟩ => rfl
    | ⟨4, _⟩ => rfl
    | ⟨5, _⟩ => rfl
  rw [show val_main_cst_22 (F := Ideal) (Shape.Idx.first h_S_) = 0 from zero_f32.trans EReal.coe_zero, zero_add] at h168
  simp only [e, h167, coe_sum] at h168
  unfold val_main_v170 val_main_v169
  generalize val_main_v168 (F := Ideal) x0 x1 x2 x3 x4 = z at h168
  pointwise []
  rw [h168, ← EReal.coe_neg, Blk.dl_eq, Finset.sum_div]

theorem v173_coe (n : Fin 32) (h g : Fin 4) (r : Fin 128) :
    val_main_v173 (F := Ideal) x0 x1 x2 x3 x4 (ix6 0 n h g r 0) = ((-(I.rblk n.val).sg h (row g r) : ℝ) : EReal) := by
  obtain ⟨D, hD, h143, h148, h149⟩ := v149_den H n h g r
  rw [val_main_v173_apply, v170_coe H n h g r hD h143 h149, h148]
  refine (EReal.coe_mul _ _).symm.trans (congrArg _ ?_)
  rw [Blk.sg_eq]
  field_simp

theorem v181_coe (n : Fin 32) (h g : Fin 4) (r : Fin 128) (j : Fin 384) :
    val_main_v181 (F := Ideal) x0 x1 x2 x3 x4 (ix6 0 n h g r j) =
      (((I.rblk n.val).wt h (row g r) j * ((I.rblk n.val).dw h (row g r) j - (I.rblk n.val).dl h (row g r)) : ℝ) : EReal) := by
  obtain ⟨D, hD, h143, h148, h149⟩ := v149_den H n h g r
  have h162 := v162_coe H n h g r j
  have h170 := v170_coe H n h g r hD h143 h149
  have h177 : val_main_v177 (F := Ideal) x0 x1 x2 x3 x4 (ix4 n h g r) = ((-((I.rblk n.val).dl h (row g r) / D) : ℝ) : EReal) := by
    unfold val_main_v177
    rw [Host.reduceAdd_apply, Ideal.hostReduceAdd_def, sum_unit, h170,
      show val_main_cst_24 (F := Ideal) (Shape.Idx.first h_S_) = 0 from zero_f32.trans EReal.coe_zero, zero_add]
  unfold val_main_v181 val_main_v180 val_main_v179 val_main_v178 val_main_v172 val_main_v171
  generalize val_main_v162 (F := Ideal) x2 x4 = w at h162
  generalize val_main_v149 (F := Ideal) x0 x1 x3 = y at h149
  generalize val_main_v143 (F := Ideal) x0 x1 x3 = z at h143
  generalize val_main_v177 (F := Ideal) x0 x1 x2 x3 x4 = u at h177
  pointwise []
  rw [h143, h149, h162, h177, div_coe' _ hD, ← EReal.coe_add, ← EReal.coe_mul]
  refine congrArg _ ?_
  unfold Blk.dw
  field_simp
  ring

/-- The gradient at the row's maximum is zero. -/
theorem v185_coe (n : Fin 32) (h g : Fin 4) (r : Fin 128) : val_main_v185 (F := Ideal) x0 x1 x2 x3 x4 (ix6 0 n h g r 0) = 0 := by
  have h173 := v173_coe H n h g r
  have h181 := fun j => v181_coe H n h g r j
  have h183 := val_main_v183_apply x0 x1 x2 x3 x4 (ix5 0 n h g r)
  have e : ∀ j : Fin 384, idx_main_v183 (ix5 0 n h g r) j = ix6 0 n h g r j := fun j => by
    funext a
    match a with
    | ⟨0, _⟩ => rfl
    | ⟨1, _⟩ => rfl
    | ⟨2, _⟩ => rfl
    | ⟨3, _⟩ => rfl
    | ⟨4, _⟩ => rfl
    | ⟨5, _⟩ => rfl
  have h182 : ∀ j, val_main_v182 (F := Ideal) x0 x1 x2 x3 x4 (ix6 0 n h g r j) =
      ((-((I.rblk n.val).wt h (row g r) j * ((I.rblk n.val).dw h (row g r) j - (I.rblk n.val).dl h (row g r))) : ℝ) : EReal) := by
    intro j
    rw [val_main_v182_apply, h181]
    exact (EReal.coe_neg _).symm
  rw [show val_main_cst_25 (F := Ideal) (Shape.Idx.first h_S_) = 0 from zero_f32.trans EReal.coe_zero, zero_add] at h183
  simp only [e, h182, coe_sum] at h183
  unfold val_main_v185 val_main_v184 val_main_v176
  generalize val_main_v183 (F := Ideal) x0 x1 x2 x3 x4 = z at h183
  generalize val_main_v173 (F := Ideal) x0 x1 x2 x3 x4 = y at h173
  pointwise []
  rw [h183, h173, ← EReal.coe_neg, ← EReal.coe_add, ← EReal.coe_zero]
  refine congrArg _ ?_
  have hs := (I.rblk n.val).wt_sum h (row g r)
  simp only [mul_sub, Finset.sum_neg_distrib, Finset.sum_sub_distrib, ← Finset.sum_mul, ← Blk.dl_eq, Blk.sg_eq]
  linear_combination (I.rblk n.val).dl h (row g r) * hs

/-- What the maximum's ties add is zero. -/
theorem v195_coe (n : Fin 32) (h g : Fin 4) (r : Fin 128) (j : Fin 384) : val_main_v195 (F := Ideal) x0 x1 x2 x3 x4 (ix6 0 n h g r j) = 0 := by
  have h190 : val_main_v190 (F := Ideal) x0 x1 x2 x3 x4 (ix6 0 n h g r 0) = 0 := by
    rw [val_main_v190_apply, v185_coe H]
    exact zero_mul _
  have h191 : val_main_v191 (F := Ideal) x0 x1 x2 x3 x4 (ix4 n h g r) = 0 := by
    unfold val_main_v191
    rw [Host.reduceAdd_apply, Ideal.hostReduceAdd_def, sum_unit, h190,
      show val_main_cst_27 (F := Ideal) (Shape.Idx.first h_S_) = 0 from zero_f32.trans EReal.coe_zero, zero_add]
  have h118 : ∀ j, ∃ b : BitVec 1, val_main_v118 (F := Ideal) x0 x1 (ix6 0 n h g r j) = ((b.toNat : ℝ) : EReal) := fun j => ⟨_, rfl⟩
  have h119 := val_main_v119_apply x0 x1 (ix5 0 n h g r)
  have e : ∀ j : Fin 384, idx_main_v119 (ix5 0 n h g r) j = ix6 0 n h g r j := fun j => by
    funext a
    match a with
    | ⟨0, _⟩ => rfl
    | ⟨1, _⟩ => rfl
    | ⟨2, _⟩ => rfl
    | ⟨3, _⟩ => rfl
    | ⟨4, _⟩ => rfl
    | ⟨5, _⟩ => rfl
  rw [show val_main_cst_13 (F := Ideal) (Shape.Idx.first h_S_) = 0 from zero_f32.trans EReal.coe_zero, zero_add] at h119
  simp only [e] at h119
  have h0 : ∀ j, 0 ≤ val_main_v118 (F := Ideal) x0 x1 (ix6 0 n h g r j) := by
    intro j
    obtain ⟨b, hb⟩ := h118 j
    rw [hb]
    exact EReal.coe_nonneg.mpr (Nat.cast_nonneg _)
  obtain ⟨b, hb⟩ := h118 j
  have hle := Finset.single_le_sum (f := fun j => val_main_v118 (F := Ideal) x0 x1 (ix6 0 n h g r j)) (fun i _ => h0 i) (Finset.mem_univ j)
  rw [← h119] at hle
  unfold val_main_v195 val_main_v194 val_main_v193 val_main_v192
  generalize val_main_v118 (F := Ideal) x0 x1 = w at hb hle
  generalize val_main_v119 (F := Ideal) x0 x1 = y at hle
  generalize val_main_v191 (F := Ideal) x0 x1 x2 x3 x4 = z at h191
  pointwise []
  rw [h191, hb]
  by_cases hz : b.toNat = 0
  · rw [hz, Nat.cast_zero, EReal.coe_zero, mul_zero]
  · have hy : y (ix5 0 n h g r) ≠ 0 := by
      have : (0 : EReal) < ((b.toNat : ℝ) : EReal) := EReal.coe_pos.mpr (Nat.cast_pos.mpr (Nat.pos_of_ne_zero hz))
      refine (lt_of_lt_of_le this ?_).ne'
      rw [← hb]
      exact hle
    unfold Ideal.div
    rw [if_neg hy, zero_mul, zero_mul]

/-- The scores' gradients. -/
theorem v201_coe (n : Fin 32) (h g : Fin 4) (r : Fin 128) (j : Fin 384) :
    val_main_v201 (F := Ideal) x0 x1 x2 x3 x4 (ix6 0 n h g r j) = (((I.rblk n.val).ds h (row g r) j : ℝ) : EReal) := by
  have h181 := v181_coe H n h g r j
  have h195 := v195_coe H n h g r j
  have hm := v109_apply n g r j
  unfold val_main_v201 val_main_v200 val_main_v199 val_main_v196 val_main_v111_1 val_main_v110 val_main_call1_v0
  generalize val_main_v181 (F := Ideal) x0 x1 x2 x3 x4 = y at h181
  generalize val_main_v195 (F := Ideal) x0 x1 x2 x3 x4 = z at h195
  generalize val_main_v109 (F := Ideal) = w at hm
  pointwise [val_main_cst_29, val_main_call1_cst]
  rw [hm, select_ofBool, h181, h195, add_zero, sc_coe, Blk.ds_eq]
  split
  · rw [← EReal.coe_mul]
  · next hn =>
    rw [Blk.wt_ok (I.rblk n.val) h (row g r) hn, zero_mul, zero_mul, EReal.coe_zero]
end
end Cert.Attn
-- ==== Proof.RefOut.lean ====
module

public import proofs.«01_k».proof.Proof.RefGrad
/-! The reference's gradients at the queries, the keys, the values and the sinks. -/

@[expose] public section

set_option maxRecDepth 100000
noncomputable section
namespace Cert.Attn
open Idealize.ShloMosaic Idealize.SL.Sem Idealize.ShloMosaic.Tactic Cert.ReferenceIdeal Cert.ReferenceIdeal.Gen Cert.ReferenceIdeal.Read

/-- A sum over the query rows, head by head. -/
theorem sum_row (f : Fin 512 → ℝ) : ∑ a, f a = ∑ g : Fin 4, ∑ r : Fin 128, f (row g r) := by
  rw [← Equiv.sum_comp (finProdFinEquiv (m := 4) (n := 128)) f, Fintype.sum_prod_type]
  refine Finset.sum_congr rfl fun g _ => Finset.sum_congr rfl fun r _ => congrArg f (Fin.ext ?_)
  show r.val + 128 * g.val = g.val * 128 + r.val
  omega

section
variable {x0 x4 : S4096x2048.Idx → EReal} {x1 x2 : S4096x512.Idx → EReal} {x3 : S16.Idx → EReal} {I : Ins} (H : I.At x0 x1 x2 x3 x4)
include H

/-- The rotated queries' gradient. -/
theorem v203_coe (n : Fin 32) (r : Fin 128) (h g : Fin 4) (d : Fin 128) :
    val_main_v203 (F := Ideal) x0 x1 x2 x3 x4 (ix6 0 n h r g d) = (((I.rblk n.val).dq h (row g r) d : ℝ) : EReal) := by
  have hs := v201_coe H
  have hk := v43_coe H
  unfold val_main_v203 val_main_v202
  generalize val_main_v201 (F := Ideal) x0 x1 x2 x3 x4 = y at hs
  generalize val_main_v43 (F := Ideal) x1 = z at hk
  pointwise []
  simp only [hs, hk, ← EReal.coe_mul, coe_sum]
  rfl
/-- The bands' gradient of the rotated keys. -/
theorem v206_coe (n : Fin 32) (h : Fin 4) (j : Fin 384) (d : Fin 128) :
    val_main_v206 (F := Ideal) x0 x1 x2 x3 x4 (ix5 0 n j h d) = (((I.rblk n.val).dk h j d : ℝ) : EReal) := by
  have hs := v201_coe H
  have hq := v69_coe H
  unfold val_main_v206 val_main_v205 val_main_v202
  generalize val_main_v201 (F := Ideal) x0 x1 x2 x3 x4 = y at hs
  generalize val_main_v69 (F := Ideal) x0 = z at hq
  pointwise []
  simp only [hs, hq, ← EReal.coe_mul, coe_sum]
  refine congrArg _ ?_
  rw [Finset.sum_comm]
  exact (sum_row fun a => (I.rblk n.val).ds h a j * (I.rblk n.val).q h a d).symm
/-- The bands' gradient of the values. -/
theorem v164_coe (n : Fin 32) (h : Fin 4) (j : Fin 384) (d : Fin 128) :
    val_main_v164 (F := Ideal) x0 x1 x3 x4 (ix5 0 n j h d) = (((I.rblk n.val).dv h j d : ℝ) : EReal) := by
  have hs := v151_coe H
  have hg := v161_coe H
  unfold val_main_v164 val_main_v163
  generalize val_main_v151 (F := Ideal) x0 x1 x3 = y at hs
  generalize val_main_v161 (F := Ideal) x4 = z at hg
  pointwise []
  simp only [hs, hg, ← EReal.coe_mul, coe_sum]
  refine congrArg _ ?_
  refine Eq.trans ?_ (sum_row fun a => (I.rblk n.val).wt h a j * (I.rblk n.val).g h a d).symm
  exact Finset.sum_congr rfl fun g _ => Finset.sum_congr rfl fun r _ => mul_comm _ _

theorem v237_coe (j : Fin 3) (n : Fin 32) (r : Fin 128) (d : Fin 512) :
    val_main_v237 (F := Ideal) x0 x1 x2 x3 x4 (ix3 j ⟨n.val * 128 + r.val, by omega⟩ d) = (((I.rblk n.val).dkr j r d : ℝ) : EReal) := by
  have hk := v206_coe H
  unfold val_main_v237 val_main_v236 val_main_v235
  generalize val_main_v206 (F := Ideal) x0 x1 x2 x3 x4 = y at hk
  pointwise []
  refine (hk _ _ _ _).trans ?_
  unfold Blk.dkr
  congr 2 <;> (try apply Fin.ext) <;> dsimp only <;> omega
theorem v240_coe (j : Fin 3) (n : Fin 32) (r : Fin 128) (d : Fin 512) :
    val_main_v240 (F := Ideal) x0 x1 x3 x4 (ix3 j ⟨n.val * 128 + r.val, by omega⟩ d) = (((I.rblk n.val).dvr j r d : ℝ) : EReal) := by
  have hk := v164_coe H
  unfold val_main_v240 val_main_v239 val_main_v238
  generalize val_main_v164 (F := Ideal) x0 x1 x3 x4 = y at hk
  pointwise []
  refine (hk _ _ _ _).trans ?_
  unfold Blk.dvr
  congr 2 <;> (try apply Fin.ext) <;> dsimp only <;> omega

/-- The sinks' gradient. -/
theorem v197_coe (h g : Fin 4) : val_main_v197 (F := Ideal) x0 x1 x2 x3 x4 (ix2 h g) =
    ((∑ n : Fin 32, ∑ r : Fin 128, -(I.rblk n.val).sg h (row g r) : ℝ) : EReal) := by
  have h174 : val_main_v174 (F := Ideal) x0 x1 x2 x3 x4 (ix4 0 h g 0) = ((∑ n : Fin 32, ∑ r : Fin 128, -(I.rblk n.val).sg h (row g r) : ℝ) : EReal) := by
    unfold val_main_v174
    rw [Host.reduceAdd_apply, Ideal.hostReduceAdd_def, sum_nr,
      show val_main_cst_23 (F := Ideal) (Shape.Idx.first h_S_) = 0 from zero_f32.trans EReal.coe_zero, zero_add]
    simp only [v173_coe H, coe_sum]
  have h186 : ∀ n r, val_main_v186 (F := Ideal) x0 x1 x2 x3 x4 (ix6 0 n h g r 0) = 0 := by
    intro n r
    rw [val_main_v186_apply, v185_coe H]
    exact zero_mul _
  have h187 : val_main_v187 (F := Ideal) x0 x1 x2 x3 x4 (ix4 0 h g 0) = 0 := by
    unfold val_main_v187
    rw [Host.reduceAdd_apply, Ideal.hostReduceAdd_def, sum_nr,
      show val_main_cst_26 (F := Ideal) (Shape.Idx.first h_S_) = 0 from zero_f32.trans EReal.coe_zero, zero_add]
    simp only [h186, Finset.sum_const_zero]
  have h189 : val_main_v189 (F := Ideal) x0 x1 x2 x3 x4 (ix6 0 0 h g 0 0) = ((∑ n : Fin 32, ∑ r : Fin 128, -(I.rblk n.val).sg h (row g r) : ℝ) : EReal) := by
    unfold val_main_v189 val_main_v188 val_main_v175
    generalize val_main_v174 (F := Ideal) x0 x1 x2 x3 x4 = y at h174
    generalize val_main_v187 (F := Ideal) x0 x1 x2 x3 x4 = z at h187
    pointwise []
    rw [h174, h187, add_zero]
  unfold val_main_v197
  rw [Host.reduceAdd_apply, Ideal.hostReduceAdd_def, sum_units, h189,
      show val_main_cst_28 (F := Ideal) (Shape.Idx.first h_S_) = 0 from zero_f32.trans EReal.coe_zero, zero_add]

theorem v233_coe (a : Fin 4) (b : Fin 8) (d : Fin 128) : val_main_v233 (F := Ideal) x0 x1 x2 x3 x4 (ix3 a b d) =
    ((if hb : b.val < 4 then ∑ n : Fin 32, ∑ r : Fin 128, -(I.rblk n.val).sg a (row ⟨b.val, hb⟩ r) else 0 : ℝ) : EReal) := by
  have hs := v197_coe H
  unfold val_main_v233 val_main_v231 val_main_v230 val_main_v198
  generalize val_main_v197 (F := Ideal) x0 x1 x2 x3 x4 = y at hs
  pointwise [val_main_v232, val_main_cst_34]
  by_cases hb : b.val < 4
  · refine (dif_pos hb).trans ((hs _ _).trans ?_)
    rw [dif_pos hb]
  · rw [dif_neg hb, dif_neg hb]
    exact EReal.coe_zero.symm
end
end Cert.Attn
-- ==== Proof.RefRope.lean ====
module

public import proofs.«01_k».proof.Proof.RefOut
/-! The reference's gradient at the queries before their rotation. -/

@[expose] public section

set_option maxRecDepth 100000
noncomputable section
namespace Cert.Attn
open Idealize.ShloMosaic Idealize.SL.Sem Idealize.ShloMosaic.Tactic Cert.ReferenceIdeal Cert.ReferenceIdeal.Gen Cert.ReferenceIdeal.Read

section
variable {t : ℕ} {X : Fin 128 → ℝ} {d : Fin 128}
theorem unrope_at {c l h : Fin 128 → ℝ} (a b c' l' h' : ℝ) (ha : X ⟨(d.val + 128 - 112) % 128, Nat.mod_lt _ (by decide)⟩ = a)
    (hb : X ⟨(d.val + 128 - 16) % 128, Nat.mod_lt _ (by decide)⟩ = b) (hc : c d = c') (hl : l d = l') (hh : h d = h') :
    unrope c l h X d = X d * c' + -1 * (a * l' + b * h') := by
  subst ha hb hc hl hh
  rfl
theorem lo_sum (a b x y : ℝ) : (0 : EReal) + (0 + ((a : EReal) * b + x * y)) = ((a * b + x * y : ℝ) : EReal) := by
  rw [zero_add, zero_add, EReal.coe_add, EReal.coe_mul, EReal.coe_mul]
theorem mid_sum (a b x y : ℝ) : (0 : EReal) + ((a : EReal) * b + -(x : EReal) * y + 0) = ((a * b + -x * y : ℝ) : EReal) := by
  rw [zero_add, add_zero, EReal.coe_add, EReal.coe_mul, EReal.coe_mul, EReal.coe_neg]
theorem unrope_lo (h1 : d.val < 16) : unrope (fun d => ctab t d.val) (fun d => ltab t d.val) (fun d => htab t d.val) X d =
    X ⟨16 + d.val, by omega⟩ * Real.sin (ang t d.val) + X d * Real.cos (ang t d.val) := by
  refine (unrope_at (X ⟨16 + d.val, by omega⟩) _ (Real.cos (ang t d.val)) (-Real.sin (ang t d.val)) 0
    (congrArg X (Fin.ext (by dsimp only; omega))) rfl (if_pos h1) (if_pos h1) (if_pos h1)).trans ?_
  ring
theorem unrope_mid (h1 : ¬d.val < 16) (h2 : d.val < 32) : unrope (fun d => ctab t d.val) (fun d => ltab t d.val) (fun d => htab t d.val) X d =
    X d * Real.cos (ang t (d.val - 16)) + -X ⟨d.val - 16, by omega⟩ * Real.sin (ang t (d.val - 16)) := by
  refine (unrope_at _ (X ⟨d.val - 16, by omega⟩) (Real.cos (ang t (d.val - 16))) 0 (Real.sin (ang t (d.val - 16)))
    rfl (congrArg X (Fin.ext (by dsimp only; omega))) ((if_neg h1).trans (if_pos (by omega))) (if_neg h1) ((if_neg h1).trans (if_pos (by omega)))).trans ?_
  ring
theorem unrope_hi (h2 : ¬d.val < 32) : unrope (fun d => ctab t d.val) (fun d => ltab t d.val) (fun d => htab t d.val) X d = X d := by
  have h1 : ¬d.val < 16 := by omega
  refine (unrope_at _ _ 1 0 0 rfl rfl ((if_neg h1).trans (if_neg (by omega))) (if_neg h1) ((if_neg h1).trans (if_neg (by omega)))).trans ?_
  ring
end

section
variable {x0 x4 : S4096x2048.Idx → EReal} {x1 x2 : S4096x512.Idx → EReal} {x3 : S16.Idx → EReal} {I : Ins} (H : I.At x0 x1 x2 x3 x4)
include H

theorem v207_coe (t : Fin 4096) (hh : Fin 16) (d : Fin 128) : val_main_v207 (F := Ideal) x0 x1 x2 x3 x4 (ix4 0 t hh d) =
    (((I.rblk (t.val / 128)).dq ⟨hh.val / 4, by omega⟩ (row ⟨hh.val % 4, by omega⟩ ⟨t.val % 128, by omega⟩) d : ℝ) : EReal) := by
  have hq := v203_coe H
  unfold val_main_v207 val_main_v204
  generalize val_main_v203 (F := Ideal) x0 x1 x2 x3 x4 = y at hq
  pointwise []
  refine (hq _ _ _ _ _).trans ?_
  rfl

theorem v228_coe (t : Fin 4096) (hh : Fin 16) (d : Fin 128) (X : Fin 128 → ℝ)
    (hX : ∀ d, val_main_v207 (F := Ideal) x0 x1 x2 x3 x4 (ix4 0 t hh d) = ((X d : ℝ) : EReal)) :
    val_main_v228 (F := Ideal) x0 x1 x2 x3 x4 (ix4 0 t hh d) =
      ((unrope (fun d => ctab t.val d.val) (fun d => ltab t.val d.val) (fun d => htab t.val d.val) X d : ℝ) : EReal) := by
  obtain ⟨u, hu⟩ : ∃ u, unrope (fun d => ctab t.val d.val) (fun d => ltab t.val d.val) (fun d => htab t.val d.val) X d = u := ⟨_, rfl⟩
  rw [hu]
  have hc := v17_coe t
  have hs := v19_coe t
  unfold val_main_v228 val_main_v227 val_main_v226 val_main_v225 val_main_v224 val_main_v223 val_main_v222 val_main_v221 val_main_v220
    val_main_v219 val_main_v218 val_main_v217 val_main_v216 val_main_v215 val_main_v214 val_main_v213 val_main_v212 val_main_v211
    val_main_v210 val_main_v209 val_main_v208
  generalize val_main_v207 (F := Ideal) x0 x1 x2 x3 x4 = y at hX
  generalize val_main_v17 (F := Ideal) = cs at hc
  generalize val_main_v19 (F := Ideal) = sn at hs
  pointwise [val_main_cst_30, val_main_cst_31, val_main_cst_32, val_main_cst_33]
  have hX' : ∀ e : Fin 128, e.val = d.val → y (ix4 0 t hh e) = ((X d : ℝ) : EReal) := fun e he => by rw [hX, Fin.ext he]
  by_cases h1 : d.val < 16
  · refine (congrArg₂ (· + ·) (dif_neg (by omega)) ((dif_pos (by omega)).trans (congrArg₂ (· + ·) (dif_neg (by omega)) ((dif_pos h1).trans
      (congrArg₂ (· + ·) (congrArg₂ (· * ·) (hX _) (hs _)) (congrArg₂ (· * ·) (hX _) (hc _))))))).trans ?_
    rw [show u = _ from hu.symm.trans (unrope_lo h1)]
    exact lo_sum _ _ _ _
  · by_cases h2 : d.val < 32
    · refine (congrArg₂ (· + ·) (dif_neg (by omega)) ((dif_pos h2).trans (congrArg₂ (· + ·) ((dif_pos (by omega)).trans
        (congrArg₂ (· + ·) (congrArg₂ (· * ·) (hX' _ (by dsimp only; omega)) (hc _)) (congrArg₂ (· * ·) (congrArg (- ·) (hX _)) (hs _)))) (dif_neg h1)))).trans ?_
      rw [show u = _ from hu.symm.trans (unrope_mid h1 h2)]
      exact mid_sum _ _ _ _
    · refine (congrArg₂ (· + ·) ((dif_pos (by omega)).trans (hX' _ (by dsimp only; omega))) (dif_neg h2)).trans ?_
      rw [show u = _ from hu.symm.trans (unrope_hi h2)]
      exact add_zero _

/-- The queries' gradient. -/
theorem v234_coe (n : Fin 32) (r : Fin 128) (d : Fin 2048) :
    val_main_v234 (F := Ideal) x0 x1 x2 x3 x4 (ix2 ⟨n.val * 128 + r.val, by omega⟩ d) = (((I.rblk n.val).dqr r d : ℝ) : EReal) := by
  have hq := fun hh e => v228_coe H ⟨n.val * 128 + r.val, by omega⟩ hh e _ (fun d => v207_coe H _ hh d)
  unfold val_main_v234 val_main_v229
  generalize val_main_v228 (F := Ideal) x0 x1 x2 x3 x4 = y at hq
  pointwise []
  refine (hq _ _).trans (congrArg _ ?_)
  have e1 : (n.val * 128 + r.val) / 128 = n.val := by omega
  have e2 : (⟨(n.val * 128 + r.val) % 128, by omega⟩ : Fin 128) = r := Fin.ext (by dsimp only; omega)
  unfold Blk.dqr
  dsimp only
  simp only [e1, e2]
  have e3 : (⟨d.val / 128 / 4, by omega⟩ : Fin 4) = ⟨d.val / 512, by omega⟩ := Fin.ext (by dsimp only; omega)
  have e4 : row ⟨d.val / 128 % 4, by omega⟩ r = ⟨d.val % 512 / 128 * 128 + r.val, by omega⟩ := Fin.ext (by unfold row; dsimp only; omega)
  exact congrArg₂ (fun a b => unrope ((I.rblk n.val).c r) ((I.rblk n.val).l r) ((I.rblk n.val).t r) ((I.rblk n.val).dq a b) ⟨d.val % 128, by omega⟩) e3 e4
end
end Cert.Attn
-- ==== Proof.ChainALo.lean ====
module

public import proofs.«01_k».proof.Proof.Vocab
/-! The values of a first step, kv heads 0 and 1, by name. -/

@[expose] public section

set_option maxRecDepth 16384
noncomputable section
namespace Cert.Attn
open Idealize.ShloMosaic Idealize.SL.Sem Idealize.ShloMosaic.Tactic Cert.KernelIdeal Cert.KernelIdeal.Gen
variable (c : Dev nD) (i : grid0.Coords) (arg2 : Memref sig .tc .vmem S128x2048 .bf16) (harg2 : arg2.IsWhole) (arg3 : Memref sig
    .tc .vmem S128x512 .bf16) (harg3 : arg3.IsWhole) (arg4 : Memref sig .tc .vmem S128x512 .bf16) (harg4 : arg4.IsWhole) (arg5 :
    Memref sig .tc .vmem S128x512 .bf16) (harg5 : arg5.IsWhole) (arg6 : Memref sig .tc .vmem S128x512 .bf16) (harg6 :
    arg6.IsWhole) (arg7 : Memref sig .tc .vmem S128x512 .bf16) (harg7 : arg7.IsWhole) (arg8 : Memref sig .tc .vmem S128x512
    .bf16) (harg8 : arg8.IsWhole) (arg9 : Memref sig .tc .vmem S4x512x1 .f32) (harg9 : arg9.IsWhole) (arg10 : Memref sig .tc
    .vmem S128x2048 .bf16) (harg10 : arg10.IsWhole) (arg11 : Memref sig .tc .vmem S128x128 .f32) (harg11 : arg11.IsWhole) (arg12
    : Memref sig .tc .vmem S128x128 .f32) (harg12 : arg12.IsWhole) (arg13 : Memref sig .tc .vmem S128x128 .f32) (harg13 :
    arg13.IsWhole) (x0 : Vec Ideal S128x2048 .bf16) (x1 : Vec Ideal S128x512 .bf16) (x2 : Vec Ideal S128x512 .bf16) (x3 : Vec
    Ideal S128x512 .bf16) (x4 : Vec Ideal S128x512 .bf16) (x5 : Vec Ideal S128x512 .bf16) (x6 : Vec Ideal S128x512 .bf16) (x7 :
    Vec Ideal S4x512x1 .f32) (x8 : Vec Ideal S128x2048 .bf16) (x9 : Vec Ideal S128x128 .f32) (x10 : Vec Ideal S128x128 .f32)
    (x11 : Vec Ideal S128x128 .f32)
theorem A_v19 : kernelRun0_A.sl.v19 i = k0_pay2 i := by
  unfold kernelRun0_A.sl.v19 kernelRun0_A.sl.v16 kernelRun0_A.sl.v18 kernelRun0_A.sl.v15 kernelRun0_A.sl.v10 kernelRun0_A.sl.v13
    kernelRun0_A.sl.v9 kernelRun0_A.sl.v8 kernelRun0_A.sl.v6 kernelRun0_A.sl.v4 kernelRun0_A.sl.v0 kernelRun0_A.sl.v3
    kernelRun0_A.sl.v17 kernelRun0_A.sl.v14 kernelRun0_A.sl.v7 kernelRun0_A.sl.v1
  sl_kernel_rfl
theorem A_r : kernelRun0_A.sl.r (F := Ideal) c arg2 harg2 x0 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).qs 0 := by
  unfold kernelRun0_A.sl.r kernelRun0_A.sl.v30
  sl_kernel_rfl
theorem A_r_1 : kernelRun0_A.sl.r_1 (F := Ideal) c arg3 harg3 arg4 harg4 arg5 harg5 x1 x2 x3 = (loads arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11).kb 0 := by
  unfold kernelRun0_A.sl.r_1 kernelRun0_A.sl.v34 kernelRun0_A.sl.v32
  sl_kernel_rfl
theorem A_r_4 : kernelRun0_A.sl.r_4 (F := Ideal) c arg6 harg6 arg7 harg7 arg8 harg8 x4 x5 x6 = (loads arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11).vb 0 := by
  unfold kernelRun0_A.sl.r_4
  sl_kernel_rfl
theorem A_r_5 : kernelRun0_A.sl.r_5 (F := Ideal) c arg10 harg10 x8 = (loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dos 0 := by
  unfold kernelRun0_A.sl.r_5
  sl_kernel_rfl
theorem A_r_2 : kernelRun0_A.sl.r_2 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).w i 0 := by
  unfold kernelRun0_A.sl.r_2 kernelRun0_A.sl.v30 kernelRun0_A.sl.v32 kernelRun0_A.sl.v34
  rw [A_v19 i]
  sl_kernel_rfl
theorem A_r_3 : kernelRun0_A.sl.r_3 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ws i 0 := by
  unfold kernelRun0_A.sl.r_3 kernelRun0_A.sl.v34 kernelRun0_A.sl.v30 kernelRun0_A.sl.v32
  rw [A_v19 i]
  sl_kernel_rfl
theorem A_v79 : kernelRun0_A.sl.v79 (F := Ideal) c i arg2 harg2 arg3 harg3 arg4 harg4 arg5 harg5 arg9 harg9 arg10 harg10 x0 x1
    x2 x3 x7 x8 = (loads arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11).dv i 0 := by
  unfold kernelRun0_A.sl.v79 kernelRun0_A.sl.v78
  rw [A_r_2 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_r_5 c arg2 harg2 arg3 harg3 arg4 harg4 arg5 harg5
    arg6 harg6 arg7 harg7 arg8 harg8 arg9 harg9 arg10 harg10 arg11 harg11 arg12 harg12 arg13 harg13 x0 x1 x2 x3 x4 x5 x6 x7 x8
    x9 x10 x11]
  sl_kernel_rfl
theorem A_v83 : kernelRun0_A.sl.v83 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dl i 0 := by
  unfold kernelRun0_A.sl.v83 kernelRun0_A.sl.v82 kernelRun0_A.sl.v81 kernelRun0_A.sl.v80
  rw [A_r_2 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_r_4 c arg2 harg2 arg3 harg3 arg4 harg4 arg5 harg5
    arg6 harg6 arg7 harg7 arg8 harg8 arg9 harg9 arg10 harg10 arg11 harg11 arg12 harg12 arg13 harg13 x0 x1 x2 x3 x4 x5 x6 x7 x8
    x9 x10 x11, A_r_5 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11]
  sl_kernel_rfl
theorem A_v90 : kernelRun0_A.sl.v90 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dq i 0 := by
  unfold kernelRun0_A.sl.v90 kernelRun0_A.sl.v89 kernelRun0_A.sl.v88 kernelRun0_A.sl.v86 kernelRun0_A.sl.v85 kernelRun0_A.sl.v84
    kernelRun0_A.sl.v80 kernelRun0_A.sl.v87
  rw [A_v83 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_r_2 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, A_r_1 c arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11, A_r_5 c arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11, A_r_4 c arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11]
  sl_kernel_rfl
theorem A_v91 : kernelRun0_A.sl.v91 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dk i 0 := by
  unfold kernelRun0_A.sl.v91 kernelRun0_A.sl.v89 kernelRun0_A.sl.v88 kernelRun0_A.sl.v86 kernelRun0_A.sl.v85 kernelRun0_A.sl.v84
    kernelRun0_A.sl.v80 kernelRun0_A.sl.v87
  rw [A_v83 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_r_2 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, A_r c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11, A_r_5 c arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, A_r_4 c arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11]
  sl_kernel_rfl
theorem A_v164 : kernelRun0_A.sl.v164 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).sg i 0 := by
  unfold kernelRun0_A.sl.v164
  rw [A_v83 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_r_3 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem A_v102 : kernelRun0_A.sl.v102 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq0 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 0) := by
  unfold kernelRun0_A.sl.v102 kernelRun0_A.sl.v101 kernelRun0_A.sl.v100 kernelRun0_A.sl.v98 kernelRun0_A.sl.v97
    kernelRun0_A.sl.v96 kernelRun0_A.sl.v95 kernelRun0_A.sl.v93 kernelRun0_A.sl.v94 kernelRun0_A.sl.v92 kernelRun0_A.sl.v99
    kernelRun0_A.sl.v25 kernelRun0_A.sl.v23 kernelRun0_A.sl.v21
  rw [A_v90 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v114 : kernelRun0_A.sl.v114 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq1 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 0) := by
  unfold kernelRun0_A.sl.v114 kernelRun0_A.sl.v113 kernelRun0_A.sl.v112 kernelRun0_A.sl.v110 kernelRun0_A.sl.v109
    kernelRun0_A.sl.v108 kernelRun0_A.sl.v107 kernelRun0_A.sl.v105 kernelRun0_A.sl.v106 kernelRun0_A.sl.v104 kernelRun0_A.sl.v99
    kernelRun0_A.sl.v25 kernelRun0_A.sl.v23 kernelRun0_A.sl.v21
  rw [A_v90 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v126 : kernelRun0_A.sl.v126 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq2 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 0) := by
  unfold kernelRun0_A.sl.v126 kernelRun0_A.sl.v125 kernelRun0_A.sl.v124 kernelRun0_A.sl.v122 kernelRun0_A.sl.v120
    kernelRun0_A.sl.v121 kernelRun0_A.sl.v118 kernelRun0_A.sl.v117 kernelRun0_A.sl.v119 kernelRun0_A.sl.v116 kernelRun0_A.sl.v99
    kernelRun0_A.sl.v25 kernelRun0_A.sl.v23 kernelRun0_A.sl.v21
  rw [A_v90 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v138 : kernelRun0_A.sl.v138 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq3 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 0) := by
  unfold kernelRun0_A.sl.v138 kernelRun0_A.sl.v137 kernelRun0_A.sl.v136 kernelRun0_A.sl.v134 kernelRun0_A.sl.v132
    kernelRun0_A.sl.v133 kernelRun0_A.sl.v130 kernelRun0_A.sl.v129 kernelRun0_A.sl.v131 kernelRun0_A.sl.v128 kernelRun0_A.sl.v99
    kernelRun0_A.sl.v23 kernelRun0_A.sl.v25 kernelRun0_A.sl.v21
  rw [A_v90 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v143 : kernelRun0_A.sl.v143 (F := Ideal) c i arg2 harg2 arg3 harg3 arg4 harg4 arg5 harg5 arg6 harg6 arg7 harg7 arg8
    harg8 arg9 harg9 arg10 harg10 x0 x1 x2 x3 x4 x5 x6 x7 x8 = pdk0 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 0) := by
  unfold kernelRun0_A.sl.v143 kernelRun0_A.sl.v140
  rw [A_v91 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v151 : kernelRun0_A.sl.v151 (F := Ideal) c i arg2 harg2 arg3 harg3 arg4 harg4 arg5 harg5 arg6 harg6 arg7 harg7 arg8
    harg8 arg9 harg9 arg10 harg10 x0 x1 x2 x3 x4 x5 x6 x7 x8 = pdk1 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 0) := by
  unfold kernelRun0_A.sl.v151 kernelRun0_A.sl.v148
  rw [A_v91 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v159 : kernelRun0_A.sl.v159 (F := Ideal) c i arg2 harg2 arg3 harg3 arg4 harg4 arg5 harg5 arg6 harg6 arg7 harg7 arg8
    harg8 arg9 harg9 arg10 harg10 x0 x1 x2 x3 x4 x5 x6 x7 x8 = pdk2 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 0) := by
  unfold kernelRun0_A.sl.v159 kernelRun0_A.sl.v156
  rw [A_v91 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v147 : kernelRun0_A.sl.v147 (F := Ideal) c i arg2 harg2 arg3 harg3 arg4 harg4 arg5 harg5 arg9 harg9 arg10 harg10 x0 x1
    x2 x3 x7 x8 = pdk0 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 0) := by
  unfold kernelRun0_A.sl.v147 kernelRun0_A.sl.v144
  rw [A_v79 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v155 : kernelRun0_A.sl.v155 (F := Ideal) c i arg2 harg2 arg3 harg3 arg4 harg4 arg5 harg5 arg9 harg9 arg10 harg10 x0 x1
    x2 x3 x7 x8 = pdk1 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 0) := by
  unfold kernelRun0_A.sl.v155 kernelRun0_A.sl.v152
  rw [A_v79 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v163 : kernelRun0_A.sl.v163 (F := Ideal) c i arg2 harg2 arg3 harg3 arg4 harg4 arg5 harg5 arg9 harg9 arg10 harg10 x0 x1
    x2 x3 x7 x8 = pdk2 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 0) := by
  unfold kernelRun0_A.sl.v163 kernelRun0_A.sl.v160
  rw [A_v79 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v219 : kernelRun0_A.sl.v219 (F := Ideal) c arg2 harg2 x0 = (loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).qs 1 := by
  unfold kernelRun0_A.sl.v219 kernelRun0_A.sl.v218 kernelRun0_A.sl.v216 kernelRun0_A.sl.v217 kernelRun0_A.sl.v215
    kernelRun0_A.sl.v206
  sl_kernel_rfl
theorem A_v220 : kernelRun0_A.sl.v220 (F := Ideal) c arg3 harg3 arg4 harg4 arg5 harg5 x1 x2 x3 = (loads arg2 harg2 arg3 harg3
    arg4 harg4 arg5 harg5 arg6 harg6 arg7 harg7 arg8 harg8 arg9 harg9 arg10 harg10 arg11 harg11 arg12 harg12 arg13 harg13 x0 x1
    x2 x3 x4 x5 x6 x7 x8 x9 x10 x11).kb 1 := by
  unfold kernelRun0_A.sl.v220 kernelRun0_A.sl.v210 kernelRun0_A.sl.v208 kernelRun0_A.sl.v212
  sl_kernel_rfl
theorem A_r_6 : kernelRun0_A.sl.r_6 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ws i 1 := by
  unfold kernelRun0_A.sl.r_6 kernelRun0_A.sl.v214
  rw [A_v19 i, A_v219 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11, A_v220 c arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem A_r_7 : kernelRun0_A.sl.r_7 (F := Ideal) c i arg2 harg2 arg3 harg3 arg4 harg4 arg5 harg5 arg9 harg9 arg10 harg10 x0 x1
    x2 x3 x7 x8 = (loads arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11).dv i 1 := by
  unfold kernelRun0_A.sl.r_7 kernelRun0_A.sl.v214
  rw [A_v19 i, A_v219 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11, A_v220 c arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem A_r_8 : kernelRun0_A.sl.r_8 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dl i 1 := by
  unfold kernelRun0_A.sl.r_8 kernelRun0_A.sl.v214
  rw [A_v19 i, A_v219 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11, A_v220 c arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem A_v266 : kernelRun0_A.sl.v266 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dq i 1 := by
  unfold kernelRun0_A.sl.v266 kernelRun0_A.sl.v265 kernelRun0_A.sl.v264 kernelRun0_A.sl.r_9 kernelRun0_A.sl.v214
  rw [A_v19 i, A_v219 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11, A_v220 c arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem A_v267 : kernelRun0_A.sl.v267 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dk i 1 := by
  unfold kernelRun0_A.sl.v267 kernelRun0_A.sl.v265 kernelRun0_A.sl.v264 kernelRun0_A.sl.r_9 kernelRun0_A.sl.v214
  rw [A_v19 i, A_v219 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11, A_v220 c arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem A_v340 : kernelRun0_A.sl.v340 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).sg i 1 := by
  unfold kernelRun0_A.sl.v340
  rw [A_r_6 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_r_8 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem A_v278 : kernelRun0_A.sl.v278 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq0 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 1) := by
  unfold kernelRun0_A.sl.v278 kernelRun0_A.sl.v277 kernelRun0_A.sl.v276 kernelRun0_A.sl.v274 kernelRun0_A.sl.v273
    kernelRun0_A.sl.v272 kernelRun0_A.sl.v270 kernelRun0_A.sl.v269 kernelRun0_A.sl.v271 kernelRun0_A.sl.v268 kernelRun0_A.sl.v99
    kernelRun0_A.sl.v23 kernelRun0_A.sl.v25 kernelRun0_A.sl.v21
  rw [A_v266 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v290 : kernelRun0_A.sl.v290 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq1 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 1) := by
  unfold kernelRun0_A.sl.v290 kernelRun0_A.sl.v289 kernelRun0_A.sl.v288 kernelRun0_A.sl.v286 kernelRun0_A.sl.v284
    kernelRun0_A.sl.v285 kernelRun0_A.sl.v282 kernelRun0_A.sl.v281 kernelRun0_A.sl.v283 kernelRun0_A.sl.v280 kernelRun0_A.sl.v99
    kernelRun0_A.sl.v23 kernelRun0_A.sl.v25 kernelRun0_A.sl.v21
  rw [A_v266 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v302 : kernelRun0_A.sl.v302 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq2 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 1) := by
  unfold kernelRun0_A.sl.v302 kernelRun0_A.sl.v301 kernelRun0_A.sl.v300 kernelRun0_A.sl.v298 kernelRun0_A.sl.v297
    kernelRun0_A.sl.v296 kernelRun0_A.sl.v294 kernelRun0_A.sl.v293 kernelRun0_A.sl.v295 kernelRun0_A.sl.v292 kernelRun0_A.sl.v99
    kernelRun0_A.sl.v23 kernelRun0_A.sl.v25 kernelRun0_A.sl.v21
  rw [A_v266 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v314 : kernelRun0_A.sl.v314 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq3 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 1) := by
  unfold kernelRun0_A.sl.v314 kernelRun0_A.sl.v313 kernelRun0_A.sl.v312 kernelRun0_A.sl.v310 kernelRun0_A.sl.v308
    kernelRun0_A.sl.v309 kernelRun0_A.sl.v305 kernelRun0_A.sl.v306 kernelRun0_A.sl.v307 kernelRun0_A.sl.v304 kernelRun0_A.sl.v99
    kernelRun0_A.sl.v23 kernelRun0_A.sl.v25 kernelRun0_A.sl.v21
  rw [A_v266 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v319 : kernelRun0_A.sl.v319 (F := Ideal) c i arg2 harg2 arg3 harg3 arg4 harg4 arg5 harg5 arg6 harg6 arg7 harg7 arg8
    harg8 arg9 harg9 arg10 harg10 x0 x1 x2 x3 x4 x5 x6 x7 x8 = pdk0 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 1) := by
  unfold kernelRun0_A.sl.v319 kernelRun0_A.sl.v316
  rw [A_v267 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v327 : kernelRun0_A.sl.v327 (F := Ideal) c i arg2 harg2 arg3 harg3 arg4 harg4 arg5 harg5 arg6 harg6 arg7 harg7 arg8
    harg8 arg9 harg9 arg10 harg10 x0 x1 x2 x3 x4 x5 x6 x7 x8 = pdk1 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 1) := by
  unfold kernelRun0_A.sl.v327 kernelRun0_A.sl.v324
  rw [A_v267 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v335 : kernelRun0_A.sl.v335 (F := Ideal) c i arg2 harg2 arg3 harg3 arg4 harg4 arg5 harg5 arg6 harg6 arg7 harg7 arg8
    harg8 arg9 harg9 arg10 harg10 x0 x1 x2 x3 x4 x5 x6 x7 x8 = pdk2 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 1) := by
  unfold kernelRun0_A.sl.v335 kernelRun0_A.sl.v332
  rw [A_v267 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v323 : kernelRun0_A.sl.v323 (F := Ideal) c i arg2 harg2 arg3 harg3 arg4 harg4 arg5 harg5 arg9 harg9 arg10 harg10 x0 x1
    x2 x3 x7 x8 = pdk0 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 1) := by
  unfold kernelRun0_A.sl.v323 kernelRun0_A.sl.v320
  rw [A_r_7 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v331 : kernelRun0_A.sl.v331 (F := Ideal) c i arg2 harg2 arg3 harg3 arg4 harg4 arg5 harg5 arg9 harg9 arg10 harg10 x0 x1
    x2 x3 x7 x8 = pdk1 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 1) := by
  unfold kernelRun0_A.sl.v331 kernelRun0_A.sl.v328
  rw [A_r_7 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v339 : kernelRun0_A.sl.v339 (F := Ideal) c i arg2 harg2 arg3 harg3 arg4 harg4 arg5 harg5 arg9 harg9 arg10 harg10 x0 x1
    x2 x3 x7 x8 = pdk2 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 1) := by
  unfold kernelRun0_A.sl.v339 kernelRun0_A.sl.v336
  rw [A_r_7 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
end Cert.Attn
-- ==== Proof.ChainAHi.lean ====
module

public import proofs.«01_k».proof.Proof.Vocab
/-! The values of a first step, kv heads 2 and 3, by name. -/

@[expose] public section

set_option maxRecDepth 16384
noncomputable section
namespace Cert.Attn
open Idealize.ShloMosaic Idealize.SL.Sem Idealize.ShloMosaic.Tactic Cert.KernelIdeal Cert.KernelIdeal.Gen
variable (c : Dev nD) (i : grid0.Coords) (arg2 : Memref sig .tc .vmem S128x2048 .bf16) (harg2 : arg2.IsWhole) (arg3 : Memref sig
    .tc .vmem S128x512 .bf16) (harg3 : arg3.IsWhole) (arg4 : Memref sig .tc .vmem S128x512 .bf16) (harg4 : arg4.IsWhole) (arg5 :
    Memref sig .tc .vmem S128x512 .bf16) (harg5 : arg5.IsWhole) (arg6 : Memref sig .tc .vmem S128x512 .bf16) (harg6 :
    arg6.IsWhole) (arg7 : Memref sig .tc .vmem S128x512 .bf16) (harg7 : arg7.IsWhole) (arg8 : Memref sig .tc .vmem S128x512
    .bf16) (harg8 : arg8.IsWhole) (arg9 : Memref sig .tc .vmem S4x512x1 .f32) (harg9 : arg9.IsWhole) (arg10 : Memref sig .tc
    .vmem S128x2048 .bf16) (harg10 : arg10.IsWhole) (arg11 : Memref sig .tc .vmem S128x128 .f32) (harg11 : arg11.IsWhole) (arg12
    : Memref sig .tc .vmem S128x128 .f32) (harg12 : arg12.IsWhole) (arg13 : Memref sig .tc .vmem S128x128 .f32) (harg13 :
    arg13.IsWhole) (x0 : Vec Ideal S128x2048 .bf16) (x1 : Vec Ideal S128x512 .bf16) (x2 : Vec Ideal S128x512 .bf16) (x3 : Vec
    Ideal S128x512 .bf16) (x4 : Vec Ideal S128x512 .bf16) (x5 : Vec Ideal S128x512 .bf16) (x6 : Vec Ideal S128x512 .bf16) (x7 :
    Vec Ideal S4x512x1 .f32) (x8 : Vec Ideal S128x2048 .bf16) (x9 : Vec Ideal S128x128 .f32) (x10 : Vec Ideal S128x128 .f32)
    (x11 : Vec Ideal S128x128 .f32)
theorem A_v19_hi : kernelRun0_A.sl.v19 i = k0_pay2 i := by
  unfold kernelRun0_A.sl.v19 kernelRun0_A.sl.v16 kernelRun0_A.sl.v18 kernelRun0_A.sl.v15 kernelRun0_A.sl.v10 kernelRun0_A.sl.v13
    kernelRun0_A.sl.v9 kernelRun0_A.sl.v8 kernelRun0_A.sl.v6 kernelRun0_A.sl.v4 kernelRun0_A.sl.v0 kernelRun0_A.sl.v3
    kernelRun0_A.sl.v17 kernelRun0_A.sl.v14 kernelRun0_A.sl.v7 kernelRun0_A.sl.v1
  sl_kernel_rfl
theorem A_r_11 : kernelRun0_A.sl.r_11 (F := Ideal) c arg2 harg2 x0 = (loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).qs 2 := by
  unfold kernelRun0_A.sl.r_11
  sl_kernel_rfl
theorem A_r_12 : kernelRun0_A.sl.r_12 (F := Ideal) c arg3 harg3 arg4 harg4 arg5 harg5 x1 x2 x3 = (loads arg2 harg2 arg3 harg3
    arg4 harg4 arg5 harg5 arg6 harg6 arg7 harg7 arg8 harg8 arg9 harg9 arg10 harg10 arg11 harg11 arg12 harg12 arg13 harg13 x0 x1
    x2 x3 x4 x5 x6 x7 x8 x9 x10 x11).kb 2 := by
  unfold kernelRun0_A.sl.r_12
  sl_kernel_rfl
theorem A_v422 : kernelRun0_A.sl.v422 (F := Ideal) c arg6 harg6 arg7 harg7 arg8 harg8 x4 x5 x6 = (loads arg2 harg2 arg3 harg3
    arg4 harg4 arg5 harg5 arg6 harg6 arg7 harg7 arg8 harg8 arg9 harg9 arg10 harg10 arg11 harg11 arg12 harg12 arg13 harg13 x0 x1
    x2 x3 x4 x5 x6 x7 x8 x9 x10 x11).vb 2 := by
  unfold kernelRun0_A.sl.v422 kernelRun0_A.sl.v419 kernelRun0_A.sl.v421 kernelRun0_A.sl.v417
  sl_kernel_rfl
theorem A_v429 : kernelRun0_A.sl.v429 (F := Ideal) c arg10 harg10 x8 = (loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dos 2 := by
  unfold kernelRun0_A.sl.v429 kernelRun0_A.sl.v428 kernelRun0_A.sl.v427 kernelRun0_A.sl.v426 kernelRun0_A.sl.v425
    kernelRun0_A.sl.v424
  sl_kernel_rfl
theorem A_v414 : kernelRun0_A.sl.v414 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).w i 2 := by
  unfold kernelRun0_A.sl.v414 kernelRun0_A.sl.v413 kernelRun0_A.sl.v412 kernelRun0_A.sl.v411 kernelRun0_A.sl.v410
    kernelRun0_A.sl.v409 kernelRun0_A.sl.v407 kernelRun0_A.sl.v408 kernelRun0_A.sl.r_13 kernelRun0_A.sl.r_14
    kernelRun0_A.sl.r_10
  rw [A_v19_hi i]
  sl_kernel_rfl
theorem A_v415 : kernelRun0_A.sl.v415 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ws i 2 := by
  unfold kernelRun0_A.sl.v415 kernelRun0_A.sl.v412 kernelRun0_A.sl.v411 kernelRun0_A.sl.v410 kernelRun0_A.sl.v409
    kernelRun0_A.sl.v407 kernelRun0_A.sl.v408 kernelRun0_A.sl.r_13 kernelRun0_A.sl.r_14 kernelRun0_A.sl.r_10
  rw [A_v19_hi i]
  sl_kernel_rfl
theorem A_v431 : kernelRun0_A.sl.v431 (F := Ideal) c i arg2 harg2 arg3 harg3 arg4 harg4 arg5 harg5 arg9 harg9 arg10 harg10 x0 x1
    x2 x3 x7 x8 = (loads arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11).dv i 2 := by
  unfold kernelRun0_A.sl.v431 kernelRun0_A.sl.v430
  rw [A_v414 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_v429 c arg2 harg2 arg3 harg3 arg4 harg4 arg5 harg5
    arg6 harg6 arg7 harg7 arg8 harg8 arg9 harg9 arg10 harg10 arg11 harg11 arg12 harg12 arg13 harg13 x0 x1 x2 x3 x4 x5 x6 x7 x8
    x9 x10 x11]
  sl_kernel_rfl
theorem A_v435 : kernelRun0_A.sl.v435 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dl i 2 := by
  unfold kernelRun0_A.sl.v435 kernelRun0_A.sl.v434 kernelRun0_A.sl.v433 kernelRun0_A.sl.v432
  rw [A_v414 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_v429 c arg2 harg2 arg3 harg3 arg4 harg4 arg5 harg5
    arg6 harg6 arg7 harg7 arg8 harg8 arg9 harg9 arg10 harg10 arg11 harg11 arg12 harg12 arg13 harg13 x0 x1 x2 x3 x4 x5 x6 x7 x8
    x9 x10 x11, A_v422 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11]
  sl_kernel_rfl
theorem A_v442 : kernelRun0_A.sl.v442 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dq i 2 := by
  unfold kernelRun0_A.sl.v442 kernelRun0_A.sl.v441 kernelRun0_A.sl.v440 kernelRun0_A.sl.v438 kernelRun0_A.sl.v437
    kernelRun0_A.sl.v436 kernelRun0_A.sl.v432 kernelRun0_A.sl.v87
  rw [A_v435 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_v414 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, A_v429 c arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11, A_v422 c arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11, A_r_12 c arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11]
  sl_kernel_rfl
theorem A_v443 : kernelRun0_A.sl.v443 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dk i 2 := by
  unfold kernelRun0_A.sl.v443 kernelRun0_A.sl.v441 kernelRun0_A.sl.v440 kernelRun0_A.sl.v438 kernelRun0_A.sl.v437
    kernelRun0_A.sl.v436 kernelRun0_A.sl.v432 kernelRun0_A.sl.v87
  rw [A_v435 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_v414 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, A_v429 c arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11, A_v422 c arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11, A_r_11 c arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11]
  sl_kernel_rfl
theorem A_v516 : kernelRun0_A.sl.v516 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).sg i 2 := by
  unfold kernelRun0_A.sl.v516
  rw [A_v435 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_v415 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem A_v454 : kernelRun0_A.sl.v454 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq0 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 2) := by
  unfold kernelRun0_A.sl.v454 kernelRun0_A.sl.v453 kernelRun0_A.sl.v452 kernelRun0_A.sl.v450 kernelRun0_A.sl.v449
    kernelRun0_A.sl.v448 kernelRun0_A.sl.v446 kernelRun0_A.sl.v445 kernelRun0_A.sl.v447 kernelRun0_A.sl.v444 kernelRun0_A.sl.v99
    kernelRun0_A.sl.v23 kernelRun0_A.sl.v25 kernelRun0_A.sl.v21
  rw [A_v442 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v466 : kernelRun0_A.sl.v466 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq1 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 2) := by
  unfold kernelRun0_A.sl.v466 kernelRun0_A.sl.v465 kernelRun0_A.sl.v464 kernelRun0_A.sl.v462 kernelRun0_A.sl.v461
    kernelRun0_A.sl.v460 kernelRun0_A.sl.v458 kernelRun0_A.sl.v459 kernelRun0_A.sl.v457 kernelRun0_A.sl.v456 kernelRun0_A.sl.v99
    kernelRun0_A.sl.v23 kernelRun0_A.sl.v25 kernelRun0_A.sl.v21
  rw [A_v442 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v478 : kernelRun0_A.sl.v478 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq2 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 2) := by
  unfold kernelRun0_A.sl.v478 kernelRun0_A.sl.v477 kernelRun0_A.sl.v476 kernelRun0_A.sl.v474 kernelRun0_A.sl.v473
    kernelRun0_A.sl.v472 kernelRun0_A.sl.v471 kernelRun0_A.sl.v470 kernelRun0_A.sl.v469 kernelRun0_A.sl.v468 kernelRun0_A.sl.v99
    kernelRun0_A.sl.v23 kernelRun0_A.sl.v25 kernelRun0_A.sl.v21
  rw [A_v442 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v490 : kernelRun0_A.sl.v490 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq3 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 2) := by
  unfold kernelRun0_A.sl.v490 kernelRun0_A.sl.v489 kernelRun0_A.sl.v488 kernelRun0_A.sl.v486 kernelRun0_A.sl.v484
    kernelRun0_A.sl.v485 kernelRun0_A.sl.v483 kernelRun0_A.sl.v481 kernelRun0_A.sl.v482 kernelRun0_A.sl.v480 kernelRun0_A.sl.v99
    kernelRun0_A.sl.v23 kernelRun0_A.sl.v25 kernelRun0_A.sl.v21
  rw [A_v442 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v495 : kernelRun0_A.sl.v495 (F := Ideal) c i arg2 harg2 arg3 harg3 arg4 harg4 arg5 harg5 arg6 harg6 arg7 harg7 arg8
    harg8 arg9 harg9 arg10 harg10 x0 x1 x2 x3 x4 x5 x6 x7 x8 = pdk0 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 2) := by
  unfold kernelRun0_A.sl.v495 kernelRun0_A.sl.v492
  rw [A_v443 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v503 : kernelRun0_A.sl.v503 (F := Ideal) c i arg2 harg2 arg3 harg3 arg4 harg4 arg5 harg5 arg6 harg6 arg7 harg7 arg8
    harg8 arg9 harg9 arg10 harg10 x0 x1 x2 x3 x4 x5 x6 x7 x8 = pdk1 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 2) := by
  unfold kernelRun0_A.sl.v503 kernelRun0_A.sl.v500
  rw [A_v443 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v511 : kernelRun0_A.sl.v511 (F := Ideal) c i arg2 harg2 arg3 harg3 arg4 harg4 arg5 harg5 arg6 harg6 arg7 harg7 arg8
    harg8 arg9 harg9 arg10 harg10 x0 x1 x2 x3 x4 x5 x6 x7 x8 = pdk2 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 2) := by
  unfold kernelRun0_A.sl.v511 kernelRun0_A.sl.v508
  rw [A_v443 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v499 : kernelRun0_A.sl.v499 (F := Ideal) c i arg2 harg2 arg3 harg3 arg4 harg4 arg5 harg5 arg9 harg9 arg10 harg10 x0 x1
    x2 x3 x7 x8 = pdk0 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 2) := by
  unfold kernelRun0_A.sl.v499 kernelRun0_A.sl.v496
  rw [A_v431 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v507 : kernelRun0_A.sl.v507 (F := Ideal) c i arg2 harg2 arg3 harg3 arg4 harg4 arg5 harg5 arg9 harg9 arg10 harg10 x0 x1
    x2 x3 x7 x8 = pdk1 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 2) := by
  unfold kernelRun0_A.sl.v507 kernelRun0_A.sl.v504
  rw [A_v431 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v515 : kernelRun0_A.sl.v515 (F := Ideal) c i arg2 harg2 arg3 harg3 arg4 harg4 arg5 harg5 arg9 harg9 arg10 harg10 x0 x1
    x2 x3 x7 x8 = pdk2 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 2) := by
  unfold kernelRun0_A.sl.v515 kernelRun0_A.sl.v512
  rw [A_v431 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_r_15 : kernelRun0_A.sl.r_15 (F := Ideal) c arg2 harg2 x0 = (loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).qs 3 := by
  unfold kernelRun0_A.sl.r_15
  sl_kernel_rfl
theorem A_r_16 : kernelRun0_A.sl.r_16 (F := Ideal) c arg3 harg3 arg4 harg4 arg5 harg5 x1 x2 x3 = (loads arg2 harg2 arg3 harg3
    arg4 harg4 arg5 harg5 arg6 harg6 arg7 harg7 arg8 harg8 arg9 harg9 arg10 harg10 arg11 harg11 arg12 harg12 arg13 harg13 x0 x1
    x2 x3 x4 x5 x6 x7 x8 x9 x10 x11).kb 3 := by
  unfold kernelRun0_A.sl.r_16
  sl_kernel_rfl
theorem A_v598 : kernelRun0_A.sl.v598 (F := Ideal) c arg6 harg6 arg7 harg7 arg8 harg8 x4 x5 x6 = (loads arg2 harg2 arg3 harg3
    arg4 harg4 arg5 harg5 arg6 harg6 arg7 harg7 arg8 harg8 arg9 harg9 arg10 harg10 arg11 harg11 arg12 harg12 arg13 harg13 x0 x1
    x2 x3 x4 x5 x6 x7 x8 x9 x10 x11).vb 3 := by
  unfold kernelRun0_A.sl.v598 kernelRun0_A.sl.v595 kernelRun0_A.sl.r_19 kernelRun0_A.sl.v597
  sl_kernel_rfl
theorem A_v605 : kernelRun0_A.sl.v605 (F := Ideal) c arg10 harg10 x8 = (loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dos 3 := by
  unfold kernelRun0_A.sl.v605 kernelRun0_A.sl.v604 kernelRun0_A.sl.v603 kernelRun0_A.sl.v601 kernelRun0_A.sl.v602
    kernelRun0_A.sl.v600
  sl_kernel_rfl
theorem A_r_17 : kernelRun0_A.sl.r_17 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).w i 3 := by
  unfold kernelRun0_A.sl.r_17
  rw [A_v19_hi i]
  sl_kernel_rfl
theorem A_r_18 : kernelRun0_A.sl.r_18 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ws i 3 := by
  unfold kernelRun0_A.sl.r_18
  rw [A_v19_hi i]
  sl_kernel_rfl
theorem A_v607 : kernelRun0_A.sl.v607 (F := Ideal) c i arg2 harg2 arg3 harg3 arg4 harg4 arg5 harg5 arg9 harg9 arg10 harg10 x0 x1
    x2 x3 x7 x8 = (loads arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11).dv i 3 := by
  unfold kernelRun0_A.sl.v607 kernelRun0_A.sl.v606
  rw [A_r_17 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_v605 c arg2 harg2 arg3 harg3 arg4 harg4 arg5 harg5
    arg6 harg6 arg7 harg7 arg8 harg8 arg9 harg9 arg10 harg10 arg11 harg11 arg12 harg12 arg13 harg13 x0 x1 x2 x3 x4 x5 x6 x7 x8
    x9 x10 x11]
  sl_kernel_rfl
theorem A_v611 : kernelRun0_A.sl.v611 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dl i 3 := by
  unfold kernelRun0_A.sl.v611 kernelRun0_A.sl.v610 kernelRun0_A.sl.v609 kernelRun0_A.sl.v608
  rw [A_r_17 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_v605 c arg2 harg2 arg3 harg3 arg4 harg4 arg5 harg5
    arg6 harg6 arg7 harg7 arg8 harg8 arg9 harg9 arg10 harg10 arg11 harg11 arg12 harg12 arg13 harg13 x0 x1 x2 x3 x4 x5 x6 x7 x8
    x9 x10 x11, A_v598 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11]
  sl_kernel_rfl
theorem A_v618 : kernelRun0_A.sl.v618 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dq i 3 := by
  unfold kernelRun0_A.sl.v618 kernelRun0_A.sl.v617 kernelRun0_A.sl.v616 kernelRun0_A.sl.v614 kernelRun0_A.sl.v613
    kernelRun0_A.sl.v612 kernelRun0_A.sl.v608 kernelRun0_A.sl.v87
  rw [A_v611 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_r_17 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, A_v605 c arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11, A_v598 c arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11, A_r_16 c arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11]
  sl_kernel_rfl
theorem A_v619 : kernelRun0_A.sl.v619 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dk i 3 := by
  unfold kernelRun0_A.sl.v619 kernelRun0_A.sl.v617 kernelRun0_A.sl.v616 kernelRun0_A.sl.v614 kernelRun0_A.sl.v613
    kernelRun0_A.sl.v612 kernelRun0_A.sl.v608 kernelRun0_A.sl.v87
  rw [A_v611 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_r_17 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, A_v605 c arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11, A_v598 c arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11, A_r_15 c arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11]
  sl_kernel_rfl
theorem A_v692 : kernelRun0_A.sl.v692 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).sg i 3 := by
  unfold kernelRun0_A.sl.v692
  rw [A_v611 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, A_r_18 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem A_v630 : kernelRun0_A.sl.v630 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq0 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 3) := by
  unfold kernelRun0_A.sl.v630 kernelRun0_A.sl.v629 kernelRun0_A.sl.v628 kernelRun0_A.sl.v626 kernelRun0_A.sl.v625
    kernelRun0_A.sl.v624 kernelRun0_A.sl.v622 kernelRun0_A.sl.v623 kernelRun0_A.sl.v621 kernelRun0_A.sl.v620 kernelRun0_A.sl.v99
    kernelRun0_A.sl.v23 kernelRun0_A.sl.v25 kernelRun0_A.sl.v21
  rw [A_v618 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v642 : kernelRun0_A.sl.v642 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq1 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 3) := by
  unfold kernelRun0_A.sl.v642 kernelRun0_A.sl.v641 kernelRun0_A.sl.v640 kernelRun0_A.sl.v638 kernelRun0_A.sl.v636
    kernelRun0_A.sl.v637 kernelRun0_A.sl.v633 kernelRun0_A.sl.v634 kernelRun0_A.sl.v635 kernelRun0_A.sl.v632 kernelRun0_A.sl.v99
    kernelRun0_A.sl.v23 kernelRun0_A.sl.v25 kernelRun0_A.sl.v21
  rw [A_v618 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v654 : kernelRun0_A.sl.v654 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq2 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 3) := by
  unfold kernelRun0_A.sl.v654 kernelRun0_A.sl.v653 kernelRun0_A.sl.v652 kernelRun0_A.sl.v650 kernelRun0_A.sl.v649
    kernelRun0_A.sl.v648 kernelRun0_A.sl.v647 kernelRun0_A.sl.v645 kernelRun0_A.sl.v646 kernelRun0_A.sl.v644 kernelRun0_A.sl.v99
    kernelRun0_A.sl.v23 kernelRun0_A.sl.v25 kernelRun0_A.sl.v21
  rw [A_v618 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v666 : kernelRun0_A.sl.v666 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq3 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 3) := by
  unfold kernelRun0_A.sl.v666 kernelRun0_A.sl.v665 kernelRun0_A.sl.v664 kernelRun0_A.sl.v662 kernelRun0_A.sl.v660
    kernelRun0_A.sl.v661 kernelRun0_A.sl.v657 kernelRun0_A.sl.v659 kernelRun0_A.sl.v658 kernelRun0_A.sl.v656 kernelRun0_A.sl.v99
    kernelRun0_A.sl.v23 kernelRun0_A.sl.v25 kernelRun0_A.sl.v21
  rw [A_v618 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v671 : kernelRun0_A.sl.v671 (F := Ideal) c i arg2 harg2 arg3 harg3 arg4 harg4 arg5 harg5 arg6 harg6 arg7 harg7 arg8
    harg8 arg9 harg9 arg10 harg10 x0 x1 x2 x3 x4 x5 x6 x7 x8 = pdk0 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 3) := by
  unfold kernelRun0_A.sl.v671 kernelRun0_A.sl.v668
  rw [A_v619 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v679 : kernelRun0_A.sl.v679 (F := Ideal) c i arg2 harg2 arg3 harg3 arg4 harg4 arg5 harg5 arg6 harg6 arg7 harg7 arg8
    harg8 arg9 harg9 arg10 harg10 x0 x1 x2 x3 x4 x5 x6 x7 x8 = pdk1 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 3) := by
  unfold kernelRun0_A.sl.v679 kernelRun0_A.sl.v676
  rw [A_v619 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v687 : kernelRun0_A.sl.v687 (F := Ideal) c i arg2 harg2 arg3 harg3 arg4 harg4 arg5 harg5 arg6 harg6 arg7 harg7 arg8
    harg8 arg9 harg9 arg10 harg10 x0 x1 x2 x3 x4 x5 x6 x7 x8 = pdk2 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 3) := by
  unfold kernelRun0_A.sl.v687 kernelRun0_A.sl.v684
  rw [A_v619 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v675 : kernelRun0_A.sl.v675 (F := Ideal) c i arg2 harg2 arg3 harg3 arg4 harg4 arg5 harg5 arg9 harg9 arg10 harg10 x0 x1
    x2 x3 x7 x8 = pdk0 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 3) := by
  unfold kernelRun0_A.sl.v675 kernelRun0_A.sl.v672
  rw [A_v607 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v683 : kernelRun0_A.sl.v683 (F := Ideal) c i arg2 harg2 arg3 harg3 arg4 harg4 arg5 harg5 arg9 harg9 arg10 harg10 x0 x1
    x2 x3 x7 x8 = pdk1 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 3) := by
  unfold kernelRun0_A.sl.v683 kernelRun0_A.sl.v680
  rw [A_v607 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem A_v691 : kernelRun0_A.sl.v691 (F := Ideal) c i arg2 harg2 arg3 harg3 arg4 harg4 arg5 harg5 arg9 harg9 arg10 harg10 x0 x1
    x2 x3 x7 x8 = pdk2 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 3) := by
  unfold kernelRun0_A.sl.v691 kernelRun0_A.sl.v688
  rw [A_v607 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
end Cert.Attn
-- ==== Proof.BlockA.lean ====
module

public import proofs.«01_k».proof.Proof.Block
public import proofs.«01_k».proof.Proof.ChainALo
public import proofs.«01_k».proof.Proof.ChainAHi
public import proofs.«01_k».proof.Proof.Gen.KernelIdeal.Frame
/-! What a first step stores to the blocks of the queries', keys' and values' gradients. -/

@[expose] public section

set_option maxRecDepth 16384
noncomputable section
namespace Cert.Attn
open Idealize.ShloMosaic Idealize.SL.Sem Idealize.ShloMosaic.Tactic Cert.KernelIdeal Cert.KernelIdeal.Gen
variable (c : Dev nD) (i : grid0.Coords) (arg2 : Memref sig .tc .vmem S128x2048 .bf16) (harg2 : arg2.IsWhole) (arg3 : Memref sig
    .tc .vmem S128x512 .bf16) (harg3 : arg3.IsWhole) (arg4 : Memref sig .tc .vmem S128x512 .bf16) (harg4 : arg4.IsWhole) (arg5 :
    Memref sig .tc .vmem S128x512 .bf16) (harg5 : arg5.IsWhole) (arg6 : Memref sig .tc .vmem S128x512 .bf16) (harg6 :
    arg6.IsWhole) (arg7 : Memref sig .tc .vmem S128x512 .bf16) (harg7 : arg7.IsWhole) (arg8 : Memref sig .tc .vmem S128x512
    .bf16) (harg8 : arg8.IsWhole) (arg9 : Memref sig .tc .vmem S4x512x1 .f32) (harg9 : arg9.IsWhole) (arg10 : Memref sig .tc
    .vmem S128x2048 .bf16) (harg10 : arg10.IsWhole) (arg11 : Memref sig .tc .vmem S128x128 .f32) (harg11 : arg11.IsWhole) (arg12
    : Memref sig .tc .vmem S128x128 .f32) (harg12 : arg12.IsWhole) (arg13 : Memref sig .tc .vmem S128x128 .f32) (harg13 :
    arg13.IsWhole) (x0 : Vec Ideal S128x2048 .bf16) (x1 : Vec Ideal S128x512 .bf16) (x2 : Vec Ideal S128x512 .bf16) (x3 : Vec
    Ideal S128x512 .bf16) (x4 : Vec Ideal S128x512 .bf16) (x5 : Vec Ideal S128x512 .bf16) (x6 : Vec Ideal S128x512 .bf16) (x7 :
    Vec Ideal S4x512x1 .f32) (x8 : Vec Ideal S128x2048 .bf16) (x9 : Vec Ideal S128x128 .f32) (x10 : Vec Ideal S128x128 .f32)
    (x11 : Vec Ideal S128x128 .f32)
    (arg14 : Memref sig .tc .vmem S128x2048 .bf16) (harg14 : arg14.IsWhole) (arg15 : Memref sig .tc .vmem S3x128x512 .f32)
    (harg15 : arg15.IsWhole) (arg16 : Memref sig .tc .vmem S3x128x512 .f32) (harg16 : arg16.IsWhole) (arg17 : Memref sig .tc
    .vmem S4x8x128 .f32) (harg17 : arg17.IsWhole) (hc0 : cond0_0 i)
theorem A_dqPieces : (kernelRun0_A (F := Ideal) c i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 hc0 x0 x1
    x2 x3 x4 x5 x6 x7 x8 x9 x10 x11).1 = dqPieces (loads arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11) i := by
  have e :=
      cons_piece (s := S128x2048) (e := .bf16) (Rect.unit ![0, 1920] S128x128.size inb_S128x2048_S128x128_0_1920) (A_v666 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1792] S128x128.size inb_S128x2048_S128x128_0_1792) (A_v654 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1664] S128x128.size inb_S128x2048_S128x128_0_1664) (A_v642 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1536] S128x128.size inb_S128x2048_S128x128_0_1536) (A_v630 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1408] S128x128.size inb_S128x2048_S128x128_0_1408) (A_v490 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1280] S128x128.size inb_S128x2048_S128x128_0_1280) (A_v478 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1152] S128x128.size inb_S128x2048_S128x128_0_1152) (A_v466 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1024] S128x128.size inb_S128x2048_S128x128_0_1024) (A_v454 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 896] S128x128.size inb_S128x2048_S128x128_0_896) (A_v314 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 768] S128x128.size inb_S128x2048_S128x128_0_768) (A_v302 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 640] S128x128.size inb_S128x2048_S128x128_0_640) (A_v290 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 512] S128x128.size inb_S128x2048_S128x128_0_512) (A_v278 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 384] S128x128.size inb_S128x2048_S128x128_0_384) (A_v138 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 256] S128x128.size inb_S128x2048_S128x128_0_256) (A_v126 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 128] S128x128.size inb_S128x2048_S128x128_0_128) (A_v114 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 0] S128x128.size inb_S128x2048_S128x128_0_0) (A_v102 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (Eq.refl []))))))))))))))))
  refine Eq.trans ?_ e
  sl_kernel_rfl
theorem A_dq {R : Blk} (H : Is (loads arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) i R) (y : S128x2048.Idx) :
    out0_A_12 (F := Ideal) c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 y = ((R.dqr (y 0) (y 1) : ℝ) : EReal) := by
  unfold out0_A_12
  refine View.read_writes_apply_of_pieces VO0_12 _ (fun y : S128x2048.Idx => ((R.dqr (y 0) (y 1) : ℝ) : EReal)) _ ?_ y
    (cover0_A_12 c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 hc0 x0 x1 x2 x3 x4 x5 x6 x7 x8 x9 x10
    x11 y)
  rw [A_dqPieces]
  exact dqPieces_val H
theorem A_dkPieces : (kernelRun0_A (F := Ideal) c i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 hc0 x0 x1
    x2 x3 x4 x5 x6 x7 x8 x9 x10 x11).2.1 = dkPieces (loads arg2 harg2 arg3 harg3 arg4 harg4 arg5 harg5 arg6 harg6 arg7 harg7
    arg8 harg8 arg9 harg9 arg10 harg10 arg11 harg11 arg12 harg12 arg13 harg13 x0 x1 x2 x3 x4 x5 x6 x7 x8 x9 x10 x11) i := by
  have e :=
      cons_piece (s := S3x128x512) (e := .f32) (Rect.unit ![2, 0, 384] S1x128x128.size inb_S3x128x512_S1x128x128_2_0_384)
    (A_v687 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![1, 0, 384] S1x128x128.size inb_S3x128x512_S1x128x128_1_0_384)
    (A_v679 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![0, 0, 384] S1x128x128.size inb_S3x128x512_S1x128x128_0_0_384)
    (A_v671 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![2, 0, 256] S1x128x128.size inb_S3x128x512_S1x128x128_2_0_256)
    (A_v511 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![1, 0, 256] S1x128x128.size inb_S3x128x512_S1x128x128_1_0_256)
    (A_v503 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![0, 0, 256] S1x128x128.size inb_S3x128x512_S1x128x128_0_0_256)
    (A_v495 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![2, 0, 128] S1x128x128.size inb_S3x128x512_S1x128x128_2_0_128)
    (A_v335 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![1, 0, 128] S1x128x128.size inb_S3x128x512_S1x128x128_1_0_128)
    (A_v327 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![0, 0, 128] S1x128x128.size inb_S3x128x512_S1x128x128_0_0_128)
    (A_v319 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![2, 0, 0] S1x128x128.size inb_S3x128x512_S1x128x128_2_0_0) (A_v159 c
    i arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S3x128x512) (e := .f32) (Rect.unit ![1, 0, 0] S1x128x128.size inb_S3x128x512_S1x128x128_1_0_0) (A_v151 c
    i arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S3x128x512) (e := .f32) (Rect.unit ![0, 0, 0] S1x128x128.size inb_S3x128x512_S1x128x128_0_0_0) (A_v143 c
    i arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (Eq.refl []))))))))))))
  refine Eq.trans ?_ e
  sl_kernel_rfl
theorem A_dk {R : Blk} (H : Is (loads arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) i R) (y : S3x128x512.Idx) :
    out0_A_13 (F := Ideal) c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 y = ((R.dkr (y 0) (y 1) (y 2) : ℝ) : EReal) := by
  unfold out0_A_13
  refine View.read_writes_apply_of_pieces VO0_13 _ (fun y : S3x128x512.Idx => ((R.dkr (y 0) (y 1) (y 2) : ℝ) : EReal)) _ ?_ y
    (cover0_A_13 c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 hc0 x0 x1 x2 x3 x4 x5 x6 x7 x8 x9 x10
    x11 y)
  rw [A_dkPieces]
  exact dkPieces_val H
theorem A_dvPieces : (kernelRun0_A (F := Ideal) c i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 hc0 x0 x1
    x2 x3 x4 x5 x6 x7 x8 x9 x10 x11).2.2.1 = dvPieces (loads arg2 harg2 arg3 harg3 arg4 harg4 arg5 harg5 arg6 harg6 arg7 harg7
    arg8 harg8 arg9 harg9 arg10 harg10 arg11 harg11 arg12 harg12 arg13 harg13 x0 x1 x2 x3 x4 x5 x6 x7 x8 x9 x10 x11) i := by
  have e :=
      cons_piece (s := S3x128x512) (e := .f32) (Rect.unit ![2, 0, 384] S1x128x128.size inb_S3x128x512_S1x128x128_2_0_384)
    (A_v691 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![1, 0, 384] S1x128x128.size inb_S3x128x512_S1x128x128_1_0_384)
    (A_v683 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![0, 0, 384] S1x128x128.size inb_S3x128x512_S1x128x128_0_0_384)
    (A_v675 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![2, 0, 256] S1x128x128.size inb_S3x128x512_S1x128x128_2_0_256)
    (A_v515 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![1, 0, 256] S1x128x128.size inb_S3x128x512_S1x128x128_1_0_256)
    (A_v507 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![0, 0, 256] S1x128x128.size inb_S3x128x512_S1x128x128_0_0_256)
    (A_v499 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![2, 0, 128] S1x128x128.size inb_S3x128x512_S1x128x128_2_0_128)
    (A_v339 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![1, 0, 128] S1x128x128.size inb_S3x128x512_S1x128x128_1_0_128)
    (A_v331 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![0, 0, 128] S1x128x128.size inb_S3x128x512_S1x128x128_0_0_128)
    (A_v323 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![2, 0, 0] S1x128x128.size inb_S3x128x512_S1x128x128_2_0_0) (A_v163 c
    i arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S3x128x512) (e := .f32) (Rect.unit ![1, 0, 0] S1x128x128.size inb_S3x128x512_S1x128x128_1_0_0) (A_v155 c
    i arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S3x128x512) (e := .f32) (Rect.unit ![0, 0, 0] S1x128x128.size inb_S3x128x512_S1x128x128_0_0_0) (A_v147 c
    i arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (Eq.refl []))))))))))))
  refine Eq.trans ?_ e
  sl_kernel_rfl
theorem A_dv {R : Blk} (H : Is (loads arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) i R) (y : S3x128x512.Idx) :
    out0_A_14 (F := Ideal) c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 y = ((R.dvr (y 0) (y 1) (y 2) : ℝ) : EReal) := by
  unfold out0_A_14
  refine View.read_writes_apply_of_pieces VO0_14 _ (fun y : S3x128x512.Idx => ((R.dvr (y 0) (y 1) (y 2) : ℝ) : EReal)) _ ?_ y
    (cover0_A_14 c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 hc0 x0 x1 x2 x3 x4 x5 x6 x7 x8 x9 x10
    x11 y)
  rw [A_dvPieces]
  exact dvPieces_val H
end Cert.Attn
-- ==== Proof.ChainBLo.lean ====
module

public import proofs.«01_k».proof.Proof.Vocab
/-! The values of a later step, kv heads 0 and 1, by name. -/

@[expose] public section

set_option maxRecDepth 16384
noncomputable section
namespace Cert.Attn
open Idealize.ShloMosaic Idealize.SL.Sem Idealize.ShloMosaic.Tactic Cert.KernelIdeal Cert.KernelIdeal.Gen
variable (c : Dev nD) (i : grid0.Coords) (arg2 : Memref sig .tc .vmem S128x2048 .bf16) (harg2 : arg2.IsWhole) (arg3 : Memref sig
    .tc .vmem S128x512 .bf16) (harg3 : arg3.IsWhole) (arg4 : Memref sig .tc .vmem S128x512 .bf16) (harg4 : arg4.IsWhole) (arg5 :
    Memref sig .tc .vmem S128x512 .bf16) (harg5 : arg5.IsWhole) (arg6 : Memref sig .tc .vmem S128x512 .bf16) (harg6 :
    arg6.IsWhole) (arg7 : Memref sig .tc .vmem S128x512 .bf16) (harg7 : arg7.IsWhole) (arg8 : Memref sig .tc .vmem S128x512
    .bf16) (harg8 : arg8.IsWhole) (arg9 : Memref sig .tc .vmem S4x512x1 .f32) (harg9 : arg9.IsWhole) (arg10 : Memref sig .tc
    .vmem S128x2048 .bf16) (harg10 : arg10.IsWhole) (arg11 : Memref sig .tc .vmem S128x128 .f32) (harg11 : arg11.IsWhole) (arg12
    : Memref sig .tc .vmem S128x128 .f32) (harg12 : arg12.IsWhole) (arg13 : Memref sig .tc .vmem S128x128 .f32) (harg13 :
    arg13.IsWhole) (x0 : Vec Ideal S128x2048 .bf16) (x1 : Vec Ideal S128x512 .bf16) (x2 : Vec Ideal S128x512 .bf16) (x3 : Vec
    Ideal S128x512 .bf16) (x4 : Vec Ideal S128x512 .bf16) (x5 : Vec Ideal S128x512 .bf16) (x6 : Vec Ideal S128x512 .bf16) (x7 :
    Vec Ideal S4x512x1 .f32) (x8 : Vec Ideal S128x2048 .bf16) (x9 : Vec Ideal S128x128 .f32) (x10 : Vec Ideal S128x128 .f32)
    (x11 : Vec Ideal S128x128 .f32)
theorem B_v19 : kernelRun0_B.sl.v19 i = k0_pay2 i := by
  unfold kernelRun0_B.sl.v19 kernelRun0_B.sl.v16 kernelRun0_B.sl.v18 kernelRun0_B.sl.v15 kernelRun0_B.sl.v10 kernelRun0_B.sl.v13
    kernelRun0_B.sl.v9 kernelRun0_B.sl.v8 kernelRun0_B.sl.v6 kernelRun0_B.sl.v4 kernelRun0_B.sl.v0 kernelRun0_B.sl.v3
    kernelRun0_B.sl.v17 kernelRun0_B.sl.v14 kernelRun0_B.sl.v7 kernelRun0_B.sl.v1
  sl_kernel_rfl
theorem B_r : kernelRun0_B.sl.r (F := Ideal) c arg2 harg2 x0 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).qs 0 := by
  unfold kernelRun0_B.sl.r kernelRun0_B.sl.v30
  sl_kernel_rfl
theorem B_r_1 : kernelRun0_B.sl.r_1 (F := Ideal) c arg3 harg3 arg4 harg4 arg5 harg5 x1 x2 x3 = (loads arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11).kb 0 := by
  unfold kernelRun0_B.sl.r_1 kernelRun0_B.sl.v34 kernelRun0_B.sl.v32
  sl_kernel_rfl
theorem B_r_4 : kernelRun0_B.sl.r_4 (F := Ideal) c arg6 harg6 arg7 harg7 arg8 harg8 x4 x5 x6 = (loads arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11).vb 0 := by
  unfold kernelRun0_B.sl.r_4
  sl_kernel_rfl
theorem B_r_5 : kernelRun0_B.sl.r_5 (F := Ideal) c arg10 harg10 x8 = (loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dos 0 := by
  unfold kernelRun0_B.sl.r_5
  sl_kernel_rfl
theorem B_r_2 : kernelRun0_B.sl.r_2 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).w i 0 := by
  unfold kernelRun0_B.sl.r_2 kernelRun0_B.sl.v30 kernelRun0_B.sl.v32 kernelRun0_B.sl.v34
  rw [B_v19 i]
  sl_kernel_rfl
theorem B_r_3 : kernelRun0_B.sl.r_3 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ws i 0 := by
  unfold kernelRun0_B.sl.r_3 kernelRun0_B.sl.v34 kernelRun0_B.sl.v30 kernelRun0_B.sl.v32
  rw [B_v19 i]
  sl_kernel_rfl
theorem B_v79 : kernelRun0_B.sl.v79 (F := Ideal) c i arg2 harg2 arg3 harg3 arg4 harg4 arg5 harg5 arg9 harg9 arg10 harg10 x0 x1
    x2 x3 x7 x8 = (loads arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11).dv i 0 := by
  unfold kernelRun0_B.sl.v79 kernelRun0_B.sl.v78
  rw [B_r_2 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_r_5 c arg2 harg2 arg3 harg3 arg4 harg4 arg5 harg5
    arg6 harg6 arg7 harg7 arg8 harg8 arg9 harg9 arg10 harg10 arg11 harg11 arg12 harg12 arg13 harg13 x0 x1 x2 x3 x4 x5 x6 x7 x8
    x9 x10 x11]
  sl_kernel_rfl
theorem B_v83 : kernelRun0_B.sl.v83 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dl i 0 := by
  unfold kernelRun0_B.sl.v83 kernelRun0_B.sl.v82 kernelRun0_B.sl.v81 kernelRun0_B.sl.v80
  rw [B_r_2 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_r_4 c arg2 harg2 arg3 harg3 arg4 harg4 arg5 harg5
    arg6 harg6 arg7 harg7 arg8 harg8 arg9 harg9 arg10 harg10 arg11 harg11 arg12 harg12 arg13 harg13 x0 x1 x2 x3 x4 x5 x6 x7 x8
    x9 x10 x11, B_r_5 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11]
  sl_kernel_rfl
theorem B_v90 : kernelRun0_B.sl.v90 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dq i 0 := by
  unfold kernelRun0_B.sl.v90 kernelRun0_B.sl.v89 kernelRun0_B.sl.v88 kernelRun0_B.sl.v86 kernelRun0_B.sl.v85 kernelRun0_B.sl.v84
    kernelRun0_B.sl.v80 kernelRun0_B.sl.v87
  rw [B_v83 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_r_2 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, B_r_1 c arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11, B_r_5 c arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11, B_r_4 c arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11]
  sl_kernel_rfl
theorem B_v91 : kernelRun0_B.sl.v91 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dk i 0 := by
  unfold kernelRun0_B.sl.v91 kernelRun0_B.sl.v89 kernelRun0_B.sl.v88 kernelRun0_B.sl.v86 kernelRun0_B.sl.v85 kernelRun0_B.sl.v84
    kernelRun0_B.sl.v80 kernelRun0_B.sl.v87
  rw [B_v83 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_r_2 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, B_r c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11, B_r_5 c arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, B_r_4 c arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11]
  sl_kernel_rfl
theorem B_v164 : kernelRun0_B.sl.v164 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).sg i 0 := by
  unfold kernelRun0_B.sl.v164
  rw [B_v83 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_r_3 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem B_v102 : kernelRun0_B.sl.v102 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq0 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 0) := by
  unfold kernelRun0_B.sl.v102 kernelRun0_B.sl.v101 kernelRun0_B.sl.v100 kernelRun0_B.sl.v98 kernelRun0_B.sl.v97
    kernelRun0_B.sl.v96 kernelRun0_B.sl.v95 kernelRun0_B.sl.v93 kernelRun0_B.sl.v94 kernelRun0_B.sl.v92 kernelRun0_B.sl.v99
    kernelRun0_B.sl.v25 kernelRun0_B.sl.v23 kernelRun0_B.sl.v21
  rw [B_v90 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v114 : kernelRun0_B.sl.v114 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq1 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 0) := by
  unfold kernelRun0_B.sl.v114 kernelRun0_B.sl.v113 kernelRun0_B.sl.v112 kernelRun0_B.sl.v110 kernelRun0_B.sl.v109
    kernelRun0_B.sl.v108 kernelRun0_B.sl.v107 kernelRun0_B.sl.v105 kernelRun0_B.sl.v106 kernelRun0_B.sl.v104 kernelRun0_B.sl.v99
    kernelRun0_B.sl.v25 kernelRun0_B.sl.v23 kernelRun0_B.sl.v21
  rw [B_v90 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v126 : kernelRun0_B.sl.v126 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq2 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 0) := by
  unfold kernelRun0_B.sl.v126 kernelRun0_B.sl.v125 kernelRun0_B.sl.v124 kernelRun0_B.sl.v122 kernelRun0_B.sl.v120
    kernelRun0_B.sl.v121 kernelRun0_B.sl.v118 kernelRun0_B.sl.v117 kernelRun0_B.sl.v119 kernelRun0_B.sl.v116 kernelRun0_B.sl.v99
    kernelRun0_B.sl.v25 kernelRun0_B.sl.v23 kernelRun0_B.sl.v21
  rw [B_v90 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v138 : kernelRun0_B.sl.v138 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq3 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 0) := by
  unfold kernelRun0_B.sl.v138 kernelRun0_B.sl.v137 kernelRun0_B.sl.v136 kernelRun0_B.sl.v134 kernelRun0_B.sl.v132
    kernelRun0_B.sl.v133 kernelRun0_B.sl.v130 kernelRun0_B.sl.v129 kernelRun0_B.sl.v131 kernelRun0_B.sl.v128 kernelRun0_B.sl.v99
    kernelRun0_B.sl.v23 kernelRun0_B.sl.v25 kernelRun0_B.sl.v21
  rw [B_v90 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v143 : kernelRun0_B.sl.v143 (F := Ideal) c i arg2 harg2 arg3 harg3 arg4 harg4 arg5 harg5 arg6 harg6 arg7 harg7 arg8
    harg8 arg9 harg9 arg10 harg10 x0 x1 x2 x3 x4 x5 x6 x7 x8 = pdk0 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 0) := by
  unfold kernelRun0_B.sl.v143 kernelRun0_B.sl.v140
  rw [B_v91 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v151 : kernelRun0_B.sl.v151 (F := Ideal) c i arg2 harg2 arg3 harg3 arg4 harg4 arg5 harg5 arg6 harg6 arg7 harg7 arg8
    harg8 arg9 harg9 arg10 harg10 x0 x1 x2 x3 x4 x5 x6 x7 x8 = pdk1 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 0) := by
  unfold kernelRun0_B.sl.v151 kernelRun0_B.sl.v148
  rw [B_v91 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v159 : kernelRun0_B.sl.v159 (F := Ideal) c i arg2 harg2 arg3 harg3 arg4 harg4 arg5 harg5 arg6 harg6 arg7 harg7 arg8
    harg8 arg9 harg9 arg10 harg10 x0 x1 x2 x3 x4 x5 x6 x7 x8 = pdk2 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 0) := by
  unfold kernelRun0_B.sl.v159 kernelRun0_B.sl.v156
  rw [B_v91 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v147 : kernelRun0_B.sl.v147 (F := Ideal) c i arg2 harg2 arg3 harg3 arg4 harg4 arg5 harg5 arg9 harg9 arg10 harg10 x0 x1
    x2 x3 x7 x8 = pdk0 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 0) := by
  unfold kernelRun0_B.sl.v147 kernelRun0_B.sl.v144
  rw [B_v79 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v155 : kernelRun0_B.sl.v155 (F := Ideal) c i arg2 harg2 arg3 harg3 arg4 harg4 arg5 harg5 arg9 harg9 arg10 harg10 x0 x1
    x2 x3 x7 x8 = pdk1 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 0) := by
  unfold kernelRun0_B.sl.v155 kernelRun0_B.sl.v152
  rw [B_v79 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v163 : kernelRun0_B.sl.v163 (F := Ideal) c i arg2 harg2 arg3 harg3 arg4 harg4 arg5 harg5 arg9 harg9 arg10 harg10 x0 x1
    x2 x3 x7 x8 = pdk2 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 0) := by
  unfold kernelRun0_B.sl.v163 kernelRun0_B.sl.v160
  rw [B_v79 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v219 : kernelRun0_B.sl.v219 (F := Ideal) c arg2 harg2 x0 = (loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).qs 1 := by
  unfold kernelRun0_B.sl.v219 kernelRun0_B.sl.v218 kernelRun0_B.sl.v216 kernelRun0_B.sl.v217 kernelRun0_B.sl.v215
    kernelRun0_B.sl.v206
  sl_kernel_rfl
theorem B_v220 : kernelRun0_B.sl.v220 (F := Ideal) c arg3 harg3 arg4 harg4 arg5 harg5 x1 x2 x3 = (loads arg2 harg2 arg3 harg3
    arg4 harg4 arg5 harg5 arg6 harg6 arg7 harg7 arg8 harg8 arg9 harg9 arg10 harg10 arg11 harg11 arg12 harg12 arg13 harg13 x0 x1
    x2 x3 x4 x5 x6 x7 x8 x9 x10 x11).kb 1 := by
  unfold kernelRun0_B.sl.v220 kernelRun0_B.sl.v210 kernelRun0_B.sl.v208 kernelRun0_B.sl.v212
  sl_kernel_rfl
theorem B_r_6 : kernelRun0_B.sl.r_6 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ws i 1 := by
  unfold kernelRun0_B.sl.r_6 kernelRun0_B.sl.v214
  rw [B_v19 i, B_v219 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11, B_v220 c arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem B_r_7 : kernelRun0_B.sl.r_7 (F := Ideal) c i arg2 harg2 arg3 harg3 arg4 harg4 arg5 harg5 arg9 harg9 arg10 harg10 x0 x1
    x2 x3 x7 x8 = (loads arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11).dv i 1 := by
  unfold kernelRun0_B.sl.r_7 kernelRun0_B.sl.v214
  rw [B_v19 i, B_v219 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11, B_v220 c arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem B_r_8 : kernelRun0_B.sl.r_8 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dl i 1 := by
  unfold kernelRun0_B.sl.r_8 kernelRun0_B.sl.v214
  rw [B_v19 i, B_v219 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11, B_v220 c arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem B_v266 : kernelRun0_B.sl.v266 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dq i 1 := by
  unfold kernelRun0_B.sl.v266 kernelRun0_B.sl.v265 kernelRun0_B.sl.v264 kernelRun0_B.sl.r_9 kernelRun0_B.sl.v214
  rw [B_v19 i, B_v219 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11, B_v220 c arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem B_v267 : kernelRun0_B.sl.v267 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dk i 1 := by
  unfold kernelRun0_B.sl.v267 kernelRun0_B.sl.v265 kernelRun0_B.sl.v264 kernelRun0_B.sl.r_9 kernelRun0_B.sl.v214
  rw [B_v19 i, B_v219 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11, B_v220 c arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem B_v340 : kernelRun0_B.sl.v340 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).sg i 1 := by
  unfold kernelRun0_B.sl.v340
  rw [B_r_6 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_r_8 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem B_v278 : kernelRun0_B.sl.v278 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq0 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 1) := by
  unfold kernelRun0_B.sl.v278 kernelRun0_B.sl.v277 kernelRun0_B.sl.v276 kernelRun0_B.sl.v274 kernelRun0_B.sl.v273
    kernelRun0_B.sl.v272 kernelRun0_B.sl.v270 kernelRun0_B.sl.v269 kernelRun0_B.sl.v271 kernelRun0_B.sl.v268 kernelRun0_B.sl.v99
    kernelRun0_B.sl.v23 kernelRun0_B.sl.v25 kernelRun0_B.sl.v21
  rw [B_v266 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v290 : kernelRun0_B.sl.v290 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq1 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 1) := by
  unfold kernelRun0_B.sl.v290 kernelRun0_B.sl.v289 kernelRun0_B.sl.v288 kernelRun0_B.sl.v286 kernelRun0_B.sl.v284
    kernelRun0_B.sl.v285 kernelRun0_B.sl.v282 kernelRun0_B.sl.v281 kernelRun0_B.sl.v283 kernelRun0_B.sl.v280 kernelRun0_B.sl.v99
    kernelRun0_B.sl.v23 kernelRun0_B.sl.v25 kernelRun0_B.sl.v21
  rw [B_v266 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v302 : kernelRun0_B.sl.v302 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq2 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 1) := by
  unfold kernelRun0_B.sl.v302 kernelRun0_B.sl.v301 kernelRun0_B.sl.v300 kernelRun0_B.sl.v298 kernelRun0_B.sl.v297
    kernelRun0_B.sl.v296 kernelRun0_B.sl.v294 kernelRun0_B.sl.v293 kernelRun0_B.sl.v295 kernelRun0_B.sl.v292 kernelRun0_B.sl.v99
    kernelRun0_B.sl.v23 kernelRun0_B.sl.v25 kernelRun0_B.sl.v21
  rw [B_v266 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v314 : kernelRun0_B.sl.v314 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq3 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 1) := by
  unfold kernelRun0_B.sl.v314 kernelRun0_B.sl.v313 kernelRun0_B.sl.v312 kernelRun0_B.sl.v310 kernelRun0_B.sl.v308
    kernelRun0_B.sl.v309 kernelRun0_B.sl.v305 kernelRun0_B.sl.v306 kernelRun0_B.sl.v307 kernelRun0_B.sl.v304 kernelRun0_B.sl.v99
    kernelRun0_B.sl.v23 kernelRun0_B.sl.v25 kernelRun0_B.sl.v21
  rw [B_v266 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v319 : kernelRun0_B.sl.v319 (F := Ideal) c i arg2 harg2 arg3 harg3 arg4 harg4 arg5 harg5 arg6 harg6 arg7 harg7 arg8
    harg8 arg9 harg9 arg10 harg10 x0 x1 x2 x3 x4 x5 x6 x7 x8 = pdk0 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 1) := by
  unfold kernelRun0_B.sl.v319 kernelRun0_B.sl.v316
  rw [B_v267 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v327 : kernelRun0_B.sl.v327 (F := Ideal) c i arg2 harg2 arg3 harg3 arg4 harg4 arg5 harg5 arg6 harg6 arg7 harg7 arg8
    harg8 arg9 harg9 arg10 harg10 x0 x1 x2 x3 x4 x5 x6 x7 x8 = pdk1 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 1) := by
  unfold kernelRun0_B.sl.v327 kernelRun0_B.sl.v324
  rw [B_v267 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v335 : kernelRun0_B.sl.v335 (F := Ideal) c i arg2 harg2 arg3 harg3 arg4 harg4 arg5 harg5 arg6 harg6 arg7 harg7 arg8
    harg8 arg9 harg9 arg10 harg10 x0 x1 x2 x3 x4 x5 x6 x7 x8 = pdk2 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 1) := by
  unfold kernelRun0_B.sl.v335 kernelRun0_B.sl.v332
  rw [B_v267 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v323 : kernelRun0_B.sl.v323 (F := Ideal) c i arg2 harg2 arg3 harg3 arg4 harg4 arg5 harg5 arg9 harg9 arg10 harg10 x0 x1
    x2 x3 x7 x8 = pdk0 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 1) := by
  unfold kernelRun0_B.sl.v323 kernelRun0_B.sl.v320
  rw [B_r_7 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v331 : kernelRun0_B.sl.v331 (F := Ideal) c i arg2 harg2 arg3 harg3 arg4 harg4 arg5 harg5 arg9 harg9 arg10 harg10 x0 x1
    x2 x3 x7 x8 = pdk1 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 1) := by
  unfold kernelRun0_B.sl.v331 kernelRun0_B.sl.v328
  rw [B_r_7 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v339 : kernelRun0_B.sl.v339 (F := Ideal) c i arg2 harg2 arg3 harg3 arg4 harg4 arg5 harg5 arg9 harg9 arg10 harg10 x0 x1
    x2 x3 x7 x8 = pdk2 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 1) := by
  unfold kernelRun0_B.sl.v339 kernelRun0_B.sl.v336
  rw [B_r_7 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
end Cert.Attn
-- ==== Proof.ChainBHi.lean ====
module

public import proofs.«01_k».proof.Proof.Vocab
/-! The values of a later step, kv heads 2 and 3, by name. -/

@[expose] public section

set_option maxRecDepth 16384
noncomputable section
namespace Cert.Attn
open Idealize.ShloMosaic Idealize.SL.Sem Idealize.ShloMosaic.Tactic Cert.KernelIdeal Cert.KernelIdeal.Gen
variable (c : Dev nD) (i : grid0.Coords) (arg2 : Memref sig .tc .vmem S128x2048 .bf16) (harg2 : arg2.IsWhole) (arg3 : Memref sig
    .tc .vmem S128x512 .bf16) (harg3 : arg3.IsWhole) (arg4 : Memref sig .tc .vmem S128x512 .bf16) (harg4 : arg4.IsWhole) (arg5 :
    Memref sig .tc .vmem S128x512 .bf16) (harg5 : arg5.IsWhole) (arg6 : Memref sig .tc .vmem S128x512 .bf16) (harg6 :
    arg6.IsWhole) (arg7 : Memref sig .tc .vmem S128x512 .bf16) (harg7 : arg7.IsWhole) (arg8 : Memref sig .tc .vmem S128x512
    .bf16) (harg8 : arg8.IsWhole) (arg9 : Memref sig .tc .vmem S4x512x1 .f32) (harg9 : arg9.IsWhole) (arg10 : Memref sig .tc
    .vmem S128x2048 .bf16) (harg10 : arg10.IsWhole) (arg11 : Memref sig .tc .vmem S128x128 .f32) (harg11 : arg11.IsWhole) (arg12
    : Memref sig .tc .vmem S128x128 .f32) (harg12 : arg12.IsWhole) (arg13 : Memref sig .tc .vmem S128x128 .f32) (harg13 :
    arg13.IsWhole) (x0 : Vec Ideal S128x2048 .bf16) (x1 : Vec Ideal S128x512 .bf16) (x2 : Vec Ideal S128x512 .bf16) (x3 : Vec
    Ideal S128x512 .bf16) (x4 : Vec Ideal S128x512 .bf16) (x5 : Vec Ideal S128x512 .bf16) (x6 : Vec Ideal S128x512 .bf16) (x7 :
    Vec Ideal S4x512x1 .f32) (x8 : Vec Ideal S128x2048 .bf16) (x9 : Vec Ideal S128x128 .f32) (x10 : Vec Ideal S128x128 .f32)
    (x11 : Vec Ideal S128x128 .f32)
theorem B_v19_hi : kernelRun0_B.sl.v19 i = k0_pay2 i := by
  unfold kernelRun0_B.sl.v19 kernelRun0_B.sl.v16 kernelRun0_B.sl.v18 kernelRun0_B.sl.v15 kernelRun0_B.sl.v10 kernelRun0_B.sl.v13
    kernelRun0_B.sl.v9 kernelRun0_B.sl.v8 kernelRun0_B.sl.v6 kernelRun0_B.sl.v4 kernelRun0_B.sl.v0 kernelRun0_B.sl.v3
    kernelRun0_B.sl.v17 kernelRun0_B.sl.v14 kernelRun0_B.sl.v7 kernelRun0_B.sl.v1
  sl_kernel_rfl
theorem B_r_11 : kernelRun0_B.sl.r_11 (F := Ideal) c arg2 harg2 x0 = (loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).qs 2 := by
  unfold kernelRun0_B.sl.r_11
  sl_kernel_rfl
theorem B_r_12 : kernelRun0_B.sl.r_12 (F := Ideal) c arg3 harg3 arg4 harg4 arg5 harg5 x1 x2 x3 = (loads arg2 harg2 arg3 harg3
    arg4 harg4 arg5 harg5 arg6 harg6 arg7 harg7 arg8 harg8 arg9 harg9 arg10 harg10 arg11 harg11 arg12 harg12 arg13 harg13 x0 x1
    x2 x3 x4 x5 x6 x7 x8 x9 x10 x11).kb 2 := by
  unfold kernelRun0_B.sl.r_12
  sl_kernel_rfl
theorem B_v422 : kernelRun0_B.sl.v422 (F := Ideal) c arg6 harg6 arg7 harg7 arg8 harg8 x4 x5 x6 = (loads arg2 harg2 arg3 harg3
    arg4 harg4 arg5 harg5 arg6 harg6 arg7 harg7 arg8 harg8 arg9 harg9 arg10 harg10 arg11 harg11 arg12 harg12 arg13 harg13 x0 x1
    x2 x3 x4 x5 x6 x7 x8 x9 x10 x11).vb 2 := by
  unfold kernelRun0_B.sl.v422 kernelRun0_B.sl.v419 kernelRun0_B.sl.v421 kernelRun0_B.sl.v417
  sl_kernel_rfl
theorem B_v429 : kernelRun0_B.sl.v429 (F := Ideal) c arg10 harg10 x8 = (loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dos 2 := by
  unfold kernelRun0_B.sl.v429 kernelRun0_B.sl.v428 kernelRun0_B.sl.v427 kernelRun0_B.sl.v426 kernelRun0_B.sl.v425
    kernelRun0_B.sl.v424
  sl_kernel_rfl
theorem B_v414 : kernelRun0_B.sl.v414 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).w i 2 := by
  unfold kernelRun0_B.sl.v414 kernelRun0_B.sl.v413 kernelRun0_B.sl.v412 kernelRun0_B.sl.v411 kernelRun0_B.sl.v410
    kernelRun0_B.sl.v409 kernelRun0_B.sl.v407 kernelRun0_B.sl.v408 kernelRun0_B.sl.r_13 kernelRun0_B.sl.r_14
    kernelRun0_B.sl.r_10
  rw [B_v19_hi i]
  sl_kernel_rfl
theorem B_v415 : kernelRun0_B.sl.v415 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ws i 2 := by
  unfold kernelRun0_B.sl.v415 kernelRun0_B.sl.v412 kernelRun0_B.sl.v411 kernelRun0_B.sl.v410 kernelRun0_B.sl.v409
    kernelRun0_B.sl.v407 kernelRun0_B.sl.v408 kernelRun0_B.sl.r_13 kernelRun0_B.sl.r_14 kernelRun0_B.sl.r_10
  rw [B_v19_hi i]
  sl_kernel_rfl
theorem B_v431 : kernelRun0_B.sl.v431 (F := Ideal) c i arg2 harg2 arg3 harg3 arg4 harg4 arg5 harg5 arg9 harg9 arg10 harg10 x0 x1
    x2 x3 x7 x8 = (loads arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11).dv i 2 := by
  unfold kernelRun0_B.sl.v431 kernelRun0_B.sl.v430
  rw [B_v414 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_v429 c arg2 harg2 arg3 harg3 arg4 harg4 arg5 harg5
    arg6 harg6 arg7 harg7 arg8 harg8 arg9 harg9 arg10 harg10 arg11 harg11 arg12 harg12 arg13 harg13 x0 x1 x2 x3 x4 x5 x6 x7 x8
    x9 x10 x11]
  sl_kernel_rfl
theorem B_v435 : kernelRun0_B.sl.v435 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dl i 2 := by
  unfold kernelRun0_B.sl.v435 kernelRun0_B.sl.v434 kernelRun0_B.sl.v433 kernelRun0_B.sl.v432
  rw [B_v414 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_v429 c arg2 harg2 arg3 harg3 arg4 harg4 arg5 harg5
    arg6 harg6 arg7 harg7 arg8 harg8 arg9 harg9 arg10 harg10 arg11 harg11 arg12 harg12 arg13 harg13 x0 x1 x2 x3 x4 x5 x6 x7 x8
    x9 x10 x11, B_v422 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11]
  sl_kernel_rfl
theorem B_v442 : kernelRun0_B.sl.v442 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dq i 2 := by
  unfold kernelRun0_B.sl.v442 kernelRun0_B.sl.v441 kernelRun0_B.sl.v440 kernelRun0_B.sl.v438 kernelRun0_B.sl.v437
    kernelRun0_B.sl.v436 kernelRun0_B.sl.v432 kernelRun0_B.sl.v87
  rw [B_v435 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_v414 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, B_v429 c arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11, B_v422 c arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11, B_r_12 c arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11]
  sl_kernel_rfl
theorem B_v443 : kernelRun0_B.sl.v443 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dk i 2 := by
  unfold kernelRun0_B.sl.v443 kernelRun0_B.sl.v441 kernelRun0_B.sl.v440 kernelRun0_B.sl.v438 kernelRun0_B.sl.v437
    kernelRun0_B.sl.v436 kernelRun0_B.sl.v432 kernelRun0_B.sl.v87
  rw [B_v435 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_v414 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, B_v429 c arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11, B_v422 c arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11, B_r_11 c arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11]
  sl_kernel_rfl
theorem B_v516 : kernelRun0_B.sl.v516 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).sg i 2 := by
  unfold kernelRun0_B.sl.v516
  rw [B_v435 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_v415 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem B_v454 : kernelRun0_B.sl.v454 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq0 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 2) := by
  unfold kernelRun0_B.sl.v454 kernelRun0_B.sl.v453 kernelRun0_B.sl.v452 kernelRun0_B.sl.v450 kernelRun0_B.sl.v449
    kernelRun0_B.sl.v448 kernelRun0_B.sl.v446 kernelRun0_B.sl.v445 kernelRun0_B.sl.v447 kernelRun0_B.sl.v444 kernelRun0_B.sl.v99
    kernelRun0_B.sl.v23 kernelRun0_B.sl.v25 kernelRun0_B.sl.v21
  rw [B_v442 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v466 : kernelRun0_B.sl.v466 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq1 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 2) := by
  unfold kernelRun0_B.sl.v466 kernelRun0_B.sl.v465 kernelRun0_B.sl.v464 kernelRun0_B.sl.v462 kernelRun0_B.sl.v461
    kernelRun0_B.sl.v460 kernelRun0_B.sl.v458 kernelRun0_B.sl.v459 kernelRun0_B.sl.v457 kernelRun0_B.sl.v456 kernelRun0_B.sl.v99
    kernelRun0_B.sl.v23 kernelRun0_B.sl.v25 kernelRun0_B.sl.v21
  rw [B_v442 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v478 : kernelRun0_B.sl.v478 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq2 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 2) := by
  unfold kernelRun0_B.sl.v478 kernelRun0_B.sl.v477 kernelRun0_B.sl.v476 kernelRun0_B.sl.v474 kernelRun0_B.sl.v473
    kernelRun0_B.sl.v472 kernelRun0_B.sl.v471 kernelRun0_B.sl.v470 kernelRun0_B.sl.v469 kernelRun0_B.sl.v468 kernelRun0_B.sl.v99
    kernelRun0_B.sl.v23 kernelRun0_B.sl.v25 kernelRun0_B.sl.v21
  rw [B_v442 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v490 : kernelRun0_B.sl.v490 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq3 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 2) := by
  unfold kernelRun0_B.sl.v490 kernelRun0_B.sl.v489 kernelRun0_B.sl.v488 kernelRun0_B.sl.v486 kernelRun0_B.sl.v484
    kernelRun0_B.sl.v485 kernelRun0_B.sl.v483 kernelRun0_B.sl.v481 kernelRun0_B.sl.v482 kernelRun0_B.sl.v480 kernelRun0_B.sl.v99
    kernelRun0_B.sl.v23 kernelRun0_B.sl.v25 kernelRun0_B.sl.v21
  rw [B_v442 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v495 : kernelRun0_B.sl.v495 (F := Ideal) c i arg2 harg2 arg3 harg3 arg4 harg4 arg5 harg5 arg6 harg6 arg7 harg7 arg8
    harg8 arg9 harg9 arg10 harg10 x0 x1 x2 x3 x4 x5 x6 x7 x8 = pdk0 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 2) := by
  unfold kernelRun0_B.sl.v495 kernelRun0_B.sl.v492
  rw [B_v443 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v503 : kernelRun0_B.sl.v503 (F := Ideal) c i arg2 harg2 arg3 harg3 arg4 harg4 arg5 harg5 arg6 harg6 arg7 harg7 arg8
    harg8 arg9 harg9 arg10 harg10 x0 x1 x2 x3 x4 x5 x6 x7 x8 = pdk1 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 2) := by
  unfold kernelRun0_B.sl.v503 kernelRun0_B.sl.v500
  rw [B_v443 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v511 : kernelRun0_B.sl.v511 (F := Ideal) c i arg2 harg2 arg3 harg3 arg4 harg4 arg5 harg5 arg6 harg6 arg7 harg7 arg8
    harg8 arg9 harg9 arg10 harg10 x0 x1 x2 x3 x4 x5 x6 x7 x8 = pdk2 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 2) := by
  unfold kernelRun0_B.sl.v511 kernelRun0_B.sl.v508
  rw [B_v443 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v499 : kernelRun0_B.sl.v499 (F := Ideal) c i arg2 harg2 arg3 harg3 arg4 harg4 arg5 harg5 arg9 harg9 arg10 harg10 x0 x1
    x2 x3 x7 x8 = pdk0 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 2) := by
  unfold kernelRun0_B.sl.v499 kernelRun0_B.sl.v496
  rw [B_v431 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v507 : kernelRun0_B.sl.v507 (F := Ideal) c i arg2 harg2 arg3 harg3 arg4 harg4 arg5 harg5 arg9 harg9 arg10 harg10 x0 x1
    x2 x3 x7 x8 = pdk1 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 2) := by
  unfold kernelRun0_B.sl.v507 kernelRun0_B.sl.v504
  rw [B_v431 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v515 : kernelRun0_B.sl.v515 (F := Ideal) c i arg2 harg2 arg3 harg3 arg4 harg4 arg5 harg5 arg9 harg9 arg10 harg10 x0 x1
    x2 x3 x7 x8 = pdk2 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 2) := by
  unfold kernelRun0_B.sl.v515 kernelRun0_B.sl.v512
  rw [B_v431 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_r_15 : kernelRun0_B.sl.r_15 (F := Ideal) c arg2 harg2 x0 = (loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).qs 3 := by
  unfold kernelRun0_B.sl.r_15
  sl_kernel_rfl
theorem B_r_16 : kernelRun0_B.sl.r_16 (F := Ideal) c arg3 harg3 arg4 harg4 arg5 harg5 x1 x2 x3 = (loads arg2 harg2 arg3 harg3
    arg4 harg4 arg5 harg5 arg6 harg6 arg7 harg7 arg8 harg8 arg9 harg9 arg10 harg10 arg11 harg11 arg12 harg12 arg13 harg13 x0 x1
    x2 x3 x4 x5 x6 x7 x8 x9 x10 x11).kb 3 := by
  unfold kernelRun0_B.sl.r_16
  sl_kernel_rfl
theorem B_v598 : kernelRun0_B.sl.v598 (F := Ideal) c arg6 harg6 arg7 harg7 arg8 harg8 x4 x5 x6 = (loads arg2 harg2 arg3 harg3
    arg4 harg4 arg5 harg5 arg6 harg6 arg7 harg7 arg8 harg8 arg9 harg9 arg10 harg10 arg11 harg11 arg12 harg12 arg13 harg13 x0 x1
    x2 x3 x4 x5 x6 x7 x8 x9 x10 x11).vb 3 := by
  unfold kernelRun0_B.sl.v598 kernelRun0_B.sl.v595 kernelRun0_B.sl.r_19 kernelRun0_B.sl.v597
  sl_kernel_rfl
theorem B_v605 : kernelRun0_B.sl.v605 (F := Ideal) c arg10 harg10 x8 = (loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dos 3 := by
  unfold kernelRun0_B.sl.v605 kernelRun0_B.sl.v604 kernelRun0_B.sl.v603 kernelRun0_B.sl.v601 kernelRun0_B.sl.v602
    kernelRun0_B.sl.v600
  sl_kernel_rfl
theorem B_r_17 : kernelRun0_B.sl.r_17 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).w i 3 := by
  unfold kernelRun0_B.sl.r_17
  rw [B_v19_hi i]
  sl_kernel_rfl
theorem B_r_18 : kernelRun0_B.sl.r_18 (F := Ideal) c i arg2 harg2 arg3 harg3 arg4 harg4 arg5 harg5 arg9 harg9 x0 x1 x2 x3 x7 =
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ws i 3 := by
  unfold kernelRun0_B.sl.r_18
  rw [B_v19_hi i]
  sl_kernel_rfl
theorem B_v607 : kernelRun0_B.sl.v607 (F := Ideal) c i arg2 harg2 arg3 harg3 arg4 harg4 arg5 harg5 arg9 harg9 arg10 harg10 x0 x1
    x2 x3 x7 x8 = (loads arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11).dv i 3 := by
  unfold kernelRun0_B.sl.v607 kernelRun0_B.sl.v606
  rw [B_r_17 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_v605 c arg2 harg2 arg3 harg3 arg4 harg4 arg5 harg5
    arg6 harg6 arg7 harg7 arg8 harg8 arg9 harg9 arg10 harg10 arg11 harg11 arg12 harg12 arg13 harg13 x0 x1 x2 x3 x4 x5 x6 x7 x8
    x9 x10 x11]
  sl_kernel_rfl
theorem B_v611 : kernelRun0_B.sl.v611 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dl i 3 := by
  unfold kernelRun0_B.sl.v611 kernelRun0_B.sl.v610 kernelRun0_B.sl.v609 kernelRun0_B.sl.v608
  rw [B_r_17 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_v605 c arg2 harg2 arg3 harg3 arg4 harg4 arg5 harg5
    arg6 harg6 arg7 harg7 arg8 harg8 arg9 harg9 arg10 harg10 arg11 harg11 arg12 harg12 arg13 harg13 x0 x1 x2 x3 x4 x5 x6 x7 x8
    x9 x10 x11, B_v598 c arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11]
  sl_kernel_rfl
theorem B_v618 : kernelRun0_B.sl.v618 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dq i 3 := by
  unfold kernelRun0_B.sl.v618 kernelRun0_B.sl.v617 kernelRun0_B.sl.v616 kernelRun0_B.sl.v614 kernelRun0_B.sl.v613
    kernelRun0_B.sl.v612 kernelRun0_B.sl.v608 kernelRun0_B.sl.v87
  rw [B_v611 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_r_17 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, B_v605 c arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11, B_v598 c arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11, B_r_16 c arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11]
  sl_kernel_rfl
theorem B_v619 : kernelRun0_B.sl.v619 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).dk i 3 := by
  unfold kernelRun0_B.sl.v619 kernelRun0_B.sl.v617 kernelRun0_B.sl.v616 kernelRun0_B.sl.v614 kernelRun0_B.sl.v613
    kernelRun0_B.sl.v612 kernelRun0_B.sl.v608 kernelRun0_B.sl.v87
  rw [B_v611 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_r_17 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11, B_v605 c arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11, B_v598 c arg2 harg2 arg3 harg3 arg4
    harg4 arg5 harg5 arg6 harg6 arg7 harg7 arg8 harg8 arg9 harg9 arg10 harg10 arg11 harg11 arg12 harg12 arg13 harg13 x0 x1 x2 x3
    x4 x5 x6 x7 x8 x9 x10 x11, B_r_15 c arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11]
  sl_kernel_rfl
theorem B_v692 : kernelRun0_B.sl.v692 (F := Ideal) c i arg2 harg2 arg3 harg3 arg4 harg4 arg5 harg5 arg6 harg6 arg7 harg7 arg8
    harg8 arg9 harg9 arg10 harg10 x0 x1 x2 x3 x4 x5 x6 x7 x8 = (loads arg2 harg2 arg3 harg3 arg4 harg4 arg5 harg5 arg6 harg6
    arg7 harg7 arg8 harg8 arg9 harg9 arg10 harg10 arg11 harg11 arg12 harg12 arg13 harg13 x0 x1 x2 x3 x4 x5 x6 x7 x8 x9 x10
    x11).sg i 3 := by
  unfold kernelRun0_B.sl.v692
  rw [B_v611 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11, B_r_18 c i arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11]
  sl_kernel_rfl
theorem B_v630 : kernelRun0_B.sl.v630 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq0 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 3) := by
  unfold kernelRun0_B.sl.v630 kernelRun0_B.sl.v629 kernelRun0_B.sl.v628 kernelRun0_B.sl.v626 kernelRun0_B.sl.v625
    kernelRun0_B.sl.v624 kernelRun0_B.sl.v622 kernelRun0_B.sl.v623 kernelRun0_B.sl.v621 kernelRun0_B.sl.v620 kernelRun0_B.sl.v99
    kernelRun0_B.sl.v23 kernelRun0_B.sl.v25 kernelRun0_B.sl.v21
  rw [B_v618 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v642 : kernelRun0_B.sl.v642 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq1 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 3) := by
  unfold kernelRun0_B.sl.v642 kernelRun0_B.sl.v641 kernelRun0_B.sl.v640 kernelRun0_B.sl.v638 kernelRun0_B.sl.v636
    kernelRun0_B.sl.v637 kernelRun0_B.sl.v633 kernelRun0_B.sl.v634 kernelRun0_B.sl.v635 kernelRun0_B.sl.v632 kernelRun0_B.sl.v99
    kernelRun0_B.sl.v23 kernelRun0_B.sl.v25 kernelRun0_B.sl.v21
  rw [B_v618 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v654 : kernelRun0_B.sl.v654 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq2 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 3) := by
  unfold kernelRun0_B.sl.v654 kernelRun0_B.sl.v653 kernelRun0_B.sl.v652 kernelRun0_B.sl.v650 kernelRun0_B.sl.v649
    kernelRun0_B.sl.v648 kernelRun0_B.sl.v647 kernelRun0_B.sl.v645 kernelRun0_B.sl.v646 kernelRun0_B.sl.v644 kernelRun0_B.sl.v99
    kernelRun0_B.sl.v23 kernelRun0_B.sl.v25 kernelRun0_B.sl.v21
  rw [B_v618 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v666 : kernelRun0_B.sl.v666 (F := Ideal) c i arg2 harg2 arg3 harg3 arg4 harg4 arg5 harg5 arg6 harg6 arg7 harg7 arg8
    harg8 arg9 harg9 arg10 harg10 arg11 harg11 arg12 harg12 arg13 harg13 x0 x1 x2 x3 x4 x5 x6 x7 x8 x9 x10 x11 = pdq3 (k0_pay3
    (loads arg2 harg2 arg3 harg3 arg4 harg4 arg5 harg5 arg6 harg6 arg7 harg7 arg8 harg8 arg9 harg9 arg10 harg10 arg11 harg11
    arg12 harg12 arg13 harg13 x0 x1 x2 x3 x4 x5 x6 x7 x8 x9 x10 x11).ct) (k0_pay4 (loads arg2 harg2 arg3 harg3 arg4 harg4 arg5
    harg5 arg6 harg6 arg7 harg7 arg8 harg8 arg9 harg9 arg10 harg10 arg11 harg11 arg12 harg12 arg13 harg13 x0 x1 x2 x3 x4 x5 x6
    x7 x8 x9 x10 x11).lt) (k0_pay5 (loads arg2 harg2 arg3 harg3 arg4 harg4 arg5 harg5 arg6 harg6 arg7 harg7 arg8 harg8 arg9
    harg9 arg10 harg10 arg11 harg11 arg12 harg12 arg13 harg13 x0 x1 x2 x3 x4 x5 x6 x7 x8 x9 x10 x11).ht) ((loads arg2 harg2 arg3
    harg3 arg4 harg4 arg5 harg5 arg6 harg6 arg7 harg7 arg8 harg8 arg9 harg9 arg10 harg10 arg11 harg11 arg12 harg12 arg13 harg13
    x0 x1 x2 x3 x4 x5 x6 x7 x8 x9 x10 x11).dq i 3) := by
  unfold kernelRun0_B.sl.v666 kernelRun0_B.sl.v665 kernelRun0_B.sl.v664 kernelRun0_B.sl.v662 kernelRun0_B.sl.v660
    kernelRun0_B.sl.v661 kernelRun0_B.sl.v657 kernelRun0_B.sl.v659 kernelRun0_B.sl.v658 kernelRun0_B.sl.v656 kernelRun0_B.sl.v99
    kernelRun0_B.sl.v23 kernelRun0_B.sl.v25 kernelRun0_B.sl.v21
  rw [B_v618 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v671 : kernelRun0_B.sl.v671 (F := Ideal) c i arg2 harg2 arg3 harg3 arg4 harg4 arg5 harg5 arg6 harg6 arg7 harg7 arg8
    harg8 arg9 harg9 arg10 harg10 x0 x1 x2 x3 x4 x5 x6 x7 x8 = pdk0 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 3) := by
  unfold kernelRun0_B.sl.v671 kernelRun0_B.sl.v668
  rw [B_v619 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v679 : kernelRun0_B.sl.v679 (F := Ideal) c i arg2 harg2 arg3 harg3 arg4 harg4 arg5 harg5 arg6 harg6 arg7 harg7 arg8
    harg8 arg9 harg9 arg10 harg10 x0 x1 x2 x3 x4 x5 x6 x7 x8 = pdk1 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 3) := by
  unfold kernelRun0_B.sl.v679 kernelRun0_B.sl.v676
  rw [B_v619 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v687 : kernelRun0_B.sl.v687 (F := Ideal) c i arg2 harg2 arg3 harg3 arg4 harg4 arg5 harg5 arg6 harg6 arg7 harg7 arg8
    harg8 arg9 harg9 arg10 harg10 x0 x1 x2 x3 x4 x5 x6 x7 x8 = pdk2 ((loads arg2 harg2 arg3 harg3 arg4 harg4 arg5 harg5 arg6
    harg6 arg7 harg7 arg8 harg8 arg9 harg9 arg10 harg10 arg11 harg11 arg12 harg12 arg13 harg13 x0 x1 x2 x3 x4 x5 x6 x7 x8 x9 x10
    x11).dk i 3) := by
  unfold kernelRun0_B.sl.v687 kernelRun0_B.sl.v684
  rw [B_v619 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v675 : kernelRun0_B.sl.v675 (F := Ideal) c i arg2 harg2 arg3 harg3 arg4 harg4 arg5 harg5 arg9 harg9 arg10 harg10 x0 x1
    x2 x3 x7 x8 = pdk0 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 3) := by
  unfold kernelRun0_B.sl.v675 kernelRun0_B.sl.v672
  rw [B_v607 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v683 : kernelRun0_B.sl.v683 (F := Ideal) c i arg2 harg2 arg3 harg3 arg4 harg4 arg5 harg5 arg9 harg9 arg10 harg10 x0 x1
    x2 x3 x7 x8 = pdk1 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 3) := by
  unfold kernelRun0_B.sl.v683 kernelRun0_B.sl.v680
  rw [B_v607 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
theorem B_v691 : kernelRun0_B.sl.v691 (F := Ideal) c i arg2 harg2 arg3 harg3 arg4 harg4 arg5 harg5 arg9 harg9 arg10 harg10 x0 x1
    x2 x3 x7 x8 = pdk2 ((loads arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11).dv i 3) := by
  unfold kernelRun0_B.sl.v691 kernelRun0_B.sl.v688
  rw [B_v607 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11]
  sl_kernel_rfl
end Cert.Attn
-- ==== Proof.BlockB.lean ====
module

public import proofs.«01_k».proof.Proof.Block
public import proofs.«01_k».proof.Proof.ChainBLo
public import proofs.«01_k».proof.Proof.ChainBHi
public import proofs.«01_k».proof.Proof.Gen.KernelIdeal.Frame
/-! What a later step stores to the blocks of the queries', keys' and values' gradients. -/

@[expose] public section

set_option maxRecDepth 16384
noncomputable section
namespace Cert.Attn
open Idealize.ShloMosaic Idealize.SL.Sem Idealize.ShloMosaic.Tactic Cert.KernelIdeal Cert.KernelIdeal.Gen
variable (c : Dev nD) (i : grid0.Coords) (arg2 : Memref sig .tc .vmem S128x2048 .bf16) (harg2 : arg2.IsWhole) (arg3 : Memref sig
    .tc .vmem S128x512 .bf16) (harg3 : arg3.IsWhole) (arg4 : Memref sig .tc .vmem S128x512 .bf16) (harg4 : arg4.IsWhole) (arg5 :
    Memref sig .tc .vmem S128x512 .bf16) (harg5 : arg5.IsWhole) (arg6 : Memref sig .tc .vmem S128x512 .bf16) (harg6 :
    arg6.IsWhole) (arg7 : Memref sig .tc .vmem S128x512 .bf16) (harg7 : arg7.IsWhole) (arg8 : Memref sig .tc .vmem S128x512
    .bf16) (harg8 : arg8.IsWhole) (arg9 : Memref sig .tc .vmem S4x512x1 .f32) (harg9 : arg9.IsWhole) (arg10 : Memref sig .tc
    .vmem S128x2048 .bf16) (harg10 : arg10.IsWhole) (arg11 : Memref sig .tc .vmem S128x128 .f32) (harg11 : arg11.IsWhole) (arg12
    : Memref sig .tc .vmem S128x128 .f32) (harg12 : arg12.IsWhole) (arg13 : Memref sig .tc .vmem S128x128 .f32) (harg13 :
    arg13.IsWhole) (x0 : Vec Ideal S128x2048 .bf16) (x1 : Vec Ideal S128x512 .bf16) (x2 : Vec Ideal S128x512 .bf16) (x3 : Vec
    Ideal S128x512 .bf16) (x4 : Vec Ideal S128x512 .bf16) (x5 : Vec Ideal S128x512 .bf16) (x6 : Vec Ideal S128x512 .bf16) (x7 :
    Vec Ideal S4x512x1 .f32) (x8 : Vec Ideal S128x2048 .bf16) (x9 : Vec Ideal S128x128 .f32) (x10 : Vec Ideal S128x128 .f32)
    (x11 : Vec Ideal S128x128 .f32)
    (arg14 : Memref sig .tc .vmem S128x2048 .bf16) (harg14 : arg14.IsWhole) (arg15 : Memref sig .tc .vmem S3x128x512 .f32)
    (harg15 : arg15.IsWhole) (arg16 : Memref sig .tc .vmem S3x128x512 .f32) (harg16 : arg16.IsWhole) (arg17 : Memref sig .tc
    .vmem S4x8x128 .f32) (harg17 : arg17.IsWhole) (hc0 : ¬cond0_0 i) (xo15 : Vec Ideal S4x8x128 .f32)
theorem B_dqPieces : (kernelRun0_B (F := Ideal) c i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 hc0 x0 x1
    x2 x3 x4 x5 x6 x7 x8 x9 x10 x11 xo15).1 = dqPieces (loads arg2 harg2 arg3 harg3 arg4 harg4 arg5 harg5 arg6 harg6 arg7 harg7
    arg8 harg8 arg9 harg9 arg10 harg10 arg11 harg11 arg12 harg12 arg13 harg13 x0 x1 x2 x3 x4 x5 x6 x7 x8 x9 x10 x11) i := by
  have e :=
      cons_piece (s := S128x2048) (e := .bf16) (Rect.unit ![0, 1920] S128x128.size inb_S128x2048_S128x128_0_1920) (B_v666 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1792] S128x128.size inb_S128x2048_S128x128_0_1792) (B_v654 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1664] S128x128.size inb_S128x2048_S128x128_0_1664) (B_v642 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1536] S128x128.size inb_S128x2048_S128x128_0_1536) (B_v630 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1408] S128x128.size inb_S128x2048_S128x128_0_1408) (B_v490 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1280] S128x128.size inb_S128x2048_S128x128_0_1280) (B_v478 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1152] S128x128.size inb_S128x2048_S128x128_0_1152) (B_v466 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 1024] S128x128.size inb_S128x2048_S128x128_0_1024) (B_v454 c i
    arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S128x2048) (e := .bf16) (Rect.unit ![0, 896] S128x128.size inb_S128x2048_S128x128_0_896) (B_v314 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 768] S128x128.size inb_S128x2048_S128x128_0_768) (B_v302 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 640] S128x128.size inb_S128x2048_S128x128_0_640) (B_v290 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 512] S128x128.size inb_S128x2048_S128x128_0_512) (B_v278 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 384] S128x128.size inb_S128x2048_S128x128_0_384) (B_v138 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 256] S128x128.size inb_S128x2048_S128x128_0_256) (B_v126 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 128] S128x128.size inb_S128x2048_S128x128_0_128) (B_v114 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (
      cons_piece (s := S128x2048) (e := .bf16) (Rect.unit ![0, 0] S128x128.size inb_S128x2048_S128x128_0_0) (B_v102 c i arg2
    harg2 arg3 harg3 arg4 harg4 arg5 harg5 arg6 harg6 arg7 harg7 arg8 harg8 arg9 harg9 arg10 harg10 arg11 harg11 arg12 harg12
    arg13 harg13 x0 x1 x2 x3 x4 x5 x6 x7 x8 x9 x10 x11) (Eq.refl []))))))))))))))))
  refine Eq.trans ?_ e
  sl_kernel_rfl
theorem B_dq {R : Blk} (H : Is (loads arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) i R) (y : S128x2048.Idx) :
    out0_B_12 (F := Ideal) c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 xo15 y = ((R.dqr (y 0) (y 1) : ℝ) : EReal) := by
  unfold out0_B_12
  refine View.read_writes_apply_of_pieces VO0_12 _ (fun y : S128x2048.Idx => ((R.dqr (y 0) (y 1) : ℝ) : EReal)) _ ?_ y
    (cover0_B_12 c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 hc0 x0 x1 x2 x3 x4 x5 x6 x7 x8 x9 x10
    x11 xo15 y)
  rw [B_dqPieces]
  exact dqPieces_val H
theorem B_dkPieces : (kernelRun0_B (F := Ideal) c i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 hc0 x0 x1
    x2 x3 x4 x5 x6 x7 x8 x9 x10 x11 xo15).2.1 = dkPieces (loads arg2 harg2 arg3 harg3 arg4 harg4 arg5 harg5 arg6 harg6 arg7
    harg7 arg8 harg8 arg9 harg9 arg10 harg10 arg11 harg11 arg12 harg12 arg13 harg13 x0 x1 x2 x3 x4 x5 x6 x7 x8 x9 x10 x11) i :=
    by
  have e :=
      cons_piece (s := S3x128x512) (e := .f32) (Rect.unit ![2, 0, 384] S1x128x128.size inb_S3x128x512_S1x128x128_2_0_384)
    (B_v687 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![1, 0, 384] S1x128x128.size inb_S3x128x512_S1x128x128_1_0_384)
    (B_v679 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![0, 0, 384] S1x128x128.size inb_S3x128x512_S1x128x128_0_0_384)
    (B_v671 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![2, 0, 256] S1x128x128.size inb_S3x128x512_S1x128x128_2_0_256)
    (B_v511 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![1, 0, 256] S1x128x128.size inb_S3x128x512_S1x128x128_1_0_256)
    (B_v503 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![0, 0, 256] S1x128x128.size inb_S3x128x512_S1x128x128_0_0_256)
    (B_v495 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![2, 0, 128] S1x128x128.size inb_S3x128x512_S1x128x128_2_0_128)
    (B_v335 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![1, 0, 128] S1x128x128.size inb_S3x128x512_S1x128x128_1_0_128)
    (B_v327 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![0, 0, 128] S1x128x128.size inb_S3x128x512_S1x128x128_0_0_128)
    (B_v319 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![2, 0, 0] S1x128x128.size inb_S3x128x512_S1x128x128_2_0_0) (B_v159 c
    i arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S3x128x512) (e := .f32) (Rect.unit ![1, 0, 0] S1x128x128.size inb_S3x128x512_S1x128x128_1_0_0) (B_v151 c
    i arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S3x128x512) (e := .f32) (Rect.unit ![0, 0, 0] S1x128x128.size inb_S3x128x512_S1x128x128_0_0_0) (B_v143 c
    i arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (Eq.refl []))))))))))))
  refine Eq.trans ?_ e
  sl_kernel_rfl
theorem B_dk {R : Blk} (H : Is (loads arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) i R) (y : S3x128x512.Idx) :
    out0_B_13 (F := Ideal) c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 xo15 y = ((R.dkr (y 0) (y 1) (y 2) : ℝ) : EReal) := by
  unfold out0_B_13
  refine View.read_writes_apply_of_pieces VO0_13 _ (fun y : S3x128x512.Idx => ((R.dkr (y 0) (y 1) (y 2) : ℝ) : EReal)) _ ?_ y
    (cover0_B_13 c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 hc0 x0 x1 x2 x3 x4 x5 x6 x7 x8 x9 x10
    x11 xo15 y)
  rw [B_dkPieces]
  exact dkPieces_val H
theorem B_dvPieces : (kernelRun0_B (F := Ideal) c i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 hc0 x0 x1
    x2 x3 x4 x5 x6 x7 x8 x9 x10 x11 xo15).2.2.1 = dvPieces (loads arg2 harg2 arg3 harg3 arg4 harg4 arg5 harg5 arg6 harg6 arg7
    harg7 arg8 harg8 arg9 harg9 arg10 harg10 arg11 harg11 arg12 harg12 arg13 harg13 x0 x1 x2 x3 x4 x5 x6 x7 x8 x9 x10 x11) i :=
    by
  have e :=
      cons_piece (s := S3x128x512) (e := .f32) (Rect.unit ![2, 0, 384] S1x128x128.size inb_S3x128x512_S1x128x128_2_0_384)
    (B_v691 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![1, 0, 384] S1x128x128.size inb_S3x128x512_S1x128x128_1_0_384)
    (B_v683 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![0, 0, 384] S1x128x128.size inb_S3x128x512_S1x128x128_0_0_384)
    (B_v675 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![2, 0, 256] S1x128x128.size inb_S3x128x512_S1x128x128_2_0_256)
    (B_v515 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![1, 0, 256] S1x128x128.size inb_S3x128x512_S1x128x128_1_0_256)
    (B_v507 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![0, 0, 256] S1x128x128.size inb_S3x128x512_S1x128x128_0_0_256)
    (B_v499 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![2, 0, 128] S1x128x128.size inb_S3x128x512_S1x128x128_2_0_128)
    (B_v339 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![1, 0, 128] S1x128x128.size inb_S3x128x512_S1x128x128_1_0_128)
    (B_v331 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![0, 0, 128] S1x128x128.size inb_S3x128x512_S1x128x128_0_0_128)
    (B_v323 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) (
      cons_piece (s := S3x128x512) (e := .f32) (Rect.unit ![2, 0, 0] S1x128x128.size inb_S3x128x512_S1x128x128_2_0_0) (B_v163 c
    i arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S3x128x512) (e := .f32) (Rect.unit ![1, 0, 0] S1x128x128.size inb_S3x128x512_S1x128x128_1_0_0) (B_v155 c
    i arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (
      cons_piece (s := S3x128x512) (e := .f32) (Rect.unit ![0, 0, 0] S1x128x128.size inb_S3x128x512_S1x128x128_0_0_0) (B_v147 c
    i arg2 harg2 arg3 harg3 arg4 harg4 arg5 harg5 arg6 harg6 arg7 harg7 arg8 harg8 arg9 harg9 arg10 harg10 arg11 harg11 arg12
    harg12 arg13 harg13 x0 x1 x2 x3 x4 x5 x6 x7 x8 x9 x10 x11) (Eq.refl []))))))))))))
  refine Eq.trans ?_ e
  sl_kernel_rfl
theorem B_dv {R : Blk} (H : Is (loads arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) i R) (y : S3x128x512.Idx) :
    out0_B_14 (F := Ideal) c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 xo15 y = ((R.dvr (y 0) (y 1) (y 2) : ℝ) : EReal) := by
  unfold out0_B_14
  refine View.read_writes_apply_of_pieces VO0_14 _ (fun y : S3x128x512.Idx => ((R.dvr (y 0) (y 1) (y 2) : ℝ) : EReal)) _ ?_ y
    (cover0_B_14 c i arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 hc0 x0 x1 x2 x3 x4 x5 x6 x7 x8 x9 x10
    x11 xo15 y)
  rw [B_dvPieces]
  exact dvPieces_val H
end Cert.Attn
-- ==== Proof.Sink.lean ====
module

public import proofs.«01_k».proof.Proof.Block
/-! A step's stores to the block of the sinks' gradient: row by row, what stood there less the group's sum. -/

@[expose] public section

set_option maxRecDepth 16384
noncomputable section
namespace Cert.Attn
open Idealize.ShloMosaic Idealize.SL.Sem Idealize.ShloMosaic.Tactic Cert.KernelIdeal Cert.KernelIdeal.Gen
/-- The row of query head 0 of a group: what stood there, less the sum over the block's tokens. -/
def upd0 (s : FVec Ideal S512x1 .f32) (z : Vec Ideal S1x1x128 .f32) : FVec Ideal S1x1x128 .f32 :=
  shapeCast S1x1x128 (subf (shapeCast S1x128 z shapeCasts_S1x1x128_S1x128 : FVec Ideal S1x128 .f32) (broadcastTo S1x128
    (shapeCast S1x1 (multiReduction .add [0] S1 (extractStridedSlice S128x1 ![0, 0] s slices_S512x1_o0_0_S128x1 :
      FVec Ideal S128x1 .f32) 0x00000000#32 reduces_S128x1_S1 (.inl rfl) rfl) shapeCasts_S1_S1x1) broadcasts_S1x1_S1x128))
    shapeCasts_S1x128_S1x1x128
/-- The row of query head 1 of a group: what stood there, less the sum over the block's tokens. -/
def upd1 (s : FVec Ideal S512x1 .f32) (z : Vec Ideal S1x1x128 .f32) : FVec Ideal S1x1x128 .f32 :=
  shapeCast S1x1x128 (subf (shapeCast S1x128 z shapeCasts_S1x1x128_S1x128 : FVec Ideal S1x128 .f32) (broadcastTo S1x128
    (shapeCast S1x1 (multiReduction .add [0] S1 (extractStridedSlice S128x1 ![128, 0] s slices_S512x1_o128_0_S128x1 :
      FVec Ideal S128x1 .f32) 0x00000000#32 reduces_S128x1_S1 (.inl rfl) rfl) shapeCasts_S1_S1x1) broadcasts_S1x1_S1x128))
    shapeCasts_S1x128_S1x1x128
/-- The row of query head 2 of a group: what stood there, less the sum over the block's tokens. -/
def upd2 (s : FVec Ideal S512x1 .f32) (z : Vec Ideal S1x1x128 .f32) : FVec Ideal S1x1x128 .f32 :=
  shapeCast S1x1x128 (subf (shapeCast S1x128 z shapeCasts_S1x1x128_S1x128 : FVec Ideal S1x128 .f32) (broadcastTo S1x128
    (shapeCast S1x1 (multiReduction .add [0] S1 (extractStridedSlice S128x1 ![256, 0] s slices_S512x1_o256_0_S128x1 :
      FVec Ideal S128x1 .f32) 0x00000000#32 reduces_S128x1_S1 (.inl rfl) rfl) shapeCasts_S1_S1x1) broadcasts_S1x1_S1x128))
    shapeCasts_S1x128_S1x1x128
/-- The row of query head 3 of a group: what stood there, less the sum over the block's tokens. -/
def upd3 (s : FVec Ideal S512x1 .f32) (z : Vec Ideal S1x1x128 .f32) : FVec Ideal S1x1x128 .f32 :=
  shapeCast S1x1x128 (subf (shapeCast S1x128 z shapeCasts_S1x1x128_S1x128 : FVec Ideal S1x128 .f32) (broadcastTo S1x128
    (shapeCast S1x1 (multiReduction .add [0] S1 (extractStridedSlice S128x1 ![384, 0] s slices_S512x1_o384_0_S128x1 :
      FVec Ideal S128x1 .f32) 0x00000000#32 reduces_S128x1_S1 (.inl rfl) rfl) shapeCasts_S1_S1x1) broadcasts_S1x1_S1x128))
    shapeCasts_S1x128_S1x1x128

namespace Blk
variable (R : Blk)
/-- The block's sum for one query head. -/
def snk (h g : Fin 4) : ℝ := ∑ r : Fin 128, R.sg h ⟨g.val * 128 + r.val, by omega⟩
/-- What the first `k` rows' stores take away at a place. -/
def sinks (k : ℕ) (y : S4x8x128.Idx) : ℝ :=
  if hy : (y 1).val < 4 ∧ (y 0).val * 4 + (y 1).val < k then R.snk (y 0) ⟨(y 1).val, hy.1⟩ else 0
end Blk

section
variable {R : Blk}
theorem upd0_coe (h : Fin 4) (s : FVec Ideal S512x1 .f32) (hs : ∀ a, s (ix2 a 0) = (R.sg h a : EReal))
    (z : Vec Ideal S1x1x128 .f32) (x : ℝ) (j : Fin 128) (hz : z (ix3 0 0 j) = (x : EReal)) :
    upd0 s z (ix3 0 0 j) = ((x - R.snk h 0 : ℝ) : EReal) := by
  unfold upd0
  pointwise []
  refine (congrArg₂ _ hz (Finset.sum_congr rfl fun r _ => hs _)).trans ?_
  rw [coe_sum, ← EReal.coe_sub]
  refine congrArg _ (congrArg _ ?_)
  exact Finset.sum_congr rfl fun r _ => congrArg _ (Fin.ext (by simp))
theorem upd1_coe (h : Fin 4) (s : FVec Ideal S512x1 .f32) (hs : ∀ a, s (ix2 a 0) = (R.sg h a : EReal))
    (z : Vec Ideal S1x1x128 .f32) (x : ℝ) (j : Fin 128) (hz : z (ix3 0 0 j) = (x : EReal)) :
    upd1 s z (ix3 0 0 j) = ((x - R.snk h 1 : ℝ) : EReal) := by
  unfold upd1
  pointwise []
  refine (congrArg₂ _ hz (Finset.sum_congr rfl fun r _ => hs _)).trans ?_
  rw [coe_sum, ← EReal.coe_sub]
  refine congrArg _ (congrArg _ ?_)
  exact Finset.sum_congr rfl fun r _ => congrArg _ (Fin.ext (by simp))
theorem upd2_coe (h : Fin 4) (s : FVec Ideal S512x1 .f32) (hs : ∀ a, s (ix2 a 0) = (R.sg h a : EReal))
    (z : Vec Ideal S1x1x128 .f32) (x : ℝ) (j : Fin 128) (hz : z (ix3 0 0 j) = (x : EReal)) :
    upd2 s z (ix3 0 0 j) = ((x - R.snk h 2 : ℝ) : EReal) := by
  unfold upd2
  pointwise []
  refine (congrArg₂ _ hz (Finset.sum_congr rfl fun r _ => hs _)).trans ?_
  rw [coe_sum, ← EReal.coe_sub]
  refine congrArg _ (congrArg _ ?_)
  exact Finset.sum_congr rfl fun r _ => congrArg _ (Fin.ext (by simp))
theorem upd3_coe (h : Fin 4) (s : FVec Ideal S512x1 .f32) (hs : ∀ a, s (ix2 a 0) = (R.sg h a : EReal))
    (z : Vec Ideal S1x1x128 .f32) (x : ℝ) (j : Fin 128) (hz : z (ix3 0 0 j) = (x : EReal)) :
    upd3 s z (ix3 0 0 j) = ((x - R.snk h 3 : ℝ) : EReal) := by
  unfold upd3
  pointwise []
  refine (congrArg₂ _ hz (Finset.sum_congr rfl fun r _ => hs _)).trans ?_
  rw [coe_sum, ← EReal.coe_sub]
  refine congrArg _ (congrArg _ ?_)
  exact Finset.sum_congr rfl fun r _ => congrArg _ (Fin.ext (by simp))

/-- One more row's store. `rd` reads a list of stores at a place. -/
theorem sink_step (rd : List (View.Piece (Elt Ideal) S4x8x128 .f32) → S4x8x128.Idx → EReal)
    (hit : ∀ (r : Rect S4x8x128) (w : r.shape.Idx → EReal) (l) (x : r.shape.Idx), rd (⟨r, w⟩ :: l) (r.emb x) = w x)
    (miss : ∀ (p : View.Piece (Elt Ideal) S4x8x128 .f32) (l) (y), y ∉ p.1.set → rd (p :: l) y = rd l y)
    (X : S4x8x128.Idx → ℝ) {l : List (View.Piece (Elt Ideal) S4x8x128 .f32)} (k a b : ℕ) (ha : a < 4) (hb : b < 4)
    (hk : k = a * 4 + b) (inb) (w : S1x1x128.Idx → EReal)
    (hl : ∀ y, rd l y = ((X y - R.sinks k y : ℝ) : EReal))
    (hw : ∀ j, w (ix3 0 0 j) = ((X ((Rect.unit ![a, b, 0] S1x1x128.size inb : Rect S4x8x128).emb (ix3 0 0 j)) -
      R.snk ⟨a, ha⟩ ⟨b, hb⟩ : ℝ) : EReal)) (y) :
    rd (⟨(Rect.unit ![a, b, 0] S1x1x128.size inb : Rect S4x8x128), w⟩ :: l) y = ((X y - R.sinks (k + 1) y : ℝ) : EReal) := by
  subst hk
  by_cases hy : y ∈ (Rect.unit ![a, b, 0] S1x1x128.size inb : Rect S4x8x128).set
  · obtain ⟨x, rfl⟩ : ∃ x, (Rect.unit ![a, b, 0] S1x1x128.size inb : Rect S4x8x128).emb x = y := (Rect.unit ![a, b, 0]
    S1x1x128.size inb : Rect S4x8x128).exists_idx_of_mem hy
    have h0 : ((Rect.unit ![a, b, 0] S1x1x128.size inb : Rect S4x8x128).emb x 0).val = a := by
      rw [emb_val]; have := (x 0).isLt; simp at this ⊢; omega
    have h1 : ((Rect.unit ![a, b, 0] S1x1x128.size inb : Rect S4x8x128).emb x 1).val = b := by
      rw [emb_val]; have := (x 1).isLt; simp at this ⊢; omega
    rw [hit]
    have hx : ∃ j, x = ix3 0 0 j := ⟨x 2, by
      funext q
      fin_cases q
      · exact Subsingleton.elim (α := Fin 1) _ _
      · exact Subsingleton.elim (α := Fin 1) _ _
      · rfl⟩
    obtain ⟨j, rfl⟩ := hx
    rw [hw]
    congr 2
    unfold Blk.sinks
    rw [dif_pos (by rw [h0, h1]; omega)]
    exact congrArg₂ R.snk (Fin.ext h0.symm) (Fin.ext h1.symm)
  · refine (miss ⟨_, w⟩ l y hy).trans ((hl y).trans (congrArg _ (congrArg _ ?_)))
    unfold Blk.sinks
    have hn : ¬((y 0).val = a ∧ (y 1).val = b) := fun ⟨h0, h1⟩ => hy (Rect.mem_set_unit.mpr fun q => by
      have := (y 2).isLt
      fin_cases q <;> simp at * <;> omega)
    by_cases hq : (y 1).val < 4 ∧ (y 0).val * 4 + (y 1).val < a * 4 + b
    · rw [dif_pos hq, dif_pos ⟨hq.1, by omega⟩]
    · rw [dif_neg hq, dif_neg (by omega)]

/-- A row not yet stored to reads, through a load, what stood there before the step's stores. -/
theorem canon_row {sp : Space} {v : View sig .tc sp S4x8x128 .f32} (X : S4x8x128.Idx → ℝ)
    {l : List (View.Piece (Elt Ideal) S4x8x128 .f32)} (k a b : ℕ) (ha : a < 4) (hb : b < 4) (hk : k = a * 4 + b) (inb)
    (hl : ∀ y, View.canon (Val := Elt Ideal) l y = ((X y - R.sinks k y : ℝ) : EReal)) (j : Fin 128) :
    v.readCov (Val := Elt Ideal) l (Rect.unit ![a, b, 0] S1x1x128.size inb : Rect S4x8x128).toLoadRect (ix3 0 0 j) =
      (X ((Rect.unit ![a, b, 0] S1x1x128.size inb : Rect S4x8x128).emb (ix3 0 0 j)) : EReal) := by
  rw [View.readCov_eq_canon']
  refine (hl ((Rect.unit ![a, b, 0] S1x1x128.size inb : Rect S4x8x128).emb (ix3 0 0 j))).trans (congrArg _ ?_)
  have h0 : ((Rect.unit ![a, b, 0] S1x1x128.size inb : Rect S4x8x128).emb (ix3 0 0 j) 0).val = a := by
    rw [emb_val]; simp
  have h1 : ((Rect.unit ![a, b, 0] S1x1x128.size inb : Rect S4x8x128).emb (ix3 0 0 j) 1).val = b := by
    rw [emb_val]; simp
  unfold Blk.sinks
  rw [dif_neg (by rw [h0, h1]; omega), sub_zero]
end
end Cert.Attn
-- ==== Proof.SinkA.lean ====
module

public import proofs.«01_k».proof.Proof.Sink
public import proofs.«01_k».proof.Proof.ChainALo
public import proofs.«01_k».proof.Proof.ChainAHi
public import proofs.«01_k».proof.Proof.Gen.KernelIdeal.Frame
/-! What a first step leaves in the block of the sinks' gradient. -/

@[expose] public section

set_option maxRecDepth 16384
noncomputable section
namespace Cert.Attn
open Idealize.ShloMosaic Idealize.SL.Sem Idealize.ShloMosaic.Tactic Cert.KernelIdeal Cert.KernelIdeal.Gen
variable (c : Dev nD) (i : grid0.Coords) (arg2 : Memref sig .tc .vmem S128x2048 .bf16) (harg2 : arg2.IsWhole) (arg3 : Memref sig
    .tc .vmem S128x512 .bf16) (harg3 : arg3.IsWhole) (arg4 : Memref sig .tc .vmem S128x512 .bf16) (harg4 : arg4.IsWhole) (arg5 :
    Memref sig .tc .vmem S128x512 .bf16) (harg5 : arg5.IsWhole) (arg6 : Memref sig .tc .vmem S128x512 .bf16) (harg6 :
    arg6.IsWhole) (arg7 : Memref sig .tc .vmem S128x512 .bf16) (harg7 : arg7.IsWhole) (arg8 : Memref sig .tc .vmem S128x512
    .bf16) (harg8 : arg8.IsWhole) (arg9 : Memref sig .tc .vmem S4x512x1 .f32) (harg9 : arg9.IsWhole) (arg10 : Memref sig .tc
    .vmem S128x2048 .bf16) (harg10 : arg10.IsWhole) (arg11 : Memref sig .tc .vmem S128x128 .f32) (harg11 : arg11.IsWhole) (arg12
    : Memref sig .tc .vmem S128x128 .f32) (harg12 : arg12.IsWhole) (arg13 : Memref sig .tc .vmem S128x128 .f32) (harg13 :
    arg13.IsWhole) (x0 : Vec Ideal S128x2048 .bf16) (x1 : Vec Ideal S128x512 .bf16) (x2 : Vec Ideal S128x512 .bf16) (x3 : Vec
    Ideal S128x512 .bf16) (x4 : Vec Ideal S128x512 .bf16) (x5 : Vec Ideal S128x512 .bf16) (x6 : Vec Ideal S128x512 .bf16) (x7 :
    Vec Ideal S4x512x1 .f32) (x8 : Vec Ideal S128x2048 .bf16) (x9 : Vec Ideal S128x128 .f32) (x10 : Vec Ideal S128x128 .f32)
    (x11 : Vec Ideal S128x128 .f32)
    (arg14 : Memref sig .tc .vmem S128x2048 .bf16) (harg14 : arg14.IsWhole) (arg15 : Memref sig .tc .vmem S3x128x512 .f32)
    (harg15 : arg15.IsWhole) (arg16 : Memref sig .tc .vmem S3x128x512 .f32) (harg16 : arg16.IsWhole) (arg17 : Memref sig .tc
    .vmem S4x8x128 .f32) (harg17 : arg17.IsWhole) (hc0 : cond0_0 i)
theorem zero_word : (FloatOps.ofBits (F := Ideal) .f32 0x00000000#32) = ((0 : ℝ) : EReal) := by
  show Ideal.ofBits .f32 0x00000000#32 = _
  simp [Ideal.ofBits, Ideal.ieee]
theorem A_H15_2 : (kernelRun0_A.sl.H15_2 (F := Ideal) c i arg2 harg2 arg3 harg3 arg4 harg4 arg5 harg5 arg6 harg6 arg7 harg7 arg8
    harg8 arg9 harg9 arg10 harg10 arg17 x0 x1 x2 x3 x4 x5 x6 x7 x8) = ⟨(Rect.unit ![0, 0, 0] S1x1x128.size
    inb_S4x8x128_S1x1x128_0_0_0 : Rect S4x8x128), upd0 (kernelRun0_A.sl.v164 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_1 (F := Ideal) ) (Rect.unit ![0, 0, 0] S1x1x128.size inb_S4x8x128_S1x1x128_0_0_0 :
    Rect S4x8x128).toLoadRect)⟩ ::
    (kernelRun0_A.sl.H15_1 (F := Ideal) ) := by
  sl_kernel_rfl
theorem A_H15_3 : (kernelRun0_A.sl.H15_3 (F := Ideal) c i arg2 harg2 arg3 harg3 arg4 harg4 arg5 harg5 arg6 harg6 arg7 harg7 arg8
    harg8 arg9 harg9 arg10 harg10 arg17 x0 x1 x2 x3 x4 x5 x6 x7 x8) = ⟨(Rect.unit ![0, 1, 0] S1x1x128.size
    inb_S4x8x128_S1x1x128_0_1_0 : Rect S4x8x128), upd1 (kernelRun0_A.sl.v164 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_2 (F := Ideal) c i arg2 harg2 arg3 harg3 arg4 harg4 arg5 harg5 arg6 harg6 arg7
    harg7 arg8 harg8 arg9 harg9 arg10 harg10 arg17 x0 x1 x2 x3 x4 x5 x6 x7 x8) (Rect.unit ![0, 1, 0] S1x1x128.size
    inb_S4x8x128_S1x1x128_0_1_0 : Rect S4x8x128).toLoadRect)⟩ ::
    (kernelRun0_A.sl.H15_2 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_4 : (kernelRun0_A.sl.H15_4 (F := Ideal) c i arg2 harg2 arg3 harg3 arg4 harg4 arg5 harg5 arg6 harg6 arg7 harg7 arg8
    harg8 arg9 harg9 arg10 harg10 arg17 x0 x1 x2 x3 x4 x5 x6 x7 x8) = ⟨(Rect.unit ![0, 2, 0] S1x1x128.size
    inb_S4x8x128_S1x1x128_0_2_0 : Rect S4x8x128), upd2 (kernelRun0_A.sl.v164 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_3 (F := Ideal) c i arg2 harg2 arg3 harg3 arg4 harg4 arg5 harg5 arg6 harg6 arg7
    harg7 arg8 harg8 arg9 harg9 arg10 harg10 arg17 x0 x1 x2 x3 x4 x5 x6 x7 x8) (Rect.unit ![0, 2, 0] S1x1x128.size
    inb_S4x8x128_S1x1x128_0_2_0 : Rect S4x8x128).toLoadRect)⟩ ::
    (kernelRun0_A.sl.H15_3 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_5 : (kernelRun0_A.sl.H15_5 (F := Ideal) c i arg2 harg2 arg3 harg3 arg4 harg4 arg5 harg5 arg6 harg6 arg7 harg7 arg8
    harg8 arg9 harg9 arg10 harg10 arg17 x0 x1 x2 x3 x4 x5 x6 x7 x8) = ⟨(Rect.unit ![0, 3, 0] S1x1x128.size
    inb_S4x8x128_S1x1x128_0_3_0 : Rect S4x8x128), upd3 (kernelRun0_A.sl.v164 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_4 (F := Ideal) c i arg2 harg2 arg3 harg3 arg4 harg4 arg5 harg5 arg6 harg6 arg7
    harg7 arg8 harg8 arg9 harg9 arg10 harg10 arg17 x0 x1 x2 x3 x4 x5 x6 x7 x8) (Rect.unit ![0, 3, 0] S1x1x128.size
    inb_S4x8x128_S1x1x128_0_3_0 : Rect S4x8x128).toLoadRect)⟩ ::
    (kernelRun0_A.sl.H15_4 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_6 : (kernelRun0_A.sl.H15_6 (F := Ideal) c i arg2 harg2 arg3 harg3 arg4 harg4 arg5 harg5 arg6 harg6 arg7 harg7 arg8
    harg8 arg9 harg9 arg10 harg10 arg17 x0 x1 x2 x3 x4 x5 x6 x7 x8) = ⟨(Rect.unit ![1, 0, 0] S1x1x128.size
    inb_S4x8x128_S1x1x128_1_0_0 : Rect S4x8x128), upd0 (kernelRun0_A.sl.v340 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_5 (F := Ideal) c i arg2 harg2 arg3 harg3 arg4 harg4 arg5 harg5 arg6 harg6 arg7
    harg7 arg8 harg8 arg9 harg9 arg10 harg10 arg17 x0 x1 x2 x3 x4 x5 x6 x7 x8) (Rect.unit ![1, 0, 0] S1x1x128.size
    inb_S4x8x128_S1x1x128_1_0_0 : Rect S4x8x128).toLoadRect)⟩ ::
    (kernelRun0_A.sl.H15_5 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_7 : (kernelRun0_A.sl.H15_7 (F := Ideal) c i arg2 harg2 arg3 harg3 arg4 harg4 arg5 harg5 arg6 harg6 arg7 harg7 arg8
    harg8 arg9 harg9 arg10 harg10 arg17 x0 x1 x2 x3 x4 x5 x6 x7 x8) = ⟨(Rect.unit ![1, 1, 0] S1x1x128.size
    inb_S4x8x128_S1x1x128_1_1_0 : Rect S4x8x128), upd1 (kernelRun0_A.sl.v340 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_6 (F := Ideal) c i arg2 harg2 arg3 harg3 arg4 harg4 arg5 harg5 arg6 harg6 arg7
    harg7 arg8 harg8 arg9 harg9 arg10 harg10 arg17 x0 x1 x2 x3 x4 x5 x6 x7 x8) (Rect.unit ![1, 1, 0] S1x1x128.size
    inb_S4x8x128_S1x1x128_1_1_0 : Rect S4x8x128).toLoadRect)⟩ ::
    (kernelRun0_A.sl.H15_6 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_8 : (kernelRun0_A.sl.H15_8 (F := Ideal) c i arg2 harg2 arg3 harg3 arg4 harg4 arg5 harg5 arg6 harg6 arg7 harg7 arg8
    harg8 arg9 harg9 arg10 harg10 arg17 x0 x1 x2 x3 x4 x5 x6 x7 x8) = ⟨(Rect.unit ![1, 2, 0] S1x1x128.size
    inb_S4x8x128_S1x1x128_1_2_0 : Rect S4x8x128), upd2 (kernelRun0_A.sl.v340 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_7 (F := Ideal) c i arg2 harg2 arg3 harg3 arg4 harg4 arg5 harg5 arg6 harg6 arg7
    harg7 arg8 harg8 arg9 harg9 arg10 harg10 arg17 x0 x1 x2 x3 x4 x5 x6 x7 x8) (Rect.unit ![1, 2, 0] S1x1x128.size
    inb_S4x8x128_S1x1x128_1_2_0 : Rect S4x8x128).toLoadRect)⟩ ::
    (kernelRun0_A.sl.H15_7 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_9 : (kernelRun0_A.sl.H15_9 (F := Ideal) c i arg2 harg2 arg3 harg3 arg4 harg4 arg5 harg5 arg6 harg6 arg7 harg7 arg8
    harg8 arg9 harg9 arg10 harg10 arg17 x0 x1 x2 x3 x4 x5 x6 x7 x8) = ⟨(Rect.unit ![1, 3, 0] S1x1x128.size
    inb_S4x8x128_S1x1x128_1_3_0 : Rect S4x8x128), upd3 (kernelRun0_A.sl.v340 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_8 (F := Ideal) c i arg2 harg2 arg3 harg3 arg4 harg4 arg5 harg5 arg6 harg6 arg7
    harg7 arg8 harg8 arg9 harg9 arg10 harg10 arg17 x0 x1 x2 x3 x4 x5 x6 x7 x8) (Rect.unit ![1, 3, 0] S1x1x128.size
    inb_S4x8x128_S1x1x128_1_3_0 : Rect S4x8x128).toLoadRect)⟩ ::
    (kernelRun0_A.sl.H15_8 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_10 : (kernelRun0_A.sl.H15_10 (F := Ideal) c i arg2 harg2 arg3 harg3 arg4 harg4 arg5 harg5 arg6 harg6 arg7 harg7
    arg8 harg8 arg9 harg9 arg10 harg10 arg17 x0 x1 x2 x3 x4 x5 x6 x7 x8) = ⟨(Rect.unit ![2, 0, 0] S1x1x128.size
    inb_S4x8x128_S1x1x128_2_0_0 : Rect S4x8x128), upd0 (kernelRun0_A.sl.v516 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_9 (F := Ideal) c i arg2 harg2 arg3 harg3 arg4 harg4 arg5 harg5 arg6 harg6 arg7
    harg7 arg8 harg8 arg9 harg9 arg10 harg10 arg17 x0 x1 x2 x3 x4 x5 x6 x7 x8) (Rect.unit ![2, 0, 0] S1x1x128.size
    inb_S4x8x128_S1x1x128_2_0_0 : Rect S4x8x128).toLoadRect)⟩ ::
    (kernelRun0_A.sl.H15_9 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_11 : (kernelRun0_A.sl.H15_11 (F := Ideal) c i arg2 harg2 arg3 harg3 arg4 harg4 arg5 harg5 arg6 harg6 arg7 harg7
    arg8 harg8 arg9 harg9 arg10 harg10 arg17 x0 x1 x2 x3 x4 x5 x6 x7 x8) = ⟨(Rect.unit ![2, 1, 0] S1x1x128.size
    inb_S4x8x128_S1x1x128_2_1_0 : Rect S4x8x128), upd1 (kernelRun0_A.sl.v516 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_10 (F := Ideal) c i arg2 harg2 arg3 harg3 arg4 harg4 arg5 harg5 arg6 harg6 arg7
    harg7 arg8 harg8 arg9 harg9 arg10 harg10 arg17 x0 x1 x2 x3 x4 x5 x6 x7 x8) (Rect.unit ![2, 1, 0] S1x1x128.size
    inb_S4x8x128_S1x1x128_2_1_0 : Rect S4x8x128).toLoadRect)⟩ ::
    (kernelRun0_A.sl.H15_10 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_12 : (kernelRun0_A.sl.H15_12 (F := Ideal) c i arg2 harg2 arg3 harg3 arg4 harg4 arg5 harg5 arg6 harg6 arg7 harg7
    arg8 harg8 arg9 harg9 arg10 harg10 arg17 x0 x1 x2 x3 x4 x5 x6 x7 x8) = ⟨(Rect.unit ![2, 2, 0] S1x1x128.size
    inb_S4x8x128_S1x1x128_2_2_0 : Rect S4x8x128), upd2 (kernelRun0_A.sl.v516 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_11 (F := Ideal) c i arg2 harg2 arg3 harg3 arg4 harg4 arg5 harg5 arg6 harg6 arg7
    harg7 arg8 harg8 arg9 harg9 arg10 harg10 arg17 x0 x1 x2 x3 x4 x5 x6 x7 x8) (Rect.unit ![2, 2, 0] S1x1x128.size
    inb_S4x8x128_S1x1x128_2_2_0 : Rect S4x8x128).toLoadRect)⟩ ::
    (kernelRun0_A.sl.H15_11 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_13 : (kernelRun0_A.sl.H15_13 (F := Ideal) c i arg2 harg2 arg3 harg3 arg4 harg4 arg5 harg5 arg6 harg6 arg7 harg7
    arg8 harg8 arg9 harg9 arg10 harg10 arg17 x0 x1 x2 x3 x4 x5 x6 x7 x8) = ⟨(Rect.unit ![2, 3, 0] S1x1x128.size
    inb_S4x8x128_S1x1x128_2_3_0 : Rect S4x8x128), upd3 (kernelRun0_A.sl.v516 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_12 (F := Ideal) c i arg2 harg2 arg3 harg3 arg4 harg4 arg5 harg5 arg6 harg6 arg7
    harg7 arg8 harg8 arg9 harg9 arg10 harg10 arg17 x0 x1 x2 x3 x4 x5 x6 x7 x8) (Rect.unit ![2, 3, 0] S1x1x128.size
    inb_S4x8x128_S1x1x128_2_3_0 : Rect S4x8x128).toLoadRect)⟩ ::
    (kernelRun0_A.sl.H15_12 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_14 : (kernelRun0_A.sl.H15_14 (F := Ideal) c i arg2 harg2 arg3 harg3 arg4 harg4 arg5 harg5 arg6 harg6 arg7 harg7
    arg8 harg8 arg9 harg9 arg10 harg10 arg17 x0 x1 x2 x3 x4 x5 x6 x7 x8) = ⟨(Rect.unit ![3, 0, 0] S1x1x128.size
    inb_S4x8x128_S1x1x128_3_0_0 : Rect S4x8x128), upd0 (kernelRun0_A.sl.v692 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_13 (F := Ideal) c i arg2 harg2 arg3 harg3 arg4 harg4 arg5 harg5 arg6 harg6 arg7
    harg7 arg8 harg8 arg9 harg9 arg10 harg10 arg17 x0 x1 x2 x3 x4 x5 x6 x7 x8) (Rect.unit ![3, 0, 0] S1x1x128.size
    inb_S4x8x128_S1x1x128_3_0_0 : Rect S4x8x128).toLoadRect)⟩ ::
    (kernelRun0_A.sl.H15_13 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_15 : (kernelRun0_A.sl.H15_15 (F := Ideal) c i arg2 harg2 arg3 harg3 arg4 harg4 arg5 harg5 arg6 harg6 arg7 harg7
    arg8 harg8 arg9 harg9 arg10 harg10 arg17 x0 x1 x2 x3 x4 x5 x6 x7 x8) = ⟨(Rect.unit ![3, 1, 0] S1x1x128.size
    inb_S4x8x128_S1x1x128_3_1_0 : Rect S4x8x128), upd1 (kernelRun0_A.sl.v692 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_14 (F := Ideal) c i arg2 harg2 arg3 harg3 arg4 harg4 arg5 harg5 arg6 harg6 arg7
    harg7 arg8 harg8 arg9 harg9 arg10 harg10 arg17 x0 x1 x2 x3 x4 x5 x6 x7 x8) (Rect.unit ![3, 1, 0] S1x1x128.size
    inb_S4x8x128_S1x1x128_3_1_0 : Rect S4x8x128).toLoadRect)⟩ ::
    (kernelRun0_A.sl.H15_14 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_H15_16 : (kernelRun0_A.sl.H15_16 (F := Ideal) c i arg2 harg2 arg3 harg3 arg4 harg4 arg5 harg5 arg6 harg6 arg7 harg7
    arg8 harg8 arg9 harg9 arg10 harg10 arg17 x0 x1 x2 x3 x4 x5 x6 x7 x8) = ⟨(Rect.unit ![3, 2, 0] S1x1x128.size
    inb_S4x8x128_S1x1x128_3_2_0 : Rect S4x8x128), upd2 (kernelRun0_A.sl.v692 (F := Ideal) c i arg2 harg2 arg3 harg3 arg4 harg4
    arg5 harg5 arg6 harg6 arg7 harg7 arg8 harg8 arg9 harg9 arg10 harg10 x0 x1 x2 x3 x4 x5 x6 x7 x8)
    (arg17.view.readCov (kernelRun0_A.sl.H15_15 (F := Ideal) c i arg2 harg2 arg3 harg3 arg4 harg4 arg5 harg5 arg6 harg6 arg7
    harg7 arg8 harg8 arg9 harg9 arg10 harg10 arg17 x0 x1 x2 x3 x4 x5 x6 x7 x8) (Rect.unit ![3, 2, 0] S1x1x128.size
    inb_S4x8x128_S1x1x128_3_2_0 : Rect S4x8x128).toLoadRect)⟩ ::
    (kernelRun0_A.sl.H15_15 (F := Ideal) c i arg2 harg2 arg3 harg3 arg4 harg4 arg5 harg5 arg6 harg6 arg7 harg7 arg8 harg8 arg9
    harg9 arg10 harg10 arg17 x0 x1 x2 x3 x4 x5 x6 x7 x8) := by
  sl_kernel_rfl
theorem A_dsPieces : (kernelRun0_A (F := Ideal) c i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 hc0 x0 x1
    x2 x3 x4 x5 x6 x7 x8 x9 x10 x11).2.2.2.1 = (⟨(Rect.unit ![3, 3, 0] S1x1x128.size inb_S4x8x128_S1x1x128_3_3_0 : Rect
    S4x8x128), upd3 (kernelRun0_A.sl.v692 (F := Ideal) c i arg2 harg2 arg3 harg3 arg4 harg4 arg5 harg5 arg6 harg6 arg7 harg7
    arg8 harg8 arg9 harg9 arg10 harg10 x0 x1 x2 x3 x4 x5 x6 x7 x8) (arg17.view.readCov (kernelRun0_A.sl.H15_16 (F := Ideal) c i
    arg2 harg2 arg3 harg3 arg4 harg4 arg5 harg5 arg6 harg6 arg7 harg7 arg8 harg8 arg9 harg9 arg10 harg10 arg17 x0 x1 x2 x3 x4 x5
    x6 x7 x8) (Rect.unit ![3, 3, 0] S1x1x128.size inb_S4x8x128_S1x1x128_3_3_0 : Rect S4x8x128).toLoadRect)⟩ ::
    (kernelRun0_A.sl.H15_16 (F := Ideal) c i arg2 harg2 arg3 harg3 arg4 harg4 arg5 harg5 arg6 harg6 arg7 harg7 arg8 harg8 arg9
    harg9 arg10 harg10 arg17 x0 x1 x2 x3 x4 x5 x6 x7 x8)) := by
  sl_kernel_rfl
theorem A_ds {R : Blk} (H : Is (loads arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) i R) (y : S4x8x128.Idx) :
    out0_A_15 (F := Ideal) c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 y = ((0 - R.sinks 16 y : ℝ) : EReal) := by
  have b : ∀ y, View.canon (Val := Elt Ideal) (kernelRun0_A.sl.H15_1 (F := Ideal)) y = (((fun _ => 0 : S4x8x128.Idx → ℝ) y -
    R.sinks 0 y : ℝ) : EReal) := by
    intro y
    have hy : ∃ x, (Rect.unit ![0, 0, 0] S4x8x128.size inb_S4x8x128_S4x8x128_0_0_0 : Rect S4x8x128).emb x = y :=
      ⟨y, funext fun q => Fin.ext (by rw [emb_val]; fin_cases q <;> simp)⟩
    obtain ⟨x, rfl⟩ := hy
    refine (View.canon_cons_emb (Val := Elt Ideal) (e := .f32) _ (kernelRun0_A.sl.v733 (F := Ideal)) [] x).trans ?_
    unfold Blk.sinks
    rw [dif_neg (by omega), sub_zero]
    exact zero_word
  have b1 := sink_step (R := R) (fun l => View.canon l) (fun r w l x => View.canon_cons_emb r w l x) (fun p l y hy =>
    View.canon_cons_of_not_mem p l hy) (fun _ => 0) 0 0 0 (by omega) (by omega) rfl inb_S4x8x128_S1x1x128_0_0_0
    (upd0 (kernelRun0_A.sl.v164 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_1 (F := Ideal) ) (Rect.unit
    ![0, 0, 0] S1x1x128.size inb_S4x8x128_S1x1x128_0_0_0 : Rect S4x8x128).toLoadRect)) b (fun j => upd0_coe 0 _ (fun a =>
    (congrFun (A_v164 c i arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11) _).trans (sg_coe H 0 a)) _ _ j
      (canon_row (v := arg17.view) (fun _ => 0) 0 0 0 (by omega) (by omega) rfl inb_S4x8x128_S1x1x128_0_0_0 b j))
  rw [← A_H15_2 c i arg2 harg2 arg3 harg3 arg4 harg4 arg5 harg5 arg6 harg6 arg7 harg7 arg8 harg8 arg9 harg9 arg10 harg10 x0 x1
    x2 x3 x4 x5 x6 x7 x8 arg17] at b1
  have b2 := sink_step (R := R) (fun l => View.canon l) (fun r w l x => View.canon_cons_emb r w l x) (fun p l y hy =>
    View.canon_cons_of_not_mem p l hy) (fun _ => 0) 1 0 1 (by omega) (by omega) rfl inb_S4x8x128_S1x1x128_0_1_0
    (upd1 (kernelRun0_A.sl.v164 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_2 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![0, 1, 0] S1x1x128.size inb_S4x8x128_S1x1x128_0_1_0 : Rect S4x8x128).toLoadRect)) b1 (fun j => upd1_coe 0 _ (fun
    a => (congrFun (A_v164 c i arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11) _).trans (sg_coe H 0 a)) _ _ j
      (canon_row (v := arg17.view) (fun _ => 0) 1 0 1 (by omega) (by omega) rfl inb_S4x8x128_S1x1x128_0_1_0 b1 j))
  rw [← A_H15_3 c i arg2 harg2 arg3 harg3 arg4 harg4 arg5 harg5 arg6 harg6 arg7 harg7 arg8 harg8 arg9 harg9 arg10 harg10 x0 x1
    x2 x3 x4 x5 x6 x7 x8 arg17] at b2
  have b3 := sink_step (R := R) (fun l => View.canon l) (fun r w l x => View.canon_cons_emb r w l x) (fun p l y hy =>
    View.canon_cons_of_not_mem p l hy) (fun _ => 0) 2 0 2 (by omega) (by omega) rfl inb_S4x8x128_S1x1x128_0_2_0
    (upd2 (kernelRun0_A.sl.v164 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_3 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![0, 2, 0] S1x1x128.size inb_S4x8x128_S1x1x128_0_2_0 : Rect S4x8x128).toLoadRect)) b2 (fun j => upd2_coe 0 _ (fun
    a => (congrFun (A_v164 c i arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11) _).trans (sg_coe H 0 a)) _ _ j
      (canon_row (v := arg17.view) (fun _ => 0) 2 0 2 (by omega) (by omega) rfl inb_S4x8x128_S1x1x128_0_2_0 b2 j))
  rw [← A_H15_4 c i arg2 harg2 arg3 harg3 arg4 harg4 arg5 harg5 arg6 harg6 arg7 harg7 arg8 harg8 arg9 harg9 arg10 harg10 x0 x1
    x2 x3 x4 x5 x6 x7 x8 arg17] at b3
  have b4 := sink_step (R := R) (fun l => View.canon l) (fun r w l x => View.canon_cons_emb r w l x) (fun p l y hy =>
    View.canon_cons_of_not_mem p l hy) (fun _ => 0) 3 0 3 (by omega) (by omega) rfl inb_S4x8x128_S1x1x128_0_3_0
    (upd3 (kernelRun0_A.sl.v164 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_4 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![0, 3, 0] S1x1x128.size inb_S4x8x128_S1x1x128_0_3_0 : Rect S4x8x128).toLoadRect)) b3 (fun j => upd3_coe 0 _ (fun
    a => (congrFun (A_v164 c i arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11) _).trans (sg_coe H 0 a)) _ _ j
      (canon_row (v := arg17.view) (fun _ => 0) 3 0 3 (by omega) (by omega) rfl inb_S4x8x128_S1x1x128_0_3_0 b3 j))
  rw [← A_H15_5 c i arg2 harg2 arg3 harg3 arg4 harg4 arg5 harg5 arg6 harg6 arg7 harg7 arg8 harg8 arg9 harg9 arg10 harg10 x0 x1
    x2 x3 x4 x5 x6 x7 x8 arg17] at b4
  have b5 := sink_step (R := R) (fun l => View.canon l) (fun r w l x => View.canon_cons_emb r w l x) (fun p l y hy =>
    View.canon_cons_of_not_mem p l hy) (fun _ => 0) 4 1 0 (by omega) (by omega) rfl inb_S4x8x128_S1x1x128_1_0_0
    (upd0 (kernelRun0_A.sl.v340 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_5 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![1, 0, 0] S1x1x128.size inb_S4x8x128_S1x1x128_1_0_0 : Rect S4x8x128).toLoadRect)) b4 (fun j => upd0_coe 1 _ (fun
    a => (congrFun (A_v340 c i arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11) _).trans (sg_coe H 1 a)) _ _ j
      (canon_row (v := arg17.view) (fun _ => 0) 4 1 0 (by omega) (by omega) rfl inb_S4x8x128_S1x1x128_1_0_0 b4 j))
  rw [← A_H15_6 c i arg2 harg2 arg3 harg3 arg4 harg4 arg5 harg5 arg6 harg6 arg7 harg7 arg8 harg8 arg9 harg9 arg10 harg10 x0 x1
    x2 x3 x4 x5 x6 x7 x8 arg17] at b5
  have b6 := sink_step (R := R) (fun l => View.canon l) (fun r w l x => View.canon_cons_emb r w l x) (fun p l y hy =>
    View.canon_cons_of_not_mem p l hy) (fun _ => 0) 5 1 1 (by omega) (by omega) rfl inb_S4x8x128_S1x1x128_1_1_0
    (upd1 (kernelRun0_A.sl.v340 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_6 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![1, 1, 0] S1x1x128.size inb_S4x8x128_S1x1x128_1_1_0 : Rect S4x8x128).toLoadRect)) b5 (fun j => upd1_coe 1 _ (fun
    a => (congrFun (A_v340 c i arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11) _).trans (sg_coe H 1 a)) _ _ j
      (canon_row (v := arg17.view) (fun _ => 0) 5 1 1 (by omega) (by omega) rfl inb_S4x8x128_S1x1x128_1_1_0 b5 j))
  rw [← A_H15_7 c i arg2 harg2 arg3 harg3 arg4 harg4 arg5 harg5 arg6 harg6 arg7 harg7 arg8 harg8 arg9 harg9 arg10 harg10 x0 x1
    x2 x3 x4 x5 x6 x7 x8 arg17] at b6
  have b7 := sink_step (R := R) (fun l => View.canon l) (fun r w l x => View.canon_cons_emb r w l x) (fun p l y hy =>
    View.canon_cons_of_not_mem p l hy) (fun _ => 0) 6 1 2 (by omega) (by omega) rfl inb_S4x8x128_S1x1x128_1_2_0
    (upd2 (kernelRun0_A.sl.v340 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_7 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![1, 2, 0] S1x1x128.size inb_S4x8x128_S1x1x128_1_2_0 : Rect S4x8x128).toLoadRect)) b6 (fun j => upd2_coe 1 _ (fun
    a => (congrFun (A_v340 c i arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11) _).trans (sg_coe H 1 a)) _ _ j
      (canon_row (v := arg17.view) (fun _ => 0) 6 1 2 (by omega) (by omega) rfl inb_S4x8x128_S1x1x128_1_2_0 b6 j))
  rw [← A_H15_8 c i arg2 harg2 arg3 harg3 arg4 harg4 arg5 harg5 arg6 harg6 arg7 harg7 arg8 harg8 arg9 harg9 arg10 harg10 x0 x1
    x2 x3 x4 x5 x6 x7 x8 arg17] at b7
  have b8 := sink_step (R := R) (fun l => View.canon l) (fun r w l x => View.canon_cons_emb r w l x) (fun p l y hy =>
    View.canon_cons_of_not_mem p l hy) (fun _ => 0) 7 1 3 (by omega) (by omega) rfl inb_S4x8x128_S1x1x128_1_3_0
    (upd3 (kernelRun0_A.sl.v340 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_8 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![1, 3, 0] S1x1x128.size inb_S4x8x128_S1x1x128_1_3_0 : Rect S4x8x128).toLoadRect)) b7 (fun j => upd3_coe 1 _ (fun
    a => (congrFun (A_v340 c i arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11) _).trans (sg_coe H 1 a)) _ _ j
      (canon_row (v := arg17.view) (fun _ => 0) 7 1 3 (by omega) (by omega) rfl inb_S4x8x128_S1x1x128_1_3_0 b7 j))
  rw [← A_H15_9 c i arg2 harg2 arg3 harg3 arg4 harg4 arg5 harg5 arg6 harg6 arg7 harg7 arg8 harg8 arg9 harg9 arg10 harg10 x0 x1
    x2 x3 x4 x5 x6 x7 x8 arg17] at b8
  have b9 := sink_step (R := R) (fun l => View.canon l) (fun r w l x => View.canon_cons_emb r w l x) (fun p l y hy =>
    View.canon_cons_of_not_mem p l hy) (fun _ => 0) 8 2 0 (by omega) (by omega) rfl inb_S4x8x128_S1x1x128_2_0_0
    (upd0 (kernelRun0_A.sl.v516 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_9 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![2, 0, 0] S1x1x128.size inb_S4x8x128_S1x1x128_2_0_0 : Rect S4x8x128).toLoadRect)) b8 (fun j => upd0_coe 2 _ (fun
    a => (congrFun (A_v516 c i arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11) _).trans (sg_coe H 2 a)) _ _ j
      (canon_row (v := arg17.view) (fun _ => 0) 8 2 0 (by omega) (by omega) rfl inb_S4x8x128_S1x1x128_2_0_0 b8 j))
  rw [← A_H15_10 c i arg2 harg2 arg3 harg3 arg4 harg4 arg5 harg5 arg6 harg6 arg7 harg7 arg8 harg8 arg9 harg9 arg10 harg10 x0 x1
    x2 x3 x4 x5 x6 x7 x8 arg17] at b9
  have b10 := sink_step (R := R) (fun l => View.canon l) (fun r w l x => View.canon_cons_emb r w l x) (fun p l y hy =>
    View.canon_cons_of_not_mem p l hy) (fun _ => 0) 9 2 1 (by omega) (by omega) rfl inb_S4x8x128_S1x1x128_2_1_0
    (upd1 (kernelRun0_A.sl.v516 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_10 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![2, 1, 0] S1x1x128.size inb_S4x8x128_S1x1x128_2_1_0 : Rect S4x8x128).toLoadRect)) b9 (fun j => upd1_coe 2 _ (fun
    a => (congrFun (A_v516 c i arg2 harg2 arg3 harg3 arg4 harg4 arg5 harg5 arg6 harg6 arg7 harg7 arg8 harg8 arg9 harg9 arg10
    harg10 arg11 harg11 arg12 harg12 arg13 harg13 x0 x1 x2 x3 x4 x5 x6 x7 x8 x9 x10 x11) _).trans (sg_coe H 2 a)) _ _ j
      (canon_row (v := arg17.view) (fun _ => 0) 9 2 1 (by omega) (by omega) rfl inb_S4x8x128_S1x1x128_2_1_0 b9 j))
  rw [← A_H15_11 c i arg2 harg2 arg3 harg3 arg4 harg4 arg5 harg5 arg6 harg6 arg7 harg7 arg8 harg8 arg9 harg9 arg10 harg10 x0 x1
    x2 x3 x4 x5 x6 x7 x8 arg17] at b10
  have b11 := sink_step (R := R) (fun l => View.canon l) (fun r w l x => View.canon_cons_emb r w l x) (fun p l y hy =>
    View.canon_cons_of_not_mem p l hy) (fun _ => 0) 10 2 2 (by omega) (by omega) rfl inb_S4x8x128_S1x1x128_2_2_0
    (upd2 (kernelRun0_A.sl.v516 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_11 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![2, 2, 0] S1x1x128.size inb_S4x8x128_S1x1x128_2_2_0 : Rect S4x8x128).toLoadRect)) b10 (fun j => upd2_coe 2 _
    (fun a => (congrFun (A_v516 c i arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) _).trans (sg_coe H 2 a)) _ _ j
      (canon_row (v := arg17.view) (fun _ => 0) 10 2 2 (by omega) (by omega) rfl inb_S4x8x128_S1x1x128_2_2_0 b10 j))
  rw [← A_H15_12 c i arg2 harg2 arg3 harg3 arg4 harg4 arg5 harg5 arg6 harg6 arg7 harg7 arg8 harg8 arg9 harg9 arg10 harg10 x0 x1
    x2 x3 x4 x5 x6 x7 x8 arg17] at b11
  have b12 := sink_step (R := R) (fun l => View.canon l) (fun r w l x => View.canon_cons_emb r w l x) (fun p l y hy =>
    View.canon_cons_of_not_mem p l hy) (fun _ => 0) 11 2 3 (by omega) (by omega) rfl inb_S4x8x128_S1x1x128_2_3_0
    (upd3 (kernelRun0_A.sl.v516 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_12 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![2, 3, 0] S1x1x128.size inb_S4x8x128_S1x1x128_2_3_0 : Rect S4x8x128).toLoadRect)) b11 (fun j => upd3_coe 2 _
    (fun a => (congrFun (A_v516 c i arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) _).trans (sg_coe H 2 a)) _ _ j
      (canon_row (v := arg17.view) (fun _ => 0) 11 2 3 (by omega) (by omega) rfl inb_S4x8x128_S1x1x128_2_3_0 b11 j))
  rw [← A_H15_13 c i arg2 harg2 arg3 harg3 arg4 harg4 arg5 harg5 arg6 harg6 arg7 harg7 arg8 harg8 arg9 harg9 arg10 harg10 x0 x1
    x2 x3 x4 x5 x6 x7 x8 arg17] at b12
  have b13 := sink_step (R := R) (fun l => View.canon l) (fun r w l x => View.canon_cons_emb r w l x) (fun p l y hy =>
    View.canon_cons_of_not_mem p l hy) (fun _ => 0) 12 3 0 (by omega) (by omega) rfl inb_S4x8x128_S1x1x128_3_0_0
    (upd0 (kernelRun0_A.sl.v692 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_13 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![3, 0, 0] S1x1x128.size inb_S4x8x128_S1x1x128_3_0_0 : Rect S4x8x128).toLoadRect)) b12 (fun j => upd0_coe 3 _
    (fun a => (congrFun (A_v692 c i arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) _).trans (sg_coe H 3 a)) _ _ j
      (canon_row (v := arg17.view) (fun _ => 0) 12 3 0 (by omega) (by omega) rfl inb_S4x8x128_S1x1x128_3_0_0 b12 j))
  rw [← A_H15_14 c i arg2 harg2 arg3 harg3 arg4 harg4 arg5 harg5 arg6 harg6 arg7 harg7 arg8 harg8 arg9 harg9 arg10 harg10 x0 x1
    x2 x3 x4 x5 x6 x7 x8 arg17] at b13
  have b14 := sink_step (R := R) (fun l => View.canon l) (fun r w l x => View.canon_cons_emb r w l x) (fun p l y hy =>
    View.canon_cons_of_not_mem p l hy) (fun _ => 0) 13 3 1 (by omega) (by omega) rfl inb_S4x8x128_S1x1x128_3_1_0
    (upd1 (kernelRun0_A.sl.v692 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_14 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![3, 1, 0] S1x1x128.size inb_S4x8x128_S1x1x128_3_1_0 : Rect S4x8x128).toLoadRect)) b13 (fun j => upd1_coe 3 _
    (fun a => (congrFun (A_v692 c i arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) _).trans (sg_coe H 3 a)) _ _ j
      (canon_row (v := arg17.view) (fun _ => 0) 13 3 1 (by omega) (by omega) rfl inb_S4x8x128_S1x1x128_3_1_0 b13 j))
  rw [← A_H15_15 c i arg2 harg2 arg3 harg3 arg4 harg4 arg5 harg5 arg6 harg6 arg7 harg7 arg8 harg8 arg9 harg9 arg10 harg10 x0 x1
    x2 x3 x4 x5 x6 x7 x8 arg17] at b14
  have b15 := sink_step (R := R) (fun l => View.canon l) (fun r w l x => View.canon_cons_emb r w l x) (fun p l y hy =>
    View.canon_cons_of_not_mem p l hy) (fun _ => 0) 14 3 2 (by omega) (by omega) rfl inb_S4x8x128_S1x1x128_3_2_0
    (upd2 (kernelRun0_A.sl.v692 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_15 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![3, 2, 0] S1x1x128.size inb_S4x8x128_S1x1x128_3_2_0 : Rect S4x8x128).toLoadRect)) b14 (fun j => upd2_coe 3 _
    (fun a => (congrFun (A_v692 c i arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) _).trans (sg_coe H 3 a)) _ _ j
      (canon_row (v := arg17.view) (fun _ => 0) 14 3 2 (by omega) (by omega) rfl inb_S4x8x128_S1x1x128_3_2_0 b14 j))
  rw [← A_H15_16 c i arg2 harg2 arg3 harg3 arg4 harg4 arg5 harg5 arg6 harg6 arg7 harg7 arg8 harg8 arg9 harg9 arg10 harg10 x0 x1
    x2 x3 x4 x5 x6 x7 x8 arg17] at b15
  have b16 := sink_step (R := R) (fun l => View.canon l) (fun r w l x => View.canon_cons_emb r w l x) (fun p l y hy =>
    View.canon_cons_of_not_mem p l hy) (fun _ => 0) 15 3 3 (by omega) (by omega) rfl inb_S4x8x128_S1x1x128_3_3_0
    (upd3 (kernelRun0_A.sl.v692 (F := Ideal) c i arg2 harg2 arg3 harg3 arg4 harg4 arg5 harg5 arg6 harg6 arg7 harg7 arg8 harg8
    arg9 harg9 arg10 harg10 x0 x1 x2 x3 x4 x5 x6 x7 x8) (arg17.view.readCov (kernelRun0_A.sl.H15_16 (F := Ideal) c i arg2 harg2
    arg3 harg3 arg4 harg4 arg5 harg5 arg6 harg6 arg7 harg7 arg8 harg8 arg9 harg9 arg10 harg10 arg17 x0 x1 x2 x3 x4 x5 x6 x7 x8)
    (Rect.unit ![3, 3, 0] S1x1x128.size inb_S4x8x128_S1x1x128_3_3_0 : Rect S4x8x128).toLoadRect)) b15 (fun j => upd3_coe 3 _
    (fun a => (congrFun (A_v692 c i arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) _).trans (sg_coe H 3 a)) _ _ j
      (canon_row (v := arg17.view) (fun _ => 0) 15 3 3 (by omega) (by omega) rfl inb_S4x8x128_S1x1x128_3_3_0 b15 j))
  unfold out0_A_15
  rw [View.read_writes_junk_eq_canon, A_dsPieces]
  exact b16 y
end Cert.Attn
-- ==== Proof.SinkB.lean ====
module

public import proofs.«01_k».proof.Proof.Sink
public import proofs.«01_k».proof.Proof.ChainBLo
public import proofs.«01_k».proof.Proof.ChainBHi
public import proofs.«01_k».proof.Proof.Gen.KernelIdeal.Frame
/-! What a later step leaves in the block of the sinks' gradient. -/

@[expose] public section

set_option maxRecDepth 16384
noncomputable section
namespace Cert.Attn
open Idealize.ShloMosaic Idealize.SL.Sem Idealize.ShloMosaic.Tactic Cert.KernelIdeal Cert.KernelIdeal.Gen
variable (c : Dev nD) (i : grid0.Coords) (arg2 : Memref sig .tc .vmem S128x2048 .bf16) (harg2 : arg2.IsWhole) (arg3 : Memref sig
    .tc .vmem S128x512 .bf16) (harg3 : arg3.IsWhole) (arg4 : Memref sig .tc .vmem S128x512 .bf16) (harg4 : arg4.IsWhole) (arg5 :
    Memref sig .tc .vmem S128x512 .bf16) (harg5 : arg5.IsWhole) (arg6 : Memref sig .tc .vmem S128x512 .bf16) (harg6 :
    arg6.IsWhole) (arg7 : Memref sig .tc .vmem S128x512 .bf16) (harg7 : arg7.IsWhole) (arg8 : Memref sig .tc .vmem S128x512
    .bf16) (harg8 : arg8.IsWhole) (arg9 : Memref sig .tc .vmem S4x512x1 .f32) (harg9 : arg9.IsWhole) (arg10 : Memref sig .tc
    .vmem S128x2048 .bf16) (harg10 : arg10.IsWhole) (arg11 : Memref sig .tc .vmem S128x128 .f32) (harg11 : arg11.IsWhole) (arg12
    : Memref sig .tc .vmem S128x128 .f32) (harg12 : arg12.IsWhole) (arg13 : Memref sig .tc .vmem S128x128 .f32) (harg13 :
    arg13.IsWhole) (x0 : Vec Ideal S128x2048 .bf16) (x1 : Vec Ideal S128x512 .bf16) (x2 : Vec Ideal S128x512 .bf16) (x3 : Vec
    Ideal S128x512 .bf16) (x4 : Vec Ideal S128x512 .bf16) (x5 : Vec Ideal S128x512 .bf16) (x6 : Vec Ideal S128x512 .bf16) (x7 :
    Vec Ideal S4x512x1 .f32) (x8 : Vec Ideal S128x2048 .bf16) (x9 : Vec Ideal S128x128 .f32) (x10 : Vec Ideal S128x128 .f32)
    (x11 : Vec Ideal S128x128 .f32)
    (arg14 : Memref sig .tc .vmem S128x2048 .bf16) (harg14 : arg14.IsWhole) (arg15 : Memref sig .tc .vmem S3x128x512 .f32)
    (harg15 : arg15.IsWhole) (arg16 : Memref sig .tc .vmem S3x128x512 .f32) (harg16 : arg16.IsWhole) (arg17 : Memref sig .tc
    .vmem S4x8x128 .f32) (harg17 : arg17.IsWhole) (hc0 : ¬cond0_0 i) (xo15 : Vec Ideal S4x8x128 .f32)
theorem B_dsPieces : (kernelRun0_B (F := Ideal) c i arg2 harg2 arg3 harg3 arg4 harg4 arg5 harg5 arg6 harg6 arg7 harg7 arg8 harg8
    arg9 harg9 arg10 harg10 arg11 harg11 arg12 harg12 arg13 harg13 arg14 harg14 arg15 harg15 arg16 harg16 arg17 harg17 hc0 x0 x1
    x2 x3 x4 x5 x6 x7 x8 x9 x10 x11 xo15).2.2.2.1 =
   [⟨(Rect.unit ![3, 3, 0] S1x1x128.size inb_S4x8x128_S1x1x128_3_3_0 : Rect S4x8x128), upd3 (kernelRun0_B.sl.v692 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![3, 3, 0] S1x1x128.size inb_S4x8x128_S1x1x128_3_3_0 : Rect
    S4x8x128).toLoadRect (harg17.unread xo15))⟩,
    ⟨(Rect.unit ![3, 2, 0] S1x1x128.size inb_S4x8x128_S1x1x128_3_2_0 : Rect S4x8x128), upd2 (kernelRun0_B.sl.v692 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![3, 2, 0] S1x1x128.size inb_S4x8x128_S1x1x128_3_2_0 : Rect
    S4x8x128).toLoadRect (harg17.unread xo15))⟩,
    ⟨(Rect.unit ![3, 1, 0] S1x1x128.size inb_S4x8x128_S1x1x128_3_1_0 : Rect S4x8x128), upd1 (kernelRun0_B.sl.v692 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![3, 1, 0] S1x1x128.size inb_S4x8x128_S1x1x128_3_1_0 : Rect
    S4x8x128).toLoadRect (harg17.unread xo15))⟩,
    ⟨(Rect.unit ![3, 0, 0] S1x1x128.size inb_S4x8x128_S1x1x128_3_0_0 : Rect S4x8x128), upd0 (kernelRun0_B.sl.v692 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![3, 0, 0] S1x1x128.size inb_S4x8x128_S1x1x128_3_0_0 : Rect
    S4x8x128).toLoadRect (harg17.unread xo15))⟩,
    ⟨(Rect.unit ![2, 3, 0] S1x1x128.size inb_S4x8x128_S1x1x128_2_3_0 : Rect S4x8x128), upd3 (kernelRun0_B.sl.v516 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![2, 3, 0] S1x1x128.size inb_S4x8x128_S1x1x128_2_3_0 : Rect
    S4x8x128).toLoadRect (harg17.unread xo15))⟩,
    ⟨(Rect.unit ![2, 2, 0] S1x1x128.size inb_S4x8x128_S1x1x128_2_2_0 : Rect S4x8x128), upd2 (kernelRun0_B.sl.v516 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![2, 2, 0] S1x1x128.size inb_S4x8x128_S1x1x128_2_2_0 : Rect
    S4x8x128).toLoadRect (harg17.unread xo15))⟩,
    ⟨(Rect.unit ![2, 1, 0] S1x1x128.size inb_S4x8x128_S1x1x128_2_1_0 : Rect S4x8x128), upd1 (kernelRun0_B.sl.v516 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![2, 1, 0] S1x1x128.size inb_S4x8x128_S1x1x128_2_1_0 : Rect
    S4x8x128).toLoadRect (harg17.unread xo15))⟩,
    ⟨(Rect.unit ![2, 0, 0] S1x1x128.size inb_S4x8x128_S1x1x128_2_0_0 : Rect S4x8x128), upd0 (kernelRun0_B.sl.v516 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![2, 0, 0] S1x1x128.size inb_S4x8x128_S1x1x128_2_0_0 : Rect
    S4x8x128).toLoadRect (harg17.unread xo15))⟩,
    ⟨(Rect.unit ![1, 3, 0] S1x1x128.size inb_S4x8x128_S1x1x128_1_3_0 : Rect S4x8x128), upd3 (kernelRun0_B.sl.v340 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![1, 3, 0] S1x1x128.size inb_S4x8x128_S1x1x128_1_3_0 : Rect
    S4x8x128).toLoadRect (harg17.unread xo15))⟩,
    ⟨(Rect.unit ![1, 2, 0] S1x1x128.size inb_S4x8x128_S1x1x128_1_2_0 : Rect S4x8x128), upd2 (kernelRun0_B.sl.v340 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![1, 2, 0] S1x1x128.size inb_S4x8x128_S1x1x128_1_2_0 : Rect
    S4x8x128).toLoadRect (harg17.unread xo15))⟩,
    ⟨(Rect.unit ![1, 1, 0] S1x1x128.size inb_S4x8x128_S1x1x128_1_1_0 : Rect S4x8x128), upd1 (kernelRun0_B.sl.v340 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![1, 1, 0] S1x1x128.size inb_S4x8x128_S1x1x128_1_1_0 : Rect
    S4x8x128).toLoadRect (harg17.unread xo15))⟩,
    ⟨(Rect.unit ![1, 0, 0] S1x1x128.size inb_S4x8x128_S1x1x128_1_0_0 : Rect S4x8x128), upd0 (kernelRun0_B.sl.v340 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![1, 0, 0] S1x1x128.size inb_S4x8x128_S1x1x128_1_0_0 : Rect
    S4x8x128).toLoadRect (harg17.unread xo15))⟩,
    ⟨(Rect.unit ![0, 3, 0] S1x1x128.size inb_S4x8x128_S1x1x128_0_3_0 : Rect S4x8x128), upd3 (kernelRun0_B.sl.v164 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![0, 3, 0] S1x1x128.size inb_S4x8x128_S1x1x128_0_3_0 : Rect
    S4x8x128).toLoadRect (harg17.unread xo15))⟩,
    ⟨(Rect.unit ![0, 2, 0] S1x1x128.size inb_S4x8x128_S1x1x128_0_2_0 : Rect S4x8x128), upd2 (kernelRun0_B.sl.v164 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![0, 2, 0] S1x1x128.size inb_S4x8x128_S1x1x128_0_2_0 : Rect
    S4x8x128).toLoadRect (harg17.unread xo15))⟩,
    ⟨(Rect.unit ![0, 1, 0] S1x1x128.size inb_S4x8x128_S1x1x128_0_1_0 : Rect S4x8x128), upd1 (kernelRun0_B.sl.v164 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![0, 1, 0] S1x1x128.size inb_S4x8x128_S1x1x128_0_1_0 : Rect
    S4x8x128).toLoadRect (harg17.unread xo15))⟩,
    ⟨(Rect.unit ![0, 0, 0] S1x1x128.size inb_S4x8x128_S1x1x128_0_0_0 : Rect S4x8x128), upd0 (kernelRun0_B.sl.v164 (F := Ideal) c
    i arg2 harg2 arg3 harg3 arg4 harg4 arg5 harg5 arg6 harg6 arg7 harg7 arg8 harg8 arg9 harg9 arg10 harg10 x0 x1 x2 x3 x4 x5 x6
    x7 x8) (arg17.view.readAt (Elt Ideal) (Rect.unit ![0, 0, 0] S1x1x128.size inb_S4x8x128_S1x1x128_0_0_0 : Rect
    S4x8x128).toLoadRect (harg17.unread xo15))⟩] := by
  sl_kernel_rfl
set_option maxHeartbeats 2000000 in
theorem B_ds {R : Blk} (H : Is (loads arg2 harg2 arg3 harg3 arg4 harg4 arg5 harg5 arg6 harg6 arg7 harg7 arg8 harg8 arg9 harg9
    arg10 harg10 arg11 harg11 arg12 harg12 arg13 harg13 x0 x1 x2 x3 x4 x5 x6 x7 x8 x9 x10 x11) i R) (X : S4x8x128.Idx → ℝ) (hX :
    ∀ y, xo15 y = (X y : EReal)) (y : S4x8x128.Idx) :
    out0_B_15 (F := Ideal) c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 x0 x1 x2 x3 x4 x5 x6
    x7 x8 x9 x10 x11 xo15 y = ((X y - R.sinks 16 y : ℝ) : EReal) := by
  have hu : ∀ y, arg17.view.read (Elt Ideal) (harg17.unread xo15) y = (X y : EReal) := by
    intro y
    rw [harg17.read_unread]
    exact hX y
  have b0 : ∀ y, arg17.view.read (Elt Ideal) (arg17.view.writes (Elt Ideal) (harg17.unread xo15) []) y = ((X y - R.sinks 0 y :
    ℝ) : EReal) := by
    intro y
    refine (hu y).trans (congrArg _ ?_)
    unfold Blk.sinks
    rw [dif_neg (by omega), sub_zero]
  have b1 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 0 0 0 (by
    omega) (by omega) rfl inb_S4x8x128_S1x1x128_0_0_0
    (upd0 (kernelRun0_B.sl.v164 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![0, 0, 0] S1x1x128.size
    inb_S4x8x128_S1x1x128_0_0_0 : Rect S4x8x128).toLoadRect (harg17.unread xo15))) b0 (fun j => upd0_coe 0 _ (fun a => (congrFun
    (B_v164 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) _).trans (sg_coe H 0 a)) _ _ j (hu _))
  have b2 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 1 0 1 (by
    omega) (by omega) rfl inb_S4x8x128_S1x1x128_0_1_0
    (upd1 (kernelRun0_B.sl.v164 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![0, 1, 0] S1x1x128.size
    inb_S4x8x128_S1x1x128_0_1_0 : Rect S4x8x128).toLoadRect (harg17.unread xo15))) b1 (fun j => upd1_coe 0 _ (fun a => (congrFun
    (B_v164 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) _).trans (sg_coe H 0 a)) _ _ j (hu _))
  have b3 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 2 0 2 (by
    omega) (by omega) rfl inb_S4x8x128_S1x1x128_0_2_0
    (upd2 (kernelRun0_B.sl.v164 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![0, 2, 0] S1x1x128.size
    inb_S4x8x128_S1x1x128_0_2_0 : Rect S4x8x128).toLoadRect (harg17.unread xo15))) b2 (fun j => upd2_coe 0 _ (fun a => (congrFun
    (B_v164 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) _).trans (sg_coe H 0 a)) _ _ j (hu _))
  have b4 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 3 0 3 (by
    omega) (by omega) rfl inb_S4x8x128_S1x1x128_0_3_0
    (upd3 (kernelRun0_B.sl.v164 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![0, 3, 0] S1x1x128.size
    inb_S4x8x128_S1x1x128_0_3_0 : Rect S4x8x128).toLoadRect (harg17.unread xo15))) b3 (fun j => upd3_coe 0 _ (fun a => (congrFun
    (B_v164 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) _).trans (sg_coe H 0 a)) _ _ j (hu _))
  have b5 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 4 1 0 (by
    omega) (by omega) rfl inb_S4x8x128_S1x1x128_1_0_0
    (upd0 (kernelRun0_B.sl.v340 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![1, 0, 0] S1x1x128.size
    inb_S4x8x128_S1x1x128_1_0_0 : Rect S4x8x128).toLoadRect (harg17.unread xo15))) b4 (fun j => upd0_coe 1 _ (fun a => (congrFun
    (B_v340 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) _).trans (sg_coe H 1 a)) _ _ j (hu _))
  have b6 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 5 1 1 (by
    omega) (by omega) rfl inb_S4x8x128_S1x1x128_1_1_0
    (upd1 (kernelRun0_B.sl.v340 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![1, 1, 0] S1x1x128.size
    inb_S4x8x128_S1x1x128_1_1_0 : Rect S4x8x128).toLoadRect (harg17.unread xo15))) b5 (fun j => upd1_coe 1 _ (fun a => (congrFun
    (B_v340 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) _).trans (sg_coe H 1 a)) _ _ j (hu _))
  have b7 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 6 1 2 (by
    omega) (by omega) rfl inb_S4x8x128_S1x1x128_1_2_0
    (upd2 (kernelRun0_B.sl.v340 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![1, 2, 0] S1x1x128.size
    inb_S4x8x128_S1x1x128_1_2_0 : Rect S4x8x128).toLoadRect (harg17.unread xo15))) b6 (fun j => upd2_coe 1 _ (fun a => (congrFun
    (B_v340 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) _).trans (sg_coe H 1 a)) _ _ j (hu _))
  have b8 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 7 1 3 (by
    omega) (by omega) rfl inb_S4x8x128_S1x1x128_1_3_0
    (upd3 (kernelRun0_B.sl.v340 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![1, 3, 0] S1x1x128.size
    inb_S4x8x128_S1x1x128_1_3_0 : Rect S4x8x128).toLoadRect (harg17.unread xo15))) b7 (fun j => upd3_coe 1 _ (fun a => (congrFun
    (B_v340 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) _).trans (sg_coe H 1 a)) _ _ j (hu _))
  have b9 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 8 2 0 (by
    omega) (by omega) rfl inb_S4x8x128_S1x1x128_2_0_0
    (upd0 (kernelRun0_B.sl.v516 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![2, 0, 0] S1x1x128.size
    inb_S4x8x128_S1x1x128_2_0_0 : Rect S4x8x128).toLoadRect (harg17.unread xo15))) b8 (fun j => upd0_coe 2 _ (fun a => (congrFun
    (B_v516 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) _).trans (sg_coe H 2 a)) _ _ j (hu _))
  have b10 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 9 2 1 (by
    omega) (by omega) rfl inb_S4x8x128_S1x1x128_2_1_0
    (upd1 (kernelRun0_B.sl.v516 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![2, 1, 0] S1x1x128.size
    inb_S4x8x128_S1x1x128_2_1_0 : Rect S4x8x128).toLoadRect (harg17.unread xo15))) b9 (fun j => upd1_coe 2 _ (fun a => (congrFun
    (B_v516 c i arg2 harg2 arg3 harg3 arg4 harg4 arg5 harg5 arg6 harg6 arg7 harg7 arg8 harg8 arg9 harg9 arg10 harg10 arg11
    harg11 arg12 harg12 arg13 harg13 x0 x1 x2 x3 x4 x5 x6 x7 x8 x9 x10 x11) _).trans (sg_coe H 2 a)) _ _ j (hu _))
  have b11 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 10 2 2
    (by omega) (by omega) rfl inb_S4x8x128_S1x1x128_2_2_0
    (upd2 (kernelRun0_B.sl.v516 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![2, 2, 0] S1x1x128.size
    inb_S4x8x128_S1x1x128_2_2_0 : Rect S4x8x128).toLoadRect (harg17.unread xo15))) b10 (fun j => upd2_coe 2 _ (fun a =>
    (congrFun (B_v516 c i arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11) _).trans (sg_coe H 2 a)) _ _ j (hu _))
  have b12 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 11 2 3
    (by omega) (by omega) rfl inb_S4x8x128_S1x1x128_2_3_0
    (upd3 (kernelRun0_B.sl.v516 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![2, 3, 0] S1x1x128.size
    inb_S4x8x128_S1x1x128_2_3_0 : Rect S4x8x128).toLoadRect (harg17.unread xo15))) b11 (fun j => upd3_coe 2 _ (fun a =>
    (congrFun (B_v516 c i arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11) _).trans (sg_coe H 2 a)) _ _ j (hu _))
  have b13 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 12 3 0
    (by omega) (by omega) rfl inb_S4x8x128_S1x1x128_3_0_0
    (upd0 (kernelRun0_B.sl.v692 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![3, 0, 0] S1x1x128.size
    inb_S4x8x128_S1x1x128_3_0_0 : Rect S4x8x128).toLoadRect (harg17.unread xo15))) b12 (fun j => upd0_coe 3 _ (fun a =>
    (congrFun (B_v692 c i arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11) _).trans (sg_coe H 3 a)) _ _ j (hu _))
  have b14 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 13 3 1
    (by omega) (by omega) rfl inb_S4x8x128_S1x1x128_3_1_0
    (upd1 (kernelRun0_B.sl.v692 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![3, 1, 0] S1x1x128.size
    inb_S4x8x128_S1x1x128_3_1_0 : Rect S4x8x128).toLoadRect (harg17.unread xo15))) b13 (fun j => upd1_coe 3 _ (fun a =>
    (congrFun (B_v692 c i arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11) _).trans (sg_coe H 3 a)) _ _ j (hu _))
  have b15 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 14 3 2
    (by omega) (by omega) rfl inb_S4x8x128_S1x1x128_3_2_0
    (upd2 (kernelRun0_B.sl.v692 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![3, 2, 0] S1x1x128.size
    inb_S4x8x128_S1x1x128_3_2_0 : Rect S4x8x128).toLoadRect (harg17.unread xo15))) b14 (fun j => upd2_coe 3 _ (fun a =>
    (congrFun (B_v692 c i arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11) _).trans (sg_coe H 3 a)) _ _ j (hu _))
  have b16 := sink_step (R := R) (fun l => arg17.view.read (Elt Ideal) (arg17.view.writes (Elt Ideal) (harg17.unread xo15) l))
    (fun r w l x => View.read_writes_cons_emb _ _ r w l x) (fun p l y hy => View.read_writes_cons_miss _ _ p l y hy) X 15 3 3
    (by omega) (by omega) rfl inb_S4x8x128_S1x1x128_3_3_0
    (upd3 (kernelRun0_B.sl.v692 (F := Ideal) c i arg2 harg2 arg3 harg3 arg4 harg4 arg5 harg5 arg6 harg6 arg7 harg7 arg8 harg8
    arg9 harg9 arg10 harg10 x0 x1 x2 x3 x4 x5 x6 x7 x8) (arg17.view.readAt (Elt Ideal) (Rect.unit ![3, 3, 0] S1x1x128.size
    inb_S4x8x128_S1x1x128_3_3_0 : Rect S4x8x128).toLoadRect (harg17.unread xo15))) b15 (fun j => upd3_coe 3 _ (fun a =>
    (congrFun (B_v692 c i arg2 harg2 arg3 harg3 arg4 harg4 arg5 harg5 arg6 harg6 arg7 harg7 arg8 harg8 arg9 harg9 arg10 harg10
    arg11 harg11 arg12 harg12 arg13 harg13 x0 x1 x2 x3 x4 x5 x6 x7 x8 x9 x10 x11) _).trans (sg_coe H 3 a)) _ _ j (hu _))
  unfold out0_B_15
  rw [B_dsPieces]
  exact b16 y
end Cert.Attn
-- ==== Proof.Arrays.lean ====
module

public import proofs.«01_k».proof.Proof.Windows
public import proofs.«01_k».proof.Proof.BlockA
public import proofs.«01_k».proof.Proof.BlockB
public import proofs.«01_k».proof.Proof.SinkA
public import proofs.«01_k».proof.Proof.SinkB
public import proofs.«01_k».proof.Proof.Gen.KernelIdeal.Value
/-! The launch's result arrays. -/

@[expose] public section

set_option maxRecDepth 16384
noncomputable section
namespace Cert.Attn
open Idealize.ShloMosaic Idealize.SL.Sem Idealize.ShloMosaic.Tactic Cert.KernelIdeal Cert.KernelIdeal.Gen Cert.KernelIdeal.Value

section Arrays
variable {m : (ℓ : Loc nD τ sig) → Buf (Elt Ideal) ℓ} {c : Dev nD} {I : Ins} (H : I.In m c)

theorem idx12 : ∀ t : Fin cfg0.N, win0_12.index t 0 = t.val ∧ win0_12.index t 1 = 0 := by decide +kernel
theorem idx13 : ∀ t : Fin cfg0.N, win0_13.index t 0 = 0 ∧ win0_13.index t 1 = t.val ∧ win0_13.index t 2 = 0 := by decide +kernel
theorem idx14 : ∀ t : Fin cfg0.N, win0_14.index t 0 = 0 ∧ win0_14.index t 1 = t.val ∧ win0_14.index t 2 = 0 := by decide +kernel
theorem idx15 : ∀ t : Fin cfg0.N, win0_15.index t 0 = 0 ∧ win0_15.index t 1 = 0 ∧ win0_15.index t 2 = 0 := by decide +kernel

include H

theorem flush12_coe (t : Fin cfg0.N) (y : S128x2048.Idx) :
    (dats m 0 c).flushed 12 t y = (((I.blk t.val).dqr (y 0) (y 1) : ℝ) : EReal) := by
  by_cases h0 : t.val % 32 = 0
  · rw [flushed12_A m c t h0]
    exact A_dq _ _ _ _ _ _ _ _ _ _ _ _ _ _ _ _ _ _ _ _ _ _ _ _ _ _ _ _ _ _ _ _ _ _ _ _ _ _ _ _ _ _ _ _ _ _ _ (is_blk H t) y
  · rw [flushed12_B m c t h0]
    exact B_dq _ _ _ _ _ _ _ _ _ _ _ _ _ _ _ _ _ _ _ _ _ _ _ _ _ _ _ _ _ _ _ _ _ _ _ _ _ _ _ _ _ _ _ _ _ _ _ _ (is_blk H t) y

theorem flush13_coe (t : Fin cfg0.N) (y : S3x128x512.Idx) :
    (dats m 0 c).flushed 13 t y = (((I.blk t.val).dkr (y 0) (y 1) (y 2) : ℝ) : EReal) := by
  by_cases h0 : t.val % 32 = 0
  · rw [flushed13_A m c t h0]
    exact A_dk _ _ _ _ _ _ _ _ _ _ _ _ _ _ _ _ _ _ _ _ _ _ _ _ _ _ _ _ _ _ _ _ _ _ _ _ _ _ _ _ _ _ _ _ _ _ _ (is_blk H t) y
  · rw [flushed13_B m c t h0]
    exact B_dk _ _ _ _ _ _ _ _ _ _ _ _ _ _ _ _ _ _ _ _ _ _ _ _ _ _ _ _ _ _ _ _ _ _ _ _ _ _ _ _ _ _ _ _ _ _ _ _ (is_blk H t) y

theorem flush14_coe (t : Fin cfg0.N) (y : S3x128x512.Idx) :
    (dats m 0 c).flushed 14 t y = (((I.blk t.val).dvr (y 0) (y 1) (y 2) : ℝ) : EReal) := by
  by_cases h0 : t.val % 32 = 0
  · rw [flushed14_A m c t h0]
    exact A_dv _ _ _ _ _ _ _ _ _ _ _ _ _ _ _ _ _ _ _ _ _ _ _ _ _ _ _ _ _ _ _ _ _ _ _ _ _ _ _ _ _ _ _ _ _ _ _ (is_blk H t) y
  · rw [flushed14_B m c t h0]
    exact B_dv _ _ _ _ _ _ _ _ _ _ _ _ _ _ _ _ _ _ _ _ _ _ _ _ _ _ _ _ _ _ _ _ _ _ _ _ _ _ _ _ _ _ _ _ _ _ _ _ (is_blk H t) y

/-- The queries' gradient. -/
theorem arr12 (t : Fin cfg0.N) (r : Fin 128) (d : Fin 2048) : (dats m 0 c).arrAt 12 cfg0.N
    (ix2 ⟨t.val * 128 + r.val, by have : t.val < 32 := t.isLt; omega⟩ d) = (((I.blk t.val).dqr r d : ℝ) : EReal) := by
  refine Eq.trans ?_ ((congrFun (blocks12 m c t (flush0_12 t)) (ix2 r d)).trans (flush12_coe H t (ix2 r d)))
  blk_ext [idx12 t]
theorem arr13 (t : Fin cfg0.N) (j : Fin 3) (r : Fin 128) (d : Fin 512) : (dats m 0 c).arrAt 13 cfg0.N
    (ix3 j ⟨t.val * 128 + r.val, by have : t.val < 32 := t.isLt; omega⟩ d) = (((I.blk t.val).dkr j r d : ℝ) : EReal) := by
  refine Eq.trans ?_ ((congrFun (blocks13 m c t (flush0_13 t)) (ix3 j r d)).trans (flush13_coe H t (ix3 j r d)))
  blk_ext [idx13 t]
theorem arr14 (t : Fin cfg0.N) (j : Fin 3) (r : Fin 128) (d : Fin 512) : (dats m 0 c).arrAt 14 cfg0.N
    (ix3 j ⟨t.val * 128 + r.val, by have : t.val < 32 := t.isLt; omega⟩ d) = (((I.blk t.val).dvr j r d : ℝ) : EReal) := by
  refine Eq.trans ?_ ((congrFun (blocks14 m c t (flush0_14 t)) (ix3 j r d)).trans (flush14_coe H t (ix3 j r d)))
  blk_ext [idx14 t]

/-- The sinks' gradient as the points add it up. -/
def Ins.acc (I : Ins) (y : S4x8x128.Idx) : ℕ → ℝ
  | 0 => 0 - (I.blk 0).sinks 16 y
  | n + 1 => Ins.acc I y n - (I.blk (n + 1)).sinks 16 y

theorem outs_A (t : Fin cfg0.N) (h0 : t.val % 32 = 0) (y : S4x8x128.Idx) :
    (outsAt0 m c t.val t.isLt).2.2.2 y = ((0 - (I.blk t.val).sinks 16 y : ℝ) : EReal) := by
  rw [outsAt0_A m c t h0]
  dsimp only
  exact A_ds _ _ _ _ _ _ _ _ _ _ _ _ _ _ _ _ _ _ _ _ _ _ _ _ _ _ _ _ _ _ _ _ _ _ _ _ _ _ _ _ _ _ _ _ _ _ _ (is_blk H t) y

theorem outs_B (t : Fin cfg0.N) (h0 : ¬t.val % 32 = 0) (X : S4x8x128.Idx → ℝ)
    (hX : ∀ y, (outsAt0 m c (t.val - 1) (Nat.lt_of_le_of_lt (Nat.sub_le _ _) t.isLt)).2.2.2 y = ((X y : ℝ) : EReal)) (y : S4x8x128.Idx) :
    (outsAt0 m c t.val t.isLt).2.2.2 y = ((X y - (I.blk t.val).sinks 16 y : ℝ) : EReal) := by
  rw [outsAt0_B m c t h0]
  dsimp only
  exact B_ds _ _ _ _ _ _ _ _ _ _ _ _ _ _ _ _ _ _ _ _ _ _ _ _ _ _ _ _ _ _ _ _ _ _ _ _ _ _ _ _ _ _ _ _ _ _ _ _ (is_blk H t) X hX y

theorem outs_coe (n : ℕ) (hn : n < cfg0.N) (y : S4x8x128.Idx) :
    (outsAt0 m c n hn).2.2.2 y = ((I.acc y n : ℝ) : EReal) := by
  induction n generalizing y with
  | zero => exact outs_A H ⟨0, hn⟩ rfl y
  | succ n ih =>
    have h0 : ¬(⟨n + 1, hn⟩ : Fin cfg0.N).val % 32 = 0 := by
      have : n + 1 < 32 := hn
      show ¬(n + 1) % 32 = 0
      omega
    exact outs_B H ⟨n + 1, hn⟩ h0 (fun y => I.acc y n) (fun y => ih (Nat.lt_of_succ_lt hn) y) y

theorem flush15_coe (t : Fin cfg0.N) (y : S4x8x128.Idx) :
    (dats m 0 c).flushed 15 t y = ((I.acc y t.val : ℝ) : EReal) := by
  rw [flushed15 m c t]
  exact outs_coe H t.val t.isLt y

omit H in
theorem disj15 (t t' : Fin cfg0.N) (hf : (cfg0.win 15).flush t = true) (hf' : (cfg0.win 15).flush t' = true) (hne : t ≠ t') :
    Disjoint ((cfg0.win 15).blk t).view.set ((cfg0.win 15).blk t').view.set := by
  have h1 : t.val % 32 = 31 := (flush0_15 t).mp hf
  have h2 : t'.val % 32 = 31 := (flush0_15 t').mp hf'
  have : t.val < 32 := t.isLt
  have : t'.val < 32 := t'.isLt
  exact absurd (Fin.ext (by omega)) hne

theorem arr15_at (t : Fin cfg0.N) (ht : t.val % 32 = 31) (a : Fin 4) (b : Fin 8) (d : Fin 128) :
    (dats m 0 c).arrAt 15 cfg0.N (ix3 a b d) = ((I.acc (ix3 a b d) t.val : ℝ) : EReal) := by
  refine Eq.trans ?_ ((congrFun ((dats m 0 c).read_blk_arrAt_eq_flushed 15 disj15 cfg0.N t t.isLt ((flush0_15 t).mpr ht)) (ix3 a b d)).trans (flush15_coe H t (ix3 a b d)))
  blk_ext [idx15 t]

/-- The sinks' gradient. -/
theorem arr15 (a : Fin 4) (b : Fin 8) (d : Fin 128) :
    (dats m 0 c).arrAt 15 cfg0.N (ix3 a b d) = ((I.acc (ix3 a b d) 31 : ℝ) : EReal) :=
  arr15_at H ⟨31, by decide⟩ rfl a b d
end Arrays
end Cert.Attn
-- ==== Proof.Equation.lean ====
module

public import proofs.«01_k».proof.Proof.RefRope
public import proofs.«01_k».proof.Proof.Arrays
/-! The launch's arrays are the reference's. The launch reads a neighbour's block for the one beyond the first and the last, where
the reference has zeros; the window admits neither. -/

@[expose] public section

set_option maxRecDepth 100000
noncomputable section
namespace Cert.Attn
open Idealize.ShloMosaic Idealize.SL.Sem Idealize.ShloMosaic.Tactic

/-! ## The two bands -/
section Bands
variable (I : Ins) (n : ℕ) (hn : n < 32)
include hn
theorem kpos_eq (j : Fin 384) (hj : 128 ≤ n * 128 + j.val ∧ n * 128 + j.val < 4224) : kpos n j.val = n * 128 + j.val - 128 := by
  have := j.isLt
  unfold kpos
  split_ifs <;> omega
theorem okN_pos {a : Fin 512} {j : Fin 384} (h : okN n a j = true) : 128 ≤ n * 128 + j.val ∧ n * 128 + j.val < 4224 := by
  unfold okN at h
  exact (of_decide_eq_true h).2.2
theorem band_k (h : Fin 4) (a : Fin 512) (j : Fin 384) (hj : okN n a j = true) : (I.rblk n).k h j = (I.blk n).k h j := by
  have hp := okN_pos n hn hj
  funext d
  show (if 128 ≤ n * 128 + j.val ∧ n * 128 + j.val < 4224 then I.K (n * 128 + j.val - 128) (h.val * 128 + d.val) else 0) = I.K (kpos n j.val) (h.val * 128 + d.val)
  rw [if_pos hp, kpos_eq n hn j hp]
theorem band_v (h : Fin 4) (a : Fin 512) (j : Fin 384) (hj : okN n a j = true) : (I.rblk n).v h j = (I.blk n).v h j := by
  have hp := okN_pos n hn hj
  funext d
  show (if 128 ≤ n * 128 + j.val ∧ n * 128 + j.val < 4224 then I.v (n * 128 + j.val - 128) (h.val * 128 + d.val) else 0) = I.v (kpos n j.val) (h.val * 128 + d.val)
  rw [if_pos hp, kpos_eq n hn j hp]
theorem wt_eq (h : Fin 4) (a : Fin 512) (j : Fin 384) : (I.rblk n).wt h a j = (I.blk n).wt h a j :=
  congrFun (wt_congr (band_k I n hn h a)) j
theorem ds_eq (h : Fin 4) (a : Fin 512) (j : Fin 384) : (I.rblk n).ds h a j = (I.blk n).ds h a j :=
  congrFun (dsc_congr (band_k I n hn h a) (band_v I n hn h a)) j
theorem sg_eq (h : Fin 4) (a : Fin 512) : (I.rblk n).sg h a = (I.blk n).sg h a :=
  congrArg₂ (· * ·) (wsk_congr (band_k I n hn h a)) (dlt_congr (band_k I n hn h a) (band_v I n hn h a))
theorem dq_eq (h : Fin 4) (a : Fin 512) (d : Fin 128) : (I.rblk n).dq h a d = (I.blk n).dq h a d := by
  refine Finset.sum_congr rfl fun j _ => ?_
  rw [ds_eq I n hn]
  by_cases hj : okN n a j = true
  · rw [band_k I n hn h a j hj]
  · rw [show (I.blk n).ds h a j = 0 from dsc_of_not _ _ _ _ _ _ hj, zero_mul, zero_mul]
theorem dk_eq (h : Fin 4) (j : Fin 384) (d : Fin 128) : (I.rblk n).dk h j d = (I.blk n).dk h j d :=
  Finset.sum_congr rfl fun a _ => congrArg (· * _) (ds_eq I n hn h a j)
theorem dv_eq (h : Fin 4) (j : Fin 384) (d : Fin 128) : (I.rblk n).dv h j d = (I.blk n).dv h j d :=
  Finset.sum_congr rfl fun a _ => congrArg (· * _) (wt_eq I n hn h a j)
theorem dqr_eq (r : Fin 128) (d : Fin 2048) : (I.rblk n).dqr r d = (I.blk n).dqr r d := by
  unfold Blk.dqr
  rw [show (I.rblk n).dq = (I.blk n).dq from funext fun h => funext fun a => funext fun d => dq_eq I n hn h a d]
  rfl
end Bands

/-! ## The sinks' sum -/
theorem acc_lo (I : Ins) (a : Fin 4) (b : Fin 8) (d : Fin 128) (hb : b.val < 4) (n : ℕ) :
    I.acc (ix3 a b d) n = -∑ i ∈ Finset.range (n + 1), (I.blk i).snk a ⟨b.val, hb⟩ := by
  have hs : ∀ i, (I.blk i).sinks 16 (ix3 a b d) = (I.blk i).snk a ⟨b.val, hb⟩ := fun i => by
    unfold Blk.sinks
    exact dif_pos ⟨hb, by show a.val * 4 + b.val < 16; omega⟩
  induction n with
  | zero => rw [Ins.acc, hs, Finset.sum_range_one, zero_sub]
  | succ n ih => rw [Ins.acc, hs, ih, Finset.sum_range_succ _ (n + 1)]; ring
theorem acc_hi (I : Ins) (a : Fin 4) (b : Fin 8) (d : Fin 128) (hb : ¬b.val < 4) (n : ℕ) : I.acc (ix3 a b d) n = 0 := by
  have hs : ∀ i, (I.blk i).sinks 16 (ix3 a b d) = 0 := fun i => by
    unfold Blk.sinks
    exact dif_neg fun h => hb h.1
  induction n with
  | zero => rw [Ins.acc, hs, sub_zero]
  | succ n ih => rw [Ins.acc, hs, ih, sub_zero]

/-! ## The results -/
theorem pos_split (p : Fin 4096) : p = ⟨(⟨p.val / 128, by omega⟩ : Fin 32).val * 128 + (⟨p.val % 128, by omega⟩ : Fin 128).val, by dsimp only; omega⟩ :=
  Fin.ext (by dsimp only; omega)

section Results
open Cert.KernelIdeal Cert.KernelIdeal.Gen
variable {m : (ℓ : Loc nD τ sig) → Buf (Elt Ideal) ℓ} {c : Dev nD} {I : Ins} (H : I.In m c)
variable {x0 x4 : S4096x2048.Idx → EReal} {x1 x2 : S4096x512.Idx → EReal} {x3 : S16.Idx → EReal} (H' : I.At x0 x1 x2 x3 x4)
include H H'

theorem res0 : (dats m 0 c).arrAt 12 cfg0.N = Cert.ReferenceIdeal.Read.val_main_v234 (F := Ideal) x0 x1 x2 x3 x4 := by
  funext i
  obtain ⟨p, d, rfl⟩ : ∃ (p : Fin 4096) (d : Fin 2048), i = ix2 p d := ⟨i 0, i 1, by funext a; match a with | ⟨0, _⟩ => rfl | ⟨1, _⟩ => rfl⟩
  rw [pos_split p]
  refine (arr12 H ⟨p.val / 128, by show _ < 32; omega⟩ ⟨p.val % 128, by omega⟩ d).trans ?_
  refine Eq.trans ?_ (v234_coe H' ⟨p.val / 128, by omega⟩ ⟨p.val % 128, by omega⟩ d).symm
  rw [dqr_eq I (p.val / 128) (by omega)]
theorem res1 : (dats m 0 c).arrAt 13 cfg0.N = Cert.ReferenceIdeal.Read.val_main_v237 (F := Ideal) x0 x1 x2 x3 x4 := by
  funext i
  obtain ⟨j, p, d, rfl⟩ : ∃ (j : Fin 3) (p : Fin 4096) (d : Fin 512), i = ix3 j p d :=
    ⟨i 0, i 1, i 2, by funext a; match a with | ⟨0, _⟩ => rfl | ⟨1, _⟩ => rfl | ⟨2, _⟩ => rfl⟩
  rw [pos_split p]
  refine (arr13 H ⟨p.val / 128, by show _ < 32; omega⟩ j ⟨p.val % 128, by omega⟩ d).trans ?_
  refine Eq.trans ?_ (v237_coe H' j ⟨p.val / 128, by omega⟩ ⟨p.val % 128, by omega⟩ d).symm
  exact congrArg (fun x : ℝ => (x : EReal)) (dk_eq I (p.val / 128) (by omega) _ _ _).symm
theorem res2 : (dats m 0 c).arrAt 14 cfg0.N = Cert.ReferenceIdeal.Read.val_main_v240 (F := Ideal) x0 x1 x3 x4 := by
  funext i
  obtain ⟨j, p, d, rfl⟩ : ∃ (j : Fin 3) (p : Fin 4096) (d : Fin 512), i = ix3 j p d :=
    ⟨i 0, i 1, i 2, by funext a; match a with | ⟨0, _⟩ => rfl | ⟨1, _⟩ => rfl | ⟨2, _⟩ => rfl⟩
  rw [pos_split p]
  refine (arr14 H ⟨p.val / 128, by show _ < 32; omega⟩ j ⟨p.val % 128, by omega⟩ d).trans ?_
  refine Eq.trans ?_ (v240_coe H' j ⟨p.val / 128, by omega⟩ ⟨p.val % 128, by omega⟩ d).symm
  exact congrArg (fun x : ℝ => (x : EReal)) (dv_eq I (p.val / 128) (by omega) _ _ _).symm
theorem res3 : (dats m 0 c).arrAt 15 cfg0.N = Cert.ReferenceIdeal.Read.val_main_v233 (F := Ideal) x0 x1 x2 x3 x4 := by
  funext i
  obtain ⟨a, b, d, rfl⟩ : ∃ (a : Fin 4) (b : Fin 8) (d : Fin 128), i = ix3 a b d :=
    ⟨i 0, i 1, i 2, by funext a; match a with | ⟨0, _⟩ => rfl | ⟨1, _⟩ => rfl | ⟨2, _⟩ => rfl⟩
  refine (arr15 H a b d).trans (Eq.trans (congrArg _ ?_) (v233_coe H' a b d).symm)
  by_cases hb : b.val < 4
  · rw [acc_lo I a b d hb, dif_pos hb, Finset.sum_range, ← Finset.sum_neg_distrib]
    refine Finset.sum_congr rfl fun n _ => ?_
    rw [Finset.sum_neg_distrib]
    refine congrArg (- ·) (Finset.sum_congr rfl fun r _ => ?_)
    exact (sg_eq I n.val n.isLt a _).symm
  · rw [acc_hi I a b d hb, dif_neg hb]
end Results
end Cert.Attn
-- ==== Proof.Claims.lean ====
module

public import proofs.«01_k».proof.Defs
public import proofs.«01_k».proof.Proof.Equation
public import proofs.«01_k».proof.Proof.Gen.Kernel.Frame
public import proofs.«01_k».proof.Proof.Gen.Pre_finite
public import proofs.«01_k».proof.Proof.Gen.ReferenceIdeal.Run
public import Idealize.ShloMosaic.Lib.ReduceAll
public import Idealize.ShloMosaic.Lib.Quiescent
/-! The claims. Finite arguments are reals, on which the launch's arrays and the reference's are the same. -/

@[expose] public section

set_option maxRecDepth 100000
noncomputable section
namespace Cert.Attn
open Idealize.ShloMosaic Idealize.SL.Sem

/-! ## Finite arguments are reals -/
theorem real_of_abs (x : EReal) (h : FloatOps.cmpf (F := Ideal) (φ := .f32) .olt (FloatOps.hostAbsf (F := Ideal) (φ := .f32) x) (Ideal.ofBits .f32 0x7F800000#32) = 1#1) :
    x = ((x.toReal : ℝ) : EReal) := by
  have e : Ideal.ofBits .f32 0x7F800000#32 = (⊤ : EReal) := by simp [Ideal.ofBits, Ideal.ieee]
  rw [e] at h
  have h' : max x (-x) < ⊤ := by
    by_contra hn
    have : FloatOps.cmpf (F := Ideal) (φ := .f32) .olt (FloatOps.hostAbsf (F := Ideal) (φ := .f32) x) (⊤ : EReal) = BitVec.ofBool (decide (max x (-x) < ⊤)) := rfl
    rw [this, decide_eq_false hn] at h
    exact absurd h (by decide)
  refine (EReal.coe_toReal (fun ht => ?_) (fun hb => ?_)).symm
  · rw [ht] at h'; simp at h'
  · rw [hb] at h'; simp at h'

/-- Arguments `finite` admits are reals. -/
theorem reals (a0 : Cert.Pre_finite.S4096x2048.Idx → EReal) (a1 a2 : Cert.Pre_finite.S4096x512.Idx → EReal) (a3 : Cert.Pre_finite.S16.Idx → EReal)
    (a4 : Cert.Pre_finite.S4096x2048.Idx → EReal) (h : Cert.Pre_finite.fn (F := Ideal) a0 a1 a2 a3 a4 = fun _ => 1#1) : ∃ I : Ins, I.At a0 a1 a2 a3 a4 := by
  have : Subsingleton Cert.Pre_finite.S_.Idx := ⟨fun a b => funext fun i => i.elim0⟩
  have h := congrFun h (fun a => a.elim0)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have h0 := fun i => real_of_abs (a0 i) (Host.reduce_andi_all _ _ _ _ _ h0 i)
  have h1 := fun i => real_of_abs (a1 i) (Host.reduce_andi_all _ _ _ _ _ h1 i)
  have h2 := fun i => real_of_abs (a2 i) (Host.reduce_andi_all _ _ _ _ _ h2 i)
  have h3 := fun i => real_of_abs (a3 i) (Host.reduce_andi_all _ _ _ _ _ h3 i)
  have h4 := fun i => real_of_abs (a4 i) (Host.reduce_andi_all _ _ _ _ _ h4 i)
  refine ⟨⟨fun t d => if h : t < 4096 ∧ d < 2048 then (a0 (ix2 ⟨t, h.1⟩ ⟨d, h.2⟩)).toReal else 0,
    fun t d => if h : t < 4096 ∧ d < 512 then (a1 (ix2 ⟨t, h.1⟩ ⟨d, h.2⟩)).toReal else 0,
    fun t d => if h : t < 4096 ∧ d < 512 then (a2 (ix2 ⟨t, h.1⟩ ⟨d, h.2⟩)).toReal else 0,
    fun d => if h : d < 16 then (a3 (ix1 ⟨d, h⟩)).toReal else 0,
    fun t d => if h : t < 4096 ∧ d < 2048 then (a4 (ix2 ⟨t, h.1⟩ ⟨d, h.2⟩)).toReal else 0⟩, ?_, ?_, ?_, ?_, ?_⟩
  · intro t d
    refine (h0 _).trans (congrArg Real.toEReal ?_)
    simp only [t.isLt, d.isLt, and_self, dite_true, Fin.eta]
  · intro t d
    refine (h1 _).trans (congrArg Real.toEReal ?_)
    simp only [t.isLt, d.isLt, and_self, dite_true, Fin.eta]
  · intro t d
    refine (h2 _).trans (congrArg Real.toEReal ?_)
    simp only [t.isLt, d.isLt, and_self, dite_true, Fin.eta]
  · intro d
    refine (h3 _).trans (congrArg Real.toEReal ?_)
    simp only [d.isLt, dite_true, Fin.eta]
  · intro t d
    refine (h4 _).trans (congrArg Real.toEReal ?_)
    simp only [t.isLt, d.isLt, and_self, dite_true, Fin.eta]

/-! ## The claims -/
theorem frame_ri : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite := by
  intro m ρ m' ρ' hp hagree
  refine ⟨_, _, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨I, H⟩ := reals _ _ _ _ _ (hp c)
  obtain ⟨e0, e1, e2, e3, e4⟩ := hagree c
  have H' : I.At (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) := by
    rw [e0, e1, e2, e3, e4]; exact H
  obtain ⟨h0, h1, h2, h3, ha⟩ := h c
  exact ⟨(h0.trans (Cert.ReferenceIdeal.Read.val_main_v234_eq _)).trans (res0 H H').symm,
    (h1.trans (Cert.ReferenceIdeal.Read.val_main_v237_eq _)).trans (res1 H H').symm,
    (h2.trans (Cert.ReferenceIdeal.Read.val_main_v240_eq _)).trans (res2 H H').symm,
    (h3.trans (Cert.ReferenceIdeal.Read.val_main_v233_eq _)).trans (res3 H H').symm, ha⟩
end Cert.Attn
-- ==== Proof.Tiles.lean ====
module

public import Idealize.ShloMosaic.Lib.Pipeline.ValueKit
/-! Matrices read by tiles: two matrices that agree on every tile of a grid are equal. -/

@[expose] public section

noncomputable section
namespace Cert.Products
open Idealize.ShloMosaic Idealize.SL.Sem Idealize.ShloMosaic.Tactic

/-- A matrix entry, named by the row and the column. -/
theorem entry {M N : ℕ} {α : Type} (x : (⟨2, ![M, N]⟩ : Shape).Idx → α) (i : (⟨2, ![M, N]⟩ : Shape).Idx) (a : Fin M) (b : Fin N)
    (h0 : (i 0).val = a.val) (h1 : (i 1).val = b.val) : x i = x (ix2 a b) := by
  refine congrArg x ?_
  funext k; apply Fin.ext
  match k with
  | ⟨0, _⟩ => exact h0
  | ⟨1, _⟩ => exact h1

/-- Two matrices agreeing on the tiles of a grid of `nm` by `nn` points, counted row by row, are equal. -/
theorem eq_of_tiles {M N : ℕ} {α : Type} (bm bn nm nn : ℕ) (hm : 0 < bm) (hn : 0 < bn) (hM : M = nm * bm) (hN : N = nn * bn)
    (A B : (⟨2, ![M, N]⟩ : Shape).Idx → α)
    (h : ∀ (t : ℕ) (_ : t < nm * nn) (r : Fin bm) (d : Fin bn) (a : Fin M) (b : Fin N),
      a.val = t / nn * bm + r.val → b.val = t % nn * bn + d.val → A (ix2 a b) = B (ix2 a b)) : A = B := by
  funext i
  have a0 : (i 0).val < nm * bm := hM ▸ (i 0).isLt
  have a1 : (i 1).val < nn * bn := hN ▸ (i 1).isLt
  have b0 : (i 0).val / bm < nm := (Nat.div_lt_iff_lt_mul hm).mpr a0
  have b1 : (i 1).val / bn < nn := (Nat.div_lt_iff_lt_mul hn).mpr a1
  have p : 0 < nn := Nat.pos_of_ne_zero fun e => by rw [e] at b1; exact absurd b1 (Nat.not_lt_zero _)
  refine (entry A i (i 0) (i 1) rfl rfl).trans (Eq.trans ?_ (entry B i (i 0) (i 1) rfl rfl).symm)
  refine h (nn * ((i 0).val / bm) + (i 1).val / bn) ?_ ⟨(i 0).val % bm, Nat.mod_lt _ hm⟩ ⟨(i 1).val % bn, Nat.mod_lt _ hn⟩ _ _ ?_ ?_
  · calc nn * ((i 0).val / bm) + (i 1).val / bn < nn * ((i 0).val / bm) + nn := Nat.add_lt_add_left b1 _
      _ = nn * ((i 0).val / bm + 1) := (Nat.mul_succ _ _).symm
      _ ≤ nn * nm := Nat.mul_le_mul_left _ b0
      _ = nm * nn := Nat.mul_comm _ _
  · rw [Nat.mul_add_div p, Nat.div_eq_of_lt b1, Nat.add_zero]
    exact (Nat.div_add_mod' _ _).symm
  · rw [Nat.mul_add_mod, Nat.mod_eq_of_lt b1]
    exact (Nat.div_add_mod' _ _).symm

/-- A sum over `n` stretches of length `b`, stretch by stretch. -/
theorem sum_stretches {K : ℕ} (n b : ℕ) (hK : K = n * b) (f : Fin K → EReal) :
    (∑ k, f k) = ∑ j : Fin n, ∑ k : Fin b, f ⟨j.val * b + k.val, by
      rw [hK]
      calc j.val * b + k.val < j.val * b + b := Nat.add_lt_add_left k.isLt _
        _ = (j.val + 1) * b := (Nat.succ_mul _ _).symm
        _ ≤ n * b := Nat.mul_le_mul_right _ j.isLt⟩ := by
  subst hK
  rw [← Equiv.sum_comp finProdFinEquiv, Fintype.sum_prod_type]
  refine Finset.sum_congr rfl fun j _ => Finset.sum_congr rfl fun k _ => congrArg f (Fin.ext ?_)
  show k.val + b * j.val = j.val * b + k.val
  rw [Nat.mul_comm, Nat.add_comm]
end Cert.Products
-- ==== Proof.GradW.lean ====
module

public import proofs.«01_k».proof.Proof.Tiles
public import proofs.«01_k».proof.Proof.Gen.DWIdeal.Value
public import proofs.«01_k».proof.Proof.Gen.DWRefIdeal.Run
public import proofs.«01_k».proof.Proof.Gen.DWRefIdeal.Read
/-! The gradient of the widest product with respect to the weight: a tile of the launch's result is one contraction. -/

@[expose] public section

set_option maxRecDepth 16384
noncomputable section
namespace Cert.Products.GradW
open Idealize.ShloMosaic Idealize.SL.Sem Idealize.ShloMosaic.Tactic Cert.DWIdeal Cert.DWIdeal.Gen Cert.DWIdeal.Value

/-- What one point writes: the products of its two column blocks over all rows. -/
theorem tile (x0 x1 : Vec Ideal S4096x1024 .bf16) (r d : Fin 1024) :
    out0_2 x0 x1 (ix2 r d) = ∑ k : Fin 4096, x0 (ix2 k r) * x1 (ix2 k d) := by
  have hz : (![0, 0] : Fin 2 → ℕ) = fun _ => 0 := funext fun a => by fin_cases a <;> rfl
  unfold out0_2
  rw [View.canon_unit_zero hz, View.ld_unit_zero hz, View.ld_unit_zero hz]
  pointwise [k0_pay1]

variable (m : (ℓ : Loc nD τ sig) → Buf (Elt Ideal) ℓ) (c : Dev nD) (x0 : S4096x2048.Idx → EReal) (x1 : S4096x11264.Idx → EReal)

theorem at_a : ∀ t : Fin cfg0.N, win0_0.index t 0 = 0 ∧ win0_0.index t 1 = t.val / 11 := by decide +kernel
theorem at_b : ∀ t : Fin cfg0.N, win0_1.index t 0 = 0 ∧ win0_1.index t 1 = t.val % 11 := by decide +kernel
theorem at_o : ∀ t : Fin cfg0.N, win0_2.index t 0 = t.val / 11 ∧ win0_2.index t 1 = t.val % 11 := by decide +kernel

theorem block_a (h0 : m ((c.tc : Thread nD τ).loc main_arg0) = x0) (t : Fin cfg0.N) (r : Fin 1024) (k : Fin 4096) (a : Fin 2048)
    (ha : a.val = t.val / 11 * 1024 + r.val) : iblk m c 0 t (ix2 k r) = x0 (ix2 k a) := by
  subst h0
  have h := at_a t
  blk_ext [iblk, at_a t, V_main_arg0, ha]
theorem block_b (h1 : m ((c.tc : Thread nD τ).loc main_arg1) = x1) (t : Fin cfg0.N) (k : Fin 4096) (d : Fin 1024) (b : Fin 11264)
    (hb : b.val = t.val % 11 * 1024 + d.val) : iblk m c 1 t (ix2 k d) = x1 (ix2 k b) := by
  subst h1
  have h := at_b t
  blk_ext [iblk, at_b t, V_main_arg1, hb]

/-- The launch's result at an index of a point's tile is what the point wrote. -/
theorem array (t : Fin cfg0.N) (r d : Fin 1024) (a : Fin 2048) (b : Fin 11264) (ha : a.val = t.val / 11 * 1024 + r.val)
    (hb : b.val = t.val % 11 * 1024 + d.val) :
    (dats m 0 c).arrAt 2 cfg0.N (ix2 a b) = out0_2 (iblk m c 0 t) (iblk m c 1 t) (ix2 r d) := by
  refine Eq.trans ?_ ((congrFun (blocks2 m c t (flush0_2 t)) (ix2 r d)).trans (congrFun (flushed2 m c t) (ix2 r d)))
  have h := at_o t
  blk_ext [at_o t, ha, hb]

variable {m c x0 x1}

/-- The reference at an index. -/
theorem ref (r : Fin 2048) (d : Fin 11264) : Cert.DWRefIdeal.Read.val_main_v6 (F := Ideal) x0 x1 (ix2 r d)
    = ∑ k : Fin 4096, x0 (ix2 k r) * x1 (ix2 k d) :=
  (Cert.DWRefIdeal.Read.val_main_v5_apply (F := Ideal) _ _ _).trans ((Cert.DWRefIdeal.Read.val_main_v4_apply _ _ _).trans
    (Finset.sum_congr rfl fun k _ => (mul_comm _ _).trans (congrArg₂ (· * ·) (entry x0 _ k r rfl rfl) (entry x1 _ k d rfl rfl))))

/-- The launch's result is the reference's. -/
theorem eq (h0 : m ((c.tc : Thread nD τ).loc main_arg0) = x0) (h1 : m ((c.tc : Thread nD τ).loc main_arg1) = x1) :
    (dats m 0 c).arrAt 2 cfg0.N = Cert.DWRefIdeal.Read.val_main_v6 (F := Ideal) x0 x1 := by
  refine eq_of_tiles 1024 1024 2 11 (by decide) (by decide) rfl rfl _ _ fun t ht r d a b ha hb => ?_
  refine (array m c ⟨t, ht⟩ r d a b ha hb).trans ((tile _ _ r d).trans (Eq.trans ?_ (ref a b).symm))
  exact Finset.sum_congr rfl fun k _ => congrArg₂ (· * ·) (block_a m c x0 h0 ⟨t, ht⟩ r k a ha) (block_b m c x1 h1 ⟨t, ht⟩ k d b hb)
end Cert.Products.GradW
-- ==== Proof.GradRows.lean ====
module

public import proofs.«01_k».proof.Proof.Tiles
public import proofs.«01_k».proof.Proof.Gen.DHIdeal.Value
public import proofs.«01_k».proof.Proof.Gen.DHRefIdeal.Run
public import proofs.«01_k».proof.Proof.Gen.DHRefIdeal.Read
/-! The gradient of the widest product with respect to its rows: a tile of the launch's result is built up in a scratch array
    over the four stretches of the contraction, and the sum of the stretches is the whole contraction. -/

@[expose] public section

set_option maxRecDepth 16384
noncomputable section
namespace Cert.Products.GradRows
open Idealize.ShloMosaic Idealize.SL.Sem Idealize.ShloMosaic.Tactic Cert.DHIdeal Cert.DHIdeal.Gen Cert.DHIdeal.Value

theorem hz : (![0, 0] : Fin 2 → ℕ) = fun _ => 0 := funext fun a => by fin_cases a <;> rfl

section
variable (c : Dev nD) (i : grid0.Coords) (a3 : Memref sig .tc .vmem S1024x2816 .bf16) (h3 : a3.IsWhole)
    (a4 : Memref sig .tc .vmem S1024x2816 .bf16) (h4 : a4.IsWhole) (a5 : Memref sig .tc .vmem S1024x1024 .bf16) (h5 : a5.IsWhole)
    (a6 : Memref sig .tc .vmem S1024x1024 .f32) (h6 : a6.IsWhole) (x0 x1 : Vec Ideal S1024x2816 .bf16) (xs : Vec Ideal S1024x1024 .f32)
/-- The first step over a tile leaves its stretch of the contraction added to zero. -/
theorem first (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2816) hz]
/-- A middle step adds its stretch to what stood in the scratch. -/
theorem middle (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1024x1024) hz]
  simp only [View.readAt_eq_ld, h3.read_unread, h4.read_unread, h6.read_unread, View.ld_unit_zero (S := S1024x2816) hz,
    View.ld_unit_zero (S := S1024x1024) hz]
/-- The last step writes the scratch with its stretch added. -/
theorem last (hc0 : ¬cond0_0 i) (hc1 : cond0_1 i) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x2816) hz,
    View.ld_unit_zero (S := S1024x1024) hz]
end

theorem zero (r d : Fin 1024) : (k0_pay1 (F := Ideal)) (ix2 r d) = 0 := by
  pointwise [k0_pay1]
/-- One step's payload at an entry. -/
theorem step (xs : Vec Ideal S1024x1024 .f32) (x0 x1 : Vec Ideal S1024x2816 .bf16) (r d : Fin 1024) :
    k0_pay2 xs x0 x1 (ix2 r d) = xs (ix2 r d) + ∑ k : Fin 2816, x0 (ix2 r k) * x1 (ix2 d k) := by
  pointwise [k0_pay2]

variable (m : (ℓ : Loc nD τ sig) → Buf (Elt Ideal) ℓ) (c : Dev nD) (x0 : S4096x11264.Idx → EReal) (x1 : S2048x11264.Idx → EReal)

theorem at_a : ∀ t : Fin cfg0.N, win0_0.index t 0 = t.val / 4 / 2 ∧ win0_0.index t 1 = t.val % 4 := by decide +kernel
theorem at_b : ∀ t : Fin cfg0.N, win0_1.index t 0 = t.val / 4 % 2 ∧ win0_1.index t 1 = t.val % 4 := by decide +kernel

theorem block_a (h0 : m ((c.tc : Thread nD τ).loc main_arg0) = x0) (t : Fin cfg0.N) (r : Fin 1024) (k : Fin 2816) (a : Fin 4096)
    (e : Fin 11264) (ha : a.val = t.val / 4 / 2 * 1024 + r.val) (he : e.val = t.val % 4 * 2816 + k.val) :
    iblk m c 0 t (ix2 r k) = x0 (ix2 a e) := by
  subst h0
  have h := at_a t
  blk_ext [iblk, at_a t, V_main_arg0, ha, he]
theorem block_b (h1 : m ((c.tc : Thread nD τ).loc main_arg1) = x1) (t : Fin cfg0.N) (k : Fin 2816) (d : Fin 1024) (b : Fin 2048)
    (e : Fin 11264) (hb : b.val = t.val / 4 % 2 * 1024 + d.val) (he : e.val = t.val % 4 * 2816 + k.val) :
    iblk m c 1 t (ix2 d k) = x1 (ix2 b e) := by
  subst h1
  have h := at_b t
  blk_ext [iblk, at_b t, V_main_arg1, hb, he]

variable {m c x0 x1}
/-- A step's stretch of the contraction, of the arguments. -/
theorem stretch (h0 : m ((c.tc : Thread nD τ).loc main_arg0) = x0) (h1 : m ((c.tc : Thread nD τ).loc main_arg1) = x1)
    (t : Fin cfg0.N) (j : Fin 4) (hj : t.val % 4 = j.val) (r d : Fin 1024) (a : Fin 4096) (b : Fin 2048) (ha : a.val = t.val / 4 / 2 * 1024 + r.val)
    (hb : b.val = t.val / 4 % 2 * 1024 + d.val) (xs : Vec Ideal S1024x1024 .f32) :
    k0_pay2 xs (iblk m c 0 t) (iblk m c 1 t) (ix2 r d) = xs (ix2 r d) + ∑ k : Fin 2816,
      x0 (ix2 a ⟨j.val * 2816 + k.val, by omega⟩) * x1 (ix2 b ⟨j.val * 2816 + k.val, by omega⟩) := by
  refine (step _ _ _ r d).trans (congrArg (xs (ix2 r d) + ·) (Finset.sum_congr rfl fun k _ => congrArg₂ (· * ·) ?_ ?_))
  · exact block_a m c x0 h0 t r k a _ ha (congrArg (· * 2816 + k.val) hj.symm)
  · exact block_b m c x1 h1 t k d b _ hb (congrArg (· * 2816 + k.val) hj.symm)

/-- What stands in a tile after its last step: the whole contraction. -/
theorem tile (h0 : m ((c.tc : Thread nD τ).loc main_arg0) = x0) (h1 : m ((c.tc : Thread nD τ).loc main_arg1) = x1)
    (q : ℕ) (hq : q < 8) (r d : Fin 1024) (a : Fin 4096) (b : Fin 2048) (ha : a.val = q / 2 * 1024 + r.val)
    (hb : b.val = q % 2 * 1024 + d.val) :
    (outsAt0 m c (4 * q + 3) (by show 4 * q + 3 < 32; omega)).1 (ix2 r d) = ∑ k : Fin 11264, x0 (ix2 a k) * x1 (ix2 b k) := by
  have N : cfg0.N = 32 := N_0
  have e3 := outsAt0_C m c ⟨4 * q + 3, by omega⟩ (by dsimp only; omega) (by dsimp only; omega)
  have e2 := outsAt0_B m c ⟨4 * q + 2, by omega⟩ (by dsimp only; omega) (by dsimp only; omega)
  have e1 := outsAt0_B m c ⟨4 * q + 1, by omega⟩ (by dsimp only; omega) (by dsimp only; omega)
  have e0 := outsAt0_A m c ⟨4 * q, by omega⟩ (by dsimp only; omega) (by dsimp only; omega)
  rw [last] at e3
  rw [middle] at e2 e1
  rw [first] at e0
  have s0 : (outsAt0 m c (4 * q) (by omega)).2 (ix2 r d) = _ := (congrFun (congrArg Prod.snd e0) (ix2 r d)).trans
    (stretch h0 h1 ⟨4 * q, by omega⟩ 0 (by dsimp only; omega) r d a b (by dsimp only; omega) (by dsimp only; omega) _)
  have s1 : (outsAt0 m c (4 * q + 1) (by omega)).2 (ix2 r d) = _ := (congrFun (congrArg Prod.snd e1) (ix2 r d)).trans
    (stretch h0 h1 ⟨4 * q + 1, by omega⟩ 1 (by dsimp only; omega) r d a b (by dsimp only; omega) (by dsimp only; omega) _)
  have s2 : (outsAt0 m c (4 * q + 2) (by omega)).2 (ix2 r d) = _ := (congrFun (congrArg Prod.snd e2) (ix2 r d)).trans
    (stretch h0 h1 ⟨4 * q + 2, by omega⟩ 2 (by dsimp only; omega) r d a b (by dsimp only; omega) (by dsimp only; omega) _)
  have s3 : (outsAt0 m c (4 * q + 3) (by omega)).1 (ix2 r d) = _ := (congrFun (congrArg Prod.fst e3) (ix2 r d)).trans
    (stretch h0 h1 ⟨4 * q + 3, by omega⟩ 3 (by dsimp only; omega) r d a b (by dsimp only; omega) (by dsimp only; omega) _)
  refine s3.trans ?_
  rw [sum_stretches 4 2816 rfl, Fin.sum_univ_four]
  refine congrArg (· + _) (s2.trans (congrArg (· + _) (s1.trans (congrArg (· + _) (s0.trans ?_)))))
  exact (congrArg (· + _) (zero r d)).trans (zero_add _)

/-- The launch's result at an index of a tile is what its last step left there. -/
theorem array (q : ℕ) (hq : q < 8) (r d : Fin 1024) (a : Fin 4096) (b : Fin 2048) (ha : a.val = q / 2 * 1024 + r.val)
    (hb : b.val = q % 2 * 1024 + d.val) :
    G2 m c (ix2 a b) = (outsAt0 m c (4 * q + 3) (by show 4 * q + 3 < 32; omega)).1 (ix2 r d) := by
  have N : cfg0.N = 32 := N_0
  have p : pt2Of (ix2 a b) = 4 * q + 3 := by
    show 4 * (2 * (a.val / 1024 - 0) + 1 * (b.val / 1024 - 0)) + 3 = 4 * q + 3
    omega
  have l : loc2Of (ix2 a b) = ix2 r d := by
    funext k; apply Fin.ext
    match k with
    | ⟨0, _⟩ => show a.val % 1024 = r.val; omega
    | ⟨1, _⟩ => show b.val % 1024 = d.val; omega
  unfold G2
  rw [dif_pos (by rw [p]; omega), l, outsAt0_sweep, fold0_congr m c _ _ _ _ p]

/-- The reference at an index. -/
theorem ref (r : Fin 4096) (d : Fin 2048) : Cert.DHRefIdeal.Read.val_main_v5 (F := Ideal) x0 x1 (ix2 r d)
    = ∑ k : Fin 11264, x0 (ix2 r k) * x1 (ix2 d k) :=
  (Cert.DHRefIdeal.Read.val_main_v4_apply _ _ _).trans
    (Finset.sum_congr rfl fun k _ => congrArg₂ (· * ·) (entry x0 _ r k rfl rfl) (entry x1 _ d k rfl rfl))

/-- The launch's result is the reference's. -/
theorem eq (h0 : m ((c.tc : Thread nD τ).loc main_arg0) = x0) (h1 : m ((c.tc : Thread nD τ).loc main_arg1) = x1) :
    G2 m c = Cert.DHRefIdeal.Read.val_main_v5 (F := Ideal) x0 x1 := by
  refine eq_of_tiles 1024 1024 4 2 (by decide) (by decide) rfl rfl _ _ fun t ht r d a b ha hb => ?_
  exact (array t ht r d a b ha hb).trans ((tile h0 h1 t ht r d a b ha hb).trans (ref a b).symm)
end Cert.Products.GradRows
-- ==== Proof.DownW.lean ====
module

public import proofs.«01_k».proof.Proof.Tiles
public import proofs.«01_k».proof.Proof.Gen.DWDIdeal.Value
public import proofs.«01_k».proof.Proof.Gen.DWDRefIdeal.Run
public import proofs.«01_k».proof.Proof.Gen.DWDRefIdeal.Read
/-! The gradient of the last product with respect to the weight: a tile of the launch's result is one contraction. -/

@[expose] public section

set_option maxRecDepth 16384
noncomputable section
namespace Cert.Products.DownW
open Idealize.ShloMosaic Idealize.SL.Sem Idealize.ShloMosaic.Tactic Cert.DWDIdeal Cert.DWDIdeal.Gen Cert.DWDIdeal.Value

/-- What one point writes: the products of its two column blocks over all rows. -/
theorem tile (x0 : Vec Ideal S4096x512 .bf16) (x1 : Vec Ideal S4096x1024 .bf16) (r : Fin 512) (d : Fin 1024) :
    out0_2 x0 x1 (ix2 r d) = ∑ k : Fin 4096, x0 (ix2 k r) * x1 (ix2 k d) := by
  have hz : (![0, 0] : Fin 2 → ℕ) = fun _ => 0 := funext fun a => by fin_cases a <;> rfl
  unfold out0_2
  rw [View.canon_unit_zero hz, View.ld_unit_zero hz, View.ld_unit_zero hz]
  pointwise [k0_pay1]

variable (m : (ℓ : Loc nD τ sig) → Buf (Elt Ideal) ℓ) (c : Dev nD) (x0 : S4096x5632.Idx → EReal) (x1 : S4096x2048.Idx → EReal)

theorem at_a : ∀ t : Fin cfg0.N, win0_0.index t 0 = 0 ∧ win0_0.index t 1 = t.val / 2 := by decide +kernel
theorem at_b : ∀ t : Fin cfg0.N, win0_1.index t 0 = 0 ∧ win0_1.index t 1 = t.val % 2 := by decide +kernel
theorem at_o : ∀ t : Fin cfg0.N, win0_2.index t 0 = t.val / 2 ∧ win0_2.index t 1 = t.val % 2 := by decide +kernel

theorem block_a (h0 : m ((c.tc : Thread nD τ).loc main_arg0) = x0) (t : Fin cfg0.N) (r : Fin 512) (k : Fin 4096) (a : Fin 5632)
    (ha : a.val = t.val / 2 * 512 + r.val) : iblk m c 0 t (ix2 k r) = x0 (ix2 k a) := by
  subst h0
  have h := at_a t
  blk_ext [iblk, at_a t, V_main_arg0, ha]
theorem block_b (h1 : m ((c.tc : Thread nD τ).loc main_arg1) = x1) (t : Fin cfg0.N) (k : Fin 4096) (d : Fin 1024) (b : Fin 2048)
    (hb : b.val = t.val % 2 * 1024 + d.val) : iblk m c 1 t (ix2 k d) = x1 (ix2 k b) := by
  subst h1
  have h := at_b t
  blk_ext [iblk, at_b t, V_main_arg1, hb]

/-- The launch's result at an index of a point's tile is what the point wrote. -/
theorem array (t : Fin cfg0.N) (r : Fin 512) (d : Fin 1024) (a : Fin 5632) (b : Fin 2048) (ha : a.val = t.val / 2 * 512 + r.val)
    (hb : b.val = t.val % 2 * 1024 + d.val) :
    (dats m 0 c).arrAt 2 cfg0.N (ix2 a b) = out0_2 (iblk m c 0 t) (iblk m c 1 t) (ix2 r d) := by
  refine Eq.trans ?_ ((congrFun (blocks2 m c t (flush0_2 t)) (ix2 r d)).trans (congrFun (flushed2 m c t) (ix2 r d)))
  have h := at_o t
  blk_ext [at_o t, ha, hb]

variable {m c x0 x1}

/-- The reference at an index. -/
theorem ref (r : Fin 5632) (d : Fin 2048) : Cert.DWDRefIdeal.Read.val_main_v6 (F := Ideal) x0 x1 (ix2 r d)
    = ∑ k : Fin 4096, x0 (ix2 k r) * x1 (ix2 k d) :=
  (Cert.DWDRefIdeal.Read.val_main_v5_apply (F := Ideal) _ _ _).trans ((Cert.DWDRefIdeal.Read.val_main_v4_apply _ _ _).trans
    (Finset.sum_congr rfl fun k _ => (mul_comm _ _).trans (congrArg₂ (· * ·) (entry x0 _ k r rfl rfl) (entry x1 _ k d rfl rfl))))

/-- The launch's result is the reference's. -/
theorem eq (h0 : m ((c.tc : Thread nD τ).loc main_arg0) = x0) (h1 : m ((c.tc : Thread nD τ).loc main_arg1) = x1) :
    (dats m 0 c).arrAt 2 cfg0.N = Cert.DWDRefIdeal.Read.val_main_v6 (F := Ideal) x0 x1 := by
  refine eq_of_tiles 512 1024 11 2 (by decide) (by decide) rfl rfl _ _ fun t ht r d a b ha hb => ?_
  refine (array m c ⟨t, ht⟩ r d a b ha hb).trans ((tile _ _ r d).trans (Eq.trans ?_ (ref a b).symm))
  exact Finset.sum_congr rfl fun k _ => congrArg₂ (· * ·) (block_a m c x0 h0 ⟨t, ht⟩ r k a ha) (block_b m c x1 h1 ⟨t, ht⟩ k d b hb)
end Cert.Products.DownW
-- ==== Proof.DownRows.lean ====
module

public import proofs.«01_k».proof.Proof.Tiles
public import proofs.«01_k».proof.Proof.Gen.DACTIdeal.Value
public import proofs.«01_k».proof.Proof.Gen.DACTRefIdeal.Run
public import proofs.«01_k».proof.Proof.Gen.DACTRefIdeal.Read
/-! The gradient of the last product with respect to its rows: a tile of the launch's result is one contraction. -/

@[expose] public section

set_option maxRecDepth 16384
noncomputable section
namespace Cert.Products.DownRows
open Idealize.ShloMosaic Idealize.SL.Sem Idealize.ShloMosaic.Tactic Cert.DACTIdeal Cert.DACTIdeal.Gen Cert.DACTIdeal.Value

/-- What one point writes: its rows against rows of the weight. -/
theorem tile (x0 : Vec Ideal S1024x2048 .bf16) (x1 : Vec Ideal S1408x2048 .bf16) (r : Fin 1024) (d : Fin 1408) :
    out0_2 x0 x1 (ix2 r d) = ∑ k : Fin 2048, x0 (ix2 r k) * x1 (ix2 d k) := by
  have hz : (![0, 0] : Fin 2 → ℕ) = fun _ => 0 := funext fun a => by fin_cases a <;> rfl
  unfold out0_2
  rw [View.canon_unit_zero hz, View.ld_unit_zero hz, View.ld_unit_zero hz]
  pointwise [k0_pay1]

variable (m : (ℓ : Loc nD τ sig) → Buf (Elt Ideal) ℓ) (c : Dev nD) (x0 : S4096x2048.Idx → EReal) (x1 : S5632x2048.Idx → EReal)

theorem at_a : ∀ t : Fin cfg0.N, win0_0.index t 0 = t.val / 4 ∧ win0_0.index t 1 = 0 := by decide +kernel
theorem at_b : ∀ t : Fin cfg0.N, win0_1.index t 0 = t.val % 4 ∧ win0_1.index t 1 = 0 := by decide +kernel
theorem at_o : ∀ t : Fin cfg0.N, win0_2.index t 0 = t.val / 4 ∧ win0_2.index t 1 = t.val % 4 := by decide +kernel

theorem block_a (h0 : m ((c.tc : Thread nD τ).loc main_arg0) = x0) (t : Fin cfg0.N) (r : Fin 1024) (k : Fin 2048) (a : Fin 4096)
    (ha : a.val = t.val / 4 * 1024 + r.val) : iblk m c 0 t (ix2 r k) = x0 (ix2 a k) := by
  subst h0
  have h := at_a t
  blk_ext [iblk, at_a t, V_main_arg0, ha]
theorem block_b (h1 : m ((c.tc : Thread nD τ).loc main_arg1) = x1) (t : Fin cfg0.N) (k : Fin 2048) (d : Fin 1408) (b : Fin 5632)
    (hb : b.val = t.val % 4 * 1408 + d.val) : iblk m c 1 t (ix2 d k) = x1 (ix2 b k) := by
  subst h1
  have h := at_b t
  blk_ext [iblk, at_b t, V_main_arg1, hb]

/-- The launch's result at an index of a point's tile is what the point wrote. -/
theorem array (t : Fin cfg0.N) (r : Fin 1024) (d : Fin 1408) (a : Fin 4096) (b : Fin 5632) (ha : a.val = t.val / 4 * 1024 + r.val)
    (hb : b.val = t.val % 4 * 1408 + d.val) :
    (dats m 0 c).arrAt 2 cfg0.N (ix2 a b) = out0_2 (iblk m c 0 t) (iblk m c 1 t) (ix2 r d) := by
  refine Eq.trans ?_ ((congrFun (blocks2 m c t (flush0_2 t)) (ix2 r d)).trans (congrFun (flushed2 m c t) (ix2 r d)))
  have h := at_o t
  blk_ext [at_o t, ha, hb]

variable {m c x0 x1}

/-- The reference at an index. -/
theorem ref (r : Fin 4096) (d : Fin 5632) : Cert.DACTRefIdeal.Read.val_main_v5 (F := Ideal) x0 x1 (ix2 r d)
    = ∑ k : Fin 2048, x0 (ix2 r k) * x1 (ix2 d k) :=
  (Cert.DACTRefIdeal.Read.val_main_v4_apply _ _ _).trans
    (Finset.sum_congr rfl fun k _ => congrArg₂ (· * ·) (entry x0 _ r k rfl rfl) (entry x1 _ d k rfl rfl))

/-- The launch's result is the reference's. -/
theorem eq (h0 : m ((c.tc : Thread nD τ).loc main_arg0) = x0) (h1 : m ((c.tc : Thread nD τ).loc main_arg1) = x1) :
    (dats m 0 c).arrAt 2 cfg0.N = Cert.DACTRefIdeal.Read.val_main_v5 (F := Ideal) x0 x1 := by
  refine eq_of_tiles 1024 1408 4 4 (by decide) (by decide) rfl rfl _ _ fun t ht r d a b ha hb => ?_
  refine (array m c ⟨t, ht⟩ r d a b ha hb).trans ((tile _ _ r d).trans (Eq.trans ?_ (ref a b).symm))
  exact Finset.sum_congr rfl fun k _ => congrArg₂ (· * ·) (block_a m c x0 h0 ⟨t, ht⟩ r k a ha) (block_b m c x1 h1 ⟨t, ht⟩ k d b hb)
end Cert.Products.DownRows
-- ==== Proof.Square.lean ====
module

public import proofs.«01_k».proof.Proof.Tiles
public import proofs.«01_k».proof.Proof.Gen.NNIdeal.Value
public import proofs.«01_k».proof.Proof.Gen.NNRefIdeal.Run
public import proofs.«01_k».proof.Proof.Gen.NNRefIdeal.Read
/-! The product with a square weight: a tile of the launch's result is one contraction. -/

@[expose] public section

set_option maxRecDepth 16384
noncomputable section
namespace Cert.Products.Square
open Idealize.ShloMosaic Idealize.SL.Sem Idealize.ShloMosaic.Tactic Cert.NNIdeal Cert.NNIdeal.Gen Cert.NNIdeal.Value

/-- What one point writes: its rows times its columns. -/
theorem tile (x0 : Vec Ideal S1024x2048 .bf16) (x1 : Vec Ideal S2048x1024 .bf16) (r d : Fin 1024) :
    out0_2 x0 x1 (ix2 r d) = ∑ k : Fin 2048, x0 (ix2 r k) * x1 (ix2 k d) := by
  have hz : (![0, 0] : Fin 2 → ℕ) = fun _ => 0 := funext fun a => by fin_cases a <;> rfl
  unfold out0_2
  rw [View.canon_unit_zero hz, View.ld_unit_zero hz, View.ld_unit_zero hz]
  pointwise [k0_pay1]

variable (m : (ℓ : Loc nD τ sig) → Buf (Elt Ideal) ℓ) (c : Dev nD) (x0 : S4096x2048.Idx → EReal) (x1 : S2048x2048.Idx → EReal)

theorem at_a : ∀ t : Fin cfg0.N, win0_0.index t 0 = t.val / 2 ∧ win0_0.index t 1 = 0 := by decide +kernel
theorem at_b : ∀ t : Fin cfg0.N, win0_1.index t 0 = 0 ∧ win0_1.index t 1 = t.val % 2 := by decide +kernel
theorem at_o : ∀ t : Fin cfg0.N, win0_2.index t 0 = t.val / 2 ∧ win0_2.index t 1 = t.val % 2 := by decide +kernel

theorem block_a (h0 : m ((c.tc : Thread nD τ).loc main_arg0) = x0) (t : Fin cfg0.N) (r : Fin 1024) (k : Fin 2048) (a : Fin 4096)
    (ha : a.val = t.val / 2 * 1024 + r.val) : iblk m c 0 t (ix2 r k) = x0 (ix2 a k) := by
  subst h0
  have h := at_a t
  blk_ext [iblk, at_a t, V_main_arg0, ha]
theorem block_b (h1 : m ((c.tc : Thread nD τ).loc main_arg1) = x1) (t : Fin cfg0.N) (k : Fin 2048) (d : Fin 1024) (b : Fin 2048)
    (hb : b.val = t.val % 2 * 1024 + d.val) : iblk m c 1 t (ix2 k d) = x1 (ix2 k b) := by
  subst h1
  have h := at_b t
  blk_ext [iblk, at_b t, V_main_arg1, hb]

/-- The launch's result at an index of a point's tile is what the point wrote. -/
theorem array (t : Fin cfg0.N) (r d : Fin 1024) (a : Fin 4096) (b : Fin 2048) (ha : a.val = t.val / 2 * 1024 + r.val)
    (hb : b.val = t.val % 2 * 1024 + d.val) :
    (dats m 0 c).arrAt 2 cfg0.N (ix2 a b) = out0_2 (iblk m c 0 t) (iblk m c 1 t) (ix2 r d) := by
  refine Eq.trans ?_ ((congrFun (blocks2 m c t (flush0_2 t)) (ix2 r d)).trans (congrFun (flushed2 m c t) (ix2 r d)))
  have h := at_o t
  blk_ext [at_o t, ha, hb]

variable {m c x0 x1}

/-- The reference at an index. -/
theorem ref (r : Fin 4096) (d : Fin 2048) : Cert.NNRefIdeal.Read.val_main_v3 (F := Ideal) x0 x1 (ix2 r d)
    = ∑ k : Fin 2048, x0 (ix2 r k) * x1 (ix2 k d) :=
  (Cert.NNRefIdeal.Read.val_main_v2_apply _ _ _).trans
    (Finset.sum_congr rfl fun k _ => congrArg₂ (· * ·) (entry x0 _ r k rfl rfl) (entry x1 _ k d rfl rfl))

/-- The launch's result is the reference's. -/
theorem eq (h0 : m ((c.tc : Thread nD τ).loc main_arg0) = x0) (h1 : m ((c.tc : Thread nD τ).loc main_arg1) = x1) :
    (dats m 0 c).arrAt 2 cfg0.N = Cert.NNRefIdeal.Read.val_main_v3 (F := Ideal) x0 x1 := by
  refine eq_of_tiles 1024 1024 4 2 (by decide) (by decide) rfl rfl _ _ fun t ht r d a b ha hb => ?_
  refine (array m c ⟨t, ht⟩ r d a b ha hb).trans ((tile _ _ r d).trans (Eq.trans ?_ (ref a b).symm))
  exact Finset.sum_congr rfl fun k _ => congrArg₂ (· * ·) (block_a m c x0 h0 ⟨t, ht⟩ r k a ha) (block_b m c x1 h1 ⟨t, ht⟩ k d b hb)
end Cert.Products.Square
-- ==== Proof.SquareW.lean ====
module

public import proofs.«01_k».proof.Proof.Tiles
public import proofs.«01_k».proof.Proof.Gen.TNIdeal.Value
public import proofs.«01_k».proof.Proof.Gen.TNRefIdeal.Run
public import proofs.«01_k».proof.Proof.Gen.TNRefIdeal.Read
/-! The gradient of the product with a square weight with respect to the weight: a tile of the launch's result is one contraction. -/

@[expose] public section

set_option maxRecDepth 16384
noncomputable section
namespace Cert.Products.SquareW
open Idealize.ShloMosaic Idealize.SL.Sem Idealize.ShloMosaic.Tactic Cert.TNIdeal Cert.TNIdeal.Gen Cert.TNIdeal.Value

/-- What one point writes: the products of its two column blocks over all rows. -/
theorem tile (x0 x1 : Vec Ideal S4096x1024 .bf16) (r d : Fin 1024) :
    out0_2 x0 x1 (ix2 r d) = ∑ k : Fin 4096, x0 (ix2 k r) * x1 (ix2 k d) := by
  have hz : (![0, 0] : Fin 2 → ℕ) = fun _ => 0 := funext fun a => by fin_cases a <;> rfl
  unfold out0_2
  rw [View.canon_unit_zero hz, View.ld_unit_zero hz, View.ld_unit_zero hz]
  pointwise [k0_pay1]

variable (m : (ℓ : Loc nD τ sig) → Buf (Elt Ideal) ℓ) (c : Dev nD) (x0 x1 : S4096x2048.Idx → EReal)

theorem at_a : ∀ t : Fin cfg0.N, win0_0.index t 0 = 0 ∧ win0_0.index t 1 = t.val / 2 := by decide +kernel
theorem at_b : ∀ t : Fin cfg0.N, win0_1.index t 0 = 0 ∧ win0_1.index t 1 = t.val % 2 := by decide +kernel
theorem at_o : ∀ t : Fin cfg0.N, win0_2.index t 0 = t.val / 2 ∧ win0_2.index t 1 = t.val % 2 := by decide +kernel

theorem block_a (h0 : m ((c.tc : Thread nD τ).loc main_arg0) = x0) (t : Fin cfg0.N) (r : Fin 1024) (k : Fin 4096) (a : Fin 2048)
    (ha : a.val = t.val / 2 * 1024 + r.val) : iblk m c 0 t (ix2 k r) = x0 (ix2 k a) := by
  subst h0
  have h := at_a t
  blk_ext [iblk, at_a t, V_main_arg0, ha]
theorem block_b (h1 : m ((c.tc : Thread nD τ).loc main_arg1) = x1) (t : Fin cfg0.N) (k : Fin 4096) (d : Fin 1024) (b : Fin 2048)
    (hb : b.val = t.val % 2 * 1024 + d.val) : iblk m c 1 t (ix2 k d) = x1 (ix2 k b) := by
  subst h1
  have h := at_b t
  blk_ext [iblk, at_b t, V_main_arg1, hb]

/-- The launch's result at an index of a point's tile is what the point wrote. -/
theorem array (t : Fin cfg0.N) (r d : Fin 1024) (a : Fin 2048) (b : Fin 2048) (ha : a.val = t.val / 2 * 1024 + r.val)
    (hb : b.val = t.val % 2 * 1024 + d.val) :
    (dats m 0 c).arrAt 2 cfg0.N (ix2 a b) = out0_2 (iblk m c 0 t) (iblk m c 1 t) (ix2 r d) := by
  refine Eq.trans ?_ ((congrFun (blocks2 m c t (flush0_2 t)) (ix2 r d)).trans (congrFun (flushed2 m c t) (ix2 r d)))
  have h := at_o t
  blk_ext [at_o t, ha, hb]

variable {m c x0 x1}

/-- The reference at an index. -/
theorem ref (r : Fin 2048) (d : Fin 2048) : Cert.TNRefIdeal.Read.val_main_v6 (F := Ideal) x0 x1 (ix2 r d)
    = ∑ k : Fin 4096, x0 (ix2 k r) * x1 (ix2 k d) :=
  (Cert.TNRefIdeal.Read.val_main_v5_apply (F := Ideal) _ _ _).trans ((Cert.TNRefIdeal.Read.val_main_v4_apply _ _ _).trans
    (Finset.sum_congr rfl fun k _ => (mul_comm _ _).trans (congrArg₂ (· * ·) (entry x0 _ k r rfl rfl) (entry x1 _ k d rfl rfl))))

/-- The launch's result is the reference's. -/
theorem eq (h0 : m ((c.tc : Thread nD τ).loc main_arg0) = x0) (h1 : m ((c.tc : Thread nD τ).loc main_arg1) = x1) :
    (dats m 0 c).arrAt 2 cfg0.N = Cert.TNRefIdeal.Read.val_main_v6 (F := Ideal) x0 x1 := by
  refine eq_of_tiles 1024 1024 2 2 (by decide) (by decide) rfl rfl _ _ fun t ht r d a b ha hb => ?_
  refine (array m c ⟨t, ht⟩ r d a b ha hb).trans ((tile _ _ r d).trans (Eq.trans ?_ (ref a b).symm))
  exact Finset.sum_congr rfl fun k _ => congrArg₂ (· * ·) (block_a m c x0 h0 ⟨t, ht⟩ r k a ha) (block_b m c x1 h1 ⟨t, ht⟩ k d b hb)
end Cert.Products.SquareW
-- ==== Proof.SquareRows.lean ====
module

public import proofs.«01_k».proof.Proof.Tiles
public import proofs.«01_k».proof.Proof.Gen.NTIdeal.Value
public import proofs.«01_k».proof.Proof.Gen.NTRefIdeal.Run
public import proofs.«01_k».proof.Proof.Gen.NTRefIdeal.Read
/-! The gradient of the product with a square weight with respect to its rows: a tile of the launch's result is one contraction. -/

@[expose] public section

set_option maxRecDepth 16384
noncomputable section
namespace Cert.Products.SquareRows
open Idealize.ShloMosaic Idealize.SL.Sem Idealize.ShloMosaic.Tactic Cert.NTIdeal Cert.NTIdeal.Gen Cert.NTIdeal.Value

/-- What one point writes: its rows against rows of the weight. -/
theorem tile (x0 : Vec Ideal S1024x2048 .bf16) (x1 : Vec Ideal S1024x2048 .bf16) (r d : Fin 1024) :
    out0_2 x0 x1 (ix2 r d) = ∑ k : Fin 2048, x0 (ix2 r k) * x1 (ix2 d k) := by
  have hz : (![0, 0] : Fin 2 → ℕ) = fun _ => 0 := funext fun a => by fin_cases a <;> rfl
  unfold out0_2
  rw [View.canon_unit_zero hz, View.ld_unit_zero hz, View.ld_unit_zero hz]
  pointwise [k0_pay1]

variable (m : (ℓ : Loc nD τ sig) → Buf (Elt Ideal) ℓ) (c : Dev nD) (x0 : S4096x2048.Idx → EReal) (x1 : S2048x2048.Idx → EReal)

theorem at_a : ∀ t : Fin cfg0.N, win0_0.index t 0 = t.val / 2 ∧ win0_0.index t 1 = 0 := by decide +kernel
theorem at_b : ∀ t : Fin cfg0.N, win0_1.index t 0 = t.val % 2 ∧ win0_1.index t 1 = 0 := by decide +kernel
theorem at_o : ∀ t : Fin cfg0.N, win0_2.index t 0 = t.val / 2 ∧ win0_2.index t 1 = t.val % 2 := by decide +kernel

theorem block_a (h0 : m ((c.tc : Thread nD τ).loc main_arg0) = x0) (t : Fin cfg0.N) (r : Fin 1024) (k : Fin 2048) (a : Fin 4096)
    (ha : a.val = t.val / 2 * 1024 + r.val) : iblk m c 0 t (ix2 r k) = x0 (ix2 a k) := by
  subst h0
  have h := at_a t
  blk_ext [iblk, at_a t, V_main_arg0, ha]
theorem block_b (h1 : m ((c.tc : Thread nD τ).loc main_arg1) = x1) (t : Fin cfg0.N) (k : Fin 2048) (d : Fin 1024) (b : Fin 2048)
    (hb : b.val = t.val % 2 * 1024 + d.val) : iblk m c 1 t (ix2 d k) = x1 (ix2 b k) := by
  subst h1
  have h := at_b t
  blk_ext [iblk, at_b t, V_main_arg1, hb]

/-- The launch's result at an index of a point's tile is what the point wrote. -/
theorem array (t : Fin cfg0.N) (r d : Fin 1024) (a : Fin 4096) (b : Fin 2048) (ha : a.val = t.val / 2 * 1024 + r.val)
    (hb : b.val = t.val % 2 * 1024 + d.val) :
    (dats m 0 c).arrAt 2 cfg0.N (ix2 a b) = out0_2 (iblk m c 0 t) (iblk m c 1 t) (ix2 r d) := by
  refine Eq.trans ?_ ((congrFun (blocks2 m c t (flush0_2 t)) (ix2 r d)).trans (congrFun (flushed2 m c t) (ix2 r d)))
  have h := at_o t
  blk_ext [at_o t, ha, hb]

variable {m c x0 x1}

/-- The reference at an index. -/
theorem ref (r : Fin 4096) (d : Fin 2048) : Cert.NTRefIdeal.Read.val_main_v5 (F := Ideal) x0 x1 (ix2 r d)
    = ∑ k : Fin 2048, x0 (ix2 r k) * x1 (ix2 d k) :=
  (Cert.NTRefIdeal.Read.val_main_v4_apply _ _ _).trans
    (Finset.sum_congr rfl fun k _ => congrArg₂ (· * ·) (entry x0 _ r k rfl rfl) (entry x1 _ d k rfl rfl))

/-- The launch's result is the reference's. -/
theorem eq (h0 : m ((c.tc : Thread nD τ).loc main_arg0) = x0) (h1 : m ((c.tc : Thread nD τ).loc main_arg1) = x1) :
    (dats m 0 c).arrAt 2 cfg0.N = Cert.NTRefIdeal.Read.val_main_v5 (F := Ideal) x0 x1 := by
  refine eq_of_tiles 1024 1024 4 2 (by decide) (by decide) rfl rfl _ _ fun t ht r d a b ha hb => ?_
  refine (array m c ⟨t, ht⟩ r d a b ha hb).trans ((tile _ _ r d).trans (Eq.trans ?_ (ref a b).symm))
  exact Finset.sum_congr rfl fun k _ => congrArg₂ (· * ·) (block_a m c x0 h0 ⟨t, ht⟩ r k a ha) (block_b m c x1 h1 ⟨t, ht⟩ k d b hb)
end Cert.Products.SquareRows
-- ==== Proof.Glu.lean ====
module

public import proofs.«01_k».proof.Proof.Tiles
public import proofs.«01_k».proof.Proof.Gen.GLUIdeal.Value
public import proofs.«01_k».proof.Proof.Gen.GLURefIdeal.Run
public import proofs.«01_k».proof.Proof.Gen.GLURefIdeal.Read
/-! The second part of the input product, a window of the columns of its weight: a tile of the launch's result is one contraction. -/

@[expose] public section

set_option maxRecDepth 16384
noncomputable section
namespace Cert.Products.Glu
open Idealize.ShloMosaic Idealize.SL.Sem Idealize.ShloMosaic.Tactic Cert.GLUIdeal Cert.GLUIdeal.Gen Cert.GLUIdeal.Value

/-- What one point writes: its rows times its columns. -/
theorem tile (x0 : Vec Ideal S1024x2048 .bf16) (x1 : Vec Ideal S2048x1024 .bf16) (r d : Fin 1024) :
    out0_2 x0 x1 (ix2 r d) = ∑ k : Fin 2048, x0 (ix2 r k) * x1 (ix2 k d) := by
  have hz : (![0, 0] : Fin 2 → ℕ) = fun _ => 0 := funext fun a => by fin_cases a <;> rfl
  unfold out0_2
  rw [View.canon_unit_zero hz, View.ld_unit_zero hz, View.ld_unit_zero hz]
  pointwise [k0_pay1]

variable (m : (ℓ : Loc nD τ sig) → Buf (Elt Ideal) ℓ) (c : Dev nD) (x0 : S4096x2048.Idx → EReal) (x1 : S2048x11264.Idx → EReal)

theorem at_a : ∀ t : Fin cfg0.N, win0_0.index t 0 = t.val / 4 ∧ win0_0.index t 1 = 0 := by decide +kernel
theorem at_b : ∀ t : Fin cfg0.N, win0_1.index t 0 = 0 ∧ win0_1.index t 1 = t.val % 4 + 3 := by decide +kernel
theorem at_o : ∀ t : Fin cfg0.N, win0_2.index t 0 = t.val / 4 ∧ win0_2.index t 1 = t.val % 4 := by decide +kernel

theorem block_a (h0 : m ((c.tc : Thread nD τ).loc main_arg0) = x0) (t : Fin cfg0.N) (r : Fin 1024) (k : Fin 2048) (a : Fin 4096)
    (ha : a.val = t.val / 4 * 1024 + r.val) : iblk m c 0 t (ix2 r k) = x0 (ix2 a k) := by
  subst h0
  have h := at_a t
  blk_ext [iblk, at_a t, V_main_arg0, ha]
theorem block_b (h1 : m ((c.tc : Thread nD τ).loc main_arg1) = x1) (t : Fin cfg0.N) (k : Fin 2048) (d : Fin 1024) (b : Fin 11264)
    (hb : b.val = t.val % 4 * 1024 + d.val + 3072) : iblk m c 1 t (ix2 k d) = x1 (ix2 k b) := by
  subst h1
  have h := at_b t
  blk_ext [iblk, at_b t, V_main_arg1, hb]

/-- The launch's result at an index of a point's tile is what the point wrote. -/
theorem array (t : Fin cfg0.N) (r d : Fin 1024) (a : Fin 4096) (b : Fin 4096) (ha : a.val = t.val / 4 * 1024 + r.val)
    (hb : b.val = t.val % 4 * 1024 + d.val) :
    (dats m 0 c).arrAt 2 cfg0.N (ix2 a b) = out0_2 (iblk m c 0 t) (iblk m c 1 t) (ix2 r d) := by
  refine Eq.trans ?_ ((congrFun (blocks2 m c t (flush0_2 t)) (ix2 r d)).trans (congrFun (flushed2 m c t) (ix2 r d)))
  have h := at_o t
  blk_ext [at_o t, ha, hb]

variable {m c x0 x1}

/-- The reference at an index. -/
theorem ref (r : Fin 4096) (d : Fin 4096) : Cert.GLURefIdeal.Read.val_main_v4 (F := Ideal) x0 x1 (ix2 r d)
    = ∑ k : Fin 2048, x0 (ix2 r k) * x1 (ix2 k ⟨d.val + 3072, by omega⟩) :=
  (Cert.GLURefIdeal.Read.val_main_v4_apply _ _ _).trans ((Cert.GLURefIdeal.Read.val_main_v2_apply _ _ _).trans
    (Finset.sum_congr rfl fun k _ => congrArg₂ (· * ·) (entry x0 _ r k rfl rfl) (entry x1 _ k ⟨d.val + 3072, by omega⟩ rfl (Nat.add_comm _ _))))

/-- The launch's result is the reference's. -/
theorem eq (h0 : m ((c.tc : Thread nD τ).loc main_arg0) = x0) (h1 : m ((c.tc : Thread nD τ).loc main_arg1) = x1) :
    (dats m 0 c).arrAt 2 cfg0.N = Cert.GLURefIdeal.Read.val_main_v4 (F := Ideal) x0 x1 := by
  refine eq_of_tiles 1024 1024 4 4 (by decide) (by decide) rfl rfl _ _ fun t ht r d a b ha hb => ?_
  refine (array m c ⟨t, ht⟩ r d a b ha hb).trans ((tile _ _ r d).trans (Eq.trans ?_ (ref a b).symm))
  exact Finset.sum_congr rfl fun k _ => congrArg₂ (· * ·) (block_a m c x0 h0 ⟨t, ht⟩ r k a ha) (block_b m c x1 h1 ⟨t, ht⟩ k d _ (congrArg (· + 3072) hb))
end Cert.Products.Glu
-- ==== Proof.Gate.lean ====
module

public import proofs.«01_k».proof.Proof.Tiles
public import proofs.«01_k».proof.Proof.Gen.GATEIdeal.Value
public import proofs.«01_k».proof.Proof.Gen.GATERefIdeal.Run
public import proofs.«01_k».proof.Proof.Gen.GATERefIdeal.Read
/-! The last part of the input product, a window of the columns of its weight: a tile of the launch's result is one contraction. -/

@[expose] public section

set_option maxRecDepth 16384
noncomputable section
namespace Cert.Products.Gate
open Idealize.ShloMosaic Idealize.SL.Sem Idealize.ShloMosaic.Tactic Cert.GATEIdeal Cert.GATEIdeal.Gen Cert.GATEIdeal.Value

/-- What one point writes: its rows times its columns. -/
theorem tile (x0 : Vec Ideal S1024x2048 .bf16) (x1 : Vec Ideal S2048x1024 .bf16) (r d : Fin 1024) :
    out0_2 x0 x1 (ix2 r d) = ∑ k : Fin 2048, x0 (ix2 r k) * x1 (ix2 k d) := by
  have hz : (![0, 0] : Fin 2 → ℕ) = fun _ => 0 := funext fun a => by fin_cases a <;> rfl
  unfold out0_2
  rw [View.canon_unit_zero hz, View.ld_unit_zero hz, View.ld_unit_zero hz]
  pointwise [k0_pay1]

variable (m : (ℓ : Loc nD τ sig) → Buf (Elt Ideal) ℓ) (c : Dev nD) (x0 : S4096x2048.Idx → EReal) (x1 : S2048x11264.Idx → EReal)

theorem at_a : ∀ t : Fin cfg0.N, win0_0.index t 0 = t.val / 4 ∧ win0_0.index t 1 = 0 := by decide +kernel
theorem at_b : ∀ t : Fin cfg0.N, win0_1.index t 0 = 0 ∧ win0_1.index t 1 = t.val % 4 + 7 := by decide +kernel
theorem at_o : ∀ t : Fin cfg0.N, win0_2.index t 0 = t.val / 4 ∧ win0_2.index t 1 = t.val % 4 := by decide +kernel

theorem block_a (h0 : m ((c.tc : Thread nD τ).loc main_arg0) = x0) (t : Fin cfg0.N) (r : Fin 1024) (k : Fin 2048) (a : Fin 4096)
    (ha : a.val = t.val / 4 * 1024 + r.val) : iblk m c 0 t (ix2 r k) = x0 (ix2 a k) := by
  subst h0
  have h := at_a t
  blk_ext [iblk, at_a t, V_main_arg0, ha]
theorem block_b (h1 : m ((c.tc : Thread nD τ).loc main_arg1) = x1) (t : Fin cfg0.N) (k : Fin 2048) (d : Fin 1024) (b : Fin 11264)
    (hb : b.val = t.val % 4 * 1024 + d.val + 7168) : iblk m c 1 t (ix2 k d) = x1 (ix2 k b) := by
  subst h1
  have h := at_b t
  blk_ext [iblk, at_b t, V_main_arg1, hb]

/-- The launch's result at an index of a point's tile is what the point wrote. -/
theorem array (t : Fin cfg0.N) (r d : Fin 1024) (a : Fin 4096) (b : Fin 4096) (ha : a.val = t.val / 4 * 1024 + r.val)
    (hb : b.val = t.val % 4 * 1024 + d.val) :
    (dats m 0 c).arrAt 2 cfg0.N (ix2 a b) = out0_2 (iblk m c 0 t) (iblk m c 1 t) (ix2 r d) := by
  refine Eq.trans ?_ ((congrFun (blocks2 m c t (flush0_2 t)) (ix2 r d)).trans (congrFun (flushed2 m c t) (ix2 r d)))
  have h := at_o t
  blk_ext [at_o t, ha, hb]

variable {m c x0 x1}

/-- The reference at an index. -/
theorem ref (r : Fin 4096) (d : Fin 4096) : Cert.GATERefIdeal.Read.val_main_v6 (F := Ideal) x0 x1 (ix2 r d)
    = ∑ k : Fin 2048, x0 (ix2 r k) * x1 (ix2 k ⟨d.val + 7168, by omega⟩) :=
  (Cert.GATERefIdeal.Read.val_main_v5_apply (F := Ideal) x0 x1 _).trans ((Cert.GATERefIdeal.Read.val_main_v2_apply _ _ _).trans
    (Finset.sum_congr rfl fun k _ => congrArg₂ (· * ·) (entry x0 _ r k rfl rfl) (entry x1 _ k ⟨d.val + 7168, by omega⟩ rfl (Nat.add_comm _ _))))

/-- The launch's result is the reference's. -/
theorem eq (h0 : m ((c.tc : Thread nD τ).loc main_arg0) = x0) (h1 : m ((c.tc : Thread nD τ).loc main_arg1) = x1) :
    (dats m 0 c).arrAt 2 cfg0.N = Cert.GATERefIdeal.Read.val_main_v6 (F := Ideal) x0 x1 := by
  refine eq_of_tiles 1024 1024 4 4 (by decide) (by decide) rfl rfl _ _ fun t ht r d a b ha hb => ?_
  refine (array m c ⟨t, ht⟩ r d a b ha hb).trans ((tile _ _ r d).trans (Eq.trans ?_ (ref a b).symm))
  exact Finset.sum_congr rfl fun k _ => congrArg₂ (· * ·) (block_a m c x0 h0 ⟨t, ht⟩ r k a ha) (block_b m c x1 h1 ⟨t, ht⟩ k d _ (congrArg (· + 7168) hb))
end Cert.Products.Gate
-- ==== Proof.Down.lean ====
module

public import proofs.«01_k».proof.Proof.Tiles
public import proofs.«01_k».proof.Proof.Gen.DOWNIdeal.Value
public import proofs.«01_k».proof.Proof.Gen.DOWNRefIdeal.Run
public import proofs.«01_k».proof.Proof.Gen.DOWNRefIdeal.Read
/-! The last product: a tile of the launch's result is built up in a scratch array
    over the two stretches of the contraction, and the sum of the stretches is the whole contraction. -/

@[expose] public section

set_option maxRecDepth 16384
noncomputable section
namespace Cert.Products.Down
open Idealize.ShloMosaic Idealize.SL.Sem Idealize.ShloMosaic.Tactic Cert.DOWNIdeal Cert.DOWNIdeal.Gen Cert.DOWNIdeal.Value

theorem hz : (![0, 0] : Fin 2 → ℕ) = fun _ => 0 := funext fun a => by fin_cases a <;> rfl

section
variable (c : Dev nD) (i : grid0.Coords) (a3 : Memref sig .tc .vmem S1024x2816 .bf16) (h3 : a3.IsWhole)
    (a4 : Memref sig .tc .vmem S2816x1024 .bf16) (h4 : a4.IsWhole) (a5 : Memref sig .tc .vmem S1024x1024 .bf16) (h5 : a5.IsWhole)
    (a6 : Memref sig .tc .vmem S1024x1024 .f32) (h6 : a6.IsWhole) (x0 : Vec Ideal S1024x2816 .bf16) (x1 : Vec Ideal S2816x1024 .bf16) (xs : Vec Ideal S1024x1024 .f32)
/-- The first step over a tile leaves its stretch of the contraction added to zero. -/
theorem first (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2816) hz, View.ld_unit_zero (S := S2816x1024) hz]
/-- The last step writes the scratch with its stretch added. -/
theorem last (hc0 : ¬cond0_0 i) (hc1 : cond0_1 i) :
    out0_B_2 c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x2816) hz, View.ld_unit_zero (S := S2816x1024) hz,
    View.ld_unit_zero (S := S1024x1024) hz]
end

theorem zero (r d : Fin 1024) : (k0_pay1 (F := Ideal)) (ix2 r d) = 0 := by
  pointwise [k0_pay1]
/-- One step's payload at an entry. -/
theorem step (xs : Vec Ideal S1024x1024 .f32) (x0 : Vec Ideal S1024x2816 .bf16) (x1 : Vec Ideal S2816x1024 .bf16) (r d : Fin 1024) :
    k0_pay2 xs x0 x1 (ix2 r d) = xs (ix2 r d) + ∑ k : Fin 2816, x0 (ix2 r k) * x1 (ix2 k d) := by
  pointwise [k0_pay2]

variable (m : (ℓ : Loc nD τ sig) → Buf (Elt Ideal) ℓ) (c : Dev nD) (x0 : S4096x5632.Idx → EReal) (x1 : S5632x2048.Idx → EReal)

theorem at_a : ∀ t : Fin cfg0.N, win0_0.index t 0 = t.val / 2 / 2 ∧ win0_0.index t 1 = t.val % 2 := by decide +kernel
theorem at_b : ∀ t : Fin cfg0.N, win0_1.index t 0 = t.val % 2 ∧ win0_1.index t 1 = t.val / 2 % 2 := by decide +kernel

theorem block_a (h0 : m ((c.tc : Thread nD τ).loc main_arg0) = x0) (t : Fin cfg0.N) (r : Fin 1024) (k : Fin 2816) (a : Fin 4096)
    (e : Fin 5632) (ha : a.val = t.val / 2 / 2 * 1024 + r.val) (he : e.val = t.val % 2 * 2816 + k.val) :
    iblk m c 0 t (ix2 r k) = x0 (ix2 a e) := by
  subst h0
  have h := at_a t
  blk_ext [iblk, at_a t, V_main_arg0, ha, he]
theorem block_b (h1 : m ((c.tc : Thread nD τ).loc main_arg1) = x1) (t : Fin cfg0.N) (k : Fin 2816) (d : Fin 1024) (b : Fin 2048)
    (e : Fin 5632) (hb : b.val = t.val / 2 % 2 * 1024 + d.val) (he : e.val = t.val % 2 * 2816 + k.val) :
    iblk m c 1 t (ix2 k d) = x1 (ix2 e b) := by
  subst h1
  have h := at_b t
  blk_ext [iblk, at_b t, V_main_arg1, hb, he]

variable {m c x0 x1}
/-- A step's stretch of the contraction, of the arguments. -/
theorem stretch (h0 : m ((c.tc : Thread nD τ).loc main_arg0) = x0) (h1 : m ((c.tc : Thread nD τ).loc main_arg1) = x1)
    (t : Fin cfg0.N) (j : Fin 2) (hj : t.val % 2 = j.val) (r d : Fin 1024) (a : Fin 4096) (b : Fin 2048) (ha : a.val = t.val / 2 / 2 * 1024 + r.val)
    (hb : b.val = t.val / 2 % 2 * 1024 + d.val) (xs : Vec Ideal S1024x1024 .f32) :
    k0_pay2 xs (iblk m c 0 t) (iblk m c 1 t) (ix2 r d) = xs (ix2 r d) + ∑ k : Fin 2816,
      x0 (ix2 a ⟨j.val * 2816 + k.val, by omega⟩) * x1 (ix2 ⟨j.val * 2816 + k.val, by omega⟩ b) := by
  refine (step _ _ _ r d).trans (congrArg (xs (ix2 r d) + ·) (Finset.sum_congr rfl fun k _ => congrArg₂ (· * ·) ?_ ?_))
  · exact block_a m c x0 h0 t r k a _ ha (congrArg (· * 2816 + k.val) hj.symm)
  · exact block_b m c x1 h1 t k d b _ hb (congrArg (· * 2816 + k.val) hj.symm)

/-- What stands in a tile after its last step: the whole contraction. -/
theorem tile (h0 : m ((c.tc : Thread nD τ).loc main_arg0) = x0) (h1 : m ((c.tc : Thread nD τ).loc main_arg1) = x1)
    (q : ℕ) (hq : q < 8) (r d : Fin 1024) (a : Fin 4096) (b : Fin 2048) (ha : a.val = q / 2 * 1024 + r.val)
    (hb : b.val = q % 2 * 1024 + d.val) :
    (outsAt0 m c (2 * q + 1) (by show 2 * q + 1 < 16; omega)).1 (ix2 r d) = ∑ k : Fin 5632, x0 (ix2 a k) * x1 (ix2 k b) := by
  have N : cfg0.N = 16 := N_0
  have e1 := outsAt0_B m c ⟨2 * q + 1, by omega⟩ (by dsimp only; omega) (by dsimp only; omega)
  have e0 := outsAt0_A m c ⟨2 * q, by omega⟩ (by dsimp only; omega) (by dsimp only; omega)
  rw [last] at e1
  rw [first] at e0
  have s0 : (outsAt0 m c (2 * q) (by omega)).2 (ix2 r d) = _ := (congrFun (congrArg Prod.snd e0) (ix2 r d)).trans
    (stretch h0 h1 ⟨2 * q, by omega⟩ 0 (by dsimp only; omega) r d a b (by dsimp only; omega) (by dsimp only; omega) _)
  have s1 : (outsAt0 m c (2 * q + 1) (by omega)).1 (ix2 r d) = _ := (congrFun (congrArg Prod.fst e1) (ix2 r d)).trans
    (stretch h0 h1 ⟨2 * q + 1, by omega⟩ 1 (by dsimp only; omega) r d a b (by dsimp only; omega) (by dsimp only; omega) _)
  refine s1.trans ?_
  rw [sum_stretches 2 2816 rfl, Fin.sum_univ_two]
  refine congrArg (· + _) (s0.trans ?_)
  exact (congrArg (· + _) (zero r d)).trans (zero_add _)

/-- The launch's result at an index of a tile is what its last step left there. -/
theorem array (q : ℕ) (hq : q < 8) (r d : Fin 1024) (a : Fin 4096) (b : Fin 2048) (ha : a.val = q / 2 * 1024 + r.val)
    (hb : b.val = q % 2 * 1024 + d.val) :
    G2 m c (ix2 a b) = (outsAt0 m c (2 * q + 1) (by show 2 * q + 1 < 16; omega)).1 (ix2 r d) := by
  have N : cfg0.N = 16 := N_0
  have p : pt2Of (ix2 a b) = 2 * q + 1 := by
    show 2 * (2 * (a.val / 1024 - 0) + 1 * (b.val / 1024 - 0)) + 1 = 2 * q + 1
    omega
  have l : loc2Of (ix2 a b) = ix2 r d := by
    funext k; apply Fin.ext
    match k with
    | ⟨0, _⟩ => show a.val % 1024 = r.val; omega
    | ⟨1, _⟩ => show b.val % 1024 = d.val; omega
  unfold G2
  rw [dif_pos (by rw [p]; omega), l, outsAt0_sweep, fold0_congr m c _ _ _ _ p]

/-- The reference at an index. -/
theorem ref (r : Fin 4096) (d : Fin 2048) : Cert.DOWNRefIdeal.Read.val_main_v3 (F := Ideal) x0 x1 (ix2 r d)
    = ∑ k : Fin 5632, x0 (ix2 r k) * x1 (ix2 k d) :=
  (Cert.DOWNRefIdeal.Read.val_main_v2_apply _ _ _).trans
    (Finset.sum_congr rfl fun k _ => congrArg₂ (· * ·) (entry x0 _ r k rfl rfl) (entry x1 _ k d rfl rfl))

/-- The launch's result is the reference's. -/
theorem eq (h0 : m ((c.tc : Thread nD τ).loc main_arg0) = x0) (h1 : m ((c.tc : Thread nD τ).loc main_arg1) = x1) :
    G2 m c = Cert.DOWNRefIdeal.Read.val_main_v3 (F := Ideal) x0 x1 := by
  refine eq_of_tiles 1024 1024 4 2 (by decide) (by decide) rfl rfl _ _ fun t ht r d a b ha hb => ?_
  exact (array t ht r d a b ha hb).trans ((tile h0 h1 t ht r d a b ha hb).trans (ref a b).symm)
end Cert.Products.Down
-- ==== Proof.Adam.lean ====
module

public import proofs.«01_k».proof.Proof.Tiles
public import proofs.«01_k».proof.Proof.Gen.ADAMIdeal.Value
public import proofs.«01_k».proof.Proof.Gen.ADAMRefIdeal.Run
public import proofs.«01_k».proof.Proof.Gen.ADAMRefIdeal.Read
/-! The optimiser's step of the small weights: a point adds the eight devices' rows of the gradient and steps its rows. -/

@[expose] public section

set_option maxRecDepth 16384
noncomputable section
namespace Cert.Products.Adam
open Idealize.ShloMosaic Idealize.SL.Sem Idealize.ShloMosaic.Tactic Cert.ADAMIdeal Cert.ADAMIdeal.Gen Cert.ADAMIdeal.Value

/-- The constant a word spells. -/
abbrev con (w : BitVec 32) : EReal := FloatOps.ofBits (F := Ideal) .f32 w
/-- The first moment's step. -/
def stepM (m g : EReal) : EReal := con 0x3F666666#32 * m + con 0x3DCCCCCD#32 * g
/-- The second moment's step. -/
def stepV (v g : EReal) : EReal := con 0x3F7FBE77#32 * v + con 0x3A83126F#32 * (g * g)
/-- The quotient of two entries. -/
abbrev quot (a b : EReal) : EReal := FloatOps.divf (F := Ideal) (φ := .f32) a b
/-- The weight's change, of the weight and the two stepped moments. -/
def stepW (w m v : EReal) : EReal :=
  con 0xBA83126F#32 * (quot (quot m (con 0x3F26BD02#32)) (FloatOps.sqrt (F := Ideal) (φ := .f32) (quot v (con 0x3C231ACC#32)) + con 0x322BCC77#32) + con 0x3C23D70A#32 * w)

section
variable (x0 x1 x2 x3 x4 x5 x6 x7 : Vec Ideal S1x16x512 .f32) (x8 x9 x10 : Vec Ideal S16x512 .f32)

/-- The eight devices' blocks added up. -/
def total (y : S16x512.Idx) : EReal :=
  x0 (ix3 0 (y 0) (y 1)) + x1 (ix3 0 (y 0) (y 1)) + x2 (ix3 0 (y 0) (y 1)) + x3 (ix3 0 (y 0) (y 1))
    + x4 (ix3 0 (y 0) (y 1)) + x5 (ix3 0 (y 0) (y 1)) + x6 (ix3 0 (y 0) (y 1)) + x7 (ix3 0 (y 0) (y 1))

/-- The eight chunks loaded from them, added up. -/
def chunks (o : Fin 3 → ℕ) (ho : ∀ a, o a + S1x16x128.size a ≤ S1x16x512.size a) (y : S16x128.Idx) : EReal :=
  (fun f : Vec Ideal S1x16x512 .f32 → EReal => f x0 + f x1 + f x2 + f x3 + f x4 + f x5 + f x6 + f x7) fun x =>
    shapeCast S16x128 (View.ld x (Rect.unit (s := S1x16x512) o S1x16x128.size ho)) shapeCasts_S1x16x128_S16x128 y

section
variable {o : Fin 3 → ℕ} {p : Fin 2 → ℕ} (h0 : o 0 = 0) (h1 : o 1 = p 0) (h2 : o 2 = p 1)
    (ho : ∀ a, o a + S1x16x128.size a ≤ S1x16x512.size a) (hp : ∀ a, p a + S16x128.size a ≤ S16x512.size a) (y : S16x128.Idx)
include h0 h1 h2
/-- A loaded chunk of a device's block at an index. -/
theorem chunk (x : Vec Ideal S1x16x512 .f32) :
    shapeCast S16x128 (View.ld x (Rect.unit (s := S1x16x512) o S1x16x128.size ho)) shapeCasts_S1x16x128_S16x128 y
      = x (ix3 0 ((Rect.unit (s := S16x512) p S16x128.size hp).emb y 0) ((Rect.unit (s := S16x512) p S16x128.size hp).emb y 1)) := by
  refine (shapeCast_dropUnit_apply _ _ _ _).trans (congrArg x (funext fun a => Fin.ext ?_))
  match a with
  | ⟨0, _⟩ => show o 0 + 1 * 0 = 0; rw [h0]
  | ⟨1, _⟩ => show o 1 + 1 * (y 0).val = p 0 + 1 * (y 0).val; rw [h1]
  | ⟨2, _⟩ => show o 2 + 1 * (y 1).val = p 1 + 1 * (y 1).val; rw [h2]
/-- The loaded chunks are those the rectangle of the store names. -/
theorem total_chunk : total x0 x1 x2 x3 x4 x5 x6 x7 ((Rect.unit (s := S16x512) p S16x128.size hp).emb y)
    = chunks x0 x1 x2 x3 x4 x5 x6 x7 o ho y := by
  unfold total chunks
  simp only [chunk h0 h1 h2 ho hp y]
end

theorem sum_A (y : S16x128.Idx) : total x0 x1 x2 x3 x4 x5 x6 x7 (r0_1.emb y) = chunks x0 x1 x2 x3 x4 x5 x6 x7 k0_off1 k0_off1_inb y :=
  total_chunk x0 x1 x2 x3 x4 x5 x6 x7 rfl rfl rfl k0_off1_inb k0_off2_inb y
theorem sum_B (y : S16x128.Idx) : total x0 x1 x2 x3 x4 x5 x6 x7 (r0_3.emb y) = chunks x0 x1 x2 x3 x4 x5 x6 x7 k0_off3 k0_off3_inb y :=
  total_chunk x0 x1 x2 x3 x4 x5 x6 x7 rfl rfl rfl k0_off3_inb k0_off4_inb y
theorem sum_C (y : S16x128.Idx) : total x0 x1 x2 x3 x4 x5 x6 x7 (r0_5.emb y) = chunks x0 x1 x2 x3 x4 x5 x6 x7 k0_off5 k0_off5_inb y :=
  total_chunk x0 x1 x2 x3 x4 x5 x6 x7 rfl rfl rfl k0_off5_inb k0_off6_inb y
theorem sum_D (y : S16x128.Idx) : total x0 x1 x2 x3 x4 x5 x6 x7 (r0_7.emb y) = chunks x0 x1 x2 x3 x4 x5 x6 x7 k0_off7 k0_off7_inb y :=
  total_chunk x0 x1 x2 x3 x4 x5 x6 x7 rfl rfl rfl k0_off7_inb k0_off8_inb y

/-- Four chunks that agree with one function of the block's index make it up. -/
theorem four (G : S16x512.Idx → EReal) (a b c d : Vec Ideal S16x128 .f32) (ha : ∀ y, a y = G (r0_1.emb y)) (hb : ∀ y, b y = G (r0_3.emb y))
    (hc : ∀ y, c y = G (r0_5.emb y)) (hd : ∀ y, d y = G (r0_7.emb y)) (y : S16x512.Idx) :
    View.canon (Val := Elt Ideal) (e := .f32) [⟨r0_7, d⟩, ⟨r0_5, c⟩, ⟨r0_3, b⟩, ⟨r0_1, a⟩] y = G y := by
  refine View.canon_apply_of_pieces (Val := Elt Ideal) (e := .f32) G _ (fun q hq => ?_) y (cover0_11 d c b a y)
  simp only [List.mem_cons, List.mem_nil_iff, or_false] at hq
  rcases hq with rfl | rfl | rfl | rfl
  · exact hd
  · exact hc
  · exact hb
  · exact ha

/-- A point's block of the gradient. -/
theorem tile_g (y : S16x512.Idx) : out0_11 x0 x1 x2 x3 x4 x5 x6 x7 x8 x9 x10 y = total x0 x1 x2 x3 x4 x5 x6 x7 y :=
  four (fun i => total x0 x1 x2 x3 x4 x5 x6 x7 i) _ _ _ _ (fun y => (sum_A x0 x1 x2 x3 x4 x5 x6 x7 y).symm) (fun y => (sum_B x0 x1 x2 x3 x4 x5 x6 x7 y).symm)
    (fun y => (sum_C x0 x1 x2 x3 x4 x5 x6 x7 y).symm) (fun y => (sum_D x0 x1 x2 x3 x4 x5 x6 x7 y).symm) y
/-- A point's block of the first moment. -/
theorem tile_m (y : S16x512.Idx) : out0_13 x0 x1 x2 x3 x4 x5 x6 x7 x8 x9 x10 y = stepM (x9 y) (total x0 x1 x2 x3 x4 x5 x6 x7 y) :=
  four (fun i => stepM (x9 i) (total x0 x1 x2 x3 x4 x5 x6 x7 i)) _ _ _ _ (fun y => congrArg (stepM _) (sum_A x0 x1 x2 x3 x4 x5 x6 x7 y).symm)
    (fun y => congrArg (stepM _) (sum_B x0 x1 x2 x3 x4 x5 x6 x7 y).symm) (fun y => congrArg (stepM _) (sum_C x0 x1 x2 x3 x4 x5 x6 x7 y).symm)
    (fun y => congrArg (stepM _) (sum_D x0 x1 x2 x3 x4 x5 x6 x7 y).symm) y
/-- A point's block of the second moment. -/
theorem tile_v (y : S16x512.Idx) : out0_14 x0 x1 x2 x3 x4 x5 x6 x7 x8 x9 x10 y = stepV (x10 y) (total x0 x1 x2 x3 x4 x5 x6 x7 y) :=
  four (fun i => stepV (x10 i) (total x0 x1 x2 x3 x4 x5 x6 x7 i)) _ _ _ _ (fun y => congrArg (stepV _) (sum_A x0 x1 x2 x3 x4 x5 x6 x7 y).symm)
    (fun y => congrArg (stepV _) (sum_B x0 x1 x2 x3 x4 x5 x6 x7 y).symm) (fun y => congrArg (stepV _) (sum_C x0 x1 x2 x3 x4 x5 x6 x7 y).symm)
    (fun y => congrArg (stepV _) (sum_D x0 x1 x2 x3 x4 x5 x6 x7 y).symm) y
/-- The change of a weight of the two moments and the gradient before the step. -/
def stepAll (w m v g : EReal) : EReal := stepW w (stepM m g) (stepV v g)
/-- A point's block of the weights' change. -/
theorem tile_w (y : S16x512.Idx) : out0_12 x0 x1 x2 x3 x4 x5 x6 x7 x8 x9 x10 y = stepAll (x8 y) (x9 y) (x10 y) (total x0 x1 x2 x3 x4 x5 x6 x7 y) :=
  four (fun i => stepAll (x8 i) (x9 i) (x10 i) (total x0 x1 x2 x3 x4 x5 x6 x7 i)) _ _ _ _ (fun y => congrArg (stepAll _ _ _) (sum_A x0 x1 x2 x3 x4 x5 x6 x7 y).symm)
    (fun y => congrArg (stepAll _ _ _) (sum_B x0 x1 x2 x3 x4 x5 x6 x7 y).symm) (fun y => congrArg (stepAll _ _ _) (sum_C x0 x1 x2 x3 x4 x5 x6 x7 y).symm)
    (fun y => congrArg (stepAll _ _ _) (sum_D x0 x1 x2 x3 x4 x5 x6 x7 y).symm) y
end

variable (m : (ℓ : Loc nD τ sig) → Buf (Elt Ideal) ℓ) (c : Dev nD) (x0 : S8x208x512.Idx → EReal) (x1 x2 x3 : S208x512.Idx → EReal)

theorem at_0 : ∀ t : Fin cfg0.N, win0_0.index t 0 = 0 ∧ win0_0.index t 1 = t.val ∧ win0_0.index t 2 = 0 := by decide +kernel
theorem at_1 : ∀ t : Fin cfg0.N, win0_1.index t 0 = 1 ∧ win0_1.index t 1 = t.val ∧ win0_1.index t 2 = 0 := by decide +kernel
theorem at_2 : ∀ t : Fin cfg0.N, win0_2.index t 0 = 2 ∧ win0_2.index t 1 = t.val ∧ win0_2.index t 2 = 0 := by decide +kernel
theorem at_3 : ∀ t : Fin cfg0.N, win0_3.index t 0 = 3 ∧ win0_3.index t 1 = t.val ∧ win0_3.index t 2 = 0 := by decide +kernel
theorem at_4 : ∀ t : Fin cfg0.N, win0_4.index t 0 = 4 ∧ win0_4.index t 1 = t.val ∧ win0_4.index t 2 = 0 := by decide +kernel
theorem at_5 : ∀ t : Fin cfg0.N, win0_5.index t 0 = 5 ∧ win0_5.index t 1 = t.val ∧ win0_5.index t 2 = 0 := by decide +kernel
theorem at_6 : ∀ t : Fin cfg0.N, win0_6.index t 0 = 6 ∧ win0_6.index t 1 = t.val ∧ win0_6.index t 2 = 0 := by decide +kernel
theorem at_7 : ∀ t : Fin cfg0.N, win0_7.index t 0 = 7 ∧ win0_7.index t 1 = t.val ∧ win0_7.index t 2 = 0 := by decide +kernel
theorem at_w : ∀ t : Fin cfg0.N, win0_8.index t 0 = t.val ∧ win0_8.index t 1 = 0 := by decide +kernel
theorem at_m : ∀ t : Fin cfg0.N, win0_9.index t 0 = t.val ∧ win0_9.index t 1 = 0 := by decide +kernel
theorem at_v : ∀ t : Fin cfg0.N, win0_10.index t 0 = t.val ∧ win0_10.index t 1 = 0 := by decide +kernel
theorem at_g : ∀ t : Fin cfg0.N, win0_11.index t 0 = t.val ∧ win0_11.index t 1 = 0 := by decide +kernel
theorem at_dw : ∀ t : Fin cfg0.N, win0_12.index t 0 = t.val ∧ win0_12.index t 1 = 0 := by decide +kernel
theorem at_nm : ∀ t : Fin cfg0.N, win0_13.index t 0 = t.val ∧ win0_13.index t 1 = 0 := by decide +kernel
theorem at_nv : ∀ t : Fin cfg0.N, win0_14.index t 0 = t.val ∧ win0_14.index t 1 = 0 := by decide +kernel

section
variable (t : Fin cfg0.N) (r : Fin 16) (d : Fin 512) (a : Fin 208) (ha : a.val = t.val * 16 + r.val)
include ha

/-- The eight devices' blocks at an index, added up, are the devices' entries added up. -/
theorem total_blocks (h0 : m ((c.tc : Thread nD τ).loc main_arg0) = x0) :
    total (iblk m c 0 t) (iblk m c 1 t) (iblk m c 2 t) (iblk m c 3 t) (iblk m c 4 t) (iblk m c 5 t) (iblk m c 6 t) (iblk m c 7 t) (ix2 r d)
      = ∑ k : Fin 8, x0 (ix3 k a d) := by
  rw [Fin.sum_univ_eight]
  subst h0
  unfold total
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · have h := at_0 t
    blk_ext [iblk, at_0 t, V_main_arg0, ha]
  · have h := at_1 t
    blk_ext [iblk, at_1 t, V_main_arg0, ha]
  · have h := at_2 t
    blk_ext [iblk, at_2 t, V_main_arg0, ha]
  · have h := at_3 t
    blk_ext [iblk, at_3 t, V_main_arg0, ha]
  · have h := at_4 t
    blk_ext [iblk, at_4 t, V_main_arg0, ha]
  · have h := at_5 t
    blk_ext [iblk, at_5 t, V_main_arg0, ha]
  · have h := at_6 t
    blk_ext [iblk, at_6 t, V_main_arg0, ha]
  · have h := at_7 t
    blk_ext [iblk, at_7 t, V_main_arg0, ha]
theorem block_w (h1 : m ((c.tc : Thread nD τ).loc main_arg1) = x1) : iblk m c 8 t (ix2 r d) = x1 (ix2 a d) := by
  subst h1
  have h := at_w t
  blk_ext [iblk, at_w t, V_main_arg1, ha]
theorem block_m (h2 : m ((c.tc : Thread nD τ).loc main_arg2) = x2) : iblk m c 9 t (ix2 r d) = x2 (ix2 a d) := by
  subst h2
  have h := at_m t
  blk_ext [iblk, at_m t, V_main_arg2, ha]
theorem block_v (h3 : m ((c.tc : Thread nD τ).loc main_arg3) = x3) : iblk m c 10 t (ix2 r d) = x3 (ix2 a d) := by
  subst h3
  have h := at_v t
  blk_ext [iblk, at_v t, V_main_arg3, ha]

theorem array_g : (dats m 0 c).arrAt 11 cfg0.N (ix2 a d) = total (iblk m c 0 t) (iblk m c 1 t) (iblk m c 2 t) (iblk m c 3 t)
    (iblk m c 4 t) (iblk m c 5 t) (iblk m c 6 t) (iblk m c 7 t) (ix2 r d) := by
  refine Eq.trans ?_ (((congrFun (blocks11 m c t (flush0_11 t)) (ix2 r d)).trans (congrFun (flushed11 m c t) (ix2 r d))).trans
    (tile_g _ _ _ _ _ _ _ _ (iblk m c 8 t) (iblk m c 9 t) (iblk m c 10 t) (ix2 r d)))
  have h := at_g t
  blk_ext [at_g t, ha]
theorem array_w : (dats m 0 c).arrAt 12 cfg0.N (ix2 a d) = stepAll (iblk m c 8 t (ix2 r d)) (iblk m c 9 t (ix2 r d)) (iblk m c 10 t (ix2 r d))
    (total (iblk m c 0 t) (iblk m c 1 t) (iblk m c 2 t) (iblk m c 3 t) (iblk m c 4 t) (iblk m c 5 t) (iblk m c 6 t) (iblk m c 7 t) (ix2 r d)) := by
  refine Eq.trans ?_ (((congrFun (blocks12 m c t (flush0_12 t)) (ix2 r d)).trans (congrFun (flushed12 m c t) (ix2 r d))).trans
    (tile_w _ _ _ _ _ _ _ _ _ _ _ (ix2 r d)))
  have h := at_dw t
  blk_ext [at_dw t, ha]
theorem array_m : (dats m 0 c).arrAt 13 cfg0.N (ix2 a d) = stepM (iblk m c 9 t (ix2 r d))
    (total (iblk m c 0 t) (iblk m c 1 t) (iblk m c 2 t) (iblk m c 3 t) (iblk m c 4 t) (iblk m c 5 t) (iblk m c 6 t) (iblk m c 7 t) (ix2 r d)) := by
  refine Eq.trans ?_ (((congrFun (blocks13 m c t (flush0_13 t)) (ix2 r d)).trans (congrFun (flushed13 m c t) (ix2 r d))).trans
    (tile_m _ _ _ _ _ _ _ _ (iblk m c 8 t) _ (iblk m c 10 t) (ix2 r d)))
  have h := at_nm t
  blk_ext [at_nm t, ha]
theorem array_v : (dats m 0 c).arrAt 14 cfg0.N (ix2 a d) = stepV (iblk m c 10 t (ix2 r d))
    (total (iblk m c 0 t) (iblk m c 1 t) (iblk m c 2 t) (iblk m c 3 t) (iblk m c 4 t) (iblk m c 5 t) (iblk m c 6 t) (iblk m c 7 t) (ix2 r d)) := by
  refine Eq.trans ?_ (((congrFun (blocks14 m c t (flush0_14 t)) (ix2 r d)).trans (congrFun (flushed14 m c t) (ix2 r d))).trans
    (tile_v _ _ _ _ _ _ _ _ (iblk m c 8 t) (iblk m c 9 t) _ (ix2 r d)))
  have h := at_nv t
  blk_ext [at_nv t, ha]
end

/-- The reference's gradient at an index. -/
theorem ref_g (a : Fin 208) (d : Fin 512) : Cert.ADAMRefIdeal.Read.val_main_v0 (F := Ideal) x0 (ix2 a d) = ∑ k : Fin 8, x0 (ix3 k a d) := by
  refine (Cert.ADAMRefIdeal.Read.val_main_v0_apply x0 _).trans ?_
  refine Eq.trans (congrArg₂ (· + ·) Ideal.ofBits_zero_f32 (Finset.sum_congr rfl fun k _ => congrArg x0 (funext fun e => ?_))) (zero_add _)
  match e with
  | ⟨0, _⟩ => rfl
  | ⟨1, _⟩ => rfl
  | ⟨2, _⟩ => rfl
/-- The reference's first moment at an index. -/
theorem ref_m (i : S208x512.Idx) : Cert.ADAMRefIdeal.Read.val_main_v5 (F := Ideal) x0 x2 i
    = stepM (x2 i) (Cert.ADAMRefIdeal.Read.val_main_v0 (F := Ideal) x0 i) := by
  rw [Cert.ADAMRefIdeal.Read.val_main_v5_apply, Cert.ADAMRefIdeal.Read.val_main_v2_apply, Cert.ADAMRefIdeal.Read.val_main_v4_apply,
    Cert.ADAMRefIdeal.Read.val_main_v1_apply, Cert.ADAMRefIdeal.Read.val_main_v3_apply]
  rfl
/-- The reference's second moment at an index. -/
theorem ref_v (i : S208x512.Idx) : Cert.ADAMRefIdeal.Read.val_main_v11 (F := Ideal) x0 x3 i
    = stepV (x3 i) (Cert.ADAMRefIdeal.Read.val_main_v0 (F := Ideal) x0 i) := by
  rw [Cert.ADAMRefIdeal.Read.val_main_v11_apply, Cert.ADAMRefIdeal.Read.val_main_v7_apply, Cert.ADAMRefIdeal.Read.val_main_v10_apply,
    Cert.ADAMRefIdeal.Read.val_main_v6_apply, Cert.ADAMRefIdeal.Read.val_main_v9_apply, Cert.ADAMRefIdeal.Read.val_main_v8_apply]
  rfl
/-- The reference's change of the weights at an index. -/
theorem ref_w (i : S208x512.Idx) : Cert.ADAMRefIdeal.Read.val_main_v24 (F := Ideal) x0 x1 x2 x3 i
    = stepAll (x1 i) (x2 i) (x3 i) (Cert.ADAMRefIdeal.Read.val_main_v0 (F := Ideal) x0 i) := by
  rw [Cert.ADAMRefIdeal.Read.val_main_v24_apply, Cert.ADAMRefIdeal.Read.val_main_v22_apply, Cert.ADAMRefIdeal.Read.val_main_v19_apply,
    Cert.ADAMRefIdeal.Read.val_main_v13_apply, Cert.ADAMRefIdeal.Read.val_main_v18_apply, Cert.ADAMRefIdeal.Read.val_main_v16_apply,
    Cert.ADAMRefIdeal.Read.val_main_v15_apply, Cert.ADAMRefIdeal.Read.val_main_v21_apply, Cert.ADAMRefIdeal.Read.val_main_v23_apply,
    Cert.ADAMRefIdeal.Read.val_main_v12_apply, Cert.ADAMRefIdeal.Read.val_main_v17_apply, Cert.ADAMRefIdeal.Read.val_main_v14_apply,
    Cert.ADAMRefIdeal.Read.val_main_v20_apply, ref_m, ref_v]
  rfl

variable {m c x0 x1 x2 x3}
variable (h0 : m ((c.tc : Thread nD τ).loc main_arg0) = x0) (h1 : m ((c.tc : Thread nD τ).loc main_arg1) = x1)
  (h2 : m ((c.tc : Thread nD τ).loc main_arg2) = x2) (h3 : m ((c.tc : Thread nD τ).loc main_arg3) = x3)

/-- An array of the launch is one of the reference's when it is at each row of each block. -/
theorem rows (A B : S208x512.Idx → EReal)
    (h : ∀ (t : Fin cfg0.N) (r : Fin 16) (d : Fin 512) (a : Fin 208), a.val = t.val * 16 + r.val → A (ix2 a d) = B (ix2 a d)) : A = B := by
  refine eq_of_tiles 16 512 13 1 (by decide) (by decide) rfl rfl _ _ fun t ht r d a b ha hb => ?_
  rw [Nat.div_one] at ha
  exact h ⟨t, ht⟩ r b a ha

include h0
/-- The gradient the devices' blocks add up to is the reference's. -/
theorem total_eq (t : Fin cfg0.N) (r : Fin 16) (d : Fin 512) (a : Fin 208) (ha : a.val = t.val * 16 + r.val) :
    total (iblk m c 0 t) (iblk m c 1 t) (iblk m c 2 t) (iblk m c 3 t) (iblk m c 4 t) (iblk m c 5 t) (iblk m c 6 t) (iblk m c 7 t) (ix2 r d)
      = Cert.ADAMRefIdeal.Read.val_main_v0 (F := Ideal) x0 (ix2 a d) :=
  (total_blocks m c x0 t r d a ha h0).trans (ref_g x0 a d).symm
/-- The launch's gradient is the reference's. -/
theorem eq_g : (dats m 0 c).arrAt 11 cfg0.N = Cert.ADAMRefIdeal.Read.val_main_v0 (F := Ideal) x0 :=
  rows _ _ fun t r d a ha => (array_g m c t r d a ha).trans (total_eq h0 t r d a ha)
include h2
/-- The launch's first moment is the reference's. -/
theorem eq_m : (dats m 0 c).arrAt 13 cfg0.N = Cert.ADAMRefIdeal.Read.val_main_v5 (F := Ideal) x0 x2 :=
  rows _ _ fun t r d a ha => ((array_m m c t r d a ha).trans
    (congrArg₂ stepM (block_m m c x2 t r d a ha h2) (total_eq h0 t r d a ha))).trans (ref_m x0 x2 _).symm
omit h2
include h3
/-- The launch's second moment is the reference's. -/
theorem eq_v : (dats m 0 c).arrAt 14 cfg0.N = Cert.ADAMRefIdeal.Read.val_main_v11 (F := Ideal) x0 x3 :=
  rows _ _ fun t r d a ha => ((array_v m c t r d a ha).trans
    (congrArg₂ stepV (block_v m c x3 t r d a ha h3) (total_eq h0 t r d a ha))).trans (ref_v x0 x3 _).symm
include h1 h2
/-- The launch's change of the weights is the reference's. -/
theorem eq_w : (dats m 0 c).arrAt 12 cfg0.N = Cert.ADAMRefIdeal.Read.val_main_v24 (F := Ideal) x0 x1 x2 x3 :=
  rows _ _ fun t r d a ha => (array_w m c t r d a ha).trans (by
    rw [block_w m c x1 t r d a ha h1, block_m m c x2 t r d a ha h2, block_v m c x3 t r d a ha h3, total_eq h0 t r d a ha]
    exact (ref_w x0 x1 x2 x3 _).symm)
end Cert.Products.Adam
-- ==== Proof.GateUp.lean ====
module

public import proofs.«01_k».proof.Proof.Tiles
public import proofs.«01_k».proof.Proof.Gen.GUIdeal.Value
public import proofs.«01_k».proof.Proof.Gen.GURefIdeal.Run
public import proofs.«01_k».proof.Proof.Gen.GURefIdeal.Read
/-! The gated product: a point multiplies its rows with a column block of each half of the weight, and combines the two. -/

@[expose] public section

set_option maxRecDepth 16384
noncomputable section
namespace Cert.Products.GateUp
open Idealize.ShloMosaic Idealize.SL.Sem Idealize.ShloMosaic.Tactic Cert.GUIdeal Cert.GUIdeal.Gen Cert.GUIdeal.Value

theorem hz : (![0, 0] : Fin 2 → ℕ) = fun _ => 0 := funext fun a => by fin_cases a <;> rfl

section
variable (x0 : Vec Ideal S1024x2048 .bf16) (x1 x2 : Vec Ideal S2048x512 .bf16) (r : Fin 1024) (d : Fin 512)
/-- A point's block of the gate. -/
theorem tile_gate : out0_4 x0 x1 x2 (ix2 r d) = ∑ k : Fin 2048, x0 (ix2 r k) * x1 (ix2 k d) := by
  unfold out0_4
  rw [View.canon_unit_zero hz, View.ld_unit_zero hz, View.ld_unit_zero hz]
  pointwise [k0_pay4, k0_pay1]
/-- A point's block of the other half. -/
theorem tile_up : out0_5 x0 x1 x2 (ix2 r d) = ∑ k : Fin 2048, x0 (ix2 r k) * x2 (ix2 k d) := by
  unfold out0_5
  rw [View.canon_unit_zero hz, View.ld_unit_zero hz, View.ld_unit_zero hz]
  pointwise [k0_pay5, k0_pay2]
/-- The gated product of two entries. -/
def gated (g u : EReal) : EReal := g * Ideal.logistic g * u
/-- A point's block of the gated product. -/
theorem tile_act : out0_3 x0 x1 x2 (ix2 r d) = gated (out0_4 x0 x1 x2 (ix2 r d)) (out0_5 x0 x1 x2 (ix2 r d)) := by
  unfold out0_3 out0_4 out0_5
  rw [View.canon_unit_zero hz, View.canon_unit_zero hz, View.canon_unit_zero hz, View.ld_unit_zero hz, View.ld_unit_zero hz, View.ld_unit_zero hz]
  rfl
end

variable (m : (ℓ : Loc nD τ sig) → Buf (Elt Ideal) ℓ) (c : Dev nD) (x0 : S4096x2048.Idx → EReal) (x1 : S2048x11264.Idx → EReal)

theorem at_a : ∀ t : Fin cfg0.N, win0_0.index t 0 = t.val / 11 ∧ win0_0.index t 1 = 0 := by decide +kernel
theorem at_b : ∀ t : Fin cfg0.N, win0_1.index t 0 = 0 ∧ win0_1.index t 1 = t.val % 11 := by decide +kernel
theorem at_c : ∀ t : Fin cfg0.N, win0_2.index t 0 = 0 ∧ win0_2.index t 1 = t.val % 11 + 11 := by decide +kernel
theorem at_act : ∀ t : Fin cfg0.N, win0_3.index t 0 = t.val / 11 ∧ win0_3.index t 1 = t.val % 11 := by decide +kernel
theorem at_gate : ∀ t : Fin cfg0.N, win0_4.index t 0 = t.val / 11 ∧ win0_4.index t 1 = t.val % 11 := by decide +kernel
theorem at_up : ∀ t : Fin cfg0.N, win0_5.index t 0 = t.val / 11 ∧ win0_5.index t 1 = t.val % 11 := by decide +kernel

theorem block_a (h0 : m ((c.tc : Thread nD τ).loc main_arg0) = x0) (t : Fin cfg0.N) (r : Fin 1024) (k : Fin 2048) (a : Fin 4096)
    (ha : a.val = t.val / 11 * 1024 + r.val) : iblk m c 0 t (ix2 r k) = x0 (ix2 a k) := by
  subst h0
  have h := at_a t
  blk_ext [iblk, at_a t, V_main_arg0, ha]
theorem block_b (h1 : m ((c.tc : Thread nD τ).loc main_arg1) = x1) (t : Fin cfg0.N) (k : Fin 2048) (d : Fin 512) (b : Fin 11264)
    (hb : b.val = t.val % 11 * 512 + d.val) : iblk m c 1 t (ix2 k d) = x1 (ix2 k b) := by
  subst h1
  have h := at_b t
  blk_ext [iblk, at_b t, V_main_arg1, hb]
theorem block_c (h1 : m ((c.tc : Thread nD τ).loc main_arg1) = x1) (t : Fin cfg0.N) (k : Fin 2048) (d : Fin 512) (b : Fin 11264)
    (hb : b.val = t.val % 11 * 512 + d.val + 5632) : iblk m c 2 t (ix2 k d) = x1 (ix2 k b) := by
  subst h1
  have h := at_c t
  blk_ext [iblk, at_c t, V_main_arg1, hb]

section
variable (t : Fin cfg0.N) (r : Fin 1024) (d : Fin 512) (a : Fin 4096) (b : Fin 5632) (ha : a.val = t.val / 11 * 1024 + r.val)
    (hb : b.val = t.val % 11 * 512 + d.val)
include ha hb
theorem array_act : (dats m 0 c).arrAt 3 cfg0.N (ix2 a b) = out0_3 (iblk m c 0 t) (iblk m c 1 t) (iblk m c 2 t) (ix2 r d) := by
  refine Eq.trans ?_ ((congrFun (blocks3 m c t (flush0_3 t)) (ix2 r d)).trans (congrFun (flushed3 m c t) (ix2 r d)))
  have h := at_act t
  blk_ext [at_act t, ha, hb]
theorem array_gate : (dats m 0 c).arrAt 4 cfg0.N (ix2 a b) = out0_4 (iblk m c 0 t) (iblk m c 1 t) (iblk m c 2 t) (ix2 r d) := by
  refine Eq.trans ?_ ((congrFun (blocks4 m c t (flush0_4 t)) (ix2 r d)).trans (congrFun (flushed4 m c t) (ix2 r d)))
  have h := at_gate t
  blk_ext [at_gate t, ha, hb]
theorem array_up : (dats m 0 c).arrAt 5 cfg0.N (ix2 a b) = out0_5 (iblk m c 0 t) (iblk m c 1 t) (iblk m c 2 t) (ix2 r d) := by
  refine Eq.trans ?_ ((congrFun (blocks5 m c t (flush0_5 t)) (ix2 r d)).trans (congrFun (flushed5 m c t) (ix2 r d)))
  have h := at_up t
  blk_ext [at_up t, ha, hb]
end

variable {m c x0 x1}

/-- The reference's gate at an index. -/
theorem ref_gate (r : Fin 4096) (d : Fin 5632) : Cert.GURefIdeal.Read.val_main_v8 (F := Ideal) x0 x1 (ix2 r d)
    = ∑ k : Fin 2048, x0 (ix2 r k) * x1 (ix2 k ⟨d.val, by omega⟩) :=
  (Cert.GURefIdeal.Read.val_main_v3_apply (F := Ideal) x0 x1 _).trans ((Cert.GURefIdeal.Read.val_main_v2_apply _ _ _).trans
    (Finset.sum_congr rfl fun k _ => congrArg₂ (· * ·) (entry x0 _ r k rfl rfl) (entry x1 _ k ⟨d.val, by omega⟩ rfl rfl)))
/-- The reference's other half at an index. -/
theorem ref_up (r : Fin 4096) (d : Fin 5632) : Cert.GURefIdeal.Read.val_main_v9 (F := Ideal) x0 x1 (ix2 r d)
    = ∑ k : Fin 2048, x0 (ix2 r k) * x1 (ix2 k ⟨d.val + 5632, by omega⟩) :=
  (Cert.GURefIdeal.Read.val_main_v4_apply (F := Ideal) x0 x1 _).trans ((Cert.GURefIdeal.Read.val_main_v2_apply _ _ _).trans
    (Finset.sum_congr rfl fun k _ => congrArg₂ (· * ·) (entry x0 _ r k rfl rfl) (entry x1 _ k ⟨d.val + 5632, by omega⟩ rfl (Nat.add_comm _ _))))
/-- The reference's gated product at an index: its host spells the logistic function as a quotient. -/
theorem ref_act (i : S4096x5632.Idx) : Cert.GURefIdeal.Read.val_main_v7 (F := Ideal) x0 x1 i
    = gated (Cert.GURefIdeal.Read.val_main_v8 (F := Ideal) x0 x1 i) (Cert.GURefIdeal.Read.val_main_v9 (F := Ideal) x0 x1 i) := by
  have one : Cert.GURefIdeal.Read.val_main_call0_v2 (F := Ideal) i = 1 :=
    (Cert.GURefIdeal.Read.val_main_call0_v2_apply i).trans Ideal.ofBits_one_f32
  have one' : Cert.GURefIdeal.Read.val_main_call0_v4 (F := Ideal) i = 1 :=
    (Cert.GURefIdeal.Read.val_main_call0_v4_apply i).trans Ideal.ofBits_one_f32
  have l : Cert.GURefIdeal.Read.val_main_call0_v5 (F := Ideal) x0 x1 i
      = Ideal.logistic (Cert.GURefIdeal.Read.val_main_v3 (F := Ideal) x0 x1 i) := by
    refine (Cert.GURefIdeal.Read.val_main_call0_v5_apply (F := Ideal) x0 x1 i).trans ?_
    rw [one', Cert.GURefIdeal.Read.val_main_call0_v3_apply, one]
    rfl
  rw [Cert.GURefIdeal.Read.val_main_v7_apply, Cert.GURefIdeal.Read.val_main_v6_apply, Cert.GURefIdeal.Read.val_main_v5_apply, l]
  rfl

section
variable (h0 : m ((c.tc : Thread nD τ).loc main_arg0) = x0) (h1 : m ((c.tc : Thread nD τ).loc main_arg1) = x1)
include h0 h1
/-- The launch's gate is the reference's. -/
theorem eq_gate : (dats m 0 c).arrAt 4 cfg0.N = Cert.GURefIdeal.Read.val_main_v8 (F := Ideal) x0 x1 := by
  refine eq_of_tiles 1024 512 4 11 (by decide) (by decide) rfl rfl _ _ fun t ht r d a b ha hb => ?_
  refine (array_gate m c ⟨t, ht⟩ r d a b ha hb).trans ((tile_gate _ _ _ r d).trans (Eq.trans ?_ (ref_gate a b).symm))
  exact Finset.sum_congr rfl fun k _ => congrArg₂ (· * ·) (block_a m c x0 h0 ⟨t, ht⟩ r k a ha) (block_b m c x1 h1 ⟨t, ht⟩ k d _ hb)
/-- The launch's other half is the reference's. -/
theorem eq_up : (dats m 0 c).arrAt 5 cfg0.N = Cert.GURefIdeal.Read.val_main_v9 (F := Ideal) x0 x1 := by
  refine eq_of_tiles 1024 512 4 11 (by decide) (by decide) rfl rfl _ _ fun t ht r d a b ha hb => ?_
  refine (array_up m c ⟨t, ht⟩ r d a b ha hb).trans ((tile_up _ _ _ r d).trans (Eq.trans ?_ (ref_up a b).symm))
  exact Finset.sum_congr rfl fun k _ => congrArg₂ (· * ·) (block_a m c x0 h0 ⟨t, ht⟩ r k a ha)
    (block_c m c x1 h1 ⟨t, ht⟩ k d _ (congrArg (· + 5632) hb))
/-- The launch's gated product is the reference's. -/
theorem eq_act : (dats m 0 c).arrAt 3 cfg0.N = Cert.GURefIdeal.Read.val_main_v7 (F := Ideal) x0 x1 := by
  refine eq_of_tiles 1024 512 4 11 (by decide) (by decide) rfl rfl _ _ fun t ht r d a b ha hb => ?_
  refine (array_act m c ⟨t, ht⟩ r d a b ha hb).trans ((tile_act _ _ _ r d).trans (Eq.trans ?_ (ref_act _).symm))
  refine congrArg₂ gated ?_ ?_
  · exact (array_gate m c ⟨t, ht⟩ r d a b ha hb).symm.trans (congrFun (eq_gate h0 h1) _)
  · exact (array_up m c ⟨t, ht⟩ r d a b ha hb).symm.trans (congrFun (eq_up h0 h1) _)
end
end Cert.Products.GateUp
-- ==== Proof.Products.lean ====
module

public import proofs.«01_k».proof.Defs
public import proofs.«01_k».proof.Proof.GradW
public import proofs.«01_k».proof.Proof.GradRows
public import proofs.«01_k».proof.Proof.DownW
public import proofs.«01_k».proof.Proof.DownRows
public import proofs.«01_k».proof.Proof.Square
public import proofs.«01_k».proof.Proof.SquareW
public import proofs.«01_k».proof.Proof.SquareRows
public import proofs.«01_k».proof.Proof.Glu
public import proofs.«01_k».proof.Proof.Gate
public import proofs.«01_k».proof.Proof.Down
public import proofs.«01_k».proof.Proof.Adam
public import proofs.«01_k».proof.Proof.GateUp
public import Idealize.ShloMosaic.Lib.Quiescent
/-! The claims of the products: each launch's run leaves its reference's result, and each reference leaves its arguments as they
    were. -/

@[expose] public section

noncomputable section
namespace Cert.Products
open Idealize.ShloMosaic Idealize.SL.Sem Idealize.ShloMosaic.Tactic

theorem GradW.frame_ri : Cert.quiescent_DWRefIdeal := fun m ρ _ =>
  (θ_run Cert.DWRefIdeal.defs _ _).mono (fun r h => ⟨fun c => (h c).2, sem_eq_zero_of_no_sems (by decide) r.2⟩)
    (Cert.DWRefIdeal.Value.run (F := Ideal) m ρ)
theorem GradW.algebraic : Cert.algebraic_DWIdeal_DWRefIdeal := by
  intro m ρ m' ρ' _ hagree
  refine ⟨_, Cert.DWIdeal.Value.run_blocks (F := Ideal) m ρ, ?_⟩
  refine (θ_run Cert.DWRefIdeal.defs _ _).mono (fun _ h c => ⟨?_, (h c).2⟩) (Cert.DWRefIdeal.Value.run (F := Ideal) m' ρ')
  exact ((h c).1.trans (Cert.DWRefIdeal.Read.val_main_v6_eq _ _)).trans (GradW.eq (hagree c).1.symm (hagree c).2.symm).symm

theorem GradRows.frame_ri : Cert.quiescent_DHRefIdeal := fun m ρ _ =>
  (θ_run Cert.DHRefIdeal.defs _ _).mono (fun r h => ⟨fun c => (h c).2, sem_eq_zero_of_no_sems (by decide) r.2⟩)
    (Cert.DHRefIdeal.Value.run (F := Ideal) m ρ)
theorem GradRows.algebraic : Cert.algebraic_DHIdeal_DHRefIdeal := by
  intro m ρ m' ρ' _ hagree
  refine ⟨_, Cert.DHIdeal.Value.run (F := Ideal) m ρ, ?_⟩
  refine (θ_run Cert.DHRefIdeal.defs _ _).mono (fun _ h c => ⟨?_, (h c).2⟩) (Cert.DHRefIdeal.Value.run (F := Ideal) m' ρ')
  exact ((h c).1.trans (Cert.DHRefIdeal.Read.val_main_v5_eq _ _)).trans (GradRows.eq (hagree c).1.symm (hagree c).2.symm).symm

theorem DownW.frame_ri : Cert.quiescent_DWDRefIdeal := fun m ρ _ =>
  (θ_run Cert.DWDRefIdeal.defs _ _).mono (fun r h => ⟨fun c => (h c).2, sem_eq_zero_of_no_sems (by decide) r.2⟩)
    (Cert.DWDRefIdeal.Value.run (F := Ideal) m ρ)
theorem DownW.algebraic : Cert.algebraic_DWDIdeal_DWDRefIdeal := by
  intro m ρ m' ρ' _ hagree
  refine ⟨_, Cert.DWDIdeal.Value.run_blocks (F := Ideal) m ρ, ?_⟩
  refine (θ_run Cert.DWDRefIdeal.defs _ _).mono (fun _ h c => ⟨?_, (h c).2⟩) (Cert.DWDRefIdeal.Value.run (F := Ideal) m' ρ')
  exact ((h c).1.trans (Cert.DWDRefIdeal.Read.val_main_v6_eq _ _)).trans (DownW.eq (hagree c).1.symm (hagree c).2.symm).symm

theorem DownRows.frame_ri : Cert.quiescent_DACTRefIdeal := fun m ρ _ =>
  (θ_run Cert.DACTRefIdeal.defs _ _).mono (fun r h => ⟨fun c => (h c).2, sem_eq_zero_of_no_sems (by decide) r.2⟩)
    (Cert.DACTRefIdeal.Value.run (F := Ideal) m ρ)
theorem DownRows.algebraic : Cert.algebraic_DACTIdeal_DACTRefIdeal := by
  intro m ρ m' ρ' _ hagree
  refine ⟨_, Cert.DACTIdeal.Value.run_blocks (F := Ideal) m ρ, ?_⟩
  refine (θ_run Cert.DACTRefIdeal.defs _ _).mono (fun _ h c => ⟨?_, (h c).2⟩) (Cert.DACTRefIdeal.Value.run (F := Ideal) m' ρ')
  exact ((h c).1.trans (Cert.DACTRefIdeal.Read.val_main_v5_eq _ _)).trans (DownRows.eq (hagree c).1.symm (hagree c).2.symm).symm

theorem Square.frame_ri : Cert.quiescent_NNRefIdeal := fun m ρ _ =>
  (θ_run Cert.NNRefIdeal.defs _ _).mono (fun r h => ⟨fun c => (h c).2, sem_eq_zero_of_no_sems (by decide) r.2⟩)
    (Cert.NNRefIdeal.Value.run (F := Ideal) m ρ)
theorem Square.algebraic : Cert.algebraic_NNIdeal_NNRefIdeal := by
  intro m ρ m' ρ' _ hagree
  refine ⟨_, Cert.NNIdeal.Value.run_blocks (F := Ideal) m ρ, ?_⟩
  refine (θ_run Cert.NNRefIdeal.defs _ _).mono (fun _ h c => ⟨?_, (h c).2⟩) (Cert.NNRefIdeal.Value.run (F := Ideal) m' ρ')
  exact ((h c).1.trans (Cert.NNRefIdeal.Read.val_main_v3_eq _ _)).trans (Square.eq (hagree c).1.symm (hagree c).2.symm).symm

theorem SquareW.frame_ri : Cert.quiescent_TNRefIdeal := fun m ρ _ =>
  (θ_run Cert.TNRefIdeal.defs _ _).mono (fun r h => ⟨fun c => (h c).2, sem_eq_zero_of_no_sems (by decide) r.2⟩)
    (Cert.TNRefIdeal.Value.run (F := Ideal) m ρ)
theorem SquareW.algebraic : Cert.algebraic_TNIdeal_TNRefIdeal := by
  intro m ρ m' ρ' _ hagree
  refine ⟨_, Cert.TNIdeal.Value.run_blocks (F := Ideal) m ρ, ?_⟩
  refine (θ_run Cert.TNRefIdeal.defs _ _).mono (fun _ h c => ⟨?_, (h c).2⟩) (Cert.TNRefIdeal.Value.run (F := Ideal) m' ρ')
  exact ((h c).1.trans (Cert.TNRefIdeal.Read.val_main_v6_eq _ _)).trans (SquareW.eq (hagree c).1.symm (hagree c).2.symm).symm

theorem SquareRows.frame_ri : Cert.quiescent_NTRefIdeal := fun m ρ _ =>
  (θ_run Cert.NTRefIdeal.defs _ _).mono (fun r h => ⟨fun c => (h c).2, sem_eq_zero_of_no_sems (by decide) r.2⟩)
    (Cert.NTRefIdeal.Value.run (F := Ideal) m ρ)
theorem SquareRows.algebraic : Cert.algebraic_NTIdeal_NTRefIdeal := by
  intro m ρ m' ρ' _ hagree
  refine ⟨_, Cert.NTIdeal.Value.run_blocks (F := Ideal) m ρ, ?_⟩
  refine (θ_run Cert.NTRefIdeal.defs _ _).mono (fun _ h c => ⟨?_, (h c).2⟩) (Cert.NTRefIdeal.Value.run (F := Ideal) m' ρ')
  exact ((h c).1.trans (Cert.NTRefIdeal.Read.val_main_v5_eq _ _)).trans (SquareRows.eq (hagree c).1.symm (hagree c).2.symm).symm

theorem Glu.frame_ri : Cert.quiescent_GLURefIdeal := fun m ρ _ =>
  (θ_run Cert.GLURefIdeal.defs _ _).mono (fun r h => ⟨fun c => (h c).2, sem_eq_zero_of_no_sems (by decide) r.2⟩)
    (Cert.GLURefIdeal.Value.run (F := Ideal) m ρ)
theorem Glu.algebraic : Cert.algebraic_GLUIdeal_GLURefIdeal := by
  intro m ρ m' ρ' _ hagree
  refine ⟨_, Cert.GLUIdeal.Value.run_blocks (F := Ideal) m ρ, ?_⟩
  refine (θ_run Cert.GLURefIdeal.defs _ _).mono (fun _ h c => ⟨?_, (h c).2⟩) (Cert.GLURefIdeal.Value.run (F := Ideal) m' ρ')
  exact ((h c).1.trans (Cert.GLURefIdeal.Read.val_main_v4_eq _ _)).trans (Glu.eq (hagree c).1.symm (hagree c).2.symm).symm

theorem Gate.frame_ri : Cert.quiescent_GATERefIdeal := fun m ρ _ =>
  (θ_run Cert.GATERefIdeal.defs _ _).mono (fun r h => ⟨fun c => (h c).2, sem_eq_zero_of_no_sems (by decide) r.2⟩)
    (Cert.GATERefIdeal.Value.run (F := Ideal) m ρ)
theorem Gate.algebraic : Cert.algebraic_GATEIdeal_GATERefIdeal := by
  intro m ρ m' ρ' _ hagree
  refine ⟨_, Cert.GATEIdeal.Value.run_blocks (F := Ideal) m ρ, ?_⟩
  refine (θ_run Cert.GATERefIdeal.defs _ _).mono (fun _ h c => ⟨?_, (h c).2⟩) (Cert.GATERefIdeal.Value.run (F := Ideal) m' ρ')
  exact ((h c).1.trans (Cert.GATERefIdeal.Read.val_main_v6_eq _ _)).trans (Gate.eq (hagree c).1.symm (hagree c).2.symm).symm

theorem Down.frame_ri : Cert.quiescent_DOWNRefIdeal := fun m ρ _ =>
  (θ_run Cert.DOWNRefIdeal.defs _ _).mono (fun r h => ⟨fun c => (h c).2, sem_eq_zero_of_no_sems (by decide) r.2⟩)
    (Cert.DOWNRefIdeal.Value.run (F := Ideal) m ρ)
theorem Down.algebraic : Cert.algebraic_DOWNIdeal_DOWNRefIdeal := by
  intro m ρ m' ρ' _ hagree
  refine ⟨_, Cert.DOWNIdeal.Value.run (F := Ideal) m ρ, ?_⟩
  refine (θ_run Cert.DOWNRefIdeal.defs _ _).mono (fun _ h c => ⟨?_, (h c).2⟩) (Cert.DOWNRefIdeal.Value.run (F := Ideal) m' ρ')
  exact ((h c).1.trans (Cert.DOWNRefIdeal.Read.val_main_v3_eq _ _)).trans (Down.eq (hagree c).1.symm (hagree c).2.symm).symm

theorem GateUp.frame_ri : Cert.quiescent_GURefIdeal := fun m ρ _ =>
  (θ_run Cert.GURefIdeal.defs _ _).mono (fun r h => ⟨fun c => (h c).2.2.2, sem_eq_zero_of_no_sems (by decide) r.2⟩)
    (Cert.GURefIdeal.Value.run (F := Ideal) m ρ)
theorem GateUp.algebraic : Cert.algebraic_GUIdeal_GURefIdeal := by
  intro m ρ m' ρ' _ hagree
  refine ⟨_, _, _, Cert.GUIdeal.Value.run_blocks (F := Ideal) m ρ, ?_⟩
  refine (θ_run Cert.GURefIdeal.defs _ _).mono (fun _ h c => ?_) (Cert.GURefIdeal.Value.run (F := Ideal) m' ρ')
  have e0 := (hagree c).1.symm
  have e1 := (hagree c).2.symm
  exact ⟨((h c).1.trans (Cert.GURefIdeal.Read.val_main_v7_eq _ _)).trans (GateUp.eq_act e0 e1).symm,
    ((h c).2.1.trans (Cert.GURefIdeal.Read.val_main_v8_eq _ _)).trans (GateUp.eq_gate e0 e1).symm,
    ((h c).2.2.1.trans (Cert.GURefIdeal.Read.val_main_v9_eq _ _)).trans (GateUp.eq_up e0 e1).symm, (h c).2.2.2⟩

theorem Adam.frame_ri : Cert.quiescent_ADAMRefIdeal := fun m ρ _ =>
  (θ_run Cert.ADAMRefIdeal.defs _ _).mono (fun r h => ⟨fun c => (h c).2.2.2.2, sem_eq_zero_of_no_sems (by decide) r.2⟩)
    (Cert.ADAMRefIdeal.Value.run (F := Ideal) m ρ)
theorem Adam.algebraic : Cert.algebraic_ADAMIdeal_ADAMRefIdeal := by
  intro m ρ m' ρ' _ hagree
  refine ⟨_, _, _, _, Cert.ADAMIdeal.Value.run_blocks (F := Ideal) m ρ, ?_⟩
  refine (θ_run Cert.ADAMRefIdeal.defs _ _).mono (fun _ h c => ?_) (Cert.ADAMRefIdeal.Value.run (F := Ideal) m' ρ')
  have e0 := (hagree c).1.symm
  have e1 := (hagree c).2.1.symm
  have e2 := (hagree c).2.2.1.symm
  have e3 := (hagree c).2.2.2.symm
  exact ⟨((h c).1.trans (Cert.ADAMRefIdeal.Read.val_main_v0_eq _)).trans (Adam.eq_g e0).symm,
    ((h c).2.1.trans (Cert.ADAMRefIdeal.Read.val_main_v24_eq _ _ _ _)).trans (Adam.eq_w e0 e1 e2 e3).symm,
    ((h c).2.2.1.trans (Cert.ADAMRefIdeal.Read.val_main_v5_eq _ _)).trans (Adam.eq_m e0 e2).symm,
    ((h c).2.2.2.1.trans (Cert.ADAMRefIdeal.Read.val_main_v11_eq _ _)).trans (Adam.eq_v e0 e3).symm, (h c).2.2.2.2⟩
end Cert.Products
-- ==== Proof.lean ====
/- The claims of the gradient of windowed attention: the frames of the three programs, the mask's naming, and the equality of the
   launch's results with the reference's on finite arguments. -/
module

public import proofs.«01_k».proof.Defs
public import proofs.«01_k».proof.Proof.Claims
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Gen.DW
public import proofs.«01_k».proof.Proof.Gen.DW.Frame
public import proofs.«01_k».proof.Proof.Gen.DWIdeal
public import proofs.«01_k».proof.Proof.Gen.DWIdeal.Frame
public import proofs.«01_k».proof.Proof.Gen.DWIdeal.Value
public import proofs.«01_k».proof.Proof.Gen.DWRefIdeal
public import proofs.«01_k».proof.Proof.Gen.DWRefIdeal.Run
public import proofs.«01_k».proof.Proof.Gen.DWRefIdeal.Read
public import proofs.«01_k».proof.Proof.Gen.DH
public import proofs.«01_k».proof.Proof.Gen.DH.Frame
public import proofs.«01_k».proof.Proof.Gen.DHIdeal
public import proofs.«01_k».proof.Proof.Gen.DHIdeal.Frame
public import proofs.«01_k».proof.Proof.Gen.DHIdeal.Value
public import proofs.«01_k».proof.Proof.Gen.DHRefIdeal
public import proofs.«01_k».proof.Proof.Gen.DHRefIdeal.Run
public import proofs.«01_k».proof.Proof.Gen.DHRefIdeal.Read
public import proofs.«01_k».proof.Proof.Gen.GU
public import proofs.«01_k».proof.Proof.Gen.GU.Frame
public import proofs.«01_k».proof.Proof.Gen.GUIdeal
public import proofs.«01_k».proof.Proof.Gen.GUIdeal.Frame
public import proofs.«01_k».proof.Proof.Gen.GUIdeal.Value
public import proofs.«01_k».proof.Proof.Gen.GURefIdeal
public import proofs.«01_k».proof.Proof.Gen.GURefIdeal.Run
public import proofs.«01_k».proof.Proof.Gen.GURefIdeal.Read
public import proofs.«01_k».proof.Proof.Gen.DWD
public import proofs.«01_k».proof.Proof.Gen.DWD.Frame
public import proofs.«01_k».proof.Proof.Gen.DWDIdeal
public import proofs.«01_k».proof.Proof.Gen.DWDIdeal.Frame
public import proofs.«01_k».proof.Proof.Gen.DWDIdeal.Value
public import proofs.«01_k».proof.Proof.Gen.DWDRefIdeal
public import proofs.«01_k».proof.Proof.Gen.DWDRefIdeal.Run
public import proofs.«01_k».proof.Proof.Gen.DWDRefIdeal.Read
public import proofs.«01_k».proof.Proof.Gen.DACT
public import proofs.«01_k».proof.Proof.Gen.DACT.Frame
public import proofs.«01_k».proof.Proof.Gen.DACTIdeal
public import proofs.«01_k».proof.Proof.Gen.DACTIdeal.Frame
public import proofs.«01_k».proof.Proof.Gen.DACTIdeal.Value
public import proofs.«01_k».proof.Proof.Gen.DACTRefIdeal
public import proofs.«01_k».proof.Proof.Gen.DACTRefIdeal.Run
public import proofs.«01_k».proof.Proof.Gen.DACTRefIdeal.Read
public import proofs.«01_k».proof.Proof.Gen.NN
public import proofs.«01_k».proof.Proof.Gen.NN.Frame
public import proofs.«01_k».proof.Proof.Gen.NNIdeal
public import proofs.«01_k».proof.Proof.Gen.NNIdeal.Frame
public import proofs.«01_k».proof.Proof.Gen.NNIdeal.Value
public import proofs.«01_k».proof.Proof.Gen.NNRefIdeal
public import proofs.«01_k».proof.Proof.Gen.NNRefIdeal.Run
public import proofs.«01_k».proof.Proof.Gen.NNRefIdeal.Read
public import proofs.«01_k».proof.Proof.Gen.TN
public import proofs.«01_k».proof.Proof.Gen.TN.Frame
public import proofs.«01_k».proof.Proof.Gen.TNIdeal
public import proofs.«01_k».proof.Proof.Gen.TNIdeal.Frame
public import proofs.«01_k».proof.Proof.Gen.TNIdeal.Value
public import proofs.«01_k».proof.Proof.Gen.TNRefIdeal
public import proofs.«01_k».proof.Proof.Gen.TNRefIdeal.Run
public import proofs.«01_k».proof.Proof.Gen.TNRefIdeal.Read
public import proofs.«01_k».proof.Proof.Gen.NT
public import proofs.«01_k».proof.Proof.Gen.NT.Frame
public import proofs.«01_k».proof.Proof.Gen.NTIdeal
public import proofs.«01_k».proof.Proof.Gen.NTIdeal.Frame
public import proofs.«01_k».proof.Proof.Gen.NTIdeal.Value
public import proofs.«01_k».proof.Proof.Gen.NTRefIdeal
public import proofs.«01_k».proof.Proof.Gen.NTRefIdeal.Run
public import proofs.«01_k».proof.Proof.Gen.NTRefIdeal.Read
public import proofs.«01_k».proof.Proof.Gen.GLU
public import proofs.«01_k».proof.Proof.Gen.GLU.Frame
public import proofs.«01_k».proof.Proof.Gen.GLUIdeal
public import proofs.«01_k».proof.Proof.Gen.GLUIdeal.Frame
public import proofs.«01_k».proof.Proof.Gen.GLUIdeal.Value
public import proofs.«01_k».proof.Proof.Gen.GLURefIdeal
public import proofs.«01_k».proof.Proof.Gen.GLURefIdeal.Run
public import proofs.«01_k».proof.Proof.Gen.GLURefIdeal.Read
public import proofs.«01_k».proof.Proof.Gen.GATE
public import proofs.«01_k».proof.Proof.Gen.GATE.Frame
public import proofs.«01_k».proof.Proof.Gen.GATEIdeal
public import proofs.«01_k».proof.Proof.Gen.GATEIdeal.Frame
public import proofs.«01_k».proof.Proof.Gen.GATEIdeal.Value
public import proofs.«01_k».proof.Proof.Gen.GATERefIdeal
public import proofs.«01_k».proof.Proof.Gen.GATERefIdeal.Run
public import proofs.«01_k».proof.Proof.Gen.GATERefIdeal.Read
public import proofs.«01_k».proof.Proof.Gen.DOWN
public import proofs.«01_k».proof.Proof.Gen.DOWN.Frame
public import proofs.«01_k».proof.Proof.Gen.DOWNIdeal
public import proofs.«01_k».proof.Proof.Gen.DOWNIdeal.Frame
public import proofs.«01_k».proof.Proof.Gen.DOWNIdeal.Value
public import proofs.«01_k».proof.Proof.Gen.DOWNRefIdeal
public import proofs.«01_k».proof.Proof.Gen.DOWNRefIdeal.Run
public import proofs.«01_k».proof.Proof.Gen.DOWNRefIdeal.Read
public import proofs.«01_k».proof.Proof.Gen.ADAM
public import proofs.«01_k».proof.Proof.Gen.ADAM.Frame
public import proofs.«01_k».proof.Proof.Gen.ADAMIdeal
public import proofs.«01_k».proof.Proof.Gen.ADAMIdeal.Frame
public import proofs.«01_k».proof.Proof.Gen.ADAMIdeal.Value
public import proofs.«01_k».proof.Proof.Gen.ADAMRefIdeal
public import proofs.«01_k».proof.Proof.Gen.ADAMRefIdeal.Run
public import proofs.«01_k».proof.Proof.Gen.ADAMRefIdeal.Read
public import proofs.«01_k».proof.Proof.Products
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.DW.Gen.facts, Cert.DWIdeal.Gen.facts, Cert.DWRefIdeal.Gen.facts,
    Cert.DH.Gen.facts, Cert.DHIdeal.Gen.facts, Cert.DHRefIdeal.Gen.facts,
    Cert.GU.Gen.facts, Cert.GUIdeal.Gen.facts, Cert.GURefIdeal.Gen.facts,
    Cert.DWD.Gen.facts, Cert.DWDIdeal.Gen.facts, Cert.DWDRefIdeal.Gen.facts,
    Cert.DACT.Gen.facts, Cert.DACTIdeal.Gen.facts, Cert.DACTRefIdeal.Gen.facts,
    Cert.NN.Gen.facts, Cert.NNIdeal.Gen.facts, Cert.NNRefIdeal.Gen.facts,
    Cert.TN.Gen.facts, Cert.TNIdeal.Gen.facts, Cert.TNRefIdeal.Gen.facts,
    Cert.NT.Gen.facts, Cert.NTIdeal.Gen.facts, Cert.NTRefIdeal.Gen.facts,
    Cert.GLU.Gen.facts, Cert.GLUIdeal.Gen.facts, Cert.GLURefIdeal.Gen.facts,
    Cert.GATE.Gen.facts, Cert.GATEIdeal.Gen.facts, Cert.GATERefIdeal.Gen.facts,
    Cert.DOWN.Gen.facts, Cert.DOWNIdeal.Gen.facts, Cert.DOWNRefIdeal.Gen.facts,
    Cert.ADAM.Gen.facts, Cert.ADAMIdeal.Gen.facts, Cert.ADAMRefIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    Cert.Attn.frame_ri, fun m ρ _ => Cert.Attn.frame_ri m ρ trivial,
    fun m ρ _ => Cert.DW.Gen.frame m ρ, fun m ρ _ => Cert.DWIdeal.Gen.frame m ρ, Cert.Products.GradW.frame_ri,
    fun m ρ _ => Cert.DH.Gen.frame m ρ, fun m ρ _ => Cert.DHIdeal.Gen.frame m ρ, Cert.Products.GradRows.frame_ri,
    fun m ρ _ => Cert.GU.Gen.frame m ρ, fun m ρ _ => Cert.GUIdeal.Gen.frame m ρ, Cert.Products.GateUp.frame_ri,
    fun m ρ _ => Cert.DWD.Gen.frame m ρ, fun m ρ _ => Cert.DWDIdeal.Gen.frame m ρ, Cert.Products.DownW.frame_ri,
    fun m ρ _ => Cert.DACT.Gen.frame m ρ, fun m ρ _ => Cert.DACTIdeal.Gen.frame m ρ, Cert.Products.DownRows.frame_ri,
    fun m ρ _ => Cert.NN.Gen.frame m ρ, fun m ρ _ => Cert.NNIdeal.Gen.frame m ρ, Cert.Products.Square.frame_ri,
    fun m ρ _ => Cert.TN.Gen.frame m ρ, fun m ρ _ => Cert.TNIdeal.Gen.frame m ρ, Cert.Products.SquareW.frame_ri,
    fun m ρ _ => Cert.NT.Gen.frame m ρ, fun m ρ _ => Cert.NTIdeal.Gen.frame m ρ, Cert.Products.SquareRows.frame_ri,
    fun m ρ _ => Cert.GLU.Gen.frame m ρ, fun m ρ _ => Cert.GLUIdeal.Gen.frame m ρ, Cert.Products.Glu.frame_ri,
    fun m ρ _ => Cert.GATE.Gen.frame m ρ, fun m ρ _ => Cert.GATEIdeal.Gen.frame m ρ, Cert.Products.Gate.frame_ri,
    fun m ρ _ => Cert.DOWN.Gen.frame m ρ, fun m ρ _ => Cert.DOWNIdeal.Gen.frame m ρ, Cert.Products.Down.frame_ri,
    fun m ρ _ => Cert.ADAM.Gen.frame m ρ, fun m ρ _ => Cert.ADAMIdeal.Gen.frame m ρ, Cert.Products.Adam.frame_ri,
    Cert.Attn.preserves, Cert.Attn.algebraic,
    trivial, Cert.Products.GradW.algebraic,
    trivial, Cert.Products.GradRows.algebraic,
    trivial, Cert.Products.GateUp.algebraic,
    trivial, Cert.Products.DownW.algebraic,
    trivial, Cert.Products.DownRows.algebraic,
    trivial, Cert.Products.Square.algebraic,
    trivial, Cert.Products.SquareW.algebraic,
    trivial, Cert.Products.SquareRows.algebraic,
    trivial, Cert.Products.Glu.algebraic,
    trivial, Cert.Products.Gate.algebraic,
    trivial, Cert.Products.Down.algebraic,
    trivial, Cert.Products.Adam.algebraic⟩

end Cert.Proof

end
